-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_v125) = v1 c
          ∧ r.2.mem ((c.tc : Thread Cert.ReferenceIdeal.nD Cert.ReferenceIdeal.τ).loc Cert.ReferenceIdeal.main_v26) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S1x256x3584 : Shape := ⟨3, ![1, 256, 3584]⟩
abbrev S3x896x18944 : Shape := ⟨3, ![3, 896, 18944]⟩
abbrev S112x18944 : Shape := ⟨2, ![112, 18944]⟩
abbrev S256x112x32 : Shape := ⟨3, ![256, 112, 32]⟩
abbrev S_ : Shape := ⟨0, ![]⟩
abbrev S256x112 : Shape := ⟨2, ![256, 112]⟩

class Facts : Prop where
  shapeCasts_S1x256x3584_S256x112x32 : S1x256x3584.ShapeCasts S256x112x32
  bitsLt_bf16_f32 : FTy.bits .bf16 < FTy.bits .f32
  reducesTo_S256x112x32_S256x112_d2 : S256x112x32.ReducesTo [2] S256x112
  h_S_ : 0 < S_.numel
  bcast_S_S256x112 : S_.BroadcastsInDim S256x112 (![] : Fin 0 → Fin S256x112.rank)
  bcast_S_S112x18944 : S_.BroadcastsInDim S112x18944 (![] : Fin 0 → Fin S112x18944.rank)

variable [Facts]

def fn {F : FTy → Type} [FloatOps F] (main_arg0 : FVec F S1x256x3584 .bf16) (main_arg1 : IVec S3x896x18944 8) (main_arg2 : IVec S112x18944 8) : IVec S256x112 1 × IVec S112x18944 1 :=
  let main_v0 : FVec F S256x112x32 .bf16 := shapeCast S256x112x32 main_arg0 shapeCasts_S1x256x3584_S256x112x32
  let main_v1 : FVec F S256x112x32 .f32 := (extf .f32 · bitsLt_bf16_f32) main_v0
  let main_v2 : FVec F S256x112x32 .f32 := Host.absf main_v1
  let main_cst : FVec F S_ .f32 := constant S_ .f32 0xFF800000#32
  let main_v3 : FVec F S256x112 .f32 := (fun x v => Host.reduce FloatOps.maximumf x v reducesTo_S256x112x32_S256x112_d2 h_S_) main_v2 main_cst
  let main_cst_0 : FVec F S_ .f32 := constant S_ .f32 0x00000000#32
  let main_v4 : FVec F S256x112 .f32 := broadcastInDim S256x112 ![] bcast_S_S256x112 main_cst_0
  let main_v5 : IVec S256x112 1 := cmpf .oeq main_v3 main_v4
  let main_cst_1 : FVec F S_ .f32 := constant S_ .f32 0x02800000#32
  let main_v6 : FVec F S256x112 .f32 := broadcastInDim S256x112 ![] bcast_S_S256x112 main_cst_1
  let main_v7 : IVec S256x112 1 := cmpf .oge main_v3 main_v6
  let main_v8 : IVec S256x112 1 := ori main_v5 main_v7
  let main_cst_2 : FVec F S_ .f32 := constant S_ .f32 0x7F800000#32
  let main_v9 : FVec F S256x112 .f32 := broadcastInDim S256x112 ![] bcast_S_S256x112 main_cst_2
  let main_v10 : IVec S256x112 1 := cmpf .olt main_v3 main_v9
  let main_v11 : IVec S256x112 1 := andi main_v8 main_v10
  let main_c : IVec S_ 8 := constantI S_ 8 250#8
  let main_v12 : IVec S112x18944 8 := broadcastInDim S112x18944 ![] bcast_S_S112x18944 main_c
  let main_v13 : IVec S112x18944 1 := cmpi .ule main_arg2 main_v12
  (main_v11, main_v13)
-- ==== Kernel.lean ====
abbrev S1x256x3584 : Shape := ⟨3, ![1, 256, 3584]⟩
abbrev S3x896x18944 : Shape := ⟨3, ![3, 896, 18944]⟩
abbrev S112x18944 : Shape := ⟨2, ![112, 18944]⟩
abbrev S256x3584 : Shape := ⟨2, ![256, 3584]⟩
abbrev S256x18944 : Shape := ⟨2, ![256, 18944]⟩
abbrev S256x112 : Shape := ⟨2, ![256, 112]⟩
abbrev S3x896x512 : Shape := ⟨3, ![3, 896, 512]⟩
abbrev S112x512 : Shape := ⟨2, ![112, 512]⟩
abbrev S256x512 : Shape := ⟨2, ![256, 512]⟩
abbrev S256x128 : Shape := ⟨2, ![256, 128]⟩
abbrev S128x128 : Shape := ⟨2, ![128, 128]⟩
abbrev S256x128x1 : Shape := ⟨3, ![256, 128, 1]⟩
abbrev S128x128x1 : Shape := ⟨3, ![128, 128, 1]⟩
abbrev S1x32x512 : Shape := ⟨3, ![1, 32, 512]⟩
abbrev S32x512 : Shape := ⟨2, ![32, 512]⟩
abbrev S8x512 : Shape := ⟨2, ![8, 512]⟩
abbrev S1x512 : Shape := ⟨2, ![1, 512]⟩
abbrev S16x512 : Shape := ⟨2, ![16, 512]⟩
abbrev S256x256 : Shape := ⟨2, ![256, 256]⟩

abbrev nBuf : Space → Nat
  | .hbm => 7
  | .vmem => 11
  | .smem => 0
  | _ => 0

abbrev bufTy : (tb : Table) → Fin (tcTables nBuf tb) → BufTy
  | .hbm, ⟨0, _⟩ => ⟨S1x256x3584, .bf16⟩
  | .hbm, ⟨1, _⟩ => ⟨S3x896x18944, .i8⟩
  | .hbm, ⟨2, _⟩ => ⟨S112x18944, .i8⟩
  | .hbm, ⟨3, _⟩ => ⟨S256x3584, .bf16⟩
  | .hbm, ⟨4, _⟩ => ⟨S256x18944, .bf16⟩
  | .hbm, ⟨5, _⟩ => ⟨S256x3584, .fp8e4m3⟩
  | .hbm, ⟨6, _⟩ => ⟨S256x112, .i8⟩
  | .local _ .vmem, ⟨0, _⟩ => ⟨S256x3584, .bf16⟩
  | .local _ .vmem, ⟨1, _⟩ => ⟨S3x896x512, .i8⟩
  | .local _ .vmem, ⟨2, _⟩ => ⟨S3x896x512, .i8⟩
  | .local _ .vmem, ⟨3, _⟩ => ⟨S112x512, .i8⟩
  | .local _ .vmem, ⟨4, _⟩ => ⟨S112x512, .i8⟩
  | .local _ .vmem, ⟨5, _⟩ => ⟨S256x512, .bf16⟩
  | .local _ .vmem, ⟨6, _⟩ => ⟨S256x512, .bf16⟩
  | .local _ .vmem, ⟨7, _⟩ => ⟨S256x3584, .fp8e4m3⟩
  | .local _ .vmem, ⟨8, _⟩ => ⟨S256x112, .i8⟩
  | .local _ .vmem, ⟨9, _⟩ => ⟨S256x3584, .bf16⟩
  | .local _ .vmem, ⟨10, _⟩ => ⟨S112x512, .i32⟩
  | _, _ => ⟨S1x256x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![37], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3x896x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S112x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x3584 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x112 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S1x256x3584 : Shape := ⟨3, ![1, 256, 3584]⟩
abbrev S3x896x18944 : Shape := ⟨3, ![3, 896, 18944]⟩
abbrev S112x18944 : Shape := ⟨2, ![112, 18944]⟩
abbrev S256x112x32 : Shape := ⟨3, ![256, 112, 32]⟩
abbrev S_ : Shape := ⟨0, ![]⟩
abbrev S256x112 : Shape := ⟨2, ![256, 112]⟩
abbrev S254 : Shape := ⟨1, ![254]⟩
abbrev S256x112x1 : Shape := ⟨3, ![256, 112, 1]⟩
abbrev S1x1x254 : Shape := ⟨3, ![1, 1, 254]⟩
abbrev S256x112x254 : Shape := ⟨3, ![256, 112, 254]⟩
abbrev S256x3584 : Shape := ⟨2, ![256, 3584]⟩
abbrev S1x896x18944 : Shape := ⟨3, ![1, 896, 18944]⟩
abbrev S896x18944 : Shape := ⟨2, ![896, 18944]⟩
abbrev S896x1x18944 : Shape := ⟨3, ![896, 1, 18944]⟩
abbrev S896x4x18944 : Shape := ⟨3, ![896, 4, 18944]⟩
abbrev S112x32x18944 : Shape := ⟨3, ![112, 32, 18944]⟩
abbrev S112x1x18944 : Shape := ⟨3, ![112, 1, 18944]⟩
abbrev S3584x18944 : Shape := ⟨2, ![3584, 18944]⟩
abbrev S256x18944 : Shape := ⟨2, ![256, 18944]⟩

abbrev nBuf : Space → Nat
  | .hbm => 172
  | .vmem => 2
  | .smem => 0
  | _ => 0

abbrev hbmTy0_0 (i : Nat) : BufTy := match i % 128 with
  | 0 => ⟨S1x256x3584, .bf16⟩
  | 1 => ⟨S3x896x18944, .i8⟩
  | 2 => ⟨S112x18944, .i8⟩
  | 3 => ⟨S256x112x32, .bf16⟩
  | 4 => ⟨S256x112x32, .f32⟩
  | 5 => ⟨S256x112x32, .f32⟩
  | 6 => ⟨S_, .f32⟩
  | 7 => ⟨S256x112, .f32⟩
  | 8 => ⟨S_, .f32⟩
  | 9 => ⟨S256x112, .f32⟩
  | 10 => ⟨S256x112, .i1⟩
  | 11 => ⟨S254, .i32⟩
  | 12 => ⟨S_, .i32⟩
  | 13 => ⟨S254, .i32⟩
  | 14 => ⟨S254, .i32⟩
  | 15 => ⟨S256x112x1, .f32⟩
  | 16 => ⟨S254, .f32⟩
  | 17 => ⟨S_, .f32⟩
  | 18 => ⟨S254, .f32⟩
  | 19 => ⟨S254, .f32⟩
  | 20 => ⟨S1x1x254, .f32⟩
  | 21 => ⟨S256x112x254, .f32⟩
  | 22 => ⟨S256x112x254, .f32⟩
  | 23 => ⟨S256x112x254, .i1⟩
  | 24 => ⟨S256x112x254, .i32⟩
  | 25 => ⟨S_, .i32⟩
  | 26 => ⟨S256x112, .i32⟩
  | 27 => ⟨S_, .i32⟩
  | 28 => ⟨S256x112, .i32⟩
  | 29 => ⟨S256x112, .i32⟩
  | 30 => ⟨S_, .i32⟩
  | 31 => ⟨S256x112, .i32⟩
  | 32 => ⟨S256x112, .i32⟩
  | 33 => ⟨S_, .i32⟩
  | 34 => ⟨S_, .i32⟩
  | 35 => ⟨S256x112, .i32⟩
  | 36 => ⟨S256x112, .i32⟩
  | 37 => ⟨S_, .i32⟩
  | 38 => ⟨S256x112, .i32⟩
  | 39 => ⟨S256x112, .i32⟩
  | 40 => ⟨S256x112, .i8⟩
  | 41 => ⟨S256x112x32, .bf16⟩
  | 42 => ⟨S256x112x32, .f32⟩
  | 43 => ⟨S256x112, .i32⟩
  | 44 => ⟨S256x112, .f32⟩
  | 45 => ⟨S_, .f32⟩
  | 46 => ⟨S256x112, .f32⟩
  | 47 => ⟨S256x112, .f32⟩
  | 48 => ⟨S256x112x1, .f32⟩
  | 49 => ⟨S256x112x32, .f32⟩
  | 50 => ⟨S256x112x32, .f32⟩
  | 51 => ⟨S_, .f32⟩
  | 52 => ⟨S_, .f32⟩
  | 53 => ⟨S_, .f32⟩
  | 54 => ⟨S256x112x32, .f32⟩
  | 55 => ⟨S256x112x32, .f32⟩
  | 56 => ⟨S_, .f32⟩
  | 57 => ⟨S256x112x32, .f32⟩
  | 58 => ⟨S256x112x32, .f32⟩
  | 59 => ⟨S256x112, .i32⟩
  | 60 => ⟨S_, .i32⟩
  | 61 => ⟨S256x112, .i32⟩
  | 62 => ⟨S256x112, .i32⟩
  | 63 => ⟨S256x112, .f32⟩
  | 64 => ⟨S_, .f32⟩
  | 65 => ⟨S256x112, .f32⟩
  | 66 => ⟨S256x112, .f32⟩
  | 67 => ⟨S256x112, .bf16⟩
  | 68 => ⟨S256x112x1, .bf16⟩
  | 69 => ⟨S256x112x32, .bf16⟩
  | 70 => ⟨S256x112x32, .bf16⟩
  | 71 => ⟨S256x112x32, .bf16⟩
  | 72 => ⟨S256x3584, .bf16⟩
  | 73 => ⟨S3x896x18944, .i32⟩
  | 74 => ⟨S1x896x18944, .i32⟩
  | 75 => ⟨S896x18944, .i32⟩
  | 76 => ⟨S1x896x18944, .i32⟩
  | 77 => ⟨S896x18944, .i32⟩
  | 78 => ⟨S1x896x18944, .i32⟩
  | 79 => ⟨S896x18944, .i32⟩
  | 80 => ⟨S_, .i32⟩
  | 81 => ⟨S896x18944, .i32⟩
  | 82 => ⟨S896x18944, .i32⟩
  | 83 => ⟨S_, .i32⟩
  | 84 => ⟨S896x18944, .i32⟩
  | 85 => ⟨S896x18944, .i32⟩
  | 86 => ⟨S_, .i32⟩
  | 87 => ⟨S896x18944, .i32⟩
  | 88 => ⟨S896x18944, .i32⟩
  | 89 => ⟨S_, .i32⟩
  | 90 => ⟨S896x18944, .i32⟩
  | 91 => ⟨S896x18944, .i32⟩
  | 92 => ⟨S896x18944, .i32⟩
  | 93 => ⟨S_, .i32⟩
  | 94 => ⟨S896x18944, .i32⟩
  | 95 => ⟨S896x18944, .i32⟩
  | 96 => ⟨S_, .i32⟩
  | 97 => ⟨S896x18944, .i32⟩
  | 98 => ⟨S896x18944, .i32⟩
  | 99 => ⟨S_, .i32⟩
  | 100 => ⟨S896x18944, .i32⟩
  | 101 => ⟨S896x18944, .i32⟩
  | 102 => ⟨S896x18944, .i32⟩
  | 103 => ⟨S_, .i32⟩
  | 104 => ⟨S896x18944, .i32⟩
  | 105 => ⟨S896x18944, .i32⟩
  | 106 => ⟨S896x1x18944, .i32⟩
  | 107 => ⟨S896x1x18944, .i32⟩
  | 108 => ⟨S896x1x18944, .i32⟩
  | 109 => ⟨S896x1x18944, .i32⟩
  | 110 => ⟨S896x4x18944, .i32⟩
  | 111 => ⟨S112x32x18944, .i32⟩
  | 112 => ⟨S112x18944, .i32⟩
  | 113 => ⟨S_, .i32⟩
  | 114 => ⟨S112x18944, .i32⟩
  | 115 => ⟨S112x18944, .i32⟩
  | 116 => ⟨S112x18944, .f32⟩
  | 117 => ⟨S_, .f32⟩
  | 118 => ⟨S112x18944, .f32⟩
  | 119 => ⟨S112x18944, .f32⟩
  | 120 => ⟨S112x18944, .bf16⟩
  | 121 => ⟨S112x1x18944, .bf16⟩
  | 122 => ⟨S_, .i32⟩
  | 123 => ⟨S112x32x18944, .i32⟩
  | 124 => ⟨S112x32x18944, .i32⟩
  | 125 => ⟨S_, .i32⟩
  | 126 => ⟨S112x32x18944, .i32⟩
  | 127 => ⟨S112x32x18944, .i32⟩
  | _ => ⟨S1x256x3584, .bf16⟩

abbrev hbmTy0_1 (i : Nat) : BufTy := match i % 128 with
  | 0 => ⟨S_, .i32⟩
  | 1 => ⟨S112x32x18944, .i32⟩
  | 2 => ⟨S112x32x18944, .i32⟩
  | 3 => ⟨S_, .i32⟩
  | 4 => ⟨S112x32x18944, .i32⟩
  | 5 => ⟨S112x32x18944, .i32⟩
  | 6 => ⟨S_, .i32⟩
  | 7 => ⟨S112x32x18944, .i32⟩
  | 8 => ⟨S112x32x18944, .i32⟩
  | 9 => ⟨S112x32x18944, .f32⟩
  | 10 => ⟨S_, .i32⟩
  | 11 => ⟨S112x32x18944, .i32⟩
  | 12 => ⟨S112x32x18944, .i1⟩
  | 13 => ⟨S_, .f32⟩
  | 14 => ⟨S112x32x18944, .f32⟩
  | 15 => ⟨S112x32x18944, .f32⟩
  | 16 => ⟨S_, .f32⟩
  | 17 => ⟨S112x32x18944, .f32⟩
  | 18 => ⟨S112x32x18944, .f32⟩
  | 19 => ⟨S_, .f32⟩
  | 20 => ⟨S112x32x18944, .f32⟩
  | 21 => ⟨S112x32x18944, .f32⟩
  | 22 => ⟨S_, .i32⟩
  | 23 => ⟨S112x32x18944, .i32⟩
  | 24 => ⟨S112x32x18944, .i32⟩
  | 25 => ⟨S112x32x18944, .f32⟩
  | 26 => ⟨S_, .f32⟩
  | 27 => ⟨S112x32x18944, .f32⟩
  | 28 => ⟨S112x32x18944, .f32⟩
  | 29 => ⟨S112x32x18944, .f32⟩
  | 30 => ⟨S112x32x18944, .f32⟩
  | 31 => ⟨S_, .i32⟩
  | 32 => ⟨S112x32x18944, .i32⟩
  | 33 => ⟨S112x32x18944, .i1⟩
  | 34 => ⟨S112x32x18944, .f32⟩
  | 35 => ⟨S112x32x18944, .f32⟩
  | 36 => ⟨S112x32x18944, .bf16⟩
  | 37 => ⟨S112x32x18944, .bf16⟩
  | 38 => ⟨S112x32x18944, .bf16⟩
  | 39 => ⟨S3584x18944, .bf16⟩
  | 40 => ⟨S256x18944, .f32⟩
  | 41 => ⟨S256x18944, .bf16⟩
  | 42 => ⟨S256x3584, .f32⟩
  | 43 => ⟨S256x3584, .fp8e4m3⟩
  | _ => ⟨S1x256x3584, .bf16⟩

abbrev hbmTy (i : Nat) : BufTy := match i / 128 with
  | 0 => hbmTy0_0 i
  | 1 => hbmTy0_1 i
  | _ => ⟨S1x256x3584, .bf16⟩

abbrev bufTy : (tb : Table) → Fin (tcTables nBuf tb) → BufTy
  | .hbm, ⟨i, _⟩ => hbmTy i
  | .local _ .vmem, ⟨0, _⟩ => ⟨S256x3584, .f32⟩
  | .local _ .vmem, ⟨1, _⟩ => ⟨S256x3584, .fp8e4m3⟩
  | _, _ => ⟨S1x256x3584, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_2 : Ref sig .tc := ⟨.hbm, 25, rfl⟩
abbrev main_v18 : Ref sig .tc := ⟨.hbm, 26, rfl⟩
abbrev main_c_3 : Ref sig .tc := ⟨.hbm, 27, rfl⟩
abbrev main_v19 : Ref sig .tc := ⟨.hbm, 28, rfl⟩
abbrev main_v20 : Ref sig .tc := ⟨.hbm, 29, rfl⟩
abbrev main_c_4 : Ref sig .tc := ⟨.hbm, 30, rfl⟩
abbrev main_v21 : Ref sig .tc := ⟨.hbm, 31, rfl⟩
abbrev main_v22 : Ref sig .tc := ⟨.hbm, 32, rfl⟩
abbrev main_c_5 : Ref sig .tc := ⟨.hbm, 33, rfl⟩
abbrev main_call0_v0 : Ref sig .tc := ⟨.hbm, 34, rfl⟩
abbrev main_call0_v1 : Ref sig .tc := ⟨.hbm, 35, rfl⟩
abbrev main_v23 : Ref sig .tc := ⟨.hbm, 36, rfl⟩
abbrev main_c_6 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_7 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_8 : Ref sig .tc := ⟨.hbm, 51, rfl⟩
abbrev main_cst_9 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_v36 : Ref sig .tc := ⟨.hbm, 58, rfl⟩
abbrev main_v37 : Ref sig .tc := ⟨.hbm, 59, rfl⟩
abbrev main_c_10 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_11 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_c_12 : Ref sig .tc := ⟨.hbm, 80, rfl⟩
abbrev main_v56 : Ref sig .tc := ⟨.hbm, 81, rfl⟩
abbrev main_v57 : Ref sig .tc := ⟨.hbm, 82, rfl⟩
abbrev main_c_13 : Ref sig .tc := ⟨.hbm, 83, rfl⟩
abbrev main_v58 : Ref sig .tc := ⟨.hbm, 84, rfl⟩
abbrev main_v59 : Ref sig .tc := ⟨.hbm, 85, rfl⟩
abbrev main_c_14 : Ref sig .tc := ⟨.hbm, 86, rfl⟩
abbrev main_v60 : Ref sig .tc := ⟨.hbm, 87, rfl⟩
abbrev main_v61 : Ref sig .tc := ⟨.hbm, 88, rfl⟩
abbrev main_c_15 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_c_16 : Ref sig .tc := ⟨.hbm, 93, rfl⟩
abbrev main_v65 : Ref sig .tc := ⟨.hbm, 94, rfl⟩
abbrev main_v66 : Ref sig .tc := ⟨.hbm, 95, rfl⟩
abbrev main_c_17 : Ref sig .tc := ⟨.hbm, 96, rfl⟩
abbrev main_v67 : Ref sig .tc := ⟨.hbm, 97, rfl⟩
abbrev main_v68 : Ref sig .tc := ⟨.hbm, 98, rfl⟩
abbrev main_c_18 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_19 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_c_20 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_21 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_c_22 : Ref sig .tc := ⟨.hbm, 122, rfl⟩
abbrev main_v88 : Ref sig .tc := ⟨.hbm, 123, rfl⟩
abbrev main_v89 : Ref sig .tc := ⟨.hbm, 124, rfl⟩
abbrev main_c_23 : Ref sig .tc := ⟨.hbm, 125, rfl⟩
abbrev main_v90 : Ref sig .tc := ⟨.hbm, 126, rfl⟩
abbrev main_v91 : Ref sig .tc := ⟨.hbm, 127, rfl⟩
abbrev main_c_24 : Ref sig .tc := ⟨.hbm, 128, rfl⟩
abbrev main_v92 : Ref sig .tc := ⟨.hbm, 129, rfl⟩
abbrev main_v93 : Ref sig .tc := ⟨.hbm, 130, rfl⟩
abbrev main_c_25 : Ref sig .tc := ⟨.hbm, 131, rfl⟩
abbrev main_v94 : Ref sig .tc := ⟨.hbm, 132, rfl⟩
abbrev main_v95 : Ref sig .tc := ⟨.hbm, 133, rfl⟩
abbrev main_c_26 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_c_27 : Ref sig .tc := ⟨.hbm, 138, rfl⟩
abbrev main_v99 : Ref sig .tc := ⟨.hbm, 139, rfl⟩
abbrev main_v100 : Ref sig .tc := ⟨.hbm, 140, rfl⟩
abbrev main_cst_28 : Ref sig .tc := ⟨.hbm, 141, rfl⟩
abbrev main_v101 : Ref sig .tc := ⟨.hbm, 142, rfl⟩
abbrev main_v102 : Ref sig .tc := ⟨.hbm, 143, rfl⟩
abbrev main_cst_29 : Ref sig .tc := ⟨.hbm, 144, rfl⟩
abbrev main_v103 : Ref sig .tc := ⟨.hbm, 145, rfl⟩
abbrev main_v104 : Ref sig .tc := ⟨.hbm, 146, rfl⟩
abbrev main_cst_30 : Ref sig .tc := ⟨.hbm, 147, rfl⟩
abbrev main_v105 : Ref sig .tc := ⟨.hbm, 148, rfl⟩
abbrev main_v106 : Ref sig .tc := ⟨.hbm, 149, rfl⟩
abbrev main_c_31 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_cst_32 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_c_33 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S256x3584 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x3584 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.BitsRuns.lean ====
/- What the two runs of the kernel body share: when its branch is taken, where its windows are idle, its memrefs.
   The program here is `Cert.Kernel`, the one read at bit patterns; KRuns.lean is the same for `Cert.KernelIdeal`. -/
module

public import proofs.«01_k».proof.Proof.Gen.Kernel.Frame
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 37 = 0 :=
  (fun t => by
    have ht : t.val < 37 := Nat.lt_of_lt_of_eq t.isLt N_0
    have e0 : (grid0.coords t 0).val = t.val / 1 % 37 := Pipeline.Grid.coords_val t 0 (by decide) rfl
    simp only [cond0_0, k0_cond1, e0]
    word_cmp
   : ∀ t : Fin grid0.N, cond0_0 (grid0.coords t) ↔ t.val % 37 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an output stored at every point, under no condition). -/
theorem liveAt0_3 : ∀ t : Fin cfg0.N, cfg0.idle 3 (grid0.coords t) = false := fun _ => rfl
/-- At the points of case A the printed configuration (`Cfg.idle`) calls output 4 live: the case stores into it. -/
theorem liveAt0_4_A : ∀ t : Fin cfg0.N, cond0_0 (grid0.coords t) → cfg0.idle 4 (grid0.coords t) = false := by decide +kernel
/-- At the points of case B the printed configuration (`Cfg.idle`) calls output 4 idle: the case stores nothing into it. -/
theorem idleAt0_4_B : ∀ t : Fin cfg0.N, ¬cond0_0 (grid0.coords t) → cfg0.idle 4 (grid0.coords t) = true := by decide +kernel
/-- At the points of case A the printed configuration (`Cfg.idle`) calls output 5 live: the case stores into it. -/
theorem liveAt0_5_A : ∀ t : Fin cfg0.N, cond0_0 (grid0.coords t) → cfg0.idle 5 (grid0.coords t) = false := by decide +kernel
/-- At the points of case B the printed configuration (`Cfg.idle`) calls output 5 idle: the case stores nothing into it. -/
theorem idleAt0_5_B : ∀ t : Fin cfg0.N, ¬cond0_0 (grid0.coords t) → cfg0.idle 5 (grid0.coords t) = true := by decide +kernel

/-! ## The kernel body on any staging memrefs: a subtype the run finds -/

/-- One staging buffer of output window 3, through which its contents are stated (`View.read_writes_of_cover`: the
    choice does not matter). -/
abbrev VO0_3 : View sig .tc .vmem S256x512 .bf16 := (Memref.whole cc0_stg3_0 : Memref sig .tc .vmem S256x512 .bf16).view
/-- One staging buffer of output window 4, through which its contents are stated (`View.read_writes_of_cover`: the
    choice does not matter). -/
abbrev VO0_4 : View sig .tc .vmem S256x3584 .fp8e4m3 := (Memref.whole cc0_stg4_0 : Memref sig .tc .vmem S256x3584 .fp8e4m3).view
/-- One staging buffer of output window 5, through which its contents are stated (`View.read_writes_of_cover`: the
    choice does not matter). -/
abbrev VO0_5 : View sig .tc .vmem S256x112 .i8 := (Memref.whole cc0_stg5_0 : Memref sig .tc .vmem S256x112 .i8).view
/-- Each window's current staging memref at point `t`, spelled as the pipeline passes it (`bodyAt0`), and its wholeness. -/
abbrev ms0_0 (t : Fin cfg0.N) : Memref sig .tc .vmem S256x3584 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3x896x512 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S112x512 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x3584 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x112 .i8 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S256x3584 .bf16 := Memref.whole cc0_scratch0
abbrev scM0_1 : Memref sig .tc .vmem S112x512 .i32 := Memref.whole cc0_scratch1
/-- The scratch `arg7` the kernel carries between points, as a view: what it holds is stated through it. -/
abbrev VS0_0 : View sig .tc .vmem S256x3584 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Hand

end
-- ==== Proof.BitsRunA.lean ====
/- The run of the kernel body at the first grid point, where it quantises.
   The program here is `Cert.Kernel`, the one read at bit patterns; KRunA.lean is the same for `Cert.KernelIdeal`. -/
module

public import proofs.«01_k».proof.Proof.BitsRuns

@[expose] public section

-- membership in a rectangle of production extents (`View.cover_of_tiled`): the elaborator's structural look
-- recurses once per coordinate of the long axes
set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2756000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S256x3584 .bf16) (harg1 : arg1.IsWhole) (arg2 : Memref sig .tc .vmem S3x896x512 .i8) (harg2 : arg2.IsWhole) (arg3 : Memref sig .tc .vmem S112x512 .i8) (harg3 : arg3.IsWhole) (arg4 : Memref sig .tc .vmem S256x512 .bf16) (harg4 : arg4.IsWhole) (arg5 : Memref sig .tc .vmem S256x3584 .fp8e4m3) (harg5 : arg5.IsWhole) (arg6 : Memref sig .tc .vmem S256x112 .i8) (harg6 : arg6.IsWhole) (arg7 : Memref sig .tc .vmem S256x3584 .bf16) (harg7 : arg7.IsWhole) (arg8 : Memref sig .tc .vmem S112x512 .i32) (harg8 : arg8.IsWhole) (hc0 : cond0_0 i)
    (x0 : Vec F S256x3584 .bf16) (x1 : Vec F S3x896x512 .i8) (x2 : Vec F S112x512 .i8) :
    Σ' (L3 : List (View.Piece (Elt F) S256x512 .bf16)), Σ' (L4 : List (View.Piece (Elt F) S256x3584 .fp8e4m3)), Σ' (L5 : List (View.Piece (Elt F) S256x112 .i8)), Σ' (LS0 : List (View.Piece (Elt F) S256x3584 .bf16)), { LT1 : List (View.Piece (Elt F) S112x512 .i32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LT1)) -∗ K ⟨⟩))
          ⊢ wp frame (wpE (defs₀ (F := F)) Variants.none c none) E (cc0_mxfp6_linear i arg1 harg1 arg2 harg2 arg3 harg3 arg4 harg4 arg5 harg5 arg6 harg6 arg7 harg7 arg8 harg8) K } := by
  refine ⟨?_, ?_, ?_, ?_, ?_, fun E K => ?run⟩
  case run =>
    simp only [cc0_mxfp6_linear_eq_skeleton]; unfold cc0_mxfp6_linear_skel
    simp only [k0_part127_eq_skeleton, k0_part70_eq_skeleton, k0_part69_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    isplitl [HS0]; · iexists _; iexact HS0
    iexists _; iexact HS1

end Cert.Kernel.Hand

end
-- ==== Proof.BitsRunB.lean ====
/- The run of the kernel body at every later grid point.
   The program here is `Cert.Kernel`, the one read at bit patterns; KRunB.lean is the same for `Cert.KernelIdeal`. -/
module

public import proofs.«01_k».proof.Proof.BitsRunA

@[expose] public section

-- membership in a rectangle of production extents (`View.cover_of_tiled`): the elaborator's structural look
-- recurses once per coordinate of the long axes
set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1364000 in
/-- What the body's stores leave in each output's staging memref, as pieces (last first) IN CASE B (`scf.if` 0 not taken: points 1, 2, … 36: 36 of 37), WITH the
    proof that on whole staging memrefs — the inputs' at their contents, the outputs it leaves idle (4, 5: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S256x3584 .bf16) (harg1 : arg1.IsWhole) (arg2 : Memref sig .tc .vmem S3x896x512 .i8) (harg2 : arg2.IsWhole) (arg3 : Memref sig .tc .vmem S112x512 .i8) (harg3 : arg3.IsWhole) (arg4 : Memref sig .tc .vmem S256x512 .bf16) (harg4 : arg4.IsWhole) (arg5 : Memref sig .tc .vmem S256x3584 .fp8e4m3) (harg5 : arg5.IsWhole) (arg6 : Memref sig .tc .vmem S256x112 .i8) (harg6 : arg6.IsWhole) (arg7 : Memref sig .tc .vmem S256x3584 .bf16) (harg7 : arg7.IsWhole) (arg8 : Memref sig .tc .vmem S112x512 .i32) (harg8 : arg8.IsWhole) (hc0 : ¬cond0_0 i)
    (x0 : Vec F S256x3584 .bf16) (x1 : Vec F S3x896x512 .i8) (x2 : Vec F S112x512 .i8) (xs0 : Vec F S256x3584 .bf16) :
    Σ' (L3 : List (View.Piece (Elt F) S256x512 .bf16)), Σ' (L4 : List (View.Piece (Elt F) S256x3584 .fp8e4m3)), Σ' (L5 : List (View.Piece (Elt F) S256x112 .i8)), Σ' (LS0 : List (View.Piece (Elt F) S256x3584 .bf16)), { LT1 : List (View.Piece (Elt F) S112x512 .i32) //
      ∀ (xi4 : Vec F S256x3584 .fp8e4m3) (xi5 : Vec F S256x112 .i8) (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xi4 ∗ owns (c : Thread nD τ) arg6 fullShare xi5 ∗ owns (c : Thread nD τ) arg7 fullShare xs0 ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ owns (c : Thread nD τ) arg5 fullShare xi4 ∗ owns (c : Thread nD τ) arg6 fullShare xi5 ∗ owns (c : Thread nD τ) arg7 fullShare xs0 ∗ (∃ f, arg8.view.loc (c : Thread nD τ) ↦[arg8.view.set]{fullShare} arg8.view.writes (Elt F) f LT1)) -∗ K ⟨⟩))
          ⊢ wp frame (wpE (defs₀ (F := F)) Variants.none c none) E (cc0_mxfp6_linear i arg1 harg1 arg2 harg2 arg3 harg3 arg4 harg4 arg5 harg5 arg6 harg6 arg7 harg7 arg8 harg8) K } := by
  refine ⟨?_, [], [], [], ?_, fun xi4 xi5 E K => ?run⟩
  case run =>
    simp only [cc0_mxfp6_linear_eq_skeleton]; unfold cc0_mxfp6_linear_skel
    simp only [k0_part127_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%fs0, %hfs0, HS0⟩, ⟨%ds1, %fs1, -, HS1⟩, Hk⟩
    obtain rfl := harg1.eq_unread hf0; obtain rfl := harg2.eq_unread hf1; obtain rfl := harg3.eq_unread hf2; obtain rfl := harg5.eq_unread hf4; obtain rfl := harg6.eq_unread hf5; obtain rfl := harg7.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]
    · iexists _; isplitr; · ipureintro; exact harg5.read_unread _
      iexact H4
    isplitl [H5]
    · iexists _; isplitr; · ipureintro; exact harg6.read_unread _
      iexact H5
    isplitl [HS0]
    · iexists _; isplitr; · ipureintro; exact harg7.read_unread _
      iexact HS0
    iexists _; iexact HS1

end Cert.Kernel.Hand

end
-- ==== Proof.BitsFrame.lean ====
/- What the kernel leaves in its buffers, point by point; the run of the whole program, and its frame.
   The program here is `Cert.Kernel`, the one read at bit patterns; KFrame.lean is the same for `Cert.KernelIdeal`. -/
module

public import proofs.«01_k».proof.Proof.BitsRunB
public import Idealize.ShloMosaic.Lib.Claim

public import Idealize.ShloMosaic.Lib.Pipeline.TableIdle

@[expose] public section

-- membership in a rectangle of production extents (`View.cover_of_tiled`): the elaborator's structural look
-- recurses once per coordinate of the long axes
set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 3 tile its block (1 store of `S256x512`, checked by the kernel's evaluation: Lib/Ring.lean `Piece.tiledL`, linear in the pieces, through a loop's `@[irreducible]` trip theorem too), so they cover it. -/
theorem cover0_A_3 (c : Dev nD) (i : grid0.Coords) (arg1 : Memref sig .tc .vmem S256x3584 .bf16) (harg1 : arg1.IsWhole) (arg2 : Memref sig .tc .vmem S3x896x512 .i8) (harg2 : arg2.IsWhole) (arg3 : Memref sig .tc .vmem S112x512 .i8) (harg3 : arg3.IsWhole) (arg4 : Memref sig .tc .vmem S256x512 .bf16) (harg4 : arg4.IsWhole) (arg5 : Memref sig .tc .vmem S256x3584 .fp8e4m3) (harg5 : arg5.IsWhole) (arg6 : Memref sig .tc .vmem S256x112 .i8) (harg6 : arg6.IsWhole) (arg7 : Memref sig .tc .vmem S256x3584 .bf16) (harg7 : arg7.IsWhole) (arg8 : Memref sig .tc .vmem S112x512 .i32) (harg8 : arg8.IsWhole) (hc0 : cond0_0 i)
    (x0 : Vec F S256x3584 .bf16) (x1 : Vec F S3x896x512 .i8) (x2 : Vec F S112x512 .i8) (y : S256x512.Idx) :
    ∃ pc ∈ (kernelRun0_A c i arg1 harg1 arg2 harg2 arg3 harg3 arg4 harg4 arg5 harg5 arg6 harg6 arg7 harg7 arg8 harg8 hc0 x0 x1 x2).1, y ∈ pc.1.set :=
  View.cover_of_tiledL (kernelRun0_A c i arg1 harg1 arg2 harg2 arg3 harg3 arg4 harg4 arg5 harg5 arg6 harg6 arg7 harg7 arg8 harg8 hc0 x0 x1 x2).1 S256x512.size (by sl_kernel_rfl) y

/-- What case A leaves in output 3's staging buffer: its pieces read back over junk. -/
def out0_A_3 (c : Dev nD) (i : grid0.Coords) (arg1 : Memref sig .tc .vmem S256x3584 .bf16) (harg1 : arg1.IsWhole) (arg2 : Memref sig .tc .vmem S3x896x512 .i8) (harg2 : arg2.IsWhole) (arg3 : Memref sig .tc .vmem S112x512 .i8) (harg3 : arg3.IsWhole) (arg4 : Memref sig .tc .vmem S256x512 .bf16) (harg4 : arg4.IsWhole) (arg5 : Memref sig .tc .vmem S256x3584 .fp8e4m3) (harg5 : arg5.IsWhole) (arg6 : Memref sig .tc .vmem S256x112 .i8) (harg6 : arg6.IsWhole) (arg7 : Memref sig .tc .vmem S256x3584 .bf16) (harg7 : arg7.IsWhole) (arg8 : Memref sig .tc .vmem S112x512 .i32) (harg8 : arg8.IsWhole) (hc0 : cond0_0 i)
    (x0 : Vec F S256x3584 .bf16) (x1 : Vec F S3x896x512 .i8) (x2 : Vec F S112x512 .i8) : Vec F S256x512 .bf16 :=
  VO0_3.read (Elt F) (VO0_3.writes (Elt F) VO0_3.junk (kernelRun0_A c i arg1 harg1 arg2 harg2 arg3 harg3 arg4 harg4 arg5 harg5 arg6 harg6 arg7 harg7 arg8 harg8 hc0 x0 x1 x2).1)

/-- Case A's pieces for output 4 tile its block (28 stores of `S256x128`, checked by the kernel's evaluation: Lib/Ring.lean `Piece.tiledL`, linear in the pieces, through a loop's `@[irreducible]` trip theorem too), so they cover it. -/
theorem cover0_A_4 (c : Dev nD) (i : grid0.Coords) (arg1 : Memref sig .tc .vmem S256x3584 .bf16) (harg1 : arg1.IsWhole) (arg2 : Memref sig .tc .vmem S3x896x512 .i8) (harg2 : arg2.IsWhole) (arg3 : Memref sig .tc .vmem S112x512 .i8) (harg3 : arg3.IsWhole) (arg4 : Memref sig .tc .vmem S256x512 .bf16) (harg4 : arg4.IsWhole) (arg5 : Memref sig .tc .vmem S256x3584 .fp8e4m3) (harg5 : arg5.IsWhole) (arg6 : Memref sig .tc .vmem S256x112 .i8) (harg6 : arg6.IsWhole) (arg7 : Memref sig .tc .vmem S256x3584 .bf16) (harg7 : arg7.IsWhole) (arg8 : Memref sig .tc .vmem S112x512 .i32) (harg8 : arg8.IsWhole) (hc0 : cond0_0 i)
    (x0 : Vec F S256x3584 .bf16) (x1 : Vec F S3x896x512 .i8) (x2 : Vec F S112x512 .i8) (y : S256x3584.Idx) :
    ∃ pc ∈ (kernelRun0_A c i arg1 harg1 arg2 harg2 arg3 harg3 arg4 harg4 arg5 harg5 arg6 harg6 arg7 harg7 arg8 harg8 hc0 x0 x1 x2).2.1, y ∈ pc.1.set :=
  View.cover_of_tiledL (kernelRun0_A c i arg1 harg1 arg2 harg2 arg3 harg3 arg4 harg4 arg5 harg5 arg6 harg6 arg7 harg7 arg8 harg8 hc0 x0 x1 x2).2.1 S256x128.size (by sl_kernel_rfl) y

/-- What case A leaves in output 4's staging buffer: its pieces read back over junk. -/
def out0_A_4 (c : Dev nD) (i : grid0.Coords) (arg1 : Memref sig .tc .vmem S256x3584 .bf16) (harg1 : arg1.IsWhole) (arg2 : Memref sig .tc .vmem S3x896x512 .i8) (harg2 : arg2.IsWhole) (arg3 : Memref sig .tc .vmem S112x512 .i8) (harg3 : arg3.IsWhole) (arg4 : Memref sig .tc .vmem S256x512 .bf16) (harg4 : arg4.IsWhole) (arg5 : Memref sig .tc .vmem S256x3584 .fp8e4m3) (harg5 : arg5.IsWhole) (arg6 : Memref sig .tc .vmem S256x112 .i8) (harg6 : arg6.IsWhole) (arg7 : Memref sig .tc .vmem S256x3584 .bf16) (harg7 : arg7.IsWhole) (arg8 : Memref sig .tc .vmem S112x512 .i32) (harg8 : arg8.IsWhole) (hc0 : cond0_0 i)
    (x0 : Vec F S256x3584 .bf16) (x1 : Vec F S3x896x512 .i8) (x2 : Vec F S112x512 .i8) : Vec F S256x3584 .fp8e4m3 :=
  VO0_4.read (Elt F) (VO0_4.writes (Elt F) VO0_4.junk (kernelRun0_A c i arg1 harg1 arg2 harg2 arg3 harg3 arg4 harg4 arg5 harg5 arg6 harg6 arg7 harg7 arg8 harg8 hc0 x0 x1 x2).2.1)

/-- Case A's pieces for output 5 tile its block (1 store of `S256x112`, checked by the kernel's evaluation: Lib/Ring.lean `Piece.tiledL`, linear in the pieces, through a loop's `@[irreducible]` trip theorem too), so they cover it. -/
theorem cover0_A_5 (c : Dev nD) (i : grid0.Coords) (arg1 : Memref sig .tc .vmem S256x3584 .bf16) (harg1 : arg1.IsWhole) (arg2 : Memref sig .tc .vmem S3x896x512 .i8) (harg2 : arg2.IsWhole) (arg3 : Memref sig .tc .vmem S112x512 .i8) (harg3 : arg3.IsWhole) (arg4 : Memref sig .tc .vmem S256x512 .bf16) (harg4 : arg4.IsWhole) (arg5 : Memref sig .tc .vmem S256x3584 .fp8e4m3) (harg5 : arg5.IsWhole) (arg6 : Memref sig .tc .vmem S256x112 .i8) (harg6 : arg6.IsWhole) (arg7 : Memref sig .tc .vmem S256x3584 .bf16) (harg7 : arg7.IsWhole) (arg8 : Memref sig .tc .vmem S112x512 .i32) (harg8 : arg8.IsWhole) (hc0 : cond0_0 i)
    (x0 : Vec F S256x3584 .bf16) (x1 : Vec F S3x896x512 .i8) (x2 : Vec F S112x512 .i8) (y : S256x112.Idx) :
    ∃ pc ∈ (kernelRun0_A c i arg1 harg1 arg2 harg2 arg3 harg3 arg4 harg4 arg5 harg5 arg6 harg6 arg7 harg7 arg8 harg8 hc0 x0 x1 x2).2.2.1, y ∈ pc.1.set :=
  View.cover_of_tiledL (kernelRun0_A c i arg1 harg1 arg2 harg2 arg3 harg3 arg4 harg4 arg5 harg5 arg6 harg6 arg7 harg7 arg8 harg8 hc0 x0 x1 x2).2.2.1 S256x112.size (by sl_kernel_rfl) y

/-- What case A leaves in output 5's staging buffer: its pieces read back over junk. -/
def out0_A_5 (c : Dev nD) (i : grid0.Coords) (arg1 : Memref sig .tc .vmem S256x3584 .bf16) (harg1 : arg1.IsWhole) (arg2 : Memref sig .tc .vmem S3x896x512 .i8) (harg2 : arg2.IsWhole) (arg3 : Memref sig .tc .vmem S112x512 .i8) (harg3 : arg3.IsWhole) (arg4 : Memref sig .tc .vmem S256x512 .bf16) (harg4 : arg4.IsWhole) (arg5 : Memref sig .tc .vmem S256x3584 .fp8e4m3) (harg5 : arg5.IsWhole) (arg6 : Memref sig .tc .vmem S256x112 .i8) (harg6 : arg6.IsWhole) (arg7 : Memref sig .tc .vmem S256x3584 .bf16) (harg7 : arg7.IsWhole) (arg8 : Memref sig .tc .vmem S112x512 .i32) (harg8 : arg8.IsWhole) (hc0 : cond0_0 i)
    (x0 : Vec F S256x3584 .bf16) (x1 : Vec F S3x896x512 .i8) (x2 : Vec F S112x512 .i8) : Vec F S256x112 .i8 :=
  VO0_5.read (Elt F) (VO0_5.writes (Elt F) VO0_5.junk (kernelRun0_A c i arg1 harg1 arg2 harg2 arg3 harg3 arg4 harg4 arg5 harg5 arg6 harg6 arg7 harg7 arg8 harg8 hc0 x0 x1 x2).2.2.1)

/-- Case A's pieces for scratch `arg7`, which the kernel carries between points, cover it: 28 pieces of `S256x128` tiling it (Lib/Ring.lean `Piece.tiledL`). -/
theorem scover0_A_0 (c : Dev nD) (i : grid0.Coords) (arg1 : Memref sig .tc .vmem S256x3584 .bf16) (harg1 : arg1.IsWhole) (arg2 : Memref sig .tc .vmem S3x896x512 .i8) (harg2 : arg2.IsWhole) (arg3 : Memref sig .tc .vmem S112x512 .i8) (harg3 : arg3.IsWhole) (arg4 : Memref sig .tc .vmem S256x512 .bf16) (harg4 : arg4.IsWhole) (arg5 : Memref sig .tc .vmem S256x3584 .fp8e4m3) (harg5 : arg5.IsWhole) (arg6 : Memref sig .tc .vmem S256x112 .i8) (harg6 : arg6.IsWhole) (arg7 : Memref sig .tc .vmem S256x3584 .bf16) (harg7 : arg7.IsWhole) (arg8 : Memref sig .tc .vmem S112x512 .i32) (harg8 : arg8.IsWhole) (hc0 : cond0_0 i)
    (x0 : Vec F S256x3584 .bf16) (x1 : Vec F S3x896x512 .i8) (x2 : Vec F S112x512 .i8) (y : S256x3584.Idx) :
    ∃ pc ∈ (kernelRun0_A c i arg1 harg1 arg2 harg2 arg3 harg3 arg4 harg4 arg5 harg5 arg6 harg6 arg7 harg7 arg8 harg8 hc0 x0 x1 x2).2.2.2.1, y ∈ pc.1.set :=
  View.cover_of_tiledL (kernelRun0_A c i arg1 harg1 arg2 harg2 arg3 harg3 arg4 harg4 arg5 harg5 arg6 harg6 arg7 harg7 arg8 harg8 hc0 x0 x1 x2).2.2.2.1 S256x128.size (by sl_kernel_rfl) y

/-- What case A leaves in scratch `arg7`: its pieces read back over junk. -/
def sout0_A_0 (c : Dev nD) (i : grid0.Coords) (arg1 : Memref sig .tc .vmem S256x3584 .bf16) (harg1 : arg1.IsWhole) (arg2 : Memref sig .tc .vmem S3x896x512 .i8) (harg2 : arg2.IsWhole) (arg3 : Memref sig .tc .vmem S112x512 .i8) (harg3 : arg3.IsWhole) (arg4 : Memref sig .tc .vmem S256x512 .bf16) (harg4 : arg4.IsWhole) (arg5 : Memref sig .tc .vmem S256x3584 .fp8e4m3) (harg5 : arg5.IsWhole) (arg6 : Memref sig .tc .vmem S256x112 .i8) (harg6 : arg6.IsWhole) (arg7 : Memref sig .tc .vmem S256x3584 .bf16) (harg7 : arg7.IsWhole) (arg8 : Memref sig .tc .vmem S112x512 .i32) (harg8 : arg8.IsWhole) (hc0 : cond0_0 i)
    (x0 : Vec F S256x3584 .bf16) (x1 : Vec F S3x896x512 .i8) (x2 : Vec F S112x512 .i8) : Vec F S256x3584 .bf16 :=
  VS0_0.read (Elt F) (VS0_0.writes (Elt F) VS0_0.junk (kernelRun0_A c i arg1 harg1 arg2 harg2 arg3 harg3 arg4 harg4 arg5 harg5 arg6 harg6 arg7 harg7 arg8 harg8 hc0 x0 x1 x2).2.2.2.1)

/-- Case B's pieces for output 3 tile its block (1 store of `S256x512`, checked by the kernel's evaluation: Lib/Ring.lean `Piece.tiledL`, linear in the pieces, through a loop's `@[irreducible]` trip theorem too), so they cover it. -/
theorem cover0_B_3 (c : Dev nD) (i : grid0.Coords) (arg1 : Memref sig .tc .vmem S256x3584 .bf16) (harg1 : arg1.IsWhole) (arg2 : Memref sig .tc .vmem S3x896x512 .i8) (harg2 : arg2.IsWhole) (arg3 : Memref sig .tc .vmem S112x512 .i8) (harg3 : arg3.IsWhole) (arg4 : Memref sig .tc .vmem S256x512 .bf16) (harg4 : arg4.IsWhole) (arg5 : Memref sig .tc .vmem S256x3584 .fp8e4m3) (harg5 : arg5.IsWhole) (arg6 : Memref sig .tc .vmem S256x112 .i8) (harg6 : arg6.IsWhole) (arg7 : Memref sig .tc .vmem S256x3584 .bf16) (harg7 : arg7.IsWhole) (arg8 : Memref sig .tc .vmem S112x512 .i32) (harg8 : arg8.IsWhole) (hc0 : ¬cond0_0 i)
    (x0 : Vec F S256x3584 .bf16) (x1 : Vec F S3x896x512 .i8) (x2 : Vec F S112x512 .i8) (xs0 : Vec F S256x3584 .bf16) (y : S256x512.Idx) :
    ∃ pc ∈ (kernelRun0_B c i arg1 harg1 arg2 harg2 arg3 harg3 arg4 harg4 arg5 harg5 arg6 harg6 arg7 harg7 arg8 harg8 hc0 x0 x1 x2 xs0).1, y ∈ pc.1.set :=
  View.cover_of_tiledL (kernelRun0_B c i arg1 harg1 arg2 harg2 arg3 harg3 arg4 harg4 arg5 harg5 arg6 harg6 arg7 harg7 arg8 harg8 hc0 x0 x1 x2 xs0).1 S256x512.size (by sl_kernel_rfl) y

/-- What case B leaves in output 3's staging buffer: its pieces read back over junk. -/
def out0_B_3 (c : Dev nD) (i : grid0.Coords) (arg1 : Memref sig .tc .vmem S256x3584 .bf16) (harg1 : arg1.IsWhole) (arg2 : Memref sig .tc .vmem S3x896x512 .i8) (harg2 : arg2.IsWhole) (arg3 : Memref sig .tc .vmem S112x512 .i8) (harg3 : arg3.IsWhole) (arg4 : Memref sig .tc .vmem S256x512 .bf16) (harg4 : arg4.IsWhole) (arg5 : Memref sig .tc .vmem S256x3584 .fp8e4m3) (harg5 : arg5.IsWhole) (arg6 : Memref sig .tc .vmem S256x112 .i8) (harg6 : arg6.IsWhole) (arg7 : Memref sig .tc .vmem S256x3584 .bf16) (harg7 : arg7.IsWhole) (arg8 : Memref sig .tc .vmem S112x512 .i32) (harg8 : arg8.IsWhole) (hc0 : ¬cond0_0 i)
    (x0 : Vec F S256x3584 .bf16) (x1 : Vec F S3x896x512 .i8) (x2 : Vec F S112x512 .i8) (xs0 : Vec F S256x3584 .bf16) : Vec F S256x512 .bf16 :=
  VO0_3.read (Elt F) (VO0_3.writes (Elt F) VO0_3.junk (kernelRun0_B c i arg1 harg1 arg2 harg2 arg3 harg3 arg4 harg4 arg5 harg5 arg6 harg6 arg7 harg7 arg8 harg8 hc0 x0 x1 x2 xs0).1)

/-- Case B stores nothing into scratch `arg7`: it holds what the point before left. -/
def sout0_B_0 (c : Dev nD) (i : grid0.Coords) (arg1 : Memref sig .tc .vmem S256x3584 .bf16) (harg1 : arg1.IsWhole) (arg2 : Memref sig .tc .vmem S3x896x512 .i8) (harg2 : arg2.IsWhole) (arg3 : Memref sig .tc .vmem S112x512 .i8) (harg3 : arg3.IsWhole) (arg4 : Memref sig .tc .vmem S256x512 .bf16) (harg4 : arg4.IsWhole) (arg5 : Memref sig .tc .vmem S256x3584 .fp8e4m3) (harg5 : arg5.IsWhole) (arg6 : Memref sig .tc .vmem S256x112 .i8) (harg6 : arg6.IsWhole) (arg7 : Memref sig .tc .vmem S256x3584 .bf16) (harg7 : arg7.IsWhole) (arg8 : Memref sig .tc .vmem S112x512 .i32) (harg8 : arg8.IsWhole) (hc0 : ¬cond0_0 i)
    (x0 : Vec F S256x3584 .bf16) (x1 : Vec F S3x896x512 .i8) (x2 : Vec F S112x512 .i8) (xs0 : Vec F S256x3584 .bf16) : Vec F S256x3584 .bf16 := xs0

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S256x512 .bf16 × Vec F S256x3584 .fp8e4m3 × Vec F S256x112 .i8 × Vec F S256x3584 .bf16
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩))
  | n + 1, hn =>
    if h0 : (n + 1) % 37 = 0 then
      (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩))
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.2, (outsAt0 c n (Nat.lt_of_succ_lt hn)).2.1, (outsAt0 c n (Nat.lt_of_succ_lt hn)).2.2.1, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.2)

/-- `outsAt0` at a point of case A: that case's contents. -/
theorem outsAt0_A (c : Dev nD) (t : Fin cfg0.N) (h0 : t.val % 37 = 0) :
    outsAt0 m c t.val t.isLt = (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t), out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 37 = 0) :
    outsAt0 m c t.val t.isLt = (out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2.2.2, (outsAt0 m c (t.val - 1) (Nat.lt_of_le_of_lt (Nat.sub_le _ _) t.isLt)).2.1, (outsAt0 m c (t.val - 1) (Nat.lt_of_le_of_lt (Nat.sub_le _ _) t.isLt)).2.2.1, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2) ∗ (∃ d, owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2) ∗ (∃ d, owns (c : Thread nD τ) scM0_1 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2) ∗ (∃ d, owns (c : Thread nD τ) scM0_1 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
    | ⟨4, _⟩ => (outsAt0 m c t.val t.isLt).2.1
    | ⟨5, _⟩ => (outsAt0 m c t.val t.isLt).2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]
theorem after0_4 (c : Dev nD) (t : Fin cfg0.N) : (dats m 0 c).after 4 t = (outsAt0 m c t.val t.isLt).2.1 := by dsimp only [dats]
theorem after0_5 (c : Dev nD) (t : Fin cfg0.N) : (dats m 0 c).after 5 t = (outsAt0 m c t.val t.isLt).2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- After the first point output 4's buffer is never stale: it is written back after the last point only. -/
theorem fresh0_4 : ∀ t : Fin cfg0.N, t.val ≠ 0 → cfg0.fresh 4 t.val = false := by decide +kernel

/-- At a later point output 4 stays as the point before left it. -/
theorem carry0_4 (c : Dev nD) (t : Fin cfg0.N) (h0 : ¬t.val % 37 = 0) :
    (dats m 0 c).after 4 t = (dats m 0 c).after 4 ⟨t.val - 1, Nat.lt_of_le_of_lt (Nat.sub_le _ _) t.isLt⟩ := by
  rw [after0_4, after0_4, outsAt0_B m c t h0]

/-- What the body finds in output 4's buffer at a later point is what it holds afterwards. -/
theorem before0_4 (c : Dev nD) (t : Fin cfg0.N) (h0 : ¬t.val % 37 = 0) (d) :
    (dats m 0 c).before 4 t d = (dats m 0 c).after 4 t := by
  have hz : t.val ≠ 0 := fun h => h0 (by rw [h])
  rw [(dats m 0 c).before_out_traj 4 rfl (fun _ _ => rfl) (fun t hz _ _ => carry0_4 m c t (by
      have hN : t.val < 37 := lt_of_lt_of_eq t.isLt (show cfg0.N = 37 from N_0); omega)) t.val t rfl d,
    fresh0_4 t hz, if_neg Bool.false_ne_true, carry0_4 m c t h0]

/-- So handing output 4's buffer back untouched is what the pipeline asks, written back there or not. -/
theorem leaves0_4 (c : Dev nD) (t : Fin cfg0.N) (h0 : ¬t.val % 37 = 0) (d) :
    (owns (c : Thread nD τ) (ms0_4 t) fullShare ((dats m 0 c).before 4 t d) : sProp 𝕄) ⊢ (dats m 0 c).leavesExact 4 t := by
  have hi := idleAt0_4_B t (fun h => h0 ((hcond0_0 t).mp h))
  by_cases hf : (cfg0.win 4).flush t = true
  · unfold Dat.leavesExact; rw [hi, hf, before0_4 m c t h0]
    try exact Idealize.SL.BI.Entails.refl _
  · rw [Dat.leavesExact_idle (dats m 0 c) 4 t hi (by simpa using hf)]
    iintro H; iexists d; iexact H

/-- After the first point output 5's buffer is never stale: it is written back after the last point only. -/
theorem fresh0_5 : ∀ t : Fin cfg0.N, t.val ≠ 0 → cfg0.fresh 5 t.val = false := by decide +kernel

/-- At a later point output 5 stays as the point before left it. -/
theorem carry0_5 (c : Dev nD) (t : Fin cfg0.N) (h0 : ¬t.val % 37 = 0) :
    (dats m 0 c).after 5 t = (dats m 0 c).after 5 ⟨t.val - 1, Nat.lt_of_le_of_lt (Nat.sub_le _ _) t.isLt⟩ := by
  rw [after0_5, after0_5, outsAt0_B m c t h0]

/-- What the body finds in output 5's buffer at a later point is what it holds afterwards. -/
theorem before0_5 (c : Dev nD) (t : Fin cfg0.N) (h0 : ¬t.val % 37 = 0) (d) :
    (dats m 0 c).before 5 t d = (dats m 0 c).after 5 t := by
  have hz : t.val ≠ 0 := fun h => h0 (by rw [h])
  rw [(dats m 0 c).before_out_traj 5 rfl (fun _ _ => rfl) (fun t hz _ _ => carry0_5 m c t (by
      have hN : t.val < 37 := lt_of_lt_of_eq t.isLt (show cfg0.N = 37 from N_0); omega)) t.val t rfl d,
    fresh0_5 t hz, if_neg Bool.false_ne_true, carry0_5 m c t h0]

/-- So handing output 5's buffer back untouched is what the pipeline asks, written back there or not. -/
theorem leaves0_5 (c : Dev nD) (t : Fin cfg0.N) (h0 : ¬t.val % 37 = 0) (d) :
    (owns (c : Thread nD τ) (ms0_5 t) fullShare ((dats m 0 c).before 5 t d) : sProp 𝕄) ⊢ (dats m 0 c).leavesExact 5 t := by
  have hi := idleAt0_5_B t (fun h => h0 ((hcond0_0 t).mp h))
  by_cases hf : (cfg0.win 5).flush t = true
  · unfold Dat.leavesExact; rw [hi, hf, before0_5 m c t h0]
    try exact Idealize.SL.BI.Entails.refl _
  · rw [Dat.leavesExact_idle (dats m 0 c) 5 t hi (by simpa using hf)]
    iintro H; iexists d; iexact H

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 37 := lt_of_lt_of_eq t.isLt (show cfg0.N = 37 from N_0)
  by_cases h0 : t.val % 37 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4_A t ((hcond0_0 t).mpr h0)], after0_4]
    rw [show (dats m 0 c).leavesExact 5 t = owns (c : Thread nD τ) (ms0_5 t) fullShare ((dats m 0 c).after 5 t) from by
      unfold Dat.leavesExact; rw [liveAt0_5_A t ((hcond0_0 t).mpr h0)], after0_5]
    by_cases hz : t.val = 0
    · rw [PhiS_castSucc m c t, PhiS_zero m c _ _ hz, PhiA0_eq]
      rw [outsAt0_A m c t h0]
      unfold out0_A_3 out0_A_4 out0_A_5 sout0_A_0; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ _ _ ((hcond0_0 t).mpr h0) (iblk m c 0 t) (iblk m c 1 t) (iblk m c 2 t)).2.2.2.2.2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [HS0]; · iexact HS0
      isplitl [HS1]; · iexact HS1
      iintro ⟨H0, H1, H2, ⟨%e3, H3⟩, ⟨%e4, H4⟩, ⟨%e5, H5⟩, ⟨%es0, HS0⟩, ⟨%fT1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _)
          iexists _; unfold owns; iexists _; isplitr
          swap; · iexact HS1
          ipureintro; rfl
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_A_3 c _ _ _ _ _ _ _ _ _ _ _ _ _ _ _ _ _ _ _ _ _)
      isplitl [H4]
      · unfold owns; iexists _; isplitr
        swap; · iexact H4
        ipureintro; exact View.read_writes_of_cover _ _ _ _ _ (cover0_A_4 c _ _ _ _ _ _ _ _ _ _ _ _ _ _ _ _ _ _ _ _ _)
      unfold owns; iexists _; isplitr
      swap; · iexact H5
      ipureintro; exact View.read_writes_of_cover _ _ _ _ _ (cover0_A_5 c _ _ _ _ _ _ _ _ _ _ _ _ _ _ _ _ _ _ _ _ _)
    · exfalso; have hN : t.val < 37 := lt_of_lt_of_eq t.isLt (show cfg0.N = 37 from N_0); omega
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    by_cases hz : t.val = 0
    · exfalso; have hN : t.val < 37 := lt_of_lt_of_eq t.isLt (show cfg0.N = 37 from N_0); omega
    · rw [PhiS_castSucc m c t, PhiS_pos m c _ _ hz]
      rw [outsAt0_B m c t h0]
      unfold out0_B_3 sout0_B_0; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ _ _ (fun h => h0 ((hcond0_0 t).mp h)) (iblk m c 0 t) (iblk m c 1 t) (iblk m c 2 t) _).2.2.2.2.2 _ _ Set.univ _)
      isplitl [H0]; · iexact H0
      isplitl [H1]; · iexact H1
      isplitl [H2]; · iexact H2
      isplitl [H3]; · iexists _; iexact H3
      isplitl [H4]; · iexact H4
      isplitl [H5]; · iexact H5
      isplitl [HS0]; · iexact HS0
      isplitl [HS1]; · iexact HS1
      iintro ⟨H0, H1, H2, ⟨%e3, H3⟩, H4, H5, HS0, ⟨%fT1, HS1⟩⟩
      isplitl [HS0 HS1 Hg]
      · isplitl [HS0 HS1]
        · isplitl [HS0]
          · iexact HS0
          iexists _; unfold owns; iexists _; isplitr
          swap; · iexact HS1
          ipureintro; rfl
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_B_3 c _ _ _ _ _ _ _ _ _ _ _ _ _ _ _ _ _ _ _ _ _ _)
      isplitl [H4]
      · iapply (leaves0_4 m c t h0 d4); iexact H4
      iapply (leaves0_5 m c t h0 d5); iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 37 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame: the statement `Cert.quiescent_Kernel` of Defs.lean, for floats of any kind. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Hand

end
-- ==== Proof.KRuns.lean ====
/- What the two runs of the kernel body share: when its branch is taken, where its windows are idle, its memrefs. -/
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 37 = 0 :=
  (fun t => by
    have ht : t.val < 37 := Nat.lt_of_lt_of_eq t.isLt N_0
    have e0 : (grid0.coords t 0).val = t.val / 1 % 37 := Pipeline.Grid.coords_val t 0 (by decide) rfl
    simp only [cond0_0, k0_cond1, e0]
    word_cmp
   : ∀ t : Fin grid0.N, cond0_0 (grid0.coords t) ↔ t.val % 37 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an output stored at every point, under no condition). -/
theorem liveAt0_3 : ∀ t : Fin cfg0.N, cfg0.idle 3 (grid0.coords t) = false := fun _ => rfl
/-- At the points of case A the printed configuration (`Cfg.idle`) calls output 4 live: the case stores into it. -/
theorem liveAt0_4_A : ∀ t : Fin cfg0.N, cond0_0 (grid0.coords t) → cfg0.idle 4 (grid0.coords t) = false := by decide +kernel
/-- At the points of case B the printed configuration (`Cfg.idle`) calls output 4 idle: the case stores nothing into it. -/
theorem idleAt0_4_B : ∀ t : Fin cfg0.N, ¬cond0_0 (grid0.coords t) → cfg0.idle 4 (grid0.coords t) = true := by decide +kernel
/-- At the points of case A the printed configuration (`Cfg.idle`) calls output 5 live: the case stores into it. -/
theorem liveAt0_5_A : ∀ t : Fin cfg0.N, cond0_0 (grid0.coords t) → cfg0.idle 5 (grid0.coords t) = false := by decide +kernel
/-- At the points of case B the printed configuration (`Cfg.idle`) calls output 5 idle: the case stores nothing into it. -/
theorem idleAt0_5_B : ∀ t : Fin cfg0.N, ¬cond0_0 (grid0.coords t) → cfg0.idle 5 (grid0.coords t) = true := by decide +kernel

/-! ## The kernel body on any staging memrefs: a subtype the run finds -/

/-- One staging buffer of output window 3, through which its contents are stated (`View.read_writes_of_cover`: the
    choice does not matter). -/
abbrev VO0_3 : View sig .tc .vmem S256x512 .bf16 := (Memref.whole cc0_stg3_0 : Memref sig .tc .vmem S256x512 .bf16).view
/-- One staging buffer of output window 4, through which its contents are stated (`View.read_writes_of_cover`: the
    choice does not matter). -/
abbrev VO0_4 : View sig .tc .vmem S256x3584 .fp8e4m3 := (Memref.whole cc0_stg4_0 : Memref sig .tc .vmem S256x3584 .fp8e4m3).view
/-- One staging buffer of output window 5, through which its contents are stated (`View.read_writes_of_cover`: the
    choice does not matter). -/
abbrev VO0_5 : View sig .tc .vmem S256x112 .i8 := (Memref.whole cc0_stg5_0 : Memref sig .tc .vmem S256x112 .i8).view
/-- Each window's current staging memref at point `t`, spelled as the pipeline passes it (`bodyAt0`), and its wholeness. -/
abbrev ms0_0 (t : Fin cfg0.N) : Memref sig .tc .vmem S256x3584 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3x896x512 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S112x512 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x3584 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x112 .i8 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S256x3584 .bf16 := Memref.whole cc0_scratch0
abbrev scM0_1 : Memref sig .tc .vmem S112x512 .i32 := Memref.whole cc0_scratch1
/-- The scratch `arg7` the kernel carries between points, as a view: what it holds is stated through it. -/
abbrev VS0_0 : View sig .tc .vmem S256x3584 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Hand

end
-- ==== Proof.KRunA.lean ====
/- The run of the kernel body at the first grid point, where it quantises. -/
module

public import proofs.«01_k».proof.Proof.KRuns

@[expose] public section

-- membership in a rectangle of production extents (`View.cover_of_tiled`): the elaborator's structural look
-- recurses once per coordinate of the long axes
set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2756000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S256x3584 .bf16) (harg1 : arg1.IsWhole) (arg2 : Memref sig .tc .vmem S3x896x512 .i8) (harg2 : arg2.IsWhole) (arg3 : Memref sig .tc .vmem S112x512 .i8) (harg3 : arg3.IsWhole) (arg4 : Memref sig .tc .vmem S256x512 .bf16) (harg4 : arg4.IsWhole) (arg5 : Memref sig .tc .vmem S256x3584 .fp8e4m3) (harg5 : arg5.IsWhole) (arg6 : Memref sig .tc .vmem S256x112 .i8) (harg6 : arg6.IsWhole) (arg7 : Memref sig .tc .vmem S256x3584 .bf16) (harg7 : arg7.IsWhole) (arg8 : Memref sig .tc .vmem S112x512 .i32) (harg8 : arg8.IsWhole) (hc0 : cond0_0 i)
    (x0 : Vec F S256x3584 .bf16) (x1 : Vec F S3x896x512 .i8) (x2 : Vec F S112x512 .i8) :
    Σ' (L3 : List (View.Piece (Elt F) S256x512 .bf16)), Σ' (L4 : List (View.Piece (Elt F) S256x3584 .fp8e4m3)), Σ' (L5 : List (View.Piece (Elt F) S256x112 .i8)), Σ' (LS0 : List (View.Piece (Elt F) S256x3584 .bf16)), { LT1 : List (View.Piece (Elt F) S112x512 .i32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LT1)) -∗ K ⟨⟩))
          ⊢ wp frame (wpE (defs₀ (F := F)) Variants.none c none) E (cc0_mxfp6_linear i arg1 harg1 arg2 harg2 arg3 harg3 arg4 harg4 arg5 harg5 arg6 harg6 arg7 harg7 arg8 harg8) K } := by
  refine ⟨?_, ?_, ?_, ?_, ?_, fun E K => ?run⟩
  case run =>
    simp only [cc0_mxfp6_linear_eq_skeleton]; unfold cc0_mxfp6_linear_skel
    simp only [k0_part127_eq_skeleton, k0_part70_eq_skeleton, k0_part69_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    isplitl [HS0]; · iexists _; iexact HS0
    iexists _; iexact HS1

end Cert.KernelIdeal.Hand

end
-- ==== Proof.KRunB.lean ====
/- The run of the kernel body at every later grid point. -/
module

public import proofs.«01_k».proof.Proof.KRunA

@[expose] public section

-- membership in a rectangle of production extents (`View.cover_of_tiled`): the elaborator's structural look
-- recurses once per coordinate of the long axes
set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1364000 in
/-- What the body's stores leave in each output's staging memref, as pieces (last first) IN CASE B (`scf.if` 0 not taken: points 1, 2, … 36: 36 of 37), WITH the
    proof that on whole staging memrefs — the inputs' at their contents, the outputs it leaves idle (4, 5: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S256x3584 .bf16) (harg1 : arg1.IsWhole) (arg2 : Memref sig .tc .vmem S3x896x512 .i8) (harg2 : arg2.IsWhole) (arg3 : Memref sig .tc .vmem S112x512 .i8) (harg3 : arg3.IsWhole) (arg4 : Memref sig .tc .vmem S256x512 .bf16) (harg4 : arg4.IsWhole) (arg5 : Memref sig .tc .vmem S256x3584 .fp8e4m3) (harg5 : arg5.IsWhole) (arg6 : Memref sig .tc .vmem S256x112 .i8) (harg6 : arg6.IsWhole) (arg7 : Memref sig .tc .vmem S256x3584 .bf16) (harg7 : arg7.IsWhole) (arg8 : Memref sig .tc .vmem S112x512 .i32) (harg8 : arg8.IsWhole) (hc0 : ¬cond0_0 i)
    (x0 : Vec F S256x3584 .bf16) (x1 : Vec F S3x896x512 .i8) (x2 : Vec F S112x512 .i8) (xs0 : Vec F S256x3584 .bf16) :
    Σ' (L3 : List (View.Piece (Elt F) S256x512 .bf16)), Σ' (L4 : List (View.Piece (Elt F) S256x3584 .fp8e4m3)), Σ' (L5 : List (View.Piece (Elt F) S256x112 .i8)), Σ' (LS0 : List (View.Piece (Elt F) S256x3584 .bf16)), { LT1 : List (View.Piece (Elt F) S112x512 .i32) //
      ∀ (xi4 : Vec F S256x3584 .fp8e4m3) (xi5 : Vec F S256x112 .i8) (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xi4 ∗ owns (c : Thread nD τ) arg6 fullShare xi5 ∗ owns (c : Thread nD τ) arg7 fullShare xs0 ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ owns (c : Thread nD τ) arg5 fullShare xi4 ∗ owns (c : Thread nD τ) arg6 fullShare xi5 ∗ owns (c : Thread nD τ) arg7 fullShare xs0 ∗ (∃ f, arg8.view.loc (c : Thread nD τ) ↦[arg8.view.set]{fullShare} arg8.view.writes (Elt F) f LT1)) -∗ K ⟨⟩))
          ⊢ wp frame (wpE (defs₀ (F := F)) Variants.none c none) E (cc0_mxfp6_linear i arg1 harg1 arg2 harg2 arg3 harg3 arg4 harg4 arg5 harg5 arg6 harg6 arg7 harg7 arg8 harg8) K } := by
  refine ⟨?_, [], [], [], ?_, fun xi4 xi5 E K => ?run⟩
  case run =>
    simp only [cc0_mxfp6_linear_eq_skeleton]; unfold cc0_mxfp6_linear_skel
    simp only [k0_part127_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%fs0, %hfs0, HS0⟩, ⟨%ds1, %fs1, -, HS1⟩, Hk⟩
    obtain rfl := harg1.eq_unread hf0; obtain rfl := harg2.eq_unread hf1; obtain rfl := harg3.eq_unread hf2; obtain rfl := harg5.eq_unread hf4; obtain rfl := harg6.eq_unread hf5; obtain rfl := harg7.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]
    · iexists _; isplitr; · ipureintro; exact harg5.read_unread _
      iexact H4
    isplitl [H5]
    · iexists _; isplitr; · ipureintro; exact harg6.read_unread _
      iexact H5
    isplitl [HS0]
    · iexists _; isplitr; · ipureintro; exact harg7.read_unread _
      iexact HS0
    iexists _; iexact HS1

end Cert.KernelIdeal.Hand

end
-- ==== Proof.KFrame.lean ====
/- What the kernel leaves in its buffers, point by point; the run of the whole program, and its frame. -/
module

public import proofs.«01_k».proof.Proof.KRunB
public import Idealize.ShloMosaic.Lib.Claim

public import Idealize.ShloMosaic.Lib.Pipeline.TableIdle

@[expose] public section

-- membership in a rectangle of production extents (`View.cover_of_tiled`): the elaborator's structural look
-- recurses once per coordinate of the long axes
set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 3 tile its block (1 store of `S256x512`, checked by the kernel's evaluation: Lib/Ring.lean `Piece.tiledL`, linear in the pieces, through a loop's `@[irreducible]` trip theorem too), so they cover it. -/
theorem cover0_A_3 (c : Dev nD) (i : grid0.Coords) (arg1 : Memref sig .tc .vmem S256x3584 .bf16) (harg1 : arg1.IsWhole) (arg2 : Memref sig .tc .vmem S3x896x512 .i8) (harg2 : arg2.IsWhole) (arg3 : Memref sig .tc .vmem S112x512 .i8) (harg3 : arg3.IsWhole) (arg4 : Memref sig .tc .vmem S256x512 .bf16) (harg4 : arg4.IsWhole) (arg5 : Memref sig .tc .vmem S256x3584 .fp8e4m3) (harg5 : arg5.IsWhole) (arg6 : Memref sig .tc .vmem S256x112 .i8) (harg6 : arg6.IsWhole) (arg7 : Memref sig .tc .vmem S256x3584 .bf16) (harg7 : arg7.IsWhole) (arg8 : Memref sig .tc .vmem S112x512 .i32) (harg8 : arg8.IsWhole) (hc0 : cond0_0 i)
    (x0 : Vec F S256x3584 .bf16) (x1 : Vec F S3x896x512 .i8) (x2 : Vec F S112x512 .i8) (y : S256x512.Idx) :
    ∃ pc ∈ (kernelRun0_A c i arg1 harg1 arg2 harg2 arg3 harg3 arg4 harg4 arg5 harg5 arg6 harg6 arg7 harg7 arg8 harg8 hc0 x0 x1 x2).1, y ∈ pc.1.set :=
  View.cover_of_tiledL (kernelRun0_A c i arg1 harg1 arg2 harg2 arg3 harg3 arg4 harg4 arg5 harg5 arg6 harg6 arg7 harg7 arg8 harg8 hc0 x0 x1 x2).1 S256x512.size (by sl_kernel_rfl) y

/-- What case A leaves in output 3's staging buffer: its pieces read back over junk. -/
def out0_A_3 (c : Dev nD) (i : grid0.Coords) (arg1 : Memref sig .tc .vmem S256x3584 .bf16) (harg1 : arg1.IsWhole) (arg2 : Memref sig .tc .vmem S3x896x512 .i8) (harg2 : arg2.IsWhole) (arg3 : Memref sig .tc .vmem S112x512 .i8) (harg3 : arg3.IsWhole) (arg4 : Memref sig .tc .vmem S256x512 .bf16) (harg4 : arg4.IsWhole) (arg5 : Memref sig .tc .vmem S256x3584 .fp8e4m3) (harg5 : arg5.IsWhole) (arg6 : Memref sig .tc .vmem S256x112 .i8) (harg6 : arg6.IsWhole) (arg7 : Memref sig .tc .vmem S256x3584 .bf16) (harg7 : arg7.IsWhole) (arg8 : Memref sig .tc .vmem S112x512 .i32) (harg8 : arg8.IsWhole) (hc0 : cond0_0 i)
    (x0 : Vec F S256x3584 .bf16) (x1 : Vec F S3x896x512 .i8) (x2 : Vec F S112x512 .i8) : Vec F S256x512 .bf16 :=
  VO0_3.read (Elt F) (VO0_3.writes (Elt F) VO0_3.junk (kernelRun0_A c i arg1 harg1 arg2 harg2 arg3 harg3 arg4 harg4 arg5 harg5 arg6 harg6 arg7 harg7 arg8 harg8 hc0 x0 x1 x2).1)

/-- Case A's pieces for output 4 tile its block (28 stores of `S256x128`, checked by the kernel's evaluation: Lib/Ring.lean `Piece.tiledL`, linear in the pieces, through a loop's `@[irreducible]` trip theorem too), so they cover it. -/
theorem cover0_A_4 (c : Dev nD) (i : grid0.Coords) (arg1 : Memref sig .tc .vmem S256x3584 .bf16) (harg1 : arg1.IsWhole) (arg2 : Memref sig .tc .vmem S3x896x512 .i8) (harg2 : arg2.IsWhole) (arg3 : Memref sig .tc .vmem S112x512 .i8) (harg3 : arg3.IsWhole) (arg4 : Memref sig .tc .vmem S256x512 .bf16) (harg4 : arg4.IsWhole) (arg5 : Memref sig .tc .vmem S256x3584 .fp8e4m3) (harg5 : arg5.IsWhole) (arg6 : Memref sig .tc .vmem S256x112 .i8) (harg6 : arg6.IsWhole) (arg7 : Memref sig .tc .vmem S256x3584 .bf16) (harg7 : arg7.IsWhole) (arg8 : Memref sig .tc .vmem S112x512 .i32) (harg8 : arg8.IsWhole) (hc0 : cond0_0 i)
    (x0 : Vec F S256x3584 .bf16) (x1 : Vec F S3x896x512 .i8) (x2 : Vec F S112x512 .i8) (y : S256x3584.Idx) :
    ∃ pc ∈ (kernelRun0_A c i arg1 harg1 arg2 harg2 arg3 harg3 arg4 harg4 arg5 harg5 arg6 harg6 arg7 harg7 arg8 harg8 hc0 x0 x1 x2).2.1, y ∈ pc.1.set :=
  View.cover_of_tiledL (kernelRun0_A c i arg1 harg1 arg2 harg2 arg3 harg3 arg4 harg4 arg5 harg5 arg6 harg6 arg7 harg7 arg8 harg8 hc0 x0 x1 x2).2.1 S256x128.size (by sl_kernel_rfl) y

/-- What case A leaves in output 4's staging buffer: its pieces read back over junk. -/
def out0_A_4 (c : Dev nD) (i : grid0.Coords) (arg1 : Memref sig .tc .vmem S256x3584 .bf16) (harg1 : arg1.IsWhole) (arg2 : Memref sig .tc .vmem S3x896x512 .i8) (harg2 : arg2.IsWhole) (arg3 : Memref sig .tc .vmem S112x512 .i8) (harg3 : arg3.IsWhole) (arg4 : Memref sig .tc .vmem S256x512 .bf16) (harg4 : arg4.IsWhole) (arg5 : Memref sig .tc .vmem S256x3584 .fp8e4m3) (harg5 : arg5.IsWhole) (arg6 : Memref sig .tc .vmem S256x112 .i8) (harg6 : arg6.IsWhole) (arg7 : Memref sig .tc .vmem S256x3584 .bf16) (harg7 : arg7.IsWhole) (arg8 : Memref sig .tc .vmem S112x512 .i32) (harg8 : arg8.IsWhole) (hc0 : cond0_0 i)
    (x0 : Vec F S256x3584 .bf16) (x1 : Vec F S3x896x512 .i8) (x2 : Vec F S112x512 .i8) : Vec F S256x3584 .fp8e4m3 :=
  VO0_4.read (Elt F) (VO0_4.writes (Elt F) VO0_4.junk (kernelRun0_A c i arg1 harg1 arg2 harg2 arg3 harg3 arg4 harg4 arg5 harg5 arg6 harg6 arg7 harg7 arg8 harg8 hc0 x0 x1 x2).2.1)

/-- Case A's pieces for output 5 tile its block (1 store of `S256x112`, checked by the kernel's evaluation: Lib/Ring.lean `Piece.tiledL`, linear in the pieces, through a loop's `@[irreducible]` trip theorem too), so they cover it. -/
theorem cover0_A_5 (c : Dev nD) (i : grid0.Coords) (arg1 : Memref sig .tc .vmem S256x3584 .bf16) (harg1 : arg1.IsWhole) (arg2 : Memref sig .tc .vmem S3x896x512 .i8) (harg2 : arg2.IsWhole) (arg3 : Memref sig .tc .vmem S112x512 .i8) (harg3 : arg3.IsWhole) (arg4 : Memref sig .tc .vmem S256x512 .bf16) (harg4 : arg4.IsWhole) (arg5 : Memref sig .tc .vmem S256x3584 .fp8e4m3) (harg5 : arg5.IsWhole) (arg6 : Memref sig .tc .vmem S256x112 .i8) (harg6 : arg6.IsWhole) (arg7 : Memref sig .tc .vmem S256x3584 .bf16) (harg7 : arg7.IsWhole) (arg8 : Memref sig .tc .vmem S112x512 .i32) (harg8 : arg8.IsWhole) (hc0 : cond0_0 i)
    (x0 : Vec F S256x3584 .bf16) (x1 : Vec F S3x896x512 .i8) (x2 : Vec F S112x512 .i8) (y : S256x112.Idx) :
    ∃ pc ∈ (kernelRun0_A c i arg1 harg1 arg2 harg2 arg3 harg3 arg4 harg4 arg5 harg5 arg6 harg6 arg7 harg7 arg8 harg8 hc0 x0 x1 x2).2.2.1, y ∈ pc.1.set :=
  View.cover_of_tiledL (kernelRun0_A c i arg1 harg1 arg2 harg2 arg3 harg3 arg4 harg4 arg5 harg5 arg6 harg6 arg7 harg7 arg8 harg8 hc0 x0 x1 x2).2.2.1 S256x112.size (by sl_kernel_rfl) y

/-- What case A leaves in output 5's staging buffer: its pieces read back over junk. -/
def out0_A_5 (c : Dev nD) (i : grid0.Coords) (arg1 : Memref sig .tc .vmem S256x3584 .bf16) (harg1 : arg1.IsWhole) (arg2 : Memref sig .tc .vmem S3x896x512 .i8) (harg2 : arg2.IsWhole) (arg3 : Memref sig .tc .vmem S112x512 .i8) (harg3 : arg3.IsWhole) (arg4 : Memref sig .tc .vmem S256x512 .bf16) (harg4 : arg4.IsWhole) (arg5 : Memref sig .tc .vmem S256x3584 .fp8e4m3) (harg5 : arg5.IsWhole) (arg6 : Memref sig .tc .vmem S256x112 .i8) (harg6 : arg6.IsWhole) (arg7 : Memref sig .tc .vmem S256x3584 .bf16) (harg7 : arg7.IsWhole) (arg8 : Memref sig .tc .vmem S112x512 .i32) (harg8 : arg8.IsWhole) (hc0 : cond0_0 i)
    (x0 : Vec F S256x3584 .bf16) (x1 : Vec F S3x896x512 .i8) (x2 : Vec F S112x512 .i8) : Vec F S256x112 .i8 :=
  VO0_5.read (Elt F) (VO0_5.writes (Elt F) VO0_5.junk (kernelRun0_A c i arg1 harg1 arg2 harg2 arg3 harg3 arg4 harg4 arg5 harg5 arg6 harg6 arg7 harg7 arg8 harg8 hc0 x0 x1 x2).2.2.1)

/-- Case A's pieces for scratch `arg7`, which the kernel carries between points, cover it: 28 pieces of `S256x128` tiling it (Lib/Ring.lean `Piece.tiledL`). -/
theorem scover0_A_0 (c : Dev nD) (i : grid0.Coords) (arg1 : Memref sig .tc .vmem S256x3584 .bf16) (harg1 : arg1.IsWhole) (arg2 : Memref sig .tc .vmem S3x896x512 .i8) (harg2 : arg2.IsWhole) (arg3 : Memref sig .tc .vmem S112x512 .i8) (harg3 : arg3.IsWhole) (arg4 : Memref sig .tc .vmem S256x512 .bf16) (harg4 : arg4.IsWhole) (arg5 : Memref sig .tc .vmem S256x3584 .fp8e4m3) (harg5 : arg5.IsWhole) (arg6 : Memref sig .tc .vmem S256x112 .i8) (harg6 : arg6.IsWhole) (arg7 : Memref sig .tc .vmem S256x3584 .bf16) (harg7 : arg7.IsWhole) (arg8 : Memref sig .tc .vmem S112x512 .i32) (harg8 : arg8.IsWhole) (hc0 : cond0_0 i)
    (x0 : Vec F S256x3584 .bf16) (x1 : Vec F S3x896x512 .i8) (x2 : Vec F S112x512 .i8) (y : S256x3584.Idx) :
    ∃ pc ∈ (kernelRun0_A c i arg1 harg1 arg2 harg2 arg3 harg3 arg4 harg4 arg5 harg5 arg6 harg6 arg7 harg7 arg8 harg8 hc0 x0 x1 x2).2.2.2.1, y ∈ pc.1.set :=
  View.cover_of_tiledL (kernelRun0_A c i arg1 harg1 arg2 harg2 arg3 harg3 arg4 harg4 arg5 harg5 arg6 harg6 arg7 harg7 arg8 harg8 hc0 x0 x1 x2).2.2.2.1 S256x128.size (by sl_kernel_rfl) y

/-- What case A leaves in scratch `arg7`: its pieces read back over junk. -/
def sout0_A_0 (c : Dev nD) (i : grid0.Coords) (arg1 : Memref sig .tc .vmem S256x3584 .bf16) (harg1 : arg1.IsWhole) (arg2 : Memref sig .tc .vmem S3x896x512 .i8) (harg2 : arg2.IsWhole) (arg3 : Memref sig .tc .vmem S112x512 .i8) (harg3 : arg3.IsWhole) (arg4 : Memref sig .tc .vmem S256x512 .bf16) (harg4 : arg4.IsWhole) (arg5 : Memref sig .tc .vmem S256x3584 .fp8e4m3) (harg5 : arg5.IsWhole) (arg6 : Memref sig .tc .vmem S256x112 .i8) (harg6 : arg6.IsWhole) (arg7 : Memref sig .tc .vmem S256x3584 .bf16) (harg7 : arg7.IsWhole) (arg8 : Memref sig .tc .vmem S112x512 .i32) (harg8 : arg8.IsWhole) (hc0 : cond0_0 i)
    (x0 : Vec F S256x3584 .bf16) (x1 : Vec F S3x896x512 .i8) (x2 : Vec F S112x512 .i8) : Vec F S256x3584 .bf16 :=
  VS0_0.read (Elt F) (VS0_0.writes (Elt F) VS0_0.junk (kernelRun0_A c i arg1 harg1 arg2 harg2 arg3 harg3 arg4 harg4 arg5 harg5 arg6 harg6 arg7 harg7 arg8 harg8 hc0 x0 x1 x2).2.2.2.1)

/-- Case B's pieces for output 3 tile its block (1 store of `S256x512`, checked by the kernel's evaluation: Lib/Ring.lean `Piece.tiledL`, linear in the pieces, through a loop's `@[irreducible]` trip theorem too), so they cover it. -/
theorem cover0_B_3 (c : Dev nD) (i : grid0.Coords) (arg1 : Memref sig .tc .vmem S256x3584 .bf16) (harg1 : arg1.IsWhole) (arg2 : Memref sig .tc .vmem S3x896x512 .i8) (harg2 : arg2.IsWhole) (arg3 : Memref sig .tc .vmem S112x512 .i8) (harg3 : arg3.IsWhole) (arg4 : Memref sig .tc .vmem S256x512 .bf16) (harg4 : arg4.IsWhole) (arg5 : Memref sig .tc .vmem S256x3584 .fp8e4m3) (harg5 : arg5.IsWhole) (arg6 : Memref sig .tc .vmem S256x112 .i8) (harg6 : arg6.IsWhole) (arg7 : Memref sig .tc .vmem S256x3584 .bf16) (harg7 : arg7.IsWhole) (arg8 : Memref sig .tc .vmem S112x512 .i32) (harg8 : arg8.IsWhole) (hc0 : ¬cond0_0 i)
    (x0 : Vec F S256x3584 .bf16) (x1 : Vec F S3x896x512 .i8) (x2 : Vec F S112x512 .i8) (xs0 : Vec F S256x3584 .bf16) (y : S256x512.Idx) :
    ∃ pc ∈ (kernelRun0_B c i arg1 harg1 arg2 harg2 arg3 harg3 arg4 harg4 arg5 harg5 arg6 harg6 arg7 harg7 arg8 harg8 hc0 x0 x1 x2 xs0).1, y ∈ pc.1.set :=
  View.cover_of_tiledL (kernelRun0_B c i arg1 harg1 arg2 harg2 arg3 harg3 arg4 harg4 arg5 harg5 arg6 harg6 arg7 harg7 arg8 harg8 hc0 x0 x1 x2 xs0).1 S256x512.size (by sl_kernel_rfl) y

/-- What case B leaves in output 3's staging buffer: its pieces read back over junk. -/
def out0_B_3 (c : Dev nD) (i : grid0.Coords) (arg1 : Memref sig .tc .vmem S256x3584 .bf16) (harg1 : arg1.IsWhole) (arg2 : Memref sig .tc .vmem S3x896x512 .i8) (harg2 : arg2.IsWhole) (arg3 : Memref sig .tc .vmem S112x512 .i8) (harg3 : arg3.IsWhole) (arg4 : Memref sig .tc .vmem S256x512 .bf16) (harg4 : arg4.IsWhole) (arg5 : Memref sig .tc .vmem S256x3584 .fp8e4m3) (harg5 : arg5.IsWhole) (arg6 : Memref sig .tc .vmem S256x112 .i8) (harg6 : arg6.IsWhole) (arg7 : Memref sig .tc .vmem S256x3584 .bf16) (harg7 : arg7.IsWhole) (arg8 : Memref sig .tc .vmem S112x512 .i32) (harg8 : arg8.IsWhole) (hc0 : ¬cond0_0 i)
    (x0 : Vec F S256x3584 .bf16) (x1 : Vec F S3x896x512 .i8) (x2 : Vec F S112x512 .i8) (xs0 : Vec F S256x3584 .bf16) : Vec F S256x512 .bf16 :=
  VO0_3.read (Elt F) (VO0_3.writes (Elt F) VO0_3.junk (kernelRun0_B c i arg1 harg1 arg2 harg2 arg3 harg3 arg4 harg4 arg5 harg5 arg6 harg6 arg7 harg7 arg8 harg8 hc0 x0 x1 x2 xs0).1)

/-- Case B stores nothing into scratch `arg7`: it holds what the point before left. -/
def sout0_B_0 (c : Dev nD) (i : grid0.Coords) (arg1 : Memref sig .tc .vmem S256x3584 .bf16) (harg1 : arg1.IsWhole) (arg2 : Memref sig .tc .vmem S3x896x512 .i8) (harg2 : arg2.IsWhole) (arg3 : Memref sig .tc .vmem S112x512 .i8) (harg3 : arg3.IsWhole) (arg4 : Memref sig .tc .vmem S256x512 .bf16) (harg4 : arg4.IsWhole) (arg5 : Memref sig .tc .vmem S256x3584 .fp8e4m3) (harg5 : arg5.IsWhole) (arg6 : Memref sig .tc .vmem S256x112 .i8) (harg6 : arg6.IsWhole) (arg7 : Memref sig .tc .vmem S256x3584 .bf16) (harg7 : arg7.IsWhole) (arg8 : Memref sig .tc .vmem S112x512 .i32) (harg8 : arg8.IsWhole) (hc0 : ¬cond0_0 i)
    (x0 : Vec F S256x3584 .bf16) (x1 : Vec F S3x896x512 .i8) (x2 : Vec F S112x512 .i8) (xs0 : Vec F S256x3584 .bf16) : Vec F S256x3584 .bf16 := xs0

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S256x512 .bf16 × Vec F S256x3584 .fp8e4m3 × Vec F S256x112 .i8 × Vec F S256x3584 .bf16
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩))
  | n + 1, hn =>
    if h0 : (n + 1) % 37 = 0 then
      (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩))
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.2, (outsAt0 c n (Nat.lt_of_succ_lt hn)).2.1, (outsAt0 c n (Nat.lt_of_succ_lt hn)).2.2.1, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.2)

/-- `outsAt0` at a point of case A: that case's contents. -/
theorem outsAt0_A (c : Dev nD) (t : Fin cfg0.N) (h0 : t.val % 37 = 0) :
    outsAt0 m c t.val t.isLt = (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t), out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 37 = 0) :
    outsAt0 m c t.val t.isLt = (out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2.2.2, (outsAt0 m c (t.val - 1) (Nat.lt_of_le_of_lt (Nat.sub_le _ _) t.isLt)).2.1, (outsAt0 m c (t.val - 1) (Nat.lt_of_le_of_lt (Nat.sub_le _ _) t.isLt)).2.2.1, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2) ∗ (∃ d, owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2) ∗ (∃ d, owns (c : Thread nD τ) scM0_1 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2) ∗ (∃ d, owns (c : Thread nD τ) scM0_1 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
    | ⟨4, _⟩ => (outsAt0 m c t.val t.isLt).2.1
    | ⟨5, _⟩ => (outsAt0 m c t.val t.isLt).2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]
theorem after0_4 (c : Dev nD) (t : Fin cfg0.N) : (dats m 0 c).after 4 t = (outsAt0 m c t.val t.isLt).2.1 := by dsimp only [dats]
theorem after0_5 (c : Dev nD) (t : Fin cfg0.N) : (dats m 0 c).after 5 t = (outsAt0 m c t.val t.isLt).2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- After the first point output 4's buffer is never stale: it is written back after the last point only. -/
theorem fresh0_4 : ∀ t : Fin cfg0.N, t.val ≠ 0 → cfg0.fresh 4 t.val = false := by decide +kernel

/-- At a later point output 4 stays as the point before left it. -/
theorem carry0_4 (c : Dev nD) (t : Fin cfg0.N) (h0 : ¬t.val % 37 = 0) :
    (dats m 0 c).after 4 t = (dats m 0 c).after 4 ⟨t.val - 1, Nat.lt_of_le_of_lt (Nat.sub_le _ _) t.isLt⟩ := by
  rw [after0_4, after0_4, outsAt0_B m c t h0]

/-- What the body finds in output 4's buffer at a later point is what it holds afterwards. -/
theorem before0_4 (c : Dev nD) (t : Fin cfg0.N) (h0 : ¬t.val % 37 = 0) (d) :
    (dats m 0 c).before 4 t d = (dats m 0 c).after 4 t := by
  have hz : t.val ≠ 0 := fun h => h0 (by rw [h])
  rw [(dats m 0 c).before_out_traj 4 rfl (fun _ _ => rfl) (fun t hz _ _ => carry0_4 m c t (by
      have hN : t.val < 37 := lt_of_lt_of_eq t.isLt (show cfg0.N = 37 from N_0); omega)) t.val t rfl d,
    fresh0_4 t hz, if_neg Bool.false_ne_true, carry0_4 m c t h0]

/-- So handing output 4's buffer back untouched is what the pipeline asks, written back there or not. -/
theorem leaves0_4 (c : Dev nD) (t : Fin cfg0.N) (h0 : ¬t.val % 37 = 0) (d) :
    (owns (c : Thread nD τ) (ms0_4 t) fullShare ((dats m 0 c).before 4 t d) : sProp 𝕄) ⊢ (dats m 0 c).leavesExact 4 t := by
  have hi := idleAt0_4_B t (fun h => h0 ((hcond0_0 t).mp h))
  by_cases hf : (cfg0.win 4).flush t = true
  · unfold Dat.leavesExact; rw [hi, hf, before0_4 m c t h0]
    try exact Idealize.SL.BI.Entails.refl _
  · rw [Dat.leavesExact_idle (dats m 0 c) 4 t hi (by simpa using hf)]
    iintro H; iexists d; iexact H

/-- After the first point output 5's buffer is never stale: it is written back after the last point only. -/
theorem fresh0_5 : ∀ t : Fin cfg0.N, t.val ≠ 0 → cfg0.fresh 5 t.val = false := by decide +kernel

/-- At a later point output 5 stays as the point before left it. -/
theorem carry0_5 (c : Dev nD) (t : Fin cfg0.N) (h0 : ¬t.val % 37 = 0) :
    (dats m 0 c).after 5 t = (dats m 0 c).after 5 ⟨t.val - 1, Nat.lt_of_le_of_lt (Nat.sub_le _ _) t.isLt⟩ := by
  rw [after0_5, after0_5, outsAt0_B m c t h0]

/-- What the body finds in output 5's buffer at a later point is what it holds afterwards. -/
theorem before0_5 (c : Dev nD) (t : Fin cfg0.N) (h0 : ¬t.val % 37 = 0) (d) :
    (dats m 0 c).before 5 t d = (dats m 0 c).after 5 t := by
  have hz : t.val ≠ 0 := fun h => h0 (by rw [h])
  rw [(dats m 0 c).before_out_traj 5 rfl (fun _ _ => rfl) (fun t hz _ _ => carry0_5 m c t (by
      have hN : t.val < 37 := lt_of_lt_of_eq t.isLt (show cfg0.N = 37 from N_0); omega)) t.val t rfl d,
    fresh0_5 t hz, if_neg Bool.false_ne_true, carry0_5 m c t h0]

/-- So handing output 5's buffer back untouched is what the pipeline asks, written back there or not. -/
theorem leaves0_5 (c : Dev nD) (t : Fin cfg0.N) (h0 : ¬t.val % 37 = 0) (d) :
    (owns (c : Thread nD τ) (ms0_5 t) fullShare ((dats m 0 c).before 5 t d) : sProp 𝕄) ⊢ (dats m 0 c).leavesExact 5 t := by
  have hi := idleAt0_5_B t (fun h => h0 ((hcond0_0 t).mp h))
  by_cases hf : (cfg0.win 5).flush t = true
  · unfold Dat.leavesExact; rw [hi, hf, before0_5 m c t h0]
    try exact Idealize.SL.BI.Entails.refl _
  · rw [Dat.leavesExact_idle (dats m 0 c) 5 t hi (by simpa using hf)]
    iintro H; iexists d; iexact H

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 37 := lt_of_lt_of_eq t.isLt (show cfg0.N = 37 from N_0)
  by_cases h0 : t.val % 37 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4_A t ((hcond0_0 t).mpr h0)], after0_4]
    rw [show (dats m 0 c).leavesExact 5 t = owns (c : Thread nD τ) (ms0_5 t) fullShare ((dats m 0 c).after 5 t) from by
      unfold Dat.leavesExact; rw [liveAt0_5_A t ((hcond0_0 t).mpr h0)], after0_5]
    by_cases hz : t.val = 0
    · rw [PhiS_castSucc m c t, PhiS_zero m c _ _ hz, PhiA0_eq]
      rw [outsAt0_A m c t h0]
      unfold out0_A_3 out0_A_4 out0_A_5 sout0_A_0; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ _ _ ((hcond0_0 t).mpr h0) (iblk m c 0 t) (iblk m c 1 t) (iblk m c 2 t)).2.2.2.2.2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [HS0]; · iexact HS0
      isplitl [HS1]; · iexact HS1
      iintro ⟨H0, H1, H2, ⟨%e3, H3⟩, ⟨%e4, H4⟩, ⟨%e5, H5⟩, ⟨%es0, HS0⟩, ⟨%fT1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _)
          iexists _; unfold owns; iexists _; isplitr
          swap; · iexact HS1
          ipureintro; rfl
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_A_3 c _ _ _ _ _ _ _ _ _ _ _ _ _ _ _ _ _ _ _ _ _)
      isplitl [H4]
      · unfold owns; iexists _; isplitr
        swap; · iexact H4
        ipureintro; exact View.read_writes_of_cover _ _ _ _ _ (cover0_A_4 c _ _ _ _ _ _ _ _ _ _ _ _ _ _ _ _ _ _ _ _ _)
      unfold owns; iexists _; isplitr
      swap; · iexact H5
      ipureintro; exact View.read_writes_of_cover _ _ _ _ _ (cover0_A_5 c _ _ _ _ _ _ _ _ _ _ _ _ _ _ _ _ _ _ _ _ _)
    · exfalso; have hN : t.val < 37 := lt_of_lt_of_eq t.isLt (show cfg0.N = 37 from N_0); omega
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    by_cases hz : t.val = 0
    · exfalso; have hN : t.val < 37 := lt_of_lt_of_eq t.isLt (show cfg0.N = 37 from N_0); omega
    · rw [PhiS_castSucc m c t, PhiS_pos m c _ _ hz]
      rw [outsAt0_B m c t h0]
      unfold out0_B_3 sout0_B_0; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ _ _ (fun h => h0 ((hcond0_0 t).mp h)) (iblk m c 0 t) (iblk m c 1 t) (iblk m c 2 t) _).2.2.2.2.2 _ _ Set.univ _)
      isplitl [H0]; · iexact H0
      isplitl [H1]; · iexact H1
      isplitl [H2]; · iexact H2
      isplitl [H3]; · iexists _; iexact H3
      isplitl [H4]; · iexact H4
      isplitl [H5]; · iexact H5
      isplitl [HS0]; · iexact HS0
      isplitl [HS1]; · iexact HS1
      iintro ⟨H0, H1, H2, ⟨%e3, H3⟩, H4, H5, HS0, ⟨%fT1, HS1⟩⟩
      isplitl [HS0 HS1 Hg]
      · isplitl [HS0 HS1]
        · isplitl [HS0]
          · iexact HS0
          iexists _; unfold owns; iexists _; isplitr
          swap; · iexact HS1
          ipureintro; rfl
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_B_3 c _ _ _ _ _ _ _ _ _ _ _ _ _ _ _ _ _ _ _ _ _ _)
      isplitl [H4]
      · iapply (leaves0_4 m c t h0 d4); iexact H4
      iapply (leaves0_5 m c t h0 d5); iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 37 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame: the statement `Cert.quiescent_KernelIdeal` of Defs.lean, for floats of any kind. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Hand

end
-- ==== Proof.KValue.lean ====
/- The three output arrays after the run, as what the grid points leave in the output buffers. -/
module

public import proofs.«01_k».proof.Proof.KFrame
public import Idealize.ShloMosaic.Lib.Pipeline.Value

@[expose] public section

noncomputable section

namespace Cert.KernelIdeal.Hand

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 3's array: the run's contents for that window after the body (`Gen.outsAt0`: its component 0), read through the window's block. -/
theorem flushed3 (c : Dev nD) (t : Fin cfg0.N) :
    (dats m 0 c).flushed 3 t = (cfg0.win 3).cut (grid0.coords t) ((outsAt0 m c t.val t.isLt).1) := by
  show (cfg0.win 3).cut (grid0.coords t) ((dats m 0 c).after 3 t) = _
  rw [after0_3]

/-- WHAT POINT `t` WRITES BACK to output window 4's array: the run's contents for that window after the body (`Gen.outsAt0`: its component 1), read through the window's block. -/
theorem flushed4 (c : Dev nD) (t : Fin cfg0.N) :
    (dats m 0 c).flushed 4 t = (cfg0.win 4).cut (grid0.coords t) ((outsAt0 m c t.val t.isLt).2.1) := by
  show (cfg0.win 4).cut (grid0.coords t) ((dats m 0 c).after 4 t) = _
  rw [after0_4]

-- no `blocks4`: window 4's index map revisits a block index, or its points could not be enumerated here;
-- the final array is still the frame's `arrAt`, to read with Lib/Pipeline/Value.lean's lemmas by hand

/-- WHAT POINT `t` WRITES BACK to output window 5's array: the run's contents for that window after the body (`Gen.outsAt0`: its component 2), read through the window's block. -/
theorem flushed5 (c : Dev nD) (t : Fin cfg0.N) :
    (dats m 0 c).flushed 5 t = (cfg0.win 5).cut (grid0.coords t) ((outsAt0 m c t.val t.isLt).2.2.1) := by
  show (cfg0.win 5).cut (grid0.coords t) ((dats m 0 c).after 5 t) = _
  rw [after0_5]

-- no `blocks5`: window 5's index map revisits a block index, or its points could not be enumerated here;
-- the final array is still the frame's `arrAt`, to read with Lib/Pipeline/Value.lean's lemmas by hand

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v1_0) = (dats m 0 c).arrAt 3 cfg0.N :=
  (h c).1 3

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v1_1) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v1_2) = (dats m 0 c).arrAt 5 cfg0.N :=
  (h c).1 5

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-! ## Carried scratch 0: what each point leaves in it, and its fold -/

/-! ## Accumulated: each named output's array, the carried state's fold read at the window's flushing points -/

/-- The contents after a point depend on the point's number only. -/
theorem outs_congr (c : Dev nD) (j j' : ℕ) (h : j < cfg0.N) (h' : j' < cfg0.N) (e : j = j') : outsAt0 m c j h = outsAt0 m c j' h' := by
  subst e; rfl

/-! ## Output window 3 -/

/-- The block of the array that holds index `i`, numbered in the order the points write the blocks back (one per point),
    `i`'s place in it, and the point that writes it back. -/
abbrev run3Of (i : S256x18944.Idx) : ℕ := 37 * ((i 0).val / 256 - 0) + 1 * ((i 1).val / 512 - 0)
set_option backward.proofsInPublic true in
abbrev loc3Of (i : S256x18944.Idx) : S256x512.Idx := fun a => match a with
  | ⟨0, _⟩ => ⟨(i 0).val % 256, Nat.mod_lt _ (by decide)⟩
  | ⟨1, _⟩ => ⟨(i 1).val % 512, Nat.mod_lt _ (by decide)⟩
abbrev pt3Of (i : S256x18944.Idx) : ℕ := run3Of i

/-- WHAT THE ARRAY ENDS HOLDING at index `i` inside the box the flushing blocks fill: output 3's component of the carried
    state's fold at the point that writes `i`'s block back, at `i`'s place in the block. `G3` states the array's contents
    only inside the box. -/
def G3 (c : Dev nD) : Buf (Elt F) ((c : Thread nD τ).loc main_v1_0) := fun i =>
  if h : pt3Of i < cfg0.N then
    (outsAt0 m c (pt3Of i) (by omega)).1 (loc3Of i)
  else V m c (Pipeline.arrRef spec0 3) i

/-- The printed index map, decided over the grid: output window 3's block indices stay in the box, and the block number
    read off them is the point's (`t`). -/
theorem idx_facts3 : ∀ t : Fin cfg0.N, 0 ≤ win0_3.index t (0 : Fin 2) ∧ win0_3.index t (0 : Fin 2) ≤ 0
    ∧ 0 ≤ win0_3.index t (1 : Fin 2) ∧ win0_3.index t (1 : Fin 2) ≤ 36
    ∧ 37 * (win0_3.index t (0 : Fin 2) - 0) + 1 * (win0_3.index t (1 : Fin 2) - 0) = t.val :=
  (by decide +kernel : ∀ t : Fin grid0.N, _)

/-- Every block of the box is SOME flushing point's: `onto3Pt`, the point that writes back the block at place `q` of the box. -/
abbrev onto3Pt (q0 : Fin 1) (q1 : Fin 37) : Fin grid0.N :=
  ⟨37 * q0.val + 1 * q1.val, lt_of_lt_of_eq (by omega) N_0.symm⟩
theorem idx_onto3 : ∀ (q0 : Fin 1) (q1 : Fin 37), ∃ t : Fin cfg0.N, (cfg0.win 3).flush t = true ∧ win0_3.index t = ![q0.val + 0, q1.val + 0] :=
  fun q0 q1 => ⟨onto3Pt q0 q1, (by decide +kernel : ∀ (q0 : Fin 1) (q1 : Fin 37), win0_3.flush (onto3Pt q0 q1) = true ∧ win0_3.index (onto3Pt q0 q1) = ![q0.val + 0, q1.val + 0]) q0 q1⟩

/-- WHAT A FLUSHING POINT `t` WRITES BACK is block `t` of `G3`: output 3's component of the fold up to `t`. -/
theorem flushed3_eq (c : Dev nD) (t : Fin cfg0.N) (hf : (cfg0.win 3).flush t = true) :
    (dats m 0 c).flushed 3 t = ((cfg0.win 3).blk t).view.read (Elt F) (G3 m c) := by
  show (cfg0.win 3).cut (grid0.coords t) ((dats m 0 c).after 3 t) = _
  rw [after0_3]
  obtain ⟨e0, e1, e2⟩ := idx_facts3 t
  funext y
  have hy0 : (y 0).val < 256 := (y 0).isLt
  have hy1 : (y 1).val < 512 := (y 1).isLt
  have hb0 : (((cfg0.win 3).blk t).view.emb y 0).val = win0_3.index t (0 : Fin 2) * 256 + 1 * (y 0).val := rfl
  have hb1 : (((cfg0.win 3).blk t).view.emb y 1).val = win0_3.index t (1 : Fin 2) * 512 + 1 * (y 1).val := rfl
  have hr : run3Of (((cfg0.win 3).blk t).view.emb y) = t.val := by
    show 37 * ((((cfg0.win 3).blk t).view.emb y 0).val / 256 - 0) + 1 * ((((cfg0.win 3).blk t).view.emb y 1).val / 512 - 0) = _
    rw [hb0, hb1]
    rw [show (win0_3.index t (0 : Fin 2) * 256 + 1 * (y 0).val) / 256 = win0_3.index t (0 : Fin 2) from by omega]; rw [show (win0_3.index t (1 : Fin 2) * 512 + 1 * (y 1).val) / 512 = win0_3.index t (1 : Fin 2) from by omega]
    omega
  have hl : loc3Of (((cfg0.win 3).blk t).view.emb y) = (cfg0.win 3).xinj (grid0.coords t) y := by
    funext a; apply Fin.ext
    match a with
    | ⟨0, _⟩ => show (((cfg0.win 3).blk t).view.emb y 0).val % 256 = (y 0).val; rw [hb0]; omega
    | ⟨1, _⟩ => show (((cfg0.win 3).blk t).view.emb y 1).val % 512 = (y 1).val; rw [hb1]; omega
  have hp : pt3Of (((cfg0.win 3).blk t).view.emb y) = t.val := by
    exact hr
  show (outsAt0 m c t.val _).1 ((cfg0.win 3).xinj (grid0.coords t) y) = G3 m c (((cfg0.win 3).blk t).view.emb y)
  unfold G3
  rw [dif_pos (by rw [hp]; exact t.isLt), hl, outs_congr m c _ _ _ _ hp.symm]

/-- An index of the array is in point `t`'s block iff each coordinate is in the block's range on its axis. -/
theorem mem_blk3 (t : Fin cfg0.N) (i : S256x18944.Idx) :
    i ∈ ((cfg0.win 3).blk t).view.set ↔ ∀ a : Fin 2, win0_3.index t a * S256x512.size a ≤ (i a).val ∧ (i a).val < win0_3.index t a * S256x512.size a + S256x512.size a := by
  show i ∈ ((View.whole main_v1_0).slice (win0_3.rect t)).set ↔ _
  rw [View.set_slice_whole, Rect.mem_set_unit]
  exact Iff.rfl

/-- THE COVERED INDICES: in some flushing point's block iff inside the box those blocks fill. -/
theorem covered_iff3 (i : S256x18944.Idx) :
    (∃ t : Fin cfg0.N, (cfg0.win 3).flush t = true ∧ i ∈ ((cfg0.win 3).blk t).view.set) ↔ 0 ≤ (i 0).val ∧ (i 0).val < 256 ∧ 0 ≤ (i 1).val ∧ (i 1).val < 18944 := by
  constructor
  · rintro ⟨t, -, hi⟩
    rw [mem_blk3] at hi
    have b0 : win0_3.index t (0 : Fin 2) * 256 ≤ (i 0).val ∧ (i 0).val < win0_3.index t (0 : Fin 2) * 256 + 256 := hi 0
    have b1 : win0_3.index t (1 : Fin 2) * 512 ≤ (i 1).val ∧ (i 1).val < win0_3.index t (1 : Fin 2) * 512 + 512 := hi 1
    obtain ⟨e0, e1, e2⟩ := idx_facts3 t
    omega
  · intro h
    have hi0 : (i 0).val < 256 := (i 0).isLt
    have hi1 : (i 1).val < 18944 := (i 1).isLt
    obtain ⟨t, hft, ht⟩ := idx_onto3 ⟨(i 0).val / 256 - 0, by omega⟩ ⟨(i 1).val / 512 - 0, by omega⟩
    have q0 : win0_3.index t (0 : Fin 2) = (i 0).val / 256 - 0 + 0 := congrFun ht 0
    have q1 : win0_3.index t (1 : Fin 2) = (i 1).val / 512 - 0 + 0 := congrFun ht 1
    refine ⟨t, hft, ?_⟩
    rw [mem_blk3]
    intro a
    match a with
    | ⟨0, _⟩ => show win0_3.index t (0 : Fin 2) * 256 ≤ (i 0).val ∧ (i 0).val < win0_3.index t (0 : Fin 2) * 256 + 256; omega
    | ⟨1, _⟩ => show win0_3.index t (1 : Fin 2) * 512 ≤ (i 1).val ∧ (i 1).val < win0_3.index t (1 : Fin 2) * 512 + 512; omega

/-- THE ARRAY after the run: `G3` (the flushing blocks tile it). -/
theorem final3 (c : Dev nD) : (dats m 0 c).arrAt 3 cfg0.N = G3 m c :=
  (dats m 0 c).arrAt_eq_of_cover 3 _ (fun t hf => flushed3_eq m c t hf) (fun i => (covered_iff3 i).2 (by
    have h0 : (i 0).val < 256 := (i 0).isLt; have h1 : (i 1).val < 18944 := (i 1).isLt; omega))

/-! ## Output window 4 -/

/-- The block of the array that holds index `i`, numbered in the order the points write the blocks back (one every 37 points),
    `i`'s place in it, and the point that writes it back (the last of its 37). -/
abbrev run4Of (i : S256x3584.Idx) : ℕ := 1 * ((i 0).val / 256 - 0) + 1 * ((i 1).val / 3584 - 0)
set_option backward.proofsInPublic true in
abbrev loc4Of (i : S256x3584.Idx) : S256x3584.Idx := fun a => match a with
  | ⟨0, _⟩ => ⟨(i 0).val % 256, Nat.mod_lt _ (by decide)⟩
  | ⟨1, _⟩ => ⟨(i 1).val % 3584, Nat.mod_lt _ (by decide)⟩
abbrev pt4Of (i : S256x3584.Idx) : ℕ := 37 * run4Of i + 36

/-- WHAT THE ARRAY ENDS HOLDING at index `i` inside the box the flushing blocks fill: output 4's component of the carried
    state's fold at the point that writes `i`'s block back, at `i`'s place in the block. `G4` states the array's contents
    only inside the box. -/
def G4 (c : Dev nD) : Buf (Elt F) ((c : Thread nD τ).loc main_v1_1) := fun i =>
  if h : pt4Of i < cfg0.N then
    (outsAt0 m c (pt4Of i) (by omega)).2.1 (loc4Of i)
  else V m c (Pipeline.arrRef spec0 4) i

/-- The printed index map, decided over the grid: output window 4's block indices stay in the box, and the block number
    read off them is the point's (`t / 37`). -/
theorem idx_facts4 : ∀ t : Fin cfg0.N, 0 ≤ win0_4.index t (0 : Fin 2) ∧ win0_4.index t (0 : Fin 2) ≤ 0
    ∧ 0 ≤ win0_4.index t (1 : Fin 2) ∧ win0_4.index t (1 : Fin 2) ≤ 0
    ∧ 1 * (win0_4.index t (0 : Fin 2) - 0) + 1 * (win0_4.index t (1 : Fin 2) - 0) = t.val / 37 :=
  (by decide +kernel : ∀ t : Fin grid0.N, _)

/-- Every block of the box is SOME flushing point's: `onto4Pt`, the point that writes back the block at place `q` of the box (the last point of its run). -/
abbrev onto4Pt (q0 : Fin 1) (q1 : Fin 1) : Fin grid0.N :=
  ⟨37 * (1 * q0.val + 1 * q1.val) + 36, lt_of_lt_of_eq (by omega) N_0.symm⟩
theorem idx_onto4 : ∀ (q0 : Fin 1) (q1 : Fin 1), ∃ t : Fin cfg0.N, (cfg0.win 4).flush t = true ∧ win0_4.index t = ![q0.val + 0, q1.val + 0] :=
  fun q0 q1 => ⟨onto4Pt q0 q1, (by decide +kernel : ∀ (q0 : Fin 1) (q1 : Fin 1), win0_4.flush (onto4Pt q0 q1) = true ∧ win0_4.index (onto4Pt q0 q1) = ![q0.val + 0, q1.val + 0]) q0 q1⟩

/-- WHAT A FLUSHING POINT `t` WRITES BACK is block `t` of `G4`: output 4's component of the fold up to `t`. -/
theorem flushed4_eq (c : Dev nD) (t : Fin cfg0.N) (hf : (cfg0.win 4).flush t = true) :
    (dats m 0 c).flushed 4 t = ((cfg0.win 4).blk t).view.read (Elt F) (G4 m c) := by
  show (cfg0.win 4).cut (grid0.coords t) ((dats m 0 c).after 4 t) = _
  rw [after0_4]
  have hm : t.val % 37 = 36 := (flush0_4 t).mp hf
  obtain ⟨e0, e1, e2⟩ := idx_facts4 t
  funext y
  have hy0 : (y 0).val < 256 := (y 0).isLt
  have hy1 : (y 1).val < 3584 := (y 1).isLt
  have hb0 : (((cfg0.win 4).blk t).view.emb y 0).val = win0_4.index t (0 : Fin 2) * 256 + 1 * (y 0).val := rfl
  have hb1 : (((cfg0.win 4).blk t).view.emb y 1).val = win0_4.index t (1 : Fin 2) * 3584 + 1 * (y 1).val := rfl
  have hr : run4Of (((cfg0.win 4).blk t).view.emb y) = t.val / 37 := by
    show 1 * ((((cfg0.win 4).blk t).view.emb y 0).val / 256 - 0) + 1 * ((((cfg0.win 4).blk t).view.emb y 1).val / 3584 - 0) = _
    rw [hb0, hb1]
    rw [show (win0_4.index t (0 : Fin 2) * 256 + 1 * (y 0).val) / 256 = win0_4.index t (0 : Fin 2) from by omega]; rw [show (win0_4.index t (1 : Fin 2) * 3584 + 1 * (y 1).val) / 3584 = win0_4.index t (1 : Fin 2) from by omega]
    omega
  have hl : loc4Of (((cfg0.win 4).blk t).view.emb y) = (cfg0.win 4).xinj (grid0.coords t) y := by
    funext a; apply Fin.ext
    match a with
    | ⟨0, _⟩ => show (((cfg0.win 4).blk t).view.emb y 0).val % 256 = (y 0).val; rw [hb0]; omega
    | ⟨1, _⟩ => show (((cfg0.win 4).blk t).view.emb y 1).val % 3584 = (y 1).val; rw [hb1]; omega
  have hp : pt4Of (((cfg0.win 4).blk t).view.emb y) = t.val := by
    show 37 * run4Of (((cfg0.win 4).blk t).view.emb y) + 36 = _
    rw [hr]; have := Nat.div_add_mod t.val 37; omega
  show (outsAt0 m c t.val _).2.1 ((cfg0.win 4).xinj (grid0.coords t) y) = G4 m c (((cfg0.win 4).blk t).view.emb y)
  unfold G4
  rw [dif_pos (by rw [hp]; exact t.isLt), hl, outs_congr m c _ _ _ _ hp.symm]

/-- An index of the array is in point `t`'s block iff each coordinate is in the block's range on its axis. -/
theorem mem_blk4 (t : Fin cfg0.N) (i : S256x3584.Idx) :
    i ∈ ((cfg0.win 4).blk t).view.set ↔ ∀ a : Fin 2, win0_4.index t a * S256x3584.size a ≤ (i a).val ∧ (i a).val < win0_4.index t a * S256x3584.size a + S256x3584.size a := by
  show i ∈ ((View.whole main_v1_1).slice (win0_4.rect t)).set ↔ _
  rw [View.set_slice_whole, Rect.mem_set_unit]
  exact Iff.rfl

/-- THE COVERED INDICES: in some flushing point's block iff inside the box those blocks fill. -/
theorem covered_iff4 (i : S256x3584.Idx) :
    (∃ t : Fin cfg0.N, (cfg0.win 4).flush t = true ∧ i ∈ ((cfg0.win 4).blk t).view.set) ↔ 0 ≤ (i 0).val ∧ (i 0).val < 256 ∧ 0 ≤ (i 1).val ∧ (i 1).val < 3584 := by
  constructor
  · rintro ⟨t, -, hi⟩
    rw [mem_blk4] at hi
    have b0 : win0_4.index t (0 : Fin 2) * 256 ≤ (i 0).val ∧ (i 0).val < win0_4.index t (0 : Fin 2) * 256 + 256 := hi 0
    have b1 : win0_4.index t (1 : Fin 2) * 3584 ≤ (i 1).val ∧ (i 1).val < win0_4.index t (1 : Fin 2) * 3584 + 3584 := hi 1
    obtain ⟨e0, e1, e2⟩ := idx_facts4 t
    omega
  · intro h
    have hi0 : (i 0).val < 256 := (i 0).isLt
    have hi1 : (i 1).val < 3584 := (i 1).isLt
    obtain ⟨t, hft, ht⟩ := idx_onto4 ⟨(i 0).val / 256 - 0, by omega⟩ ⟨(i 1).val / 3584 - 0, by omega⟩
    have q0 : win0_4.index t (0 : Fin 2) = (i 0).val / 256 - 0 + 0 := congrFun ht 0
    have q1 : win0_4.index t (1 : Fin 2) = (i 1).val / 3584 - 0 + 0 := congrFun ht 1
    refine ⟨t, hft, ?_⟩
    rw [mem_blk4]
    intro a
    match a with
    | ⟨0, _⟩ => show win0_4.index t (0 : Fin 2) * 256 ≤ (i 0).val ∧ (i 0).val < win0_4.index t (0 : Fin 2) * 256 + 256; omega
    | ⟨1, _⟩ => show win0_4.index t (1 : Fin 2) * 3584 ≤ (i 1).val ∧ (i 1).val < win0_4.index t (1 : Fin 2) * 3584 + 3584; omega

/-- THE ARRAY after the run: `G4` (the flushing blocks tile it). -/
theorem final4 (c : Dev nD) : (dats m 0 c).arrAt 4 cfg0.N = G4 m c :=
  (dats m 0 c).arrAt_eq_of_cover 4 _ (fun t hf => flushed4_eq m c t hf) (fun i => (covered_iff4 i).2 (by
    have h0 : (i 0).val < 256 := (i 0).isLt; have h1 : (i 1).val < 3584 := (i 1).isLt; omega))

/-- Output 4 is written back ONCE, at the last point, and its block is its array: the array after the run is output 4's
    component of the fold over the whole grid — where a hand proof over this window starts. -/
theorem G4_last (c : Dev nD) :
    G4 m c = (outsAt0 m c 36 (lt_of_lt_of_eq (by decide) N_0.symm)).2.1 := by
  funext i
  have hi0 : (i 0).val < 256 := (i 0).isLt
  have hi1 : (i 1).val < 3584 := (i 1).isLt
  have hp : pt4Of i = 36 := by
    show 37 * (1 * ((i 0).val / 256 - 0) + 1 * ((i 1).val / 3584 - 0)) + 36 = _
    omega
  have hl : loc4Of i = i := by
    funext a; apply Fin.ext
    match a with
    | ⟨0, _⟩ => show (i 0).val % 256 = (i 0).val; omega
    | ⟨1, _⟩ => show (i 1).val % 3584 = (i 1).val; omega
  unfold G4
  rw [dif_pos (by rw [hp]; exact lt_of_lt_of_eq (by decide) N_0.symm), hl, outs_congr m c _ _ _ _ hp]

/-! ## Output window 5 -/

/-- The block of the array that holds index `i`, numbered in the order the points write the blocks back (one every 37 points),
    `i`'s place in it, and the point that writes it back (the last of its 37). -/
abbrev run5Of (i : S256x112.Idx) : ℕ := 1 * ((i 0).val / 256 - 0) + 1 * ((i 1).val / 112 - 0)
set_option backward.proofsInPublic true in
abbrev loc5Of (i : S256x112.Idx) : S256x112.Idx := fun a => match a with
  | ⟨0, _⟩ => ⟨(i 0).val % 256, Nat.mod_lt _ (by decide)⟩
  | ⟨1, _⟩ => ⟨(i 1).val % 112, Nat.mod_lt _ (by decide)⟩
abbrev pt5Of (i : S256x112.Idx) : ℕ := 37 * run5Of i + 36

/-- WHAT THE ARRAY ENDS HOLDING at index `i` inside the box the flushing blocks fill: output 5's component of the carried
    state's fold at the point that writes `i`'s block back, at `i`'s place in the block. `G5` states the array's contents
    only inside the box. -/
def G5 (c : Dev nD) : Buf (Elt F) ((c : Thread nD τ).loc main_v1_2) := fun i =>
  if h : pt5Of i < cfg0.N then
    (outsAt0 m c (pt5Of i) (by omega)).2.2.1 (loc5Of i)
  else V m c (Pipeline.arrRef spec0 5) i

/-- The printed index map, decided over the grid: output window 5's block indices stay in the box, and the block number
    read off them is the point's (`t / 37`). -/
theorem idx_facts5 : ∀ t : Fin cfg0.N, 0 ≤ win0_5.index t (0 : Fin 2) ∧ win0_5.index t (0 : Fin 2) ≤ 0
    ∧ 0 ≤ win0_5.index t (1 : Fin 2) ∧ win0_5.index t (1 : Fin 2) ≤ 0
    ∧ 1 * (win0_5.index t (0 : Fin 2) - 0) + 1 * (win0_5.index t (1 : Fin 2) - 0) = t.val / 37 :=
  (by decide +kernel : ∀ t : Fin grid0.N, _)

/-- Every block of the box is SOME flushing point's: `onto5Pt`, the point that writes back the block at place `q` of the box (the last point of its run). -/
abbrev onto5Pt (q0 : Fin 1) (q1 : Fin 1) : Fin grid0.N :=
  ⟨37 * (1 * q0.val + 1 * q1.val) + 36, lt_of_lt_of_eq (by omega) N_0.symm⟩
theorem idx_onto5 : ∀ (q0 : Fin 1) (q1 : Fin 1), ∃ t : Fin cfg0.N, (cfg0.win 5).flush t = true ∧ win0_5.index t = ![q0.val + 0, q1.val + 0] :=
  fun q0 q1 => ⟨onto5Pt q0 q1, (by decide +kernel : ∀ (q0 : Fin 1) (q1 : Fin 1), win0_5.flush (onto5Pt q0 q1) = true ∧ win0_5.index (onto5Pt q0 q1) = ![q0.val + 0, q1.val + 0]) q0 q1⟩

/-- WHAT A FLUSHING POINT `t` WRITES BACK is block `t` of `G5`: output 5's component of the fold up to `t`. -/
theorem flushed5_eq (c : Dev nD) (t : Fin cfg0.N) (hf : (cfg0.win 5).flush t = true) :
    (dats m 0 c).flushed 5 t = ((cfg0.win 5).blk t).view.read (Elt F) (G5 m c) := by
  show (cfg0.win 5).cut (grid0.coords t) ((dats m 0 c).after 5 t) = _
  rw [after0_5]
  have hm : t.val % 37 = 36 := (flush0_5 t).mp hf
  obtain ⟨e0, e1, e2⟩ := idx_facts5 t
  funext y
  have hy0 : (y 0).val < 256 := (y 0).isLt
  have hy1 : (y 1).val < 112 := (y 1).isLt
  have hb0 : (((cfg0.win 5).blk t).view.emb y 0).val = win0_5.index t (0 : Fin 2) * 256 + 1 * (y 0).val := rfl
  have hb1 : (((cfg0.win 5).blk t).view.emb y 1).val = win0_5.index t (1 : Fin 2) * 112 + 1 * (y 1).val := rfl
  have hr : run5Of (((cfg0.win 5).blk t).view.emb y) = t.val / 37 := by
    show 1 * ((((cfg0.win 5).blk t).view.emb y 0).val / 256 - 0) + 1 * ((((cfg0.win 5).blk t).view.emb y 1).val / 112 - 0) = _
    rw [hb0, hb1]
    rw [show (win0_5.index t (0 : Fin 2) * 256 + 1 * (y 0).val) / 256 = win0_5.index t (0 : Fin 2) from by omega]; rw [show (win0_5.index t (1 : Fin 2) * 112 + 1 * (y 1).val) / 112 = win0_5.index t (1 : Fin 2) from by omega]
    omega
  have hl : loc5Of (((cfg0.win 5).blk t).view.emb y) = (cfg0.win 5).xinj (grid0.coords t) y := by
    funext a; apply Fin.ext
    match a with
    | ⟨0, _⟩ => show (((cfg0.win 5).blk t).view.emb y 0).val % 256 = (y 0).val; rw [hb0]; omega
    | ⟨1, _⟩ => show (((cfg0.win 5).blk t).view.emb y 1).val % 112 = (y 1).val; rw [hb1]; omega
  have hp : pt5Of (((cfg0.win 5).blk t).view.emb y) = t.val := by
    show 37 * run5Of (((cfg0.win 5).blk t).view.emb y) + 36 = _
    rw [hr]; have := Nat.div_add_mod t.val 37; omega
  show (outsAt0 m c t.val _).2.2.1 ((cfg0.win 5).xinj (grid0.coords t) y) = G5 m c (((cfg0.win 5).blk t).view.emb y)
  unfold G5
  rw [dif_pos (by rw [hp]; exact t.isLt), hl, outs_congr m c _ _ _ _ hp.symm]

/-- An index of the array is in point `t`'s block iff each coordinate is in the block's range on its axis. -/
theorem mem_blk5 (t : Fin cfg0.N) (i : S256x112.Idx) :
    i ∈ ((cfg0.win 5).blk t).view.set ↔ ∀ a : Fin 2, win0_5.index t a * S256x112.size a ≤ (i a).val ∧ (i a).val < win0_5.index t a * S256x112.size a + S256x112.size a := by
  show i ∈ ((View.whole main_v1_2).slice (win0_5.rect t)).set ↔ _
  rw [View.set_slice_whole, Rect.mem_set_unit]
  exact Iff.rfl

/-- THE COVERED INDICES: in some flushing point's block iff inside the box those blocks fill. -/
theorem covered_iff5 (i : S256x112.Idx) :
    (∃ t : Fin cfg0.N, (cfg0.win 5).flush t = true ∧ i ∈ ((cfg0.win 5).blk t).view.set) ↔ 0 ≤ (i 0).val ∧ (i 0).val < 256 ∧ 0 ≤ (i 1).val ∧ (i 1).val < 112 := by
  constructor
  · rintro ⟨t, -, hi⟩
    rw [mem_blk5] at hi
    have b0 : win0_5.index t (0 : Fin 2) * 256 ≤ (i 0).val ∧ (i 0).val < win0_5.index t (0 : Fin 2) * 256 + 256 := hi 0
    have b1 : win0_5.index t (1 : Fin 2) * 112 ≤ (i 1).val ∧ (i 1).val < win0_5.index t (1 : Fin 2) * 112 + 112 := hi 1
    obtain ⟨e0, e1, e2⟩ := idx_facts5 t
    omega
  · intro h
    have hi0 : (i 0).val < 256 := (i 0).isLt
    have hi1 : (i 1).val < 112 := (i 1).isLt
    obtain ⟨t, hft, ht⟩ := idx_onto5 ⟨(i 0).val / 256 - 0, by omega⟩ ⟨(i 1).val / 112 - 0, by omega⟩
    have q0 : win0_5.index t (0 : Fin 2) = (i 0).val / 256 - 0 + 0 := congrFun ht 0
    have q1 : win0_5.index t (1 : Fin 2) = (i 1).val / 112 - 0 + 0 := congrFun ht 1
    refine ⟨t, hft, ?_⟩
    rw [mem_blk5]
    intro a
    match a with
    | ⟨0, _⟩ => show win0_5.index t (0 : Fin 2) * 256 ≤ (i 0).val ∧ (i 0).val < win0_5.index t (0 : Fin 2) * 256 + 256; omega
    | ⟨1, _⟩ => show win0_5.index t (1 : Fin 2) * 112 ≤ (i 1).val ∧ (i 1).val < win0_5.index t (1 : Fin 2) * 112 + 112; omega

/-- THE ARRAY after the run: `G5` (the flushing blocks tile it). -/
theorem final5 (c : Dev nD) : (dats m 0 c).arrAt 5 cfg0.N = G5 m c :=
  (dats m 0 c).arrAt_eq_of_cover 5 _ (fun t hf => flushed5_eq m c t hf) (fun i => (covered_iff5 i).2 (by
    have h0 : (i 0).val < 256 := (i 0).isLt; have h1 : (i 1).val < 112 := (i 1).isLt; omega))

/-- Output 5 is written back ONCE, at the last point, and its block is its array: the array after the run is output 5's
    component of the fold over the whole grid — where a hand proof over this window starts. -/
theorem G5_last (c : Dev nD) :
    G5 m c = (outsAt0 m c 36 (lt_of_lt_of_eq (by decide) N_0.symm)).2.2.1 := by
  funext i
  have hi0 : (i 0).val < 256 := (i 0).isLt
  have hi1 : (i 1).val < 112 := (i 1).isLt
  have hp : pt5Of i = 36 := by
    show 37 * (1 * ((i 0).val / 256 - 0) + 1 * ((i 1).val / 112 - 0)) + 36 = _
    omega
  have hl : loc5Of i = i := by
    funext a; apply Fin.ext
    match a with
    | ⟨0, _⟩ => show (i 0).val % 256 = (i 0).val; omega
    | ⟨1, _⟩ => show (i 1).val % 112 = (i 1).val; omega
  unfold G5
  rw [dif_pos (by rw [hp]; exact lt_of_lt_of_eq (by decide) N_0.symm), hl, outs_congr m c _ _ _ _ hp]

/-! ## The run, read -/

/-- The frame run re-posted: each output array at the fold the runs leave in it, the arguments unchanged. -/
theorem run : θ_run defs (onTc (τ := τ) (main (F := F))) ⟨m, fun _ => 0, ρ⟩ fun r => ∀ c : Dev nD,
      r.2.mem ((c : Thread nD τ).loc main_v1_0) = G3 m c
      ∧ r.2.mem ((c : Thread nD τ).loc main_v1_1) = G4 m c
      ∧ r.2.mem ((c : Thread nD τ).loc main_v1_2) = G5 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(post3 m r h c).trans (final3 m c),
      (post4 m r h c).trans (final4 m c),
      (post5 m r h c).trans (final5 m c),
      kept_main_arg0 m r h c,
      kept_main_arg1 m r h c,
      kept_main_arg2 m r h c⟩)
    (run_main m ρ)

/-! ## The point-by-point contents -/

/-- What the first point leaves of outputs 4 and 5 and of the carried scratch, every later point keeps. -/
theorem outs_tail (c : Dev nD) : ∀ (n : ℕ) (hn : n < cfg0.N), (outsAt0 m c n hn).2 = (outsAt0 m c 0 (lt_of_lt_of_eq (by decide) N_0.symm)).2
  | 0, _ => rfl
  | n + 1, hn => by
    have h37 : n + 1 < 37 := lt_of_lt_of_eq hn (show cfg0.N = 37 from N_0)
    have h0 : ¬(n + 1) % 37 = 0 := by omega
    rw [outsAt0_B m c ⟨n + 1, hn⟩ h0]
    exact outs_tail c n (by omega)

end Cert.KernelIdeal.Hand

end
-- ==== Proof.KDecode.lean ====
/- The kernel's arithmetic, written once: a chunk of decoded weights, a weight tile, a product of tiles. -/
module

public import proofs.«01_k».proof.Proof.KValue

@[expose] public section

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F]

/-! ## The four 6-bit fields of three bytes, four bytes to a word, each as the bits of an fp8 number -/

/-- Three rows of packed bytes, four to a word. -/
def word (b : IVec S1x32x512 8) : IVec S8x512 32 :=
  bitcast S8x512 32 (shapeCast S32x512 b shapeCasts_S1x32x512_S32x512) bitcasts_S32x512_w8_S8x512_w32

def field0 (w0 : IVec S8x512 32) : IVec S8x512 32 :=
  andi (shli (addi (andi w0 (broadcast S8x512 1061109567#32)) (broadcast S8x512 538976288#32)) (broadcast S8x512 1#32))
    (broadcast S8x512 3200171710#32)

def field1 (w0 w1 : IVec S8x512 32) : IVec S8x512 32 :=
  andi (addi (ori (andi (shrui w0 (broadcast S8x512 5#32)) (broadcast S8x512 101058054#32))
      (andi (shli w1 (broadcast S8x512 3#32)) (broadcast S8x512 2021161080#32))) (broadcast S8x512 1077952576#32))
    (broadcast S8x512 3200171710#32)

def field2 (w1 w2 : IVec S8x512 32) : IVec S8x512 32 :=
  andi (addi (ori (andi (shrui w1 (broadcast S8x512 3#32)) (broadcast S8x512 505290270#32))
      (andi (shli w2 (broadcast S8x512 5#32)) (broadcast S8x512 1616928864#32))) (broadcast S8x512 1077952576#32))
    (broadcast S8x512 3200171710#32)

def field3 (w2 : IVec S8x512 32) : IVec S8x512 32 :=
  ori (andi (shrui w2 (broadcast S8x512 1#32)) (broadcast S8x512 1044266558#32)) (andi w2 (broadcast S8x512 2155905152#32))

/-- Two scale rows spread over sixteen rows. -/
def pair (s t : IVec S1x512 32) : FVec F S16x512 .bf16 :=
  bitcastToFloat .bf16 (bitcast S16x512 16
    (select (cmpi .slt (iota .tc S8x512 32 [0] iota_S8x512_d0_w32) (broadcast S8x512 4#32))
      (broadcastTo S8x512 (shapeCast S1x512 s shapeCasts_S1x512_S1x512) broadcasts_S1x512_S8x512)
      (broadcastTo S8x512 (shapeCast S1x512 t shapeCasts_S1x512_S1x512) broadcasts_S1x512_S8x512))
    bitcasts_S8x512_w32_S16x512_w16)

/-- The factors of a chunk's thirty-two packed rows. -/
def factor (s0 s1 s2 s3 : IVec S1x512 32) : FVec F S32x512 .bf16 :=
  concatenate S32x512 0 [⟨S16x512, pair s0 s1⟩, ⟨S16x512, pair s2 s3⟩] concatenates_S16x512_S16x512_S32x512_d0

/-- Words of fp8 bits times the factors. -/
def scaled (f : IVec S8x512 32) (s : FVec F S32x512 .bf16) : FVec F S32x512 .bf16 :=
  mulf (extf .bf16 (bitcastToFloat .fp8e4m3 (bitcast S32x512 8 f bitcasts_S8x512_w32_S32x512_w8)) bitsLt_fp8e4m3_bf16) s

/-- Two chunks of decoded weights, one above the other. -/
def rhs (W : Fin 3 → Fin 28 → Vec F S1x32x512 .i8) (S : Fin 112 → Vec F S1x512 .i32) (k : Fin 14) : FVec F S256x512 .bf16 :=
  let a : Fin 28 := ⟨2 * k.val, by omega⟩
  let b : Fin 28 := ⟨2 * k.val + 1, by omega⟩
  have s : FVec F S32x512 .bf16 := factor (S ⟨8 * k.val, by omega⟩) (S ⟨8 * k.val + 1, by omega⟩) (S ⟨8 * k.val + 2, by omega⟩) (S ⟨8 * k.val + 3, by omega⟩)
  have t : FVec F S32x512 .bf16 := factor (S ⟨8 * k.val + 4, by omega⟩) (S ⟨8 * k.val + 5, by omega⟩) (S ⟨8 * k.val + 6, by omega⟩) (S ⟨8 * k.val + 7, by omega⟩)
  concatenate S256x512 0 [⟨S32x512, scaled (field0 (word (W 0 a))) s⟩, ⟨S32x512, scaled (field1 (word (W 0 a)) (word (W 1 a))) s⟩,
    ⟨S32x512, scaled (field2 (word (W 1 a)) (word (W 2 a))) s⟩, ⟨S32x512, scaled (field3 (word (W 2 a))) s⟩,
    ⟨S32x512, scaled (field0 (word (W 0 b))) t⟩, ⟨S32x512, scaled (field1 (word (W 0 b)) (word (W 1 b))) t⟩,
    ⟨S32x512, scaled (field2 (word (W 1 b)) (word (W 2 b))) t⟩, ⟨S32x512, scaled (field3 (word (W 2 b))) t⟩]
    concatenates_S32x512_S32x512_S32x512_S32x512_S32x512_S32x512_S32x512_S32x512_S256x512_d0

/-- One product of tiles, over 256 of the 3584 columns of the activations. -/
def prod (X : Fin 14 → Vec F S256x256 .bf16) (W : Fin 3 → Fin 28 → Vec F S1x32x512 .i8) (S : Fin 112 → Vec F S1x512 .i32) (k : Fin 14) :
    FVec F S256x512 .f32 :=
  matmul dot_S256x256_S256x512_S256x512_1_0_0_1_n_n none (X k) (rhs W S k) (constant S256x512 .f32 0x00000000#32)

/-- The fourteen products, added from the left, rounded once. -/
def acc (X : Fin 14 → Vec F S256x256 .bf16) (W : Fin 3 → Fin 28 → Vec F S1x32x512 .i8) (S : Fin 112 → Vec F S1x512 .i32) : FVec F S256x512 .bf16 :=
  truncf .bf16 (addf (addf (addf (addf (addf (addf (addf (addf (addf (addf (addf (addf (addf (prod X W S 0) (prod X W S 1)) (prod X W S 2)) (prod X W S 3))
    (prod X W S 4)) (prod X W S 5)) (prod X W S 6)) (prod X W S 7)) (prod X W S 8)) (prod X W S 9)) (prod X W S 10)) (prod X W S 11)) (prod X W S 12))
    (prod X W S 13)) bitsLt_bf16_f32

theorem inb_w (i : Fin 3) (k : Fin 28) (a : Fin S3x896x512.rank) :
    (![i.val, 32 * k.val, 0] : Fin 3 → ℕ) a + S1x32x512.size a ≤ S3x896x512.size a := by
  have hi := i.isLt; have hk := k.isLt
  match a with
  | ⟨0, _⟩ => show i.val + 1 ≤ 3; omega
  | ⟨1, _⟩ => show 32 * k.val + 32 ≤ 896; omega
  | ⟨2, _⟩ => show 0 + 512 ≤ 512; omega

theorem inb_s (i : Fin 112) (a : Fin S112x512.rank) :
    (![i.val, 0] : Fin 2 → ℕ) a + S1x512.size a ≤ S112x512.size a := by
  have hi := i.isLt
  match a with
  | ⟨0, _⟩ => show i.val + 1 ≤ 112; omega
  | ⟨1, _⟩ => show 0 + 512 ≤ 512; omega

theorem inb_x (k : Fin 14) (a : Fin S256x3584.rank) :
    (![0, 256 * k.val] : Fin 2 → ℕ) a + S256x256.size a ≤ S256x3584.size a := by
  have hk := k.isLt
  match a with
  | ⟨0, _⟩ => show 0 + 256 ≤ 256; omega
  | ⟨1, _⟩ => show 256 * k.val + 256 ≤ 3584; omega

/-- The packed rows read for a chunk. -/
def wRead (x1 : Vec F S3x896x512 .i8) (i : Fin 3) (k : Fin 28) : Vec F S1x32x512 .i8 :=
  View.ld x1 (Rect.unit ![i.val, 32 * k.val, 0] S1x32x512.size (inb_w i k))

/-- The scales as stored: the eight exponent bits in place, in both halves of a word. -/
def scaleBits (x2 : Vec F S112x512 .i8) : IVec S112x512 32 :=
  have u : IVec S112x512 32 := shli (addi (extui 32 x2 natLt_8_32) (broadcast S112x512 4#32)) (broadcast S112x512 7#32)
  ori u (shli u (broadcast S112x512 16#32))

/-- A row of them. -/
def sRead (x2 : Vec F S112x512 .i8) (i : Fin 112) : Vec F S1x512 .i32 :=
  View.ld (Val := Elt F) (e' := .i32) (S := S112x512) (scaleBits x2) (Rect.unit (s := S112x512) ![i.val, 0] S1x512.size (inb_s i))

/-- A tile of the activations. -/
def xRead (xs : Vec F S256x3584 .bf16) (k : Fin 14) : Vec F S256x256 .bf16 :=
  View.ld xs (Rect.unit ![0, 256 * k.val] S256x256.size (inb_x k))

end Cert.KernelIdeal.Hand
end
-- ==== Proof.KOutB.lean ====
/- What the body stores at every later grid point, in the words of `KDecode`. -/
module

public import proofs.«01_k».proof.Proof.KDecode
public import Idealize.ShloMosaic.Lib.Pipeline.ValueKit.Acc

@[expose] public section

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F]

/-- The loads of the packed bytes as the run spells them. -/
def wLoad (arg2 : Memref sig .tc .vmem S3x896x512 .i8) (harg2 : arg2.IsWhole) (x1 : Vec F S3x896x512 .i8) (i : Fin 3) (k : Fin 28) : Vec F S1x32x512 .i8 :=
  View.readAt (Elt F) arg2.view (Rect.unit (s := S3x896x512) ![i.val, 32 * k.val, 0] S1x32x512.size (inb_w i k)).toLoadRect (harg2.unread x1)

/-- The loads of the stored scales. -/
def sLoad (arg3 : Memref sig .tc .vmem S112x512 .i8) (harg3 : arg3.IsWhole) (arg8 : Memref sig .tc .vmem S112x512 .i32) (x2 : Vec F S112x512 .i8) (i : Fin 112) : Vec F S1x512 .i32 :=
  arg8.view.readCov (Val := Elt F) [⟨Rect.unit (s := S112x512) ![0, 0] S112x512.size inb_S112x512_S112x512_0_0, k0_pay365 (View.readAt (Elt F) arg3.view (Rect.unit (s := S112x512) ![0, 0] S112x512.size inb_S112x512_S112x512_0_0).toLoadRect (harg3.unread x2))⟩]
    (Rect.unit (s := S112x512) ![i.val, 0] S1x512.size (inb_s i)).toLoadRect

/-- The loads of the activations. -/
def xLoad (arg7 : Memref sig .tc .vmem S256x3584 .bf16) (harg7 : arg7.IsWhole) (xs0 : Vec F S256x3584 .bf16) (k : Fin 14) : Vec F S256x256 .bf16 :=
  View.readAt (Elt F) arg7.view (Rect.unit (s := S256x3584) ![0, 256 * k.val] S256x256.size (inb_x k)).toLoadRect (harg7.unread xs0)

theorem wLoad_eq (arg2 : Memref sig .tc .vmem S3x896x512 .i8) (harg2 : arg2.IsWhole) (x1 : Vec F S3x896x512 .i8) : wLoad arg2 harg2 x1 = wRead x1 := by
  funext i k
  unfold wLoad wRead
  rw [View.readAt_eq_ld, harg2.read_unread]

theorem xLoad_eq (arg7 : Memref sig .tc .vmem S256x3584 .bf16) (harg7 : arg7.IsWhole) (xs0 : Vec F S256x3584 .bf16) : xLoad arg7 harg7 xs0 = xRead xs0 := by
  funext k
  unfold xLoad xRead
  rw [View.readAt_eq_ld, harg7.read_unread]

theorem pay365_eq (x2 : Vec F S112x512 .i8) : k0_pay365 (F := F) x2 = scaleBits (F := F) x2 := by
  unfold k0_pay365 scaleBits
  exact shapeCast_self _ _

theorem sLoad_eq (arg3 : Memref sig .tc .vmem S112x512 .i8) (harg3 : arg3.IsWhole) (arg8 : Memref sig .tc .vmem S112x512 .i32) (x2 : Vec F S112x512 .i8) :
    sLoad (F := F) arg3 harg3 arg8 x2 = sRead x2 := by
  funext i
  unfold sLoad sRead
  rw [View.readCov_eq_canon', View.readAt_eq_ld, harg3.read_unread]
  have h : View.ld x2 (Rect.unit (s := S112x512) ![0, 0] S112x512.size inb_S112x512_S112x512_0_0) = x2 := View.ld_unit_lit' _ _ (by decide)
  rw [h, pay365_eq, View.canon_cons_unit_lit' _ _ _ (by decide)]

theorem stepB_0 (c : Dev nD) (arg2 : Memref sig .tc .vmem S3x896x512 .i8) (harg2 : arg2.IsWhole) (arg3 : Memref sig .tc .vmem S112x512 .i8) (harg3 : arg3.IsWhole) (arg7 : Memref sig .tc .vmem S256x3584 .bf16) (harg7 : arg7.IsWhole) (arg8 : Memref sig .tc .vmem S112x512 .i32)
    (x1 : Vec F S3x896x512 .i8) (x2 : Vec F S112x512 .i8) (xs0 : Vec F S256x3584 .bf16) :
    kernelRun0_B.sl.r_16 c arg2 harg2 arg3 harg3 arg7 harg7 arg8 x1 x2 xs0 = prod (xLoad arg7 harg7 xs0) (wLoad arg2 harg2 x1) (sLoad arg3 harg3 arg8 x2) 0 := rfl

theorem stepB_1 (c : Dev nD) (arg2 : Memref sig .tc .vmem S3x896x512 .i8) (harg2 : arg2.IsWhole) (arg3 : Memref sig .tc .vmem S112x512 .i8) (harg3 : arg3.IsWhole) (arg7 : Memref sig .tc .vmem S256x3584 .bf16) (harg7 : arg7.IsWhole) (arg8 : Memref sig .tc .vmem S112x512 .i32)
    (x1 : Vec F S3x896x512 .i8) (x2 : Vec F S112x512 .i8) (xs0 : Vec F S256x3584 .bf16) :
    kernelRun0_B.sl.r_29 c arg2 harg2 arg3 harg3 arg7 harg7 arg8 x1 x2 xs0 = addf (kernelRun0_B.sl.r_16 c arg2 harg2 arg3 harg3 arg7 harg7 arg8 x1 x2 xs0) (prod (xLoad arg7 harg7 xs0) (wLoad arg2 harg2 x1) (sLoad arg3 harg3 arg8 x2) 1) := rfl

theorem stepB_2 (c : Dev nD) (arg2 : Memref sig .tc .vmem S3x896x512 .i8) (harg2 : arg2.IsWhole) (arg3 : Memref sig .tc .vmem S112x512 .i8) (harg3 : arg3.IsWhole) (arg7 : Memref sig .tc .vmem S256x3584 .bf16) (harg7 : arg7.IsWhole) (arg8 : Memref sig .tc .vmem S112x512 .i32)
    (x1 : Vec F S3x896x512 .i8) (x2 : Vec F S112x512 .i8) (xs0 : Vec F S256x3584 .bf16) :
    kernelRun0_B.sl.r_42 c arg2 harg2 arg3 harg3 arg7 harg7 arg8 x1 x2 xs0 = addf (kernelRun0_B.sl.r_29 c arg2 harg2 arg3 harg3 arg7 harg7 arg8 x1 x2 xs0) (prod (xLoad arg7 harg7 xs0) (wLoad arg2 harg2 x1) (sLoad arg3 harg3 arg8 x2) 2) := rfl

theorem stepB_3 (c : Dev nD) (arg2 : Memref sig .tc .vmem S3x896x512 .i8) (harg2 : arg2.IsWhole) (arg3 : Memref sig .tc .vmem S112x512 .i8) (harg3 : arg3.IsWhole) (arg7 : Memref sig .tc .vmem S256x3584 .bf16) (harg7 : arg7.IsWhole) (arg8 : Memref sig .tc .vmem S112x512 .i32)
    (x1 : Vec F S3x896x512 .i8) (x2 : Vec F S112x512 .i8) (xs0 : Vec F S256x3584 .bf16) :
    kernelRun0_B.sl.r_53 c arg2 harg2 arg3 harg3 arg7 harg7 arg8 x1 x2 xs0 = addf (kernelRun0_B.sl.r_42 c arg2 harg2 arg3 harg3 arg7 harg7 arg8 x1 x2 xs0) (prod (xLoad arg7 harg7 xs0) (wLoad arg2 harg2 x1) (sLoad arg3 harg3 arg8 x2) 3) := rfl

theorem stepB_4 (c : Dev nD) (arg2 : Memref sig .tc .vmem S3x896x512 .i8) (harg2 : arg2.IsWhole) (arg3 : Memref sig .tc .vmem S112x512 .i8) (harg3 : arg3.IsWhole) (arg7 : Memref sig .tc .vmem S256x3584 .bf16) (harg7 : arg7.IsWhole) (arg8 : Memref sig .tc .vmem S112x512 .i32)
    (x1 : Vec F S3x896x512 .i8) (x2 : Vec F S112x512 .i8) (xs0 : Vec F S256x3584 .bf16) :
    kernelRun0_B.sl.r_62 c arg2 harg2 arg3 harg3 arg7 harg7 arg8 x1 x2 xs0 = addf (kernelRun0_B.sl.r_53 c arg2 harg2 arg3 harg3 arg7 harg7 arg8 x1 x2 xs0) (prod (xLoad arg7 harg7 xs0) (wLoad arg2 harg2 x1) (sLoad arg3 harg3 arg8 x2) 4) := rfl

theorem stepB_5 (c : Dev nD) (arg2 : Memref sig .tc .vmem S3x896x512 .i8) (harg2 : arg2.IsWhole) (arg3 : Memref sig .tc .vmem S112x512 .i8) (harg3 : arg3.IsWhole) (arg7 : Memref sig .tc .vmem S256x3584 .bf16) (harg7 : arg7.IsWhole) (arg8 : Memref sig .tc .vmem S112x512 .i32)
    (x1 : Vec F S3x896x512 .i8) (x2 : Vec F S112x512 .i8) (xs0 : Vec F S256x3584 .bf16) :
    kernelRun0_B.sl.r_70 c arg2 harg2 arg3 harg3 arg7 harg7 arg8 x1 x2 xs0 = addf (kernelRun0_B.sl.r_62 c arg2 harg2 arg3 harg3 arg7 harg7 arg8 x1 x2 xs0) (prod (xLoad arg7 harg7 xs0) (wLoad arg2 harg2 x1) (sLoad arg3 harg3 arg8 x2) 5) := rfl

theorem stepB_6 (c : Dev nD) (arg2 : Memref sig .tc .vmem S3x896x512 .i8) (harg2 : arg2.IsWhole) (arg3 : Memref sig .tc .vmem S112x512 .i8) (harg3 : arg3.IsWhole) (arg7 : Memref sig .tc .vmem S256x3584 .bf16) (harg7 : arg7.IsWhole) (arg8 : Memref sig .tc .vmem S112x512 .i32)
    (x1 : Vec F S3x896x512 .i8) (x2 : Vec F S112x512 .i8) (xs0 : Vec F S256x3584 .bf16) :
    kernelRun0_B.sl.r_78 c arg2 harg2 arg3 harg3 arg7 harg7 arg8 x1 x2 xs0 = addf (kernelRun0_B.sl.r_70 c arg2 harg2 arg3 harg3 arg7 harg7 arg8 x1 x2 xs0) (prod (xLoad arg7 harg7 xs0) (wLoad arg2 harg2 x1) (sLoad arg3 harg3 arg8 x2) 6) := rfl

theorem stepB_7 (c : Dev nD) (arg2 : Memref sig .tc .vmem S3x896x512 .i8) (harg2 : arg2.IsWhole) (arg3 : Memref sig .tc .vmem S112x512 .i8) (harg3 : arg3.IsWhole) (arg7 : Memref sig .tc .vmem S256x3584 .bf16) (harg7 : arg7.IsWhole) (arg8 : Memref sig .tc .vmem S112x512 .i32)
    (x1 : Vec F S3x896x512 .i8) (x2 : Vec F S112x512 .i8) (xs0 : Vec F S256x3584 .bf16) :
    kernelRun0_B.sl.r_89 c arg2 harg2 arg3 harg3 arg7 harg7 arg8 x1 x2 xs0 = addf (kernelRun0_B.sl.r_78 c arg2 harg2 arg3 harg3 arg7 harg7 arg8 x1 x2 xs0) (prod (xLoad arg7 harg7 xs0) (wLoad arg2 harg2 x1) (sLoad arg3 harg3 arg8 x2) 7) := rfl

theorem stepB_8 (c : Dev nD) (arg2 : Memref sig .tc .vmem S3x896x512 .i8) (harg2 : arg2.IsWhole) (arg3 : Memref sig .tc .vmem S112x512 .i8) (harg3 : arg3.IsWhole) (arg7 : Memref sig .tc .vmem S256x3584 .bf16) (harg7 : arg7.IsWhole) (arg8 : Memref sig .tc .vmem S112x512 .i32)
    (x1 : Vec F S3x896x512 .i8) (x2 : Vec F S112x512 .i8) (xs0 : Vec F S256x3584 .bf16) :
    kernelRun0_B.sl.r_110 c arg2 harg2 arg3 harg3 arg7 harg7 arg8 x1 x2 xs0 = addf (kernelRun0_B.sl.r_89 c arg2 harg2 arg3 harg3 arg7 harg7 arg8 x1 x2 xs0) (prod (xLoad arg7 harg7 xs0) (wLoad arg2 harg2 x1) (sLoad arg3 harg3 arg8 x2) 8) := rfl

theorem stepB_9 (c : Dev nD) (arg2 : Memref sig .tc .vmem S3x896x512 .i8) (harg2 : arg2.IsWhole) (arg3 : Memref sig .tc .vmem S112x512 .i8) (harg3 : arg3.IsWhole) (arg7 : Memref sig .tc .vmem S256x3584 .bf16) (harg7 : arg7.IsWhole) (arg8 : Memref sig .tc .vmem S112x512 .i32)
    (x1 : Vec F S3x896x512 .i8) (x2 : Vec F S112x512 .i8) (xs0 : Vec F S256x3584 .bf16) :
    kernelRun0_B.sl.r_131 c arg2 harg2 arg3 harg3 arg7 harg7 arg8 x1 x2 xs0 = addf (kernelRun0_B.sl.r_110 c arg2 harg2 arg3 harg3 arg7 harg7 arg8 x1 x2 xs0) (prod (xLoad arg7 harg7 xs0) (wLoad arg2 harg2 x1) (sLoad arg3 harg3 arg8 x2) 9) := rfl

theorem stepB_10 (c : Dev nD) (arg2 : Memref sig .tc .vmem S3x896x512 .i8) (harg2 : arg2.IsWhole) (arg3 : Memref sig .tc .vmem S112x512 .i8) (harg3 : arg3.IsWhole) (arg7 : Memref sig .tc .vmem S256x3584 .bf16) (harg7 : arg7.IsWhole) (arg8 : Memref sig .tc .vmem S112x512 .i32)
    (x1 : Vec F S3x896x512 .i8) (x2 : Vec F S112x512 .i8) (xs0 : Vec F S256x3584 .bf16) :
    kernelRun0_B.sl.r_155 c arg2 harg2 arg3 harg3 arg7 harg7 arg8 x1 x2 xs0 = addf (kernelRun0_B.sl.r_131 c arg2 harg2 arg3 harg3 arg7 harg7 arg8 x1 x2 xs0) (prod (xLoad arg7 harg7 xs0) (wLoad arg2 harg2 x1) (sLoad arg3 harg3 arg8 x2) 10) := rfl

theorem stepB_11 (c : Dev nD) (arg2 : Memref sig .tc .vmem S3x896x512 .i8) (harg2 : arg2.IsWhole) (arg3 : Memref sig .tc .vmem S112x512 .i8) (harg3 : arg3.IsWhole) (arg7 : Memref sig .tc .vmem S256x3584 .bf16) (harg7 : arg7.IsWhole) (arg8 : Memref sig .tc .vmem S112x512 .i32)
    (x1 : Vec F S3x896x512 .i8) (x2 : Vec F S112x512 .i8) (xs0 : Vec F S256x3584 .bf16) :
    kernelRun0_B.sl.r_180 c arg2 harg2 arg3 harg3 arg7 harg7 arg8 x1 x2 xs0 = addf (kernelRun0_B.sl.r_155 c arg2 harg2 arg3 harg3 arg7 harg7 arg8 x1 x2 xs0) (prod (xLoad arg7 harg7 xs0) (wLoad arg2 harg2 x1) (sLoad arg3 harg3 arg8 x2) 11) := rfl

theorem stepB_12 (c : Dev nD) (arg2 : Memref sig .tc .vmem S3x896x512 .i8) (harg2 : arg2.IsWhole) (arg3 : Memref sig .tc .vmem S112x512 .i8) (harg3 : arg3.IsWhole) (arg7 : Memref sig .tc .vmem S256x3584 .bf16) (harg7 : arg7.IsWhole) (arg8 : Memref sig .tc .vmem S112x512 .i32)
    (x1 : Vec F S3x896x512 .i8) (x2 : Vec F S112x512 .i8) (xs0 : Vec F S256x3584 .bf16) :
    kernelRun0_B.sl.r_201 c arg2 harg2 arg3 harg3 arg7 harg7 arg8 x1 x2 xs0 = addf (kernelRun0_B.sl.r_180 c arg2 harg2 arg3 harg3 arg7 harg7 arg8 x1 x2 xs0) (prod (xLoad arg7 harg7 xs0) (wLoad arg2 harg2 x1) (sLoad arg3 harg3 arg8 x2) 12) := rfl

/-- The block of the result stored at a later grid point. -/
theorem pieces_B (c : Dev nD) (i : grid0.Coords) (arg1 : Memref sig .tc .vmem S256x3584 .bf16) (harg1 : arg1.IsWhole) (arg2 : Memref sig .tc .vmem S3x896x512 .i8) (harg2 : arg2.IsWhole) (arg3 : Memref sig .tc .vmem S112x512 .i8) (harg3 : arg3.IsWhole) (arg4 : Memref sig .tc .vmem S256x512 .bf16) (harg4 : arg4.IsWhole) (arg5 : Memref sig .tc .vmem S256x3584 .fp8e4m3) (harg5 : arg5.IsWhole) (arg6 : Memref sig .tc .vmem S256x112 .i8) (harg6 : arg6.IsWhole) (arg7 : Memref sig .tc .vmem S256x3584 .bf16) (harg7 : arg7.IsWhole) (arg8 : Memref sig .tc .vmem S112x512 .i32) (harg8 : arg8.IsWhole) (hc0 : ¬cond0_0 i)
    (x0 : Vec F S256x3584 .bf16) (x1 : Vec F S3x896x512 .i8) (x2 : Vec F S112x512 .i8) (xs0 : Vec F S256x3584 .bf16) :
    (kernelRun0_B c i arg1 harg1 arg2 harg2 arg3 harg3 arg4 harg4 arg5 harg5 arg6 harg6 arg7 harg7 arg8 harg8 hc0 x0 x1 x2 xs0).1 = [⟨Rect.unit (s := S256x512) ![0, 0] S256x512.size inb_S256x512_S256x512_0_0, acc (xLoad arg7 harg7 xs0) (wLoad arg2 harg2 x1) (sLoad arg3 harg3 arg8 x2)⟩] := by
  unfold acc
  rw [← stepB_0 c]
  rw [← stepB_1 c]
  rw [← stepB_2 c]
  rw [← stepB_3 c]
  rw [← stepB_4 c]
  rw [← stepB_5 c]
  rw [← stepB_6 c]
  rw [← stepB_7 c]
  rw [← stepB_8 c]
  rw [← stepB_9 c]
  rw [← stepB_10 c]
  rw [← stepB_11 c]
  rw [← stepB_12 c]
  rfl

theorem out_B (c : Dev nD) (i : grid0.Coords) (arg1 : Memref sig .tc .vmem S256x3584 .bf16) (harg1 : arg1.IsWhole) (arg2 : Memref sig .tc .vmem S3x896x512 .i8) (harg2 : arg2.IsWhole) (arg3 : Memref sig .tc .vmem S112x512 .i8) (harg3 : arg3.IsWhole) (arg4 : Memref sig .tc .vmem S256x512 .bf16) (harg4 : arg4.IsWhole) (arg5 : Memref sig .tc .vmem S256x3584 .fp8e4m3) (harg5 : arg5.IsWhole) (arg6 : Memref sig .tc .vmem S256x112 .i8) (harg6 : arg6.IsWhole) (arg7 : Memref sig .tc .vmem S256x3584 .bf16) (harg7 : arg7.IsWhole) (arg8 : Memref sig .tc .vmem S112x512 .i32) (harg8 : arg8.IsWhole) (hc0 : ¬cond0_0 i)
    (x0 : Vec F S256x3584 .bf16) (x1 : Vec F S3x896x512 .i8) (x2 : Vec F S112x512 .i8) (xs0 : Vec F S256x3584 .bf16) :
    out0_B_3 c i arg1 harg1 arg2 harg2 arg3 harg3 arg4 harg4 arg5 harg5 arg6 harg6 arg7 harg7 arg8 harg8 hc0 x0 x1 x2 xs0 = acc (xRead xs0) (wRead x1) (sRead x2) := by
  unfold out0_B_3
  rw [pieces_B, View.read_writes_junk_eq_canon, View.canon_cons_unit_lit' _ _ _ (by decide), xLoad_eq, wLoad_eq, sLoad_eq]

end Cert.KernelIdeal.Hand
end
-- ==== Proof.KQuant.lean ====
/- The quantiser of the first grid point, written once: block maxima, exponents, codes and scaled activations. -/
module

public import proofs.«01_k».proof.Proof.KOutB

@[expose] public section

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F]

/-- The lane number of every entry. -/
def lanes : IVec S256x128 32 := iota .tc S256x128 32 [1] iota_S256x128_d1_w32

def lanesHalf : IVec S128x128 32 := iota .tc S128x128 32 [1] iota_S128x128_d1_w32

/-- A gather's lane numbers, a negative one counted from the end. -/
def wrap (j : IVec S256x128 32) : IVec S256x128 32 :=
  shapeCast S256x128 (shapeCast S256x128x1 (select (cmpi .slt j (broadcast S256x128 0#32)) (addi j (broadcast S256x128 128#32)) j)
    shapeCasts_S256x128_S256x128x1) shapeCasts_S256x128x1_S256x128

def wrapHalf (j : IVec S128x128 32) : IVec S128x128 32 :=
  shapeCast S128x128 (shapeCast S128x128x1 (select (cmpi .slt j (broadcast S128x128 0#32)) (addi j (broadcast S128x128 128#32)) j)
    shapeCasts_S128x128_S128x128x1) shapeCasts_S128x128x1_S128x128

/-- Lanes gathered, at 32 bits. -/
def shuffle (j : IVec S256x128 32) (v : FVec F S256x128 .bf16) : FVec F S256x128 .bf16 :=
  truncf .bf16 (dynamicGather 1 (extf .f32 v bitsLt_bf16_f32) (wrap j)) bitsLt_bf16_f32

def bitSet (s : BitVec 32) : IVec S256x128 1 := cmpi .ne (andi lanes (broadcast S256x128 s)) (broadcast S256x128 0#32)

/-- One step of the maxima: two vectors merged into one, the lanes with the bit set from the second. -/
def merge (s : BitVec 32) (a b : FVec F S256x128 .bf16) : FVec F S256x128 .bf16 :=
  maximumf (select (bitSet s) b a) (shuffle (xori lanes (broadcast S256x128 s)) (select (bitSet s) a b))

/-- The last vector of an odd number. -/
def mergeOne (s : BitVec 32) (a : FVec F S256x128 .bf16) : FVec F S256x128 .bf16 :=
  maximumf a (shuffle (xori lanes (broadcast S256x128 s)) a)

def mags (X : Fin 28 → Vec F S256x128 .bf16) (c : Fin 28) : FVec F S256x128 .bf16 := absf (shapeCast S256x128 (X c) shapeCasts_S256x128_S256x128)

def max16 (X : Fin 28 → Vec F S256x128 .bf16) (i : Fin 14) : FVec F S256x128 .bf16 :=
  merge 16#32 (mags X ⟨2 * i.val, by omega⟩) (mags X ⟨2 * i.val + 1, by omega⟩)

def max8 (X : Fin 28 → Vec F S256x128 .bf16) (i : Fin 7) : FVec F S256x128 .bf16 :=
  merge 8#32 (max16 X ⟨2 * i.val, by omega⟩) (max16 X ⟨2 * i.val + 1, by omega⟩)

def max4 (X : Fin 28 → Vec F S256x128 .bf16) (i : Fin 3) : FVec F S256x128 .bf16 :=
  merge 4#32 (max8 X ⟨2 * i.val, by omega⟩) (max8 X ⟨2 * i.val + 1, by omega⟩)

def max4Last (X : Fin 28 → Vec F S256x128 .bf16) : FVec F S256x128 .bf16 := mergeOne 4#32 (max8 X 6)

/-- The block maxima: lane `32 g + slot c` holds that of block `g` of the 128 columns `c`. -/
def amax (X : Fin 28 → Vec F S256x128 .bf16) : FVec F S256x128 .bf16 :=
  merge 1#32 (merge 2#32 (max4 X 0) (max4 X 1)) (merge 2#32 (max4 X 2) (max4Last X))

/-- One bit of the exponent field. -/
def expStep (a : FVec F S256x128 .f32) (b : BitVec 32) (ex : IVec S256x128 32) : IVec S256x128 32 :=
  select (cmpf .oge a (bitcastToFloat .f32 (shli (addi ex (broadcast S256x128 b)) (broadcast S256x128 23#32)))) (addi ex (broadcast S256x128 b)) ex

def expField (a : FVec F S256x128 .f32) : IVec S256x128 32 :=
  expStep a 1#32 (expStep a 2#32 (expStep a 4#32 (expStep a 8#32 (expStep a 16#32 (expStep a 32#32 (expStep a 64#32
    (expStep a 128#32 (broadcast S256x128 0#32))))))))

/-- The exponents in place as bf16 bits. -/
def expBits (ex : IVec S256x128 32) : IVec S256x128 16 :=
  trunci 16 (shli (select (cmpi .eq ex (broadcast S256x128 0#32)) (broadcast S256x128 131#32) (maxsi ex (broadcast S256x128 4#32)))
    (broadcast S256x128 7#32)) natLt_16_32

/-- Two rows to a word. -/
def expWords (X : Fin 28 → Vec F S256x128 .bf16) : IVec S128x128 32 :=
  bitcast S128x128 32 (expBits (expField (extf .f32 (amax X) bitsLt_bf16_f32))) bitcasts_S256x128_w16_S128x128_w32

/-- The slot of each lane's chunk. -/
def slotOf : IVec S128x128 32 :=
  select (cmpi .eq (shrsi lanesHalf (broadcast S128x128 2#32)) (broadcast S128x128 27#32)) (broadcast S128x128 27#32)
    (select (cmpi .eq (shrsi lanesHalf (broadcast S128x128 2#32)) (broadcast S128x128 26#32)) (broadcast S128x128 11#32)
    (select (cmpi .eq (shrsi lanesHalf (broadcast S128x128 2#32)) (broadcast S128x128 25#32)) (broadcast S128x128 19#32)
    (select (cmpi .eq (shrsi lanesHalf (broadcast S128x128 2#32)) (broadcast S128x128 24#32)) (broadcast S128x128 3#32)
    (select (cmpi .eq (shrsi lanesHalf (broadcast S128x128 2#32)) (broadcast S128x128 23#32)) (broadcast S128x128 29#32)
    (select (cmpi .eq (shrsi lanesHalf (broadcast S128x128 2#32)) (broadcast S128x128 22#32)) (broadcast S128x128 13#32)
    (select (cmpi .eq (shrsi lanesHalf (broadcast S128x128 2#32)) (broadcast S128x128 21#32)) (broadcast S128x128 21#32)
    (select (cmpi .eq (shrsi lanesHalf (broadcast S128x128 2#32)) (broadcast S128x128 20#32)) (broadcast S128x128 5#32)
    (select (cmpi .eq (shrsi lanesHalf (broadcast S128x128 2#32)) (broadcast S128x128 19#32)) (broadcast S128x128 25#32)
    (select (cmpi .eq (shrsi lanesHalf (broadcast S128x128 2#32)) (broadcast S128x128 18#32)) (broadcast S128x128 9#32)
    (select (cmpi .eq (shrsi lanesHalf (broadcast S128x128 2#32)) (broadcast S128x128 17#32)) (broadcast S128x128 17#32)
    (select (cmpi .eq (shrsi lanesHalf (broadcast S128x128 2#32)) (broadcast S128x128 16#32)) (broadcast S128x128 1#32)
    (select (cmpi .eq (shrsi lanesHalf (broadcast S128x128 2#32)) (broadcast S128x128 15#32)) (broadcast S128x128 30#32)
    (select (cmpi .eq (shrsi lanesHalf (broadcast S128x128 2#32)) (broadcast S128x128 14#32)) (broadcast S128x128 14#32)
    (select (cmpi .eq (shrsi lanesHalf (broadcast S128x128 2#32)) (broadcast S128x128 13#32)) (broadcast S128x128 22#32)
    (select (cmpi .eq (shrsi lanesHalf (broadcast S128x128 2#32)) (broadcast S128x128 12#32)) (broadcast S128x128 6#32)
    (select (cmpi .eq (shrsi lanesHalf (broadcast S128x128 2#32)) (broadcast S128x128 11#32)) (broadcast S128x128 26#32)
    (select (cmpi .eq (shrsi lanesHalf (broadcast S128x128 2#32)) (broadcast S128x128 10#32)) (broadcast S128x128 10#32)
    (select (cmpi .eq (shrsi lanesHalf (broadcast S128x128 2#32)) (broadcast S128x128 9#32)) (broadcast S128x128 18#32)
    (select (cmpi .eq (shrsi lanesHalf (broadcast S128x128 2#32)) (broadcast S128x128 8#32)) (broadcast S128x128 2#32)
    (select (cmpi .eq (shrsi lanesHalf (broadcast S128x128 2#32)) (broadcast S128x128 7#32)) (broadcast S128x128 28#32)
    (select (cmpi .eq (shrsi lanesHalf (broadcast S128x128 2#32)) (broadcast S128x128 6#32)) (broadcast S128x128 12#32)
    (select (cmpi .eq (shrsi lanesHalf (broadcast S128x128 2#32)) (broadcast S128x128 5#32)) (broadcast S128x128 20#32)
    (select (cmpi .eq (shrsi lanesHalf (broadcast S128x128 2#32)) (broadcast S128x128 4#32)) (broadcast S128x128 4#32)
    (select (cmpi .eq (shrsi lanesHalf (broadcast S128x128 2#32)) (broadcast S128x128 3#32)) (broadcast S128x128 24#32)
    (select (cmpi .eq (shrsi lanesHalf (broadcast S128x128 2#32)) (broadcast S128x128 2#32)) (broadcast S128x128 8#32)
    (select (cmpi .eq (shrsi lanesHalf (broadcast S128x128 2#32)) (broadcast S128x128 1#32)) (broadcast S128x128 16#32)
    (select (cmpi .eq (shrsi lanesHalf (broadcast S128x128 2#32)) (broadcast S128x128 0#32)) (broadcast S128x128 0#32) (broadcast S128x128 0#32))))))))))))))))))))))))))))

/-- The result's scale codes. -/
def scalesOf (e : IVec S128x128 32) : IVec S256x112 8 :=
  trunci 8 (extractStridedSlice S256x112 ![0, 0] (subi (shrui (extsi 32 (bitcast S256x128 16
    (dynamicGather 1 e (wrapHalf (addi (shli (andi lanesHalf (broadcast S128x128 3#32)) (broadcast S128x128 5#32)) slotOf)))
    bitcasts_S128x128_w32_S256x128_w16) natLt_16_32) (broadcast S256x128 7#32)) (broadcast S256x128 4#32)) slices_S256x128_o0_0_S256x112) natLt_8_32

/-- A chunk's exponents, each block's spread over its lanes. -/
def spread (e : IVec S128x128 32) (s : BitVec 32) : IVec S128x128 32 :=
  dynamicGather 1 e (wrapHalf (addi (andi lanesHalf (broadcast S128x128 4294967264#32)) (broadcast S128x128 s)))

def invOf (g : IVec S128x128 32) : FVec F S256x128 .bf16 :=
  bitcastToFloat .bf16 (bitcast S256x128 16 (subi (broadcast S128x128 2164293888#32) g) bitcasts_S128x128_w32_S256x128_w16)

def facOf (g : IVec S128x128 32) : FVec F S256x128 .bf16 :=
  bitcastToFloat .bf16 (bitcast S256x128 16 (subi g (broadcast S128x128 33554944#32)) bitcasts_S128x128_w32_S256x128_w16)

def raise (b : BitVec 16) (v p : FVec F S256x128 .bf16) : FVec F S256x128 .bf16 :=
  select (cmpf .oge v (broadcast S256x128 (Scalar.ofBits .bf16 b))) (broadcast S256x128 (Scalar.ofBits .bf16 b)) p

/-- The power of two below, of the seven the code can tell. -/
def powOf (v : FVec F S256x128 .bf16) : FVec F S256x128 .bf16 :=
  raise 0x4180#16 v (raise 0x4100#16 v (raise 0x4080#16 v (raise 0x4000#16 v (raise 0x3F80#16 v (raise 0x3F00#16 v (raise 0x3E80#16 v
    (broadcast S256x128 (Scalar.ofBits .bf16 0x0000#16))))))))

def bigOf (v : FVec F S256x128 .bf16) : FVec F S256x128 .bf16 :=
  mulf (maximumf (powOf (absf v)) (broadcast S256x128 (Scalar.ofBits .bf16 0x3E80#16))) (broadcast S256x128 (Scalar.ofBits .bf16 0x4240#16))

def clipOf (v : FVec F S256x128 .bf16) : FVec F S256x128 .bf16 :=
  minimumf (broadcast S256x128 (Scalar.ofBits .bf16 0x41E0#16)) (maximumf (broadcast S256x128 (Scalar.ofBits .bf16 0xC1E0#16))
    (subf (addf v (bigOf v)) (bigOf v)))

/-- A chunk's rounded values. -/
def valuesOf (x : Vec F S256x128 .bf16) (g : IVec S128x128 32) : FVec F S256x128 .bf16 :=
  clipOf (mulf (shapeCast S256x128 x shapeCasts_S256x128_S256x128) (invOf g))

def codesOf (x : Vec F S256x128 .bf16) (g : IVec S128x128 32) : FVec F S256x128 .fp8e4m3 := truncf .fp8e4m3 (valuesOf x g) bitsLt_fp8e4m3_bf16

/-- The order of the lanes the weights' unpacking leaves. -/
def perm : IVec S256x128 32 :=
  addi (shli (andi lanes (broadcast S256x128 31#32)) (broadcast S256x128 2#32)) (shrsi lanes (broadcast S256x128 5#32))

def scaledOf (x : Vec F S256x128 .bf16) (g : IVec S128x128 32) : FVec F S256x128 .bf16 :=
  shapeCast S256x128 (shuffle perm (mulf (valuesOf x g) (facOf g))) shapeCasts_S256x128_S256x128

theorem inb_c (k : Fin 28) (a : Fin S256x3584.rank) :
    (![0, 128 * k.val] : Fin 2 → ℕ) a + S256x128.size a ≤ S256x3584.size a := by
  have hk := k.isLt
  match a with
  | ⟨0, _⟩ => show 0 + 256 ≤ 256; omega
  | ⟨1, _⟩ => show 128 * k.val + 128 ≤ 3584; omega

/-- A chunk of the activations. -/
def cRead (x0 : Vec F S256x3584 .bf16) (k : Fin 28) : Vec F S256x128 .bf16 :=
  View.ld x0 (Rect.unit ![0, 128 * k.val] S256x128.size (inb_c k))

/-- The chunks' slots among the thirty-two. -/
def slotNat : Fin 28 → ℕ := ![0, 16, 8, 24, 4, 20, 12, 28, 2, 18, 10, 26, 6, 22, 14, 30, 1, 17, 9, 25, 5, 21, 13, 29, 3, 19, 11, 27]

def slotBV (k : Fin 28) : BitVec 32 := BitVec.ofNat 32 (slotNat k)

def cLoad (arg1 : Memref sig .tc .vmem S256x3584 .bf16) (harg1 : arg1.IsWhole) (x0 : Vec F S256x3584 .bf16) (k : Fin 28) : Vec F S256x128 .bf16 :=
  View.readAt (Elt F) arg1.view (Rect.unit (s := S256x3584) ![0, 128 * k.val] S256x128.size (inb_c k)).toLoadRect (harg1.unread x0)

theorem cLoad_eq (arg1 : Memref sig .tc .vmem S256x3584 .bf16) (harg1 : arg1.IsWhole) (x0 : Vec F S256x3584 .bf16) : cLoad arg1 harg1 x0 = cRead x0 := by
  funext k
  unfold cLoad cRead
  rw [View.readAt_eq_ld, harg1.read_unread]

end Cert.KernelIdeal.Hand
end
-- ==== Proof.KAmax.lean ====
/- The first grid point's block maxima: a lane's maximum runs over the thirty-two columns of its block. -/
module

public import proofs.«01_k».proof.Proof.KQuant
public import Idealize.ShloMosaic.Lib.Pipeline.Value
public import Idealize.ShloMosaic.Lib.Pointwise.ElementwiseCore
public import Idealize.ShloMosaic.Lib.Pointwise.SelectCore
public import Idealize.ShloMosaic.Lib.ValueLayout
public import Idealize.ShloMosaic.Lib.WordCmp
public import Idealize.ShloMosaic.Lib.ValueIdx
public import Idealize.ShloMosaic.Lib.Pipeline.ValueKit.Tiles

@[expose] public section

set_option maxRecDepth 16384

noncomputable section

namespace Cert.KernelIdeal.Hand

open Cert.KernelIdeal Cert.KernelIdeal.Gen
open Idealize.ShloMosaic Idealize.ShloMosaic.TcCoe Idealize.SL.Sem

theorem lanes_at (r : Fin 256) (l : Fin 128) : lanes (ValueIdx.ix2 r l) = BitVec.ofNat 32 l.val := by
  show BitVec.ofNat 32 (0 * 128 + l.val) = _
  rw [Nat.zero_mul, Nat.zero_add]

theorem lanesHalf_at (r : Fin 128) (l : Fin 128) : lanesHalf (ValueIdx.ix2 r l) = BitVec.ofNat 32 l.val := by
  show BitVec.ofNat 32 (0 * 128 + l.val) = _
  rw [Nat.zero_mul, Nat.zero_add]

theorem nonneg_lane (n : Fin 128) : IntOp.cmpi .slt (BitVec.ofNat 32 n.val) 0#32 = 0#1 := by revert n; decide +kernel

theorem wrap_at (j : IVec S256x128 32) (r : Fin 256) (l n : Fin 128) (h : j (ValueIdx.ix2 r l) = BitVec.ofNat 32 n.val) :
    wrap j (ValueIdx.ix2 r l) = BitVec.ofNat 32 n.val := by
  unfold wrap
  rw [shapeCast_shapeCast, ValueIdx.select_apply]
  show Scalar.select (IntOp.cmpi .slt (j (ValueIdx.ix2 r l)) 0#32) _ (j (ValueIdx.ix2 r l)) = _
  rw [h, nonneg_lane]
  rfl

theorem wrapHalf_at (j : IVec S128x128 32) (r l n : Fin 128) (h : j (ValueIdx.ix2 r l) = BitVec.ofNat 32 n.val) :
    wrapHalf j (ValueIdx.ix2 r l) = BitVec.ofNat 32 n.val := by
  unfold wrapHalf
  rw [shapeCast_shapeCast, ValueIdx.select_apply]
  show Scalar.select (IntOp.cmpi .slt (j (ValueIdx.ix2 r l)) 0#32) _ (j (ValueIdx.ix2 r l)) = _
  rw [h, nonneg_lane]
  rfl

theorem lane_mod (n : Fin 128) : (BitVec.ofNat 32 n.val).toNat % 128 = n.val := by revert n; decide +kernel

/-- A gather along the lanes. -/
theorem gather_at {α : Type} (x : S256x128.Idx → α) (j : IVec S256x128 32) (r : Fin 256) (l n : Fin 128)
    (h : j (ValueIdx.ix2 r l) = BitVec.ofNat 32 n.val) : dynamicGather 1 x (wrap j) (ValueIdx.ix2 r l) = x (ValueIdx.ix2 r n) := by
  rw [dynamicGather_apply, wrap_at j r l n h]
  congr 1
  funext b
  match b with
  | ⟨0, _⟩ => rfl
  | ⟨1, _⟩ => exact Fin.ext (lane_mod n)

theorem gatherHalf_at {α : Type} (x : S128x128.Idx → α) (j : IVec S128x128 32) (r l n : Fin 128)
    (h : j (ValueIdx.ix2 r l) = BitVec.ofNat 32 n.val) : dynamicGather 1 x (wrapHalf j) (ValueIdx.ix2 r l) = x (ValueIdx.ix2 r n) := by
  rw [dynamicGather_apply, wrapHalf_at j r l n h]
  congr 1
  funext b
  match b with
  | ⟨0, _⟩ => rfl
  | ⟨1, _⟩ => exact Fin.ext (lane_mod n)

theorem shuffle_at (j : IVec S256x128 32) (v : FVec Ideal S256x128 .bf16) (r : Fin 256) (l n : Fin 128)
    (h : j (ValueIdx.ix2 r l) = BitVec.ofNat 32 n.val) : shuffle j v (ValueIdx.ix2 r l) = v (ValueIdx.ix2 r n) :=
  gather_at (extf .f32 v bitsLt_bf16_f32) j r l n h

/-- The lane across bit `k`. -/
def flip (k : Fin 5) (l : Fin 128) : Fin 128 := ⟨(l.val ^^^ 2 ^ k.val) % 128, Nat.mod_lt _ (by decide)⟩

theorem xor_lane (k : Fin 5) (l : Fin 128) : IntOp.xori (BitVec.ofNat 32 l.val) (BitVec.ofNat 32 (2 ^ k.val)) = BitVec.ofNat 32 (flip k l).val := by
  revert k l; decide +kernel

theorem bit_lane (k : Fin 5) (l : Fin 128) :
    IntOp.cmpi .ne (IntOp.andi (BitVec.ofNat 32 l.val) (BitVec.ofNat 32 (2 ^ k.val))) 0#32 = BitVec.ofBool (l.val.testBit k.val) := by
  revert k l; decide +kernel

theorem bit_flip (k : Fin 5) (l : Fin 128) : (flip k l).val.testBit k.val = !l.val.testBit k.val := by
  revert k l; decide +kernel

theorem bitSet_at (k : Fin 5) (r : Fin 256) (l : Fin 128) : bitSet (BitVec.ofNat 32 (2 ^ k.val)) (ValueIdx.ix2 r l) = BitVec.ofBool (l.val.testBit k.val) := by
  rw [← bit_lane k l, ← lanes_at r l]
  rfl

theorem xor_at (k : Fin 5) (r : Fin 256) (l : Fin 128) :
    xori lanes (broadcast S256x128 (BitVec.ofNat 32 (2 ^ k.val))) (ValueIdx.ix2 r l) = BitVec.ofNat 32 (flip k l).val := by
  rw [← xor_lane k l, ← lanes_at r l]
  rfl

theorem select_ofBool {α : Type} (b : Bool) (x y : α) : Scalar.select (BitVec.ofBool b) x y = if b then x else y := by
  cases b <;> rfl

theorem merge_at (k : Fin 5) (a b : FVec Ideal S256x128 .bf16) (r : Fin 256) (l : Fin 128) :
    merge (BitVec.ofNat 32 (2 ^ k.val)) a b (ValueIdx.ix2 r l) =
      if l.val.testBit k.val then max (b (ValueIdx.ix2 r l)) (b (ValueIdx.ix2 r (flip k l))) else max (a (ValueIdx.ix2 r l)) (a (ValueIdx.ix2 r (flip k l))) := by
  show max (select _ b a (ValueIdx.ix2 r l)) (shuffle _ _ (ValueIdx.ix2 r l)) = _
  rw [shuffle_at _ _ r l (flip k l) (xor_at k r l), ValueIdx.select_apply, ValueIdx.select_apply, bitSet_at, bitSet_at, bit_flip, select_ofBool, select_ofBool]
  cases l.val.testBit k.val <;> rfl

theorem mergeOne_at (k : Fin 5) (a : FVec Ideal S256x128 .bf16) (r : Fin 256) (l : Fin 128) :
    mergeOne (BitVec.ofNat 32 (2 ^ k.val)) a (ValueIdx.ix2 r l) = max (a (ValueIdx.ix2 r l)) (a (ValueIdx.ix2 r (flip k l))) := by
  show max (a (ValueIdx.ix2 r l)) (shuffle _ _ (ValueIdx.ix2 r l)) = _
  rw [shuffle_at _ _ r l (flip k l) (xor_at k r l)]

/-- Two lanes of one block whose low `j` bits agree. -/
def same (j : ℕ) (l l' : Fin 128) : Prop := l'.val / 32 = l.val / 32 ∧ l'.val % 2 ^ j = l.val % 2 ^ j

instance (j : ℕ) (l l' : Fin 128) : Decidable (same j l l') := inferInstanceAs (Decidable (_ ∧ _))

theorem flip_val (k : Fin 5) (l : Fin 128) : (l.val / 2 ^ k.val % 2 = 1 → (flip k l).val + 2 ^ k.val = l.val) ∧
    (l.val / 2 ^ k.val % 2 = 0 → (flip k l).val = l.val + 2 ^ k.val) := by
  revert k l; decide +kernel

theorem same_step (k : Fin 5) (l l' : Fin 128) : same k.val l l' ↔ (same (k.val + 1) l l' ∨ same (k.val + 1) (flip k l) l') := by
  obtain ⟨h1, h2⟩ := flip_val k l
  unfold same
  match k with
  | 0 => norm_num at h1 h2 ⊢; omega
  | 1 => norm_num at h1 h2 ⊢; omega
  | 2 => norm_num at h1 h2 ⊢; omega
  | 3 => norm_num at h1 h2 ⊢; omega
  | 4 => norm_num at h1 h2 ⊢; omega

/-- A vector of maxima: lane `l` holds the maximum of chunk `c l` over the lanes that agree with it on `j` low bits. -/
def Spec (X : Fin 28 → Vec Ideal S256x128 .bf16) (j : ℕ) (v : FVec Ideal S256x128 .bf16) (c : Fin 128 → Fin 28) : Prop :=
  ∀ (r : Fin 256) (l : Fin 128) (t : EReal), v (ValueIdx.ix2 r l) ≤ t ↔ ∀ l', same j l l' → mags X (c l) (ValueIdx.ix2 r l') ≤ t

theorem spec_start (X : Fin 28 → Vec Ideal S256x128 .bf16) (c : Fin 28) : Spec X 5 (mags X c) fun _ => c := by
  intro r l t
  refine ⟨fun h l' hs => ?_, fun h => h l ⟨rfl, rfl⟩⟩
  obtain ⟨h1, h2⟩ := hs
  have : l' = l := Fin.ext (by norm_num at h2; omega)
  rw [this]
  exact h

theorem spec_step (X : Fin 28 → Vec Ideal S256x128 .bf16) (k : Fin 5) (a b : FVec Ideal S256x128 .bf16) (ca cb : Fin 128 → Fin 28)
    (ha : Spec X (k.val + 1) a ca) (hb : Spec X (k.val + 1) b cb) (hca : ∀ l, ca (flip k l) = ca l) (hcb : ∀ l, cb (flip k l) = cb l) :
    Spec X k.val (merge (BitVec.ofNat 32 (2 ^ k.val)) a b) fun l => if l.val.testBit k.val then cb l else ca l := by
  intro r l t
  rw [merge_at]
  beta_reduce
  by_cases h : l.val.testBit k.val = true
  · rw [if_pos h, if_pos h, max_le_iff, hb r l t, hb r (flip k l) t, hcb]
    refine ⟨fun hh l' hs => ?_, fun hh => ⟨fun l' hs => hh l' ((same_step k l l').2 (.inl hs)), fun l' hs => hh l' ((same_step k l l').2 (.inr hs))⟩⟩
    rcases (same_step k l l').1 hs with h' | h'
    exacts [hh.1 l' h', hh.2 l' h']
  · rw [if_neg h, if_neg h, max_le_iff, ha r l t, ha r (flip k l) t, hca]
    refine ⟨fun hh l' hs => ?_, fun hh => ⟨fun l' hs => hh l' ((same_step k l l').2 (.inl hs)), fun l' hs => hh l' ((same_step k l l').2 (.inr hs))⟩⟩
    rcases (same_step k l l').1 hs with h' | h'
    exacts [hh.1 l' h', hh.2 l' h']

theorem spec_one (X : Fin 28 → Vec Ideal S256x128 .bf16) (k : Fin 5) (a : FVec Ideal S256x128 .bf16) (ca : Fin 128 → Fin 28)
    (ha : Spec X (k.val + 1) a ca) (hca : ∀ l, ca (flip k l) = ca l) :
    Spec X k.val (mergeOne (BitVec.ofNat 32 (2 ^ k.val)) a) ca := by
  intro r l t
  rw [mergeOne_at, max_le_iff, ha r l t, ha r (flip k l) t, hca]
  refine ⟨fun hh l' hs => ?_, fun hh => ⟨fun l' hs => hh l' ((same_step k l l').2 (.inl hs)), fun l' hs => hh l' ((same_step k l l').2 (.inr hs))⟩⟩
  rcases (same_step k l l').1 hs with h' | h'
  exacts [hh.1 l' h', hh.2 l' h']

def c16 (i : Fin 14) (l : Fin 128) : Fin 28 := if l.val.testBit 4 then ⟨2 * i.val + 1, by omega⟩ else ⟨2 * i.val, by omega⟩
def c8 (i : Fin 7) (l : Fin 128) : Fin 28 := if l.val.testBit 3 then c16 ⟨2 * i.val + 1, by omega⟩ l else c16 ⟨2 * i.val, by omega⟩ l
def c4 (i : Fin 3) (l : Fin 128) : Fin 28 := if l.val.testBit 2 then c8 ⟨2 * i.val + 1, by omega⟩ l else c8 ⟨2 * i.val, by omega⟩ l
def c2 (l : Fin 128) : Fin 28 := if l.val.testBit 1 then c4 1 l else c4 0 l
def c2' (l : Fin 128) : Fin 28 := if l.val.testBit 1 then c8 6 l else c4 2 l
def c1 (l : Fin 128) : Fin 28 := if l.val.testBit 0 then c2' l else c2 l

theorem spec16 (X : Fin 28 → Vec Ideal S256x128 .bf16) (i : Fin 14) : Spec X 4 (max16 X i) (c16 i) :=
  spec_step X 4 _ _ _ _ (spec_start X _) (spec_start X _) (fun _ => rfl) fun _ => rfl

theorem inv16 : ∀ (i : Fin 14) (l : Fin 128), c16 i (flip 3 l) = c16 i l := by decide +kernel

theorem spec8 (X : Fin 28 → Vec Ideal S256x128 .bf16) (i : Fin 7) : Spec X 3 (max8 X i) (c8 i) :=
  spec_step X 3 _ _ _ _ (spec16 X _) (spec16 X _) (inv16 _) (inv16 _)

theorem inv8 : ∀ (i : Fin 7) (l : Fin 128), c8 i (flip 2 l) = c8 i l := by decide +kernel

theorem spec4 (X : Fin 28 → Vec Ideal S256x128 .bf16) (i : Fin 3) : Spec X 2 (max4 X i) (c4 i) :=
  spec_step X 2 _ _ _ _ (spec8 X _) (spec8 X _) (inv8 _) (inv8 _)

theorem spec4Last (X : Fin 28 → Vec Ideal S256x128 .bf16) : Spec X 2 (max4Last X) (c8 6) := spec_one X 2 _ _ (spec8 X _) (inv8 _)

theorem inv4 : ∀ (i : Fin 3) (l : Fin 128), c4 i (flip 1 l) = c4 i l := by decide +kernel
theorem inv4Last : ∀ (l : Fin 128), c8 6 (flip 1 l) = c8 6 l := by decide +kernel
theorem inv2 : ∀ (l : Fin 128), c2 (flip 0 l) = c2 l := by decide +kernel
theorem inv2' : ∀ (l : Fin 128), c2' (flip 0 l) = c2' l := by decide +kernel

theorem spec1 (X : Fin 28 → Vec Ideal S256x128 .bf16) : Spec X 0 (amax X) c1 :=
  spec_step X 0 _ _ _ _ (spec_step X 1 _ _ _ _ (spec4 X 0) (spec4 X 1) (inv4 0) (inv4 1))
    (spec_step X 1 _ _ _ _ (spec4 X 2) (spec4Last X) (inv4 2) inv4Last) inv2 inv2'

theorem slot_lt : ∀ k : Fin 28, slotNat k < 32 := by decide +kernel

/-- The lane of block `g` of chunk `k`. -/
def laneOf (k : Fin 28) (g : Fin 4) : Fin 128 := ⟨32 * g.val + slotNat k, by have := slot_lt k; omega⟩

theorem c1_slot : ∀ (k : Fin 28) (g : Fin 4), c1 (laneOf k g) = k := by decide +kernel

/-- A block's maximum, over the extended reals. -/
def blk (x : FVec Ideal S256x3584 .bf16) (r : Fin 256) (b : Fin 112) : EReal :=
  Finset.univ.sup fun i : Fin 32 => max (x (ValueIdx.ix2 r ⟨32 * b.val + i.val, by omega⟩)) (-(x (ValueIdx.ix2 r ⟨32 * b.val + i.val, by omega⟩)) : EReal)

theorem blk_le (x : FVec Ideal S256x3584 .bf16) (r : Fin 256) (b : Fin 112) (t : EReal) :
    blk x r b ≤ t ↔ ∀ i : Fin 32, max (x (ValueIdx.ix2 r ⟨32 * b.val + i.val, by omega⟩)) (-(x (ValueIdx.ix2 r ⟨32 * b.val + i.val, by omega⟩)) : EReal) ≤ t := by
  unfold blk
  rw [Finset.sup_le_iff]
  exact ⟨fun h i => h i (Finset.mem_univ i), fun h i _ => h i⟩

theorem cRead_at (x0 : Vec Ideal S256x3584 .bf16) (k : Fin 28) (r : Fin 256) (l : Fin 128) :
    cRead x0 k (ValueIdx.ix2 r l) = x0 (ValueIdx.ix2 r ⟨128 * k.val + l.val, by omega⟩) := by
  unfold cRead
  refine View.ld_unit_apply_of x0 _ _ _ _ (ValueIdx.ix2 r ⟨128 * k.val + l.val, by omega⟩) fun a => ?_
  match a with
  | ⟨0, _⟩ => show r.val = 0 + r.val; omega
  | ⟨1, _⟩ => rfl

theorem mags_at (x0 : Vec Ideal S256x3584 .bf16) (k : Fin 28) (r : Fin 256) (l : Fin 128) :
    mags (cRead x0) k (ValueIdx.ix2 r l) = max (x0 (ValueIdx.ix2 r ⟨128 * k.val + l.val, by omega⟩)) (-(x0 (ValueIdx.ix2 r ⟨128 * k.val + l.val, by omega⟩)) : EReal) := by
  unfold mags
  rw [shapeCast_self, ← cRead_at x0 k r l]
  rfl

/-- A block's lane holds the block's maximum. -/
theorem amax_at (x0 : Vec Ideal S256x3584 .bf16) (r : Fin 256) (k : Fin 28) (g : Fin 4) :
    amax (cRead x0) (ValueIdx.ix2 r (laneOf k g)) = blk x0 r ⟨4 * k.val + g.val, by omega⟩ := by
  refine eq_of_forall_ge_iff fun t => ?_
  rw [spec1 (cRead x0) r (laneOf k g) t, blk_le, c1_slot]
  have hs := slot_lt k
  constructor
  · intro h i
    have := h ⟨32 * g.val + i.val, by omega⟩ ⟨by show (32 * g.val + i.val) / 32 = (32 * g.val + slotNat k) / 32; omega, by rw [Nat.pow_zero, Nat.mod_one, Nat.mod_one]⟩
    rw [mags_at] at this
    have e : (⟨128 * k.val + (32 * g.val + i.val), by omega⟩ : Fin 3584) = ⟨32 * (4 * k.val + g.val) + i.val, by omega⟩ :=
      Fin.ext (by show 128 * k.val + (32 * g.val + i.val) = 32 * (4 * k.val + g.val) + i.val; omega)
    rw [e] at this
    exact this
  · intro h l' hl
    have hl' : l'.val / 32 = (32 * g.val + slotNat k) / 32 := hl.1
    have := h ⟨l'.val % 32, by omega⟩
    rw [mags_at]
    have e : (⟨128 * k.val + l'.val, by omega⟩ : Fin 3584) = ⟨32 * (4 * k.val + g.val) + l'.val % 32, by omega⟩ :=
      Fin.ext (by show 128 * k.val + l'.val = 32 * (4 * k.val + g.val) + l'.val % 32; omega)
    rw [e]
    exact this

end Cert.KernelIdeal.Hand
end
-- ==== Proof.KOutA.lean ====
/- What the body stores at the first grid point, in the words of `KDecode` and `KQuant`. -/
module

public import proofs.«01_k».proof.Proof.KQuant
public import Idealize.ShloMosaic.Lib.Pipeline.ValueKit.Acc

@[expose] public section

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F]

theorem amaxA (c : Dev nD) (arg1 : Memref sig .tc .vmem S256x3584 .bf16) (harg1 : arg1.IsWhole) (x0 : Vec F S256x3584 .bf16) :
    kernelRun0_A.sl.r_67 c arg1 harg1 x0 = extf .f32 (amax (cLoad arg1 harg1 x0)) bitsLt_bf16_f32 := rfl

theorem expA' (c : Dev nD) (arg1 : Memref sig .tc .vmem S256x3584 .bf16) (harg1 : arg1.IsWhole) (x0 : Vec F S256x3584 .bf16) :
    kernelRun0_A.sl.r_71 c arg1 harg1 x0 = bitcast S128x128 32 (expBits (expField (kernelRun0_A.sl.r_67 c arg1 harg1 x0))) bitcasts_S256x128_w16_S128x128_w32 := rfl

theorem expA (c : Dev nD) (arg1 : Memref sig .tc .vmem S256x3584 .bf16) (harg1 : arg1.IsWhole) (x0 : Vec F S256x3584 .bf16) :
    kernelRun0_A.sl.r_71 c arg1 harg1 x0 = expWords (cLoad arg1 harg1 x0) := by
  rw [expA', amaxA]; rfl

/-- The chunks, last first. -/
def chunkList : List (Fin 28) := [27, 26, 25, 24, 23, 22, 21, 20, 19, 18, 17, 16, 15, 14, 13, 12, 11, 10, 9, 8, 7, 6, 5, 4, 3, 2, 1, 0]

theorem mem_chunkList (k : Fin 28) : k ∈ chunkList := by revert k; decide

/-- The stores of the scaled activations. -/
def xdPieces (X : Fin 28 → Vec F S256x128 .bf16) (e : IVec S128x128 32) : List (View.Piece (Elt F) S256x3584 .bf16) :=
  chunkList.map fun k => ⟨Rect.unit (s := S256x3584) ![0, 128 * k.val] S256x128.size (inb_c k), scaledOf (X k) (spread e (slotBV k))⟩

/-- The stores of the codes. -/
def codePieces (X : Fin 28 → Vec F S256x128 .bf16) (e : IVec S128x128 32) : List (View.Piece (Elt F) S256x3584 .fp8e4m3) :=
  chunkList.map fun k => ⟨Rect.unit (s := S256x3584) ![0, 128 * k.val] S256x128.size (inb_c k), codesOf (X k) (spread e (slotBV k))⟩

theorem xdA' (c : Dev nD) (arg1 : Memref sig .tc .vmem S256x3584 .bf16) (harg1 : arg1.IsWhole) (x0 : Vec F S256x3584 .bf16) :
    kernelRun0_A.sl.HS0_28 c arg1 harg1 x0 = xdPieces (cLoad arg1 harg1 x0) (kernelRun0_A.sl.r_71 c arg1 harg1 x0) := rfl

theorem xdA (c : Dev nD) (arg1 : Memref sig .tc .vmem S256x3584 .bf16) (harg1 : arg1.IsWhole) (x0 : Vec F S256x3584 .bf16) :
    kernelRun0_A.sl.HS0_28 c arg1 harg1 x0 = xdPieces (cLoad arg1 harg1 x0) (expWords (cLoad arg1 harg1 x0)) := by
  rw [xdA', expA]

/-- The loads of the scaled activations, of what the stores left. -/
def xLoadA (arg7 : Memref sig .tc .vmem S256x3584 .bf16) (L : List (View.Piece (Elt F) S256x3584 .bf16)) (k : Fin 14) : Vec F S256x256 .bf16 :=
  arg7.view.readCov (Val := Elt F) L (Rect.unit (s := S256x3584) ![0, 256 * k.val] S256x256.size (inb_x k)).toLoadRect

theorem xLoadA_eq (arg7 : Memref sig .tc .vmem S256x3584 .bf16) (L : List (View.Piece (Elt F) S256x3584 .bf16)) :
    xLoadA arg7 L = xRead (View.canon L) := by
  funext k
  unfold xLoadA xRead
  rw [View.readCov_eq_canon']

theorem stepA_0 (c : Dev nD) (arg1 : Memref sig .tc .vmem S256x3584 .bf16) (harg1 : arg1.IsWhole) (arg2 : Memref sig .tc .vmem S3x896x512 .i8) (harg2 : arg2.IsWhole) (arg3 : Memref sig .tc .vmem S112x512 .i8) (harg3 : arg3.IsWhole) (arg7 : Memref sig .tc .vmem S256x3584 .bf16) (arg8 : Memref sig .tc .vmem S112x512 .i32)
    (x0 : Vec F S256x3584 .bf16) (x1 : Vec F S3x896x512 .i8) (x2 : Vec F S112x512 .i8) :
    kernelRun0_A.sl.r_223 c arg1 harg1 arg2 harg2 arg3 harg3 arg7 arg8 x0 x1 x2 = prod (xLoadA arg7 (kernelRun0_A.sl.HS0_28 c arg1 harg1 x0)) (wLoad arg2 harg2 x1) (sLoad arg3 harg3 arg8 x2) 0 := rfl

theorem stepA_1 (c : Dev nD) (arg1 : Memref sig .tc .vmem S256x3584 .bf16) (harg1 : arg1.IsWhole) (arg2 : Memref sig .tc .vmem S3x896x512 .i8) (harg2 : arg2.IsWhole) (arg3 : Memref sig .tc .vmem S112x512 .i8) (harg3 : arg3.IsWhole) (arg7 : Memref sig .tc .vmem S256x3584 .bf16) (arg8 : Memref sig .tc .vmem S112x512 .i32)
    (x0 : Vec F S256x3584 .bf16) (x1 : Vec F S3x896x512 .i8) (x2 : Vec F S112x512 .i8) :
    kernelRun0_A.sl.r_236 c arg1 harg1 arg2 harg2 arg3 harg3 arg7 arg8 x0 x1 x2 = addf (kernelRun0_A.sl.r_223 c arg1 harg1 arg2 harg2 arg3 harg3 arg7 arg8 x0 x1 x2) (prod (xLoadA arg7 (kernelRun0_A.sl.HS0_28 c arg1 harg1 x0)) (wLoad arg2 harg2 x1) (sLoad arg3 harg3 arg8 x2) 1) := rfl

theorem stepA_2 (c : Dev nD) (arg1 : Memref sig .tc .vmem S256x3584 .bf16) (harg1 : arg1.IsWhole) (arg2 : Memref sig .tc .vmem S3x896x512 .i8) (harg2 : arg2.IsWhole) (arg3 : Memref sig .tc .vmem S112x512 .i8) (harg3 : arg3.IsWhole) (arg7 : Memref sig .tc .vmem S256x3584 .bf16) (arg8 : Memref sig .tc .vmem S112x512 .i32)
    (x0 : Vec F S256x3584 .bf16) (x1 : Vec F S3x896x512 .i8) (x2 : Vec F S112x512 .i8) :
    kernelRun0_A.sl.r_249 c arg1 harg1 arg2 harg2 arg3 harg3 arg7 arg8 x0 x1 x2 = addf (kernelRun0_A.sl.r_236 c arg1 harg1 arg2 harg2 arg3 harg3 arg7 arg8 x0 x1 x2) (prod (xLoadA arg7 (kernelRun0_A.sl.HS0_28 c arg1 harg1 x0)) (wLoad arg2 harg2 x1) (sLoad arg3 harg3 arg8 x2) 2) := rfl

theorem stepA_3 (c : Dev nD) (arg1 : Memref sig .tc .vmem S256x3584 .bf16) (harg1 : arg1.IsWhole) (arg2 : Memref sig .tc .vmem S3x896x512 .i8) (harg2 : arg2.IsWhole) (arg3 : Memref sig .tc .vmem S112x512 .i8) (harg3 : arg3.IsWhole) (arg7 : Memref sig .tc .vmem S256x3584 .bf16) (arg8 : Memref sig .tc .vmem S112x512 .i32)
    (x0 : Vec F S256x3584 .bf16) (x1 : Vec F S3x896x512 .i8) (x2 : Vec F S112x512 .i8) :
    kernelRun0_A.sl.r_260 c arg1 harg1 arg2 harg2 arg3 harg3 arg7 arg8 x0 x1 x2 = addf (kernelRun0_A.sl.r_249 c arg1 harg1 arg2 harg2 arg3 harg3 arg7 arg8 x0 x1 x2) (prod (xLoadA arg7 (kernelRun0_A.sl.HS0_28 c arg1 harg1 x0)) (wLoad arg2 harg2 x1) (sLoad arg3 harg3 arg8 x2) 3) := rfl

theorem stepA_4 (c : Dev nD) (arg1 : Memref sig .tc .vmem S256x3584 .bf16) (harg1 : arg1.IsWhole) (arg2 : Memref sig .tc .vmem S3x896x512 .i8) (harg2 : arg2.IsWhole) (arg3 : Memref sig .tc .vmem S112x512 .i8) (harg3 : arg3.IsWhole) (arg7 : Memref sig .tc .vmem S256x3584 .bf16) (arg8 : Memref sig .tc .vmem S112x512 .i32)
    (x0 : Vec F S256x3584 .bf16) (x1 : Vec F S3x896x512 .i8) (x2 : Vec F S112x512 .i8) :
    kernelRun0_A.sl.r_269 c arg1 harg1 arg2 harg2 arg3 harg3 arg7 arg8 x0 x1 x2 = addf (kernelRun0_A.sl.r_260 c arg1 harg1 arg2 harg2 arg3 harg3 arg7 arg8 x0 x1 x2) (prod (xLoadA arg7 (kernelRun0_A.sl.HS0_28 c arg1 harg1 x0)) (wLoad arg2 harg2 x1) (sLoad arg3 harg3 arg8 x2) 4) := rfl

theorem stepA_5 (c : Dev nD) (arg1 : Memref sig .tc .vmem S256x3584 .bf16) (harg1 : arg1.IsWhole) (arg2 : Memref sig .tc .vmem S3x896x512 .i8) (harg2 : arg2.IsWhole) (arg3 : Memref sig .tc .vmem S112x512 .i8) (harg3 : arg3.IsWhole) (arg7 : Memref sig .tc .vmem S256x3584 .bf16) (arg8 : Memref sig .tc .vmem S112x512 .i32)
    (x0 : Vec F S256x3584 .bf16) (x1 : Vec F S3x896x512 .i8) (x2 : Vec F S112x512 .i8) :
    kernelRun0_A.sl.r_277 c arg1 harg1 arg2 harg2 arg3 harg3 arg7 arg8 x0 x1 x2 = addf (kernelRun0_A.sl.r_269 c arg1 harg1 arg2 harg2 arg3 harg3 arg7 arg8 x0 x1 x2) (prod (xLoadA arg7 (kernelRun0_A.sl.HS0_28 c arg1 harg1 x0)) (wLoad arg2 harg2 x1) (sLoad arg3 harg3 arg8 x2) 5) := rfl

theorem stepA_6 (c : Dev nD) (arg1 : Memref sig .tc .vmem S256x3584 .bf16) (harg1 : arg1.IsWhole) (arg2 : Memref sig .tc .vmem S3x896x512 .i8) (harg2 : arg2.IsWhole) (arg3 : Memref sig .tc .vmem S112x512 .i8) (harg3 : arg3.IsWhole) (arg7 : Memref sig .tc .vmem S256x3584 .bf16) (arg8 : Memref sig .tc .vmem S112x512 .i32)
    (x0 : Vec F S256x3584 .bf16) (x1 : Vec F S3x896x512 .i8) (x2 : Vec F S112x512 .i8) :
    kernelRun0_A.sl.r_285 c arg1 harg1 arg2 harg2 arg3 harg3 arg7 arg8 x0 x1 x2 = addf (kernelRun0_A.sl.r_277 c arg1 harg1 arg2 harg2 arg3 harg3 arg7 arg8 x0 x1 x2) (prod (xLoadA arg7 (kernelRun0_A.sl.HS0_28 c arg1 harg1 x0)) (wLoad arg2 harg2 x1) (sLoad arg3 harg3 arg8 x2) 6) := rfl

theorem stepA_7 (c : Dev nD) (arg1 : Memref sig .tc .vmem S256x3584 .bf16) (harg1 : arg1.IsWhole) (arg2 : Memref sig .tc .vmem S3x896x512 .i8) (harg2 : arg2.IsWhole) (arg3 : Memref sig .tc .vmem S112x512 .i8) (harg3 : arg3.IsWhole) (arg7 : Memref sig .tc .vmem S256x3584 .bf16) (arg8 : Memref sig .tc .vmem S112x512 .i32)
    (x0 : Vec F S256x3584 .bf16) (x1 : Vec F S3x896x512 .i8) (x2 : Vec F S112x512 .i8) :
    kernelRun0_A.sl.r_296 c arg1 harg1 arg2 harg2 arg3 harg3 arg7 arg8 x0 x1 x2 = addf (kernelRun0_A.sl.r_285 c arg1 harg1 arg2 harg2 arg3 harg3 arg7 arg8 x0 x1 x2) (prod (xLoadA arg7 (kernelRun0_A.sl.HS0_28 c arg1 harg1 x0)) (wLoad arg2 harg2 x1) (sLoad arg3 harg3 arg8 x2) 7) := rfl

theorem stepA_8 (c : Dev nD) (arg1 : Memref sig .tc .vmem S256x3584 .bf16) (harg1 : arg1.IsWhole) (arg2 : Memref sig .tc .vmem S3x896x512 .i8) (harg2 : arg2.IsWhole) (arg3 : Memref sig .tc .vmem S112x512 .i8) (harg3 : arg3.IsWhole) (arg7 : Memref sig .tc .vmem S256x3584 .bf16) (arg8 : Memref sig .tc .vmem S112x512 .i32)
    (x0 : Vec F S256x3584 .bf16) (x1 : Vec F S3x896x512 .i8) (x2 : Vec F S112x512 .i8) :
    kernelRun0_A.sl.r_317 c arg1 harg1 arg2 harg2 arg3 harg3 arg7 arg8 x0 x1 x2 = addf (kernelRun0_A.sl.r_296 c arg1 harg1 arg2 harg2 arg3 harg3 arg7 arg8 x0 x1 x2) (prod (xLoadA arg7 (kernelRun0_A.sl.HS0_28 c arg1 harg1 x0)) (wLoad arg2 harg2 x1) (sLoad arg3 harg3 arg8 x2) 8) := rfl

theorem stepA_9 (c : Dev nD) (arg1 : Memref sig .tc .vmem S256x3584 .bf16) (harg1 : arg1.IsWhole) (arg2 : Memref sig .tc .vmem S3x896x512 .i8) (harg2 : arg2.IsWhole) (arg3 : Memref sig .tc .vmem S112x512 .i8) (harg3 : arg3.IsWhole) (arg7 : Memref sig .tc .vmem S256x3584 .bf16) (arg8 : Memref sig .tc .vmem S112x512 .i32)
    (x0 : Vec F S256x3584 .bf16) (x1 : Vec F S3x896x512 .i8) (x2 : Vec F S112x512 .i8) :
    kernelRun0_A.sl.r_338 c arg1 harg1 arg2 harg2 arg3 harg3 arg7 arg8 x0 x1 x2 = addf (kernelRun0_A.sl.r_317 c arg1 harg1 arg2 harg2 arg3 harg3 arg7 arg8 x0 x1 x2) (prod (xLoadA arg7 (kernelRun0_A.sl.HS0_28 c arg1 harg1 x0)) (wLoad arg2 harg2 x1) (sLoad arg3 harg3 arg8 x2) 9) := rfl

theorem stepA_10 (c : Dev nD) (arg1 : Memref sig .tc .vmem S256x3584 .bf16) (harg1 : arg1.IsWhole) (arg2 : Memref sig .tc .vmem S3x896x512 .i8) (harg2 : arg2.IsWhole) (arg3 : Memref sig .tc .vmem S112x512 .i8) (harg3 : arg3.IsWhole) (arg7 : Memref sig .tc .vmem S256x3584 .bf16) (arg8 : Memref sig .tc .vmem S112x512 .i32)
    (x0 : Vec F S256x3584 .bf16) (x1 : Vec F S3x896x512 .i8) (x2 : Vec F S112x512 .i8) :
    kernelRun0_A.sl.r_362 c arg1 harg1 arg2 harg2 arg3 harg3 arg7 arg8 x0 x1 x2 = addf (kernelRun0_A.sl.r_338 c arg1 harg1 arg2 harg2 arg3 harg3 arg7 arg8 x0 x1 x2) (prod (xLoadA arg7 (kernelRun0_A.sl.HS0_28 c arg1 harg1 x0)) (wLoad arg2 harg2 x1) (sLoad arg3 harg3 arg8 x2) 10) := rfl

theorem stepA_11 (c : Dev nD) (arg1 : Memref sig .tc .vmem S256x3584 .bf16) (harg1 : arg1.IsWhole) (arg2 : Memref sig .tc .vmem S3x896x512 .i8) (harg2 : arg2.IsWhole) (arg3 : Memref sig .tc .vmem S112x512 .i8) (harg3 : arg3.IsWhole) (arg7 : Memref sig .tc .vmem S256x3584 .bf16) (arg8 : Memref sig .tc .vmem S112x512 .i32)
    (x0 : Vec F S256x3584 .bf16) (x1 : Vec F S3x896x512 .i8) (x2 : Vec F S112x512 .i8) :
    kernelRun0_A.sl.r_387 c arg1 harg1 arg2 harg2 arg3 harg3 arg7 arg8 x0 x1 x2 = addf (kernelRun0_A.sl.r_362 c arg1 harg1 arg2 harg2 arg3 harg3 arg7 arg8 x0 x1 x2) (prod (xLoadA arg7 (kernelRun0_A.sl.HS0_28 c arg1 harg1 x0)) (wLoad arg2 harg2 x1) (sLoad arg3 harg3 arg8 x2) 11) := rfl

theorem stepA_12 (c : Dev nD) (arg1 : Memref sig .tc .vmem S256x3584 .bf16) (harg1 : arg1.IsWhole) (arg2 : Memref sig .tc .vmem S3x896x512 .i8) (harg2 : arg2.IsWhole) (arg3 : Memref sig .tc .vmem S112x512 .i8) (harg3 : arg3.IsWhole) (arg7 : Memref sig .tc .vmem S256x3584 .bf16) (arg8 : Memref sig .tc .vmem S112x512 .i32)
    (x0 : Vec F S256x3584 .bf16) (x1 : Vec F S3x896x512 .i8) (x2 : Vec F S112x512 .i8) :
    kernelRun0_A.sl.r_408 c arg1 harg1 arg2 harg2 arg3 harg3 arg7 arg8 x0 x1 x2 = addf (kernelRun0_A.sl.r_387 c arg1 harg1 arg2 harg2 arg3 harg3 arg7 arg8 x0 x1 x2) (prod (xLoadA arg7 (kernelRun0_A.sl.HS0_28 c arg1 harg1 x0)) (wLoad arg2 harg2 x1) (sLoad arg3 harg3 arg8 x2) 12) := rfl

/-- The block of the result stored at the first grid point. -/
theorem pieces_A (c : Dev nD) (i : grid0.Coords) (arg1 : Memref sig .tc .vmem S256x3584 .bf16) (harg1 : arg1.IsWhole) (arg2 : Memref sig .tc .vmem S3x896x512 .i8) (harg2 : arg2.IsWhole) (arg3 : Memref sig .tc .vmem S112x512 .i8) (harg3 : arg3.IsWhole) (arg4 : Memref sig .tc .vmem S256x512 .bf16) (harg4 : arg4.IsWhole) (arg5 : Memref sig .tc .vmem S256x3584 .fp8e4m3) (harg5 : arg5.IsWhole) (arg6 : Memref sig .tc .vmem S256x112 .i8) (harg6 : arg6.IsWhole) (arg7 : Memref sig .tc .vmem S256x3584 .bf16) (harg7 : arg7.IsWhole) (arg8 : Memref sig .tc .vmem S112x512 .i32) (harg8 : arg8.IsWhole) (hc0 : cond0_0 i)
    (x0 : Vec F S256x3584 .bf16) (x1 : Vec F S3x896x512 .i8) (x2 : Vec F S112x512 .i8) :
    (kernelRun0_A c i arg1 harg1 arg2 harg2 arg3 harg3 arg4 harg4 arg5 harg5 arg6 harg6 arg7 harg7 arg8 harg8 hc0 x0 x1 x2).1 = [⟨Rect.unit (s := S256x512) ![0, 0] S256x512.size inb_S256x512_S256x512_0_0, acc (xLoadA arg7 (kernelRun0_A.sl.HS0_28 c arg1 harg1 x0)) (wLoad arg2 harg2 x1) (sLoad arg3 harg3 arg8 x2)⟩] := by
  unfold acc
  rw [← stepA_0 c]
  rw [← stepA_1 c]
  rw [← stepA_2 c]
  rw [← stepA_3 c]
  rw [← stepA_4 c]
  rw [← stepA_5 c]
  rw [← stepA_6 c]
  rw [← stepA_7 c]
  rw [← stepA_8 c]
  rw [← stepA_9 c]
  rw [← stepA_10 c]
  rw [← stepA_11 c]
  rw [← stepA_12 c]
  rfl

theorem codes_A' (c : Dev nD) (i : grid0.Coords) (arg1 : Memref sig .tc .vmem S256x3584 .bf16) (harg1 : arg1.IsWhole) (arg2 : Memref sig .tc .vmem S3x896x512 .i8) (harg2 : arg2.IsWhole) (arg3 : Memref sig .tc .vmem S112x512 .i8) (harg3 : arg3.IsWhole) (arg4 : Memref sig .tc .vmem S256x512 .bf16) (harg4 : arg4.IsWhole) (arg5 : Memref sig .tc .vmem S256x3584 .fp8e4m3) (harg5 : arg5.IsWhole) (arg6 : Memref sig .tc .vmem S256x112 .i8) (harg6 : arg6.IsWhole) (arg7 : Memref sig .tc .vmem S256x3584 .bf16) (harg7 : arg7.IsWhole) (arg8 : Memref sig .tc .vmem S112x512 .i32) (harg8 : arg8.IsWhole) (hc0 : cond0_0 i)
    (x0 : Vec F S256x3584 .bf16) (x1 : Vec F S3x896x512 .i8) (x2 : Vec F S112x512 .i8) :
    (kernelRun0_A c i arg1 harg1 arg2 harg2 arg3 harg3 arg4 harg4 arg5 harg5 arg6 harg6 arg7 harg7 arg8 harg8 hc0 x0 x1 x2).2.1 = codePieces (cLoad arg1 harg1 x0) (kernelRun0_A.sl.r_71 c arg1 harg1 x0) := rfl

theorem scales_A' (c : Dev nD) (i : grid0.Coords) (arg1 : Memref sig .tc .vmem S256x3584 .bf16) (harg1 : arg1.IsWhole) (arg2 : Memref sig .tc .vmem S3x896x512 .i8) (harg2 : arg2.IsWhole) (arg3 : Memref sig .tc .vmem S112x512 .i8) (harg3 : arg3.IsWhole) (arg4 : Memref sig .tc .vmem S256x512 .bf16) (harg4 : arg4.IsWhole) (arg5 : Memref sig .tc .vmem S256x3584 .fp8e4m3) (harg5 : arg5.IsWhole) (arg6 : Memref sig .tc .vmem S256x112 .i8) (harg6 : arg6.IsWhole) (arg7 : Memref sig .tc .vmem S256x3584 .bf16) (harg7 : arg7.IsWhole) (arg8 : Memref sig .tc .vmem S112x512 .i32) (harg8 : arg8.IsWhole) (hc0 : cond0_0 i)
    (x0 : Vec F S256x3584 .bf16) (x1 : Vec F S3x896x512 .i8) (x2 : Vec F S112x512 .i8) :
    (kernelRun0_A c i arg1 harg1 arg2 harg2 arg3 harg3 arg4 harg4 arg5 harg5 arg6 harg6 arg7 harg7 arg8 harg8 hc0 x0 x1 x2).2.2.1 = [⟨Rect.unit (s := S256x112) ![0, 0] S256x112.size inb_S256x112_S256x112_0_0, scalesOf (kernelRun0_A.sl.r_71 c arg1 harg1 x0)⟩] := rfl

theorem xd_A' (c : Dev nD) (i : grid0.Coords) (arg1 : Memref sig .tc .vmem S256x3584 .bf16) (harg1 : arg1.IsWhole) (arg2 : Memref sig .tc .vmem S3x896x512 .i8) (harg2 : arg2.IsWhole) (arg3 : Memref sig .tc .vmem S112x512 .i8) (harg3 : arg3.IsWhole) (arg4 : Memref sig .tc .vmem S256x512 .bf16) (harg4 : arg4.IsWhole) (arg5 : Memref sig .tc .vmem S256x3584 .fp8e4m3) (harg5 : arg5.IsWhole) (arg6 : Memref sig .tc .vmem S256x112 .i8) (harg6 : arg6.IsWhole) (arg7 : Memref sig .tc .vmem S256x3584 .bf16) (harg7 : arg7.IsWhole) (arg8 : Memref sig .tc .vmem S112x512 .i32) (harg8 : arg8.IsWhole) (hc0 : cond0_0 i)
    (x0 : Vec F S256x3584 .bf16) (x1 : Vec F S3x896x512 .i8) (x2 : Vec F S112x512 .i8) :
    (kernelRun0_A c i arg1 harg1 arg2 harg2 arg3 harg3 arg4 harg4 arg5 harg5 arg6 harg6 arg7 harg7 arg8 harg8 hc0 x0 x1 x2).2.2.2.1 = kernelRun0_A.sl.HS0_28 c arg1 harg1 x0 := rfl

/-- The scaled activations, as stored. -/
def xdOf (x0 : Vec F S256x3584 .bf16) : Vec F S256x3584 .bf16 := View.canon (xdPieces (cRead x0) (expWords (cRead x0)))

theorem out_A_3 (c : Dev nD) (i : grid0.Coords) (arg1 : Memref sig .tc .vmem S256x3584 .bf16) (harg1 : arg1.IsWhole) (arg2 : Memref sig .tc .vmem S3x896x512 .i8) (harg2 : arg2.IsWhole) (arg3 : Memref sig .tc .vmem S112x512 .i8) (harg3 : arg3.IsWhole) (arg4 : Memref sig .tc .vmem S256x512 .bf16) (harg4 : arg4.IsWhole) (arg5 : Memref sig .tc .vmem S256x3584 .fp8e4m3) (harg5 : arg5.IsWhole) (arg6 : Memref sig .tc .vmem S256x112 .i8) (harg6 : arg6.IsWhole) (arg7 : Memref sig .tc .vmem S256x3584 .bf16) (harg7 : arg7.IsWhole) (arg8 : Memref sig .tc .vmem S112x512 .i32) (harg8 : arg8.IsWhole) (hc0 : cond0_0 i)
    (x0 : Vec F S256x3584 .bf16) (x1 : Vec F S3x896x512 .i8) (x2 : Vec F S112x512 .i8) :
    out0_A_3 c i arg1 harg1 arg2 harg2 arg3 harg3 arg4 harg4 arg5 harg5 arg6 harg6 arg7 harg7 arg8 harg8 hc0 x0 x1 x2 = acc (xRead (xdOf x0)) (wRead x1) (sRead x2) := by
  unfold out0_A_3 xdOf
  rw [pieces_A, View.read_writes_junk_eq_canon, View.canon_cons_unit_lit' _ _ _ (by decide), xLoadA_eq, xdA, cLoad_eq, wLoad_eq, sLoad_eq]

theorem out_A_4 (c : Dev nD) (i : grid0.Coords) (arg1 : Memref sig .tc .vmem S256x3584 .bf16) (harg1 : arg1.IsWhole) (arg2 : Memref sig .tc .vmem S3x896x512 .i8) (harg2 : arg2.IsWhole) (arg3 : Memref sig .tc .vmem S112x512 .i8) (harg3 : arg3.IsWhole) (arg4 : Memref sig .tc .vmem S256x512 .bf16) (harg4 : arg4.IsWhole) (arg5 : Memref sig .tc .vmem S256x3584 .fp8e4m3) (harg5 : arg5.IsWhole) (arg6 : Memref sig .tc .vmem S256x112 .i8) (harg6 : arg6.IsWhole) (arg7 : Memref sig .tc .vmem S256x3584 .bf16) (harg7 : arg7.IsWhole) (arg8 : Memref sig .tc .vmem S112x512 .i32) (harg8 : arg8.IsWhole) (hc0 : cond0_0 i)
    (x0 : Vec F S256x3584 .bf16) (x1 : Vec F S3x896x512 .i8) (x2 : Vec F S112x512 .i8) :
    out0_A_4 c i arg1 harg1 arg2 harg2 arg3 harg3 arg4 harg4 arg5 harg5 arg6 harg6 arg7 harg7 arg8 harg8 hc0 x0 x1 x2 = View.canon (codePieces (cRead x0) (expWords (cRead x0))) := by
  unfold out0_A_4
  rw [codes_A', View.read_writes_junk_eq_canon, expA, cLoad_eq]

theorem out_A_5 (c : Dev nD) (i : grid0.Coords) (arg1 : Memref sig .tc .vmem S256x3584 .bf16) (harg1 : arg1.IsWhole) (arg2 : Memref sig .tc .vmem S3x896x512 .i8) (harg2 : arg2.IsWhole) (arg3 : Memref sig .tc .vmem S112x512 .i8) (harg3 : arg3.IsWhole) (arg4 : Memref sig .tc .vmem S256x512 .bf16) (harg4 : arg4.IsWhole) (arg5 : Memref sig .tc .vmem S256x3584 .fp8e4m3) (harg5 : arg5.IsWhole) (arg6 : Memref sig .tc .vmem S256x112 .i8) (harg6 : arg6.IsWhole) (arg7 : Memref sig .tc .vmem S256x3584 .bf16) (harg7 : arg7.IsWhole) (arg8 : Memref sig .tc .vmem S112x512 .i32) (harg8 : arg8.IsWhole) (hc0 : cond0_0 i)
    (x0 : Vec F S256x3584 .bf16) (x1 : Vec F S3x896x512 .i8) (x2 : Vec F S112x512 .i8) :
    out0_A_5 c i arg1 harg1 arg2 harg2 arg3 harg3 arg4 harg4 arg5 harg5 arg6 harg6 arg7 harg7 arg8 harg8 hc0 x0 x1 x2 = scalesOf (expWords (cRead x0)) := by
  unfold out0_A_5
  rw [scales_A', View.read_writes_junk_eq_canon, View.canon_cons_unit_lit' _ _ _ (by decide), expA, cLoad_eq]

theorem sout_A (c : Dev nD) (i : grid0.Coords) (arg1 : Memref sig .tc .vmem S256x3584 .bf16) (harg1 : arg1.IsWhole) (arg2 : Memref sig .tc .vmem S3x896x512 .i8) (harg2 : arg2.IsWhole) (arg3 : Memref sig .tc .vmem S112x512 .i8) (harg3 : arg3.IsWhole) (arg4 : Memref sig .tc .vmem S256x512 .bf16) (harg4 : arg4.IsWhole) (arg5 : Memref sig .tc .vmem S256x3584 .fp8e4m3) (harg5 : arg5.IsWhole) (arg6 : Memref sig .tc .vmem S256x112 .i8) (harg6 : arg6.IsWhole) (arg7 : Memref sig .tc .vmem S256x3584 .bf16) (harg7 : arg7.IsWhole) (arg8 : Memref sig .tc .vmem S112x512 .i32) (harg8 : arg8.IsWhole) (hc0 : cond0_0 i)
    (x0 : Vec F S256x3584 .bf16) (x1 : Vec F S3x896x512 .i8) (x2 : Vec F S112x512 .i8) :
    sout0_A_0 c i arg1 harg1 arg2 harg2 arg3 harg3 arg4 harg4 arg5 harg5 arg6 harg6 arg7 harg7 arg8 harg8 hc0 x0 x1 x2 = xdOf x0 := by
  unfold sout0_A_0 xdOf
  rw [xd_A', View.read_writes_junk_eq_canon, xdA, cLoad_eq]

end Cert.KernelIdeal.Hand
end
-- ==== Proof.WordBits.lean ====
/- Words of four bytes: each byte of the decoder's word arithmetic, and the six-bit field it encodes. -/
module

public import Idealize.ShloMosaic.Lib.PackedFields
public import Idealize.ShloMosaic.Lib.BitcastFour
public import Idealize.ShloMosaic.PureOps.Ideal.Laws

@[expose] public section

set_option maxRecDepth 16384

noncomputable section

namespace Cert.KernelIdeal.Hand

open Idealize.ShloMosaic

/-- Byte `i` of a word, the lowest first. -/
def byte (i : ℕ) (w : BitVec 32) : BitVec 8 := w.extractLsb' (8 * i) 8

theorem byte_and (i : ℕ) (a b : BitVec 32) : byte i (a &&& b) = byte i a &&& byte i b := by
  apply BitVec.eq_of_getLsbD_eq; intro q hq; simp [byte, hq]

theorem byte_or (i : ℕ) (a b : BitVec 32) : byte i (a ||| b) = byte i a ||| byte i b := by
  apply BitVec.eq_of_getLsbD_eq; intro q hq; simp [byte, hq]

theorem byte_toNat (i : ℕ) (w : BitVec 32) : (byte i w).toNat = w.toNat / 2 ^ (8 * i) % 256 := by
  simp [byte, BitVec.extractLsb'_toNat, Nat.shiftRight_eq_div_pow]

theorem field_byte (i : ℕ) (w : BitVec 32) : Idealize.ShloMosaic.PackedFields.field 8 i w.toNat = (byte i w).toNat := by
  rw [byte_toNat, Idealize.ShloMosaic.PackedFields.field_eq_div]
  rfl

/-- Bytes added without a carry between them. -/
theorem byte_add (a b : BitVec 32) (h : ∀ k < 4, (byte k a).toNat + (byte k b).toNat < 256) (i : ℕ) (hi : i < 4) :
    byte i (a + b) = byte i a + byte i b := by
  apply BitVec.eq_of_toNat_eq
  have := PackedFields.field_addi (N := 32) (w := 8) (n := 4) rfl a b (by intro k hk; simp only [field_byte]; exact h k hk) i hi
  simp only [field_byte] at this
  rw [BitVec.toNat_add, Nat.mod_eq_of_lt (h i hi)]
  exact this

/-- The bits of an fp8 number that hold a six-bit code: sign, three exponent bits, two bits of the significand. -/
def enc (c : BitVec 32) : BitVec 8 := ((c &&& 31#32) <<< 1 ||| (c >>> 5) <<< 7).setWidth 8

/-- The four six-bit codes of three bytes, as the reference takes them. -/
def code0 (b0 : BitVec 8) : BitVec 32 := IntOp.andi (b0.setWidth 32) 63#32
def code1 (b0 b1 : BitVec 8) : BitVec 32 :=
  IntOp.ori (IntOp.shrsi .host (b0.setWidth 32) 6#32) (IntOp.shli .host (IntOp.andi (b1.setWidth 32) 15#32) 2#32)
def code2 (b1 b2 : BitVec 8) : BitVec 32 :=
  IntOp.ori (IntOp.shrsi .host (b1.setWidth 32) 4#32) (IntOp.shli .host (IntOp.andi (b2.setWidth 32) 3#32) 4#32)
def code3 (b2 : BitVec 8) : BitVec 32 := IntOp.shrsi .host (b2.setWidth 32) 2#32

theorem enc0 : ∀ b : BitVec 8, (((b &&& 63#8) + 32#8) <<< 1) &&& 190#8 = enc (code0 b) := by decide +kernel

theorem enc3 : ∀ b : BitVec 8, (b >>> 1) &&& 62#8 ||| b &&& 128#8 = enc (code3 b) := by decide +kernel

theorem enc1 (b0 b1 : BitVec 8) : (((b0 >>> 5) &&& 6#8 ||| (b1 <<< 3) &&& 120#8) + 64#8) &&& 190#8 = enc (code1 b0 b1) := by
  have h0 : ∀ b : BitVec 8, ∃ u : BitVec 2, (b >>> 5) &&& 6#8 = u.setWidth 8 <<< 1 ∧ IntOp.shrsi .host (b.setWidth 32) 6#32 = u.setWidth 32 := by
    decide +kernel
  have h1 : ∀ b : BitVec 8, ∃ t : BitVec 4, (b <<< 3) &&& 120#8 = t.setWidth 8 <<< 3 ∧ IntOp.andi (b.setWidth 32) 15#32 = t.setWidth 32 := by
    decide +kernel
  obtain ⟨u, hu, hu'⟩ := h0 b0
  obtain ⟨t, ht, ht'⟩ := h1 b1
  rw [code1, hu, hu', ht, ht']
  clear hu hu' ht ht'
  revert u t
  decide +kernel

theorem enc2 (b1 b2 : BitVec 8) : (((b1 >>> 3) &&& 30#8 ||| (b2 <<< 5) &&& 96#8) + 64#8) &&& 190#8 = enc (code2 b1 b2) := by
  have h0 : ∀ b : BitVec 8, ∃ u : BitVec 4, (b >>> 3) &&& 30#8 = u.setWidth 8 <<< 1 ∧ IntOp.shrsi .host (b.setWidth 32) 4#32 = u.setWidth 32 := by
    decide +kernel
  have h1 : ∀ b : BitVec 8, ∃ t : BitVec 2, (b <<< 5) &&& 96#8 = t.setWidth 8 <<< 5 ∧ IntOp.andi (b.setWidth 32) 3#32 = t.setWidth 32 := by
    decide +kernel
  obtain ⟨u, hu, hu'⟩ := h0 b1
  obtain ⟨t, ht, ht'⟩ := h1 b2
  rw [code2, hu, hu', ht, ht']
  clear hu hu' ht ht'
  revert u t
  decide +kernel

theorem byte_shr (n m : ℕ) (w : BitVec 32) (i : ℕ) (hi : i < 4) (mw : BitVec 32) (mb : BitVec 8) (hm : byte i mw = mb)
    (h : ∀ q < 8, mb.getLsbD q = true → q + n < 8) : byte i ((w >>> n) &&& mw) = (byte i w >>> n) &&& mb := by
  rw [byte_and, hm]
  apply BitVec.eq_of_getLsbD_eq
  intro q hq
  simp only [BitVec.getLsbD_and]
  cases hb : mb.getLsbD q with
  | false => simp
  | true =>
    have := h q hq hb
    have e : 8 * i + q < 32 := by omega
    have e1 : n + q < 8 := by omega
    have e6 : n + (8 * i + q) = 8 * i + (n + q) := by omega
    simp [byte, hq, e1, e6]

theorem byte_shl (n : ℕ) (w : BitVec 32) (i : ℕ) (hi : i < 4) (mw : BitVec 32) (mb : BitVec 8) (hm : byte i mw = mb)
    (h : ∀ q < 8, mb.getLsbD q = true → n ≤ q) : byte i ((w <<< n) &&& mw) = (byte i w <<< n) &&& mb := by
  rw [byte_and, hm]
  apply BitVec.eq_of_getLsbD_eq
  intro q hq
  simp only [BitVec.getLsbD_and]
  cases hb : mb.getLsbD q with
  | false => simp
  | true =>
    have := h q hq hb
    have e : 8 * i + q < 32 := by omega
    have e2 : ¬ (8 * i + q < n) := by omega
    have e3 : 8 * i + q - n = 8 * i + (q - n) := by omega
    have e4 : q - n < 8 := by omega
    have e5 : ¬ q < n := by omega
    simp [byte, hq, e, e2, e3, e4, e5]
    rw [BitVec.getLsbD_eq_getElem]

theorem byte_const (v : BitVec 32) (b : BitVec 8) (h : byte 0 v = b ∧ byte 1 v = b ∧ byte 2 v = b ∧ byte 3 v = b) (i : ℕ) (hi : i < 4) : byte i v = b := by
  obtain ⟨h0, h1, h2, h3⟩ := h
  match i, hi with
  | 0, _ => exact h0
  | 1, _ => exact h1
  | 2, _ => exact h2
  | 3, _ => exact h3

theorem word0 (w : BitVec 32) (i : ℕ) (hi : i < 4) :
    byte i ((((w &&& 1061109567#32) + 538976288#32) <<< 1) &&& 3200171710#32) = enc (code0 (byte i w)) := by
  rw [byte_shl 1 _ i hi _ 190#8 (byte_const _ _ (by decide) i hi) (by decide), byte_add _ _ _ i hi, byte_and,
    byte_const 1061109567#32 63#8 (by decide) i hi, byte_const 538976288#32 32#8 (by decide) i hi, enc0]
  intro k hk
  rw [byte_and, byte_const 1061109567#32 63#8 (by decide) k hk, byte_const 538976288#32 32#8 (by decide) k hk]
  generalize byte k w = b
  revert b
  decide +kernel

theorem word1 (w0 w1 : BitVec 32) (i : ℕ) (hi : i < 4) :
    byte i ((((w0 >>> 5) &&& 101058054#32 ||| (w1 <<< 3) &&& 2021161080#32) + 1077952576#32) &&& 3200171710#32)
      = enc (code1 (byte i w0) (byte i w1)) := by
  have e : ∀ k < 4, byte k ((w0 >>> 5) &&& 101058054#32 ||| (w1 <<< 3) &&& 2021161080#32)
      = ((byte k w0 >>> 5) &&& 6#8 ||| (byte k w1 <<< 3) &&& 120#8) := fun k hk => by
    rw [byte_or, byte_shr 5 0 _ k hk _ 6#8 (byte_const _ _ (by decide) k hk) (by decide),
      byte_shl 3 _ k hk _ 120#8 (byte_const _ _ (by decide) k hk) (by decide)]
  rw [byte_and, byte_add _ _ _ i hi, e i hi, byte_const 3200171710#32 190#8 (by decide) i hi,
    byte_const 1077952576#32 64#8 (by decide) i hi, enc1]
  intro k hk
  rw [e k hk, byte_const 1077952576#32 64#8 (by decide) k hk]
  have h0 : ∀ b : BitVec 8, ∃ u : BitVec 2, (b >>> 5) &&& 6#8 = u.setWidth 8 <<< 1 := by decide +kernel
  have h1 : ∀ b : BitVec 8, ∃ t : BitVec 4, (b <<< 3) &&& 120#8 = t.setWidth 8 <<< 3 := by decide +kernel
  obtain ⟨u, hu⟩ := h0 (byte k w0)
  obtain ⟨t, ht⟩ := h1 (byte k w1)
  rw [hu, ht]
  clear hu ht
  revert u t
  decide +kernel

theorem word2 (w1 w2 : BitVec 32) (i : ℕ) (hi : i < 4) :
    byte i ((((w1 >>> 3) &&& 505290270#32 ||| (w2 <<< 5) &&& 1616928864#32) + 1077952576#32) &&& 3200171710#32)
      = enc (code2 (byte i w1) (byte i w2)) := by
  have e : ∀ k < 4, byte k ((w1 >>> 3) &&& 505290270#32 ||| (w2 <<< 5) &&& 1616928864#32)
      = ((byte k w1 >>> 3) &&& 30#8 ||| (byte k w2 <<< 5) &&& 96#8) := fun k hk => by
    rw [byte_or, byte_shr 3 0 _ k hk _ 30#8 (byte_const _ _ (by decide) k hk) (by decide),
      byte_shl 5 _ k hk _ 96#8 (byte_const _ _ (by decide) k hk) (by decide)]
  rw [byte_and, byte_add _ _ _ i hi, e i hi, byte_const 3200171710#32 190#8 (by decide) i hi,
    byte_const 1077952576#32 64#8 (by decide) i hi, enc2]
  intro k hk
  rw [e k hk, byte_const 1077952576#32 64#8 (by decide) k hk]
  have h0 : ∀ b : BitVec 8, ∃ u : BitVec 4, (b >>> 3) &&& 30#8 = u.setWidth 8 <<< 1 := by decide +kernel
  have h1 : ∀ b : BitVec 8, ∃ t : BitVec 2, (b <<< 5) &&& 96#8 = t.setWidth 8 <<< 5 := by decide +kernel
  obtain ⟨u, hu⟩ := h0 (byte k w1)
  obtain ⟨t, ht⟩ := h1 (byte k w2)
  rw [hu, ht]
  clear hu ht
  revert u t
  decide +kernel

theorem word3 (w2 : BitVec 32) (i : ℕ) (hi : i < 4) :
    byte i ((w2 >>> 1) &&& 1044266558#32 ||| w2 &&& 2155905152#32) = enc (code3 (byte i w2)) := by
  rw [byte_or, byte_shr 1 0 _ i hi _ 62#8 (byte_const _ _ (by decide) i hi) (by decide), byte_and,
    byte_const 2155905152#32 128#8 (by decide) i hi, enc3]

theorem code0_lt : ∀ b : BitVec 8, (code0 b).toNat < 64 := by decide +kernel
theorem code3_lt : ∀ b : BitVec 8, (code3 b).toNat < 64 := by decide +kernel
theorem code1_lt (b0 b1 : BitVec 8) : (code1 b0 b1).toNat < 64 := by
  have h0 : ∀ b : BitVec 8, ∃ u : BitVec 2, IntOp.shrsi .host (b.setWidth 32) 6#32 = u.setWidth 32 := by decide +kernel
  have h1 : ∀ b : BitVec 8, ∃ t : BitVec 4, IntOp.andi (b.setWidth 32) 15#32 = t.setWidth 32 := by decide +kernel
  obtain ⟨u, hu⟩ := h0 b0
  obtain ⟨t, ht⟩ := h1 b1
  rw [code1, hu, ht]
  clear hu ht
  revert u t
  decide +kernel
theorem code2_lt (b1 b2 : BitVec 8) : (code2 b1 b2).toNat < 64 := by
  have h0 : ∀ b : BitVec 8, ∃ u : BitVec 4, IntOp.shrsi .host (b.setWidth 32) 4#32 = u.setWidth 32 := by decide +kernel
  have h1 : ∀ b : BitVec 8, ∃ t : BitVec 2, IntOp.andi (b.setWidth 32) 3#32 = t.setWidth 32 := by decide +kernel
  obtain ⟨u, hu⟩ := h0 b1
  obtain ⟨t, ht⟩ := h1 b2
  rw [code2, hu, ht]
  clear hu ht
  revert u t
  decide +kernel

end Cert.KernelIdeal.Hand
end
-- ==== Proof.Narrow.lean ====
/- Rows read at another width, at rank 2: two 16-bit rows of a 32-bit word, four 8-bit rows of one. -/
module

public import Idealize.ShloMosaic.Lib.BitcastFour
public import Idealize.ShloMosaic.Lib.ValueIdx
public import proofs.«01_k».proof.Proof.WordBits

@[expose] public section

noncomputable section

namespace Cert.KernelIdeal.Hand

open Idealize.ShloMosaic Idealize.ShloMosaic.ValueIdx

/-- A bit read at another width: row `a` of the result at bit `q` is bit `(a w + q) % v` of source row `(a w + q) / v`. -/
theorem bitcast_bit {v w R r n : ℕ} (x : (⟨2, ![R, n]⟩ : Shape).Idx → BitVec v)
    (h : (⟨2, ![R, n]⟩ : Shape).Bitcasts v ⟨2, ![r, n]⟩ w) (a : Fin r) (l : Fin n) (q : ℕ) (hq : q < w) (hv : 0 < v) (p : Fin R)
    (hp : p.val = (a.val * w + q) / v) :
    (bitcast ⟨2, ![r, n]⟩ w x h (ix2 a l)).getLsbD q = (x (ix2 p l)).getLsbD ((a.val * w + q) % v) := by
  rw [bitcast_getLsbD x h _ q hq hv]
  congr 2
  funext c
  match c with
  | ⟨0, _⟩ => exact Fin.ext ((h.srcIdx_row _ _ _ ⟨0, Nat.zero_lt_two⟩ rfl).trans hp.symm)
  | ⟨1, _⟩ => exact Fin.ext (h.srcIdx_other _ _ _ ⟨1, Nat.one_lt_two⟩ (by show ¬ 1 + 2 = 2; omega))

/-- A byte row of words. -/
theorem bitcast_byte {R r n : ℕ} (x : (⟨2, ![R, n]⟩ : Shape).Idx → BitVec 32)
    (h : (⟨2, ![R, n]⟩ : Shape).Bitcasts 32 ⟨2, ![r, n]⟩ 8) (a : Fin r) (l : Fin n) (p : Fin R) (hp : p.val = a.val / 4) :
    bitcast ⟨2, ![r, n]⟩ 8 x h (ix2 a l) = byte (a.val % 4) (x (ix2 p l)) := by
  apply BitVec.eq_of_getLsbD_eq
  intro q hq
  rw [bitcast_bit x h a l q hq (by decide) p (by omega)]
  have e : (a.val * 8 + q) % 32 = 8 * (a.val % 4) + q := by omega
  simp [byte, hq, e]

/-- A byte of the word four rows make. -/
theorem byte_bitcast {R r n : ℕ} (x : (⟨2, ![R, n]⟩ : Shape).Idx → BitVec 8)
    (h : (⟨2, ![R, n]⟩ : Shape).Bitcasts 8 ⟨2, ![r, n]⟩ 32) (a : Fin r) (l : Fin n) (i : ℕ) (hi : i < 4) (p : Fin R) (hp : p.val = 4 * a.val + i) :
    byte i (bitcast ⟨2, ![r, n]⟩ 32 x h (ix2 a l)) = x (ix2 p l) := by
  apply BitVec.eq_of_getLsbD_eq
  intro q hq
  have e : (a.val * 32 + (8 * i + q)) % 8 = q := by omega
  simp only [byte, BitVec.getLsbD_extractLsb', hq, decide_true, Bool.true_and]
  rw [bitcast_bit x h a l (8 * i + q) (by omega) (by decide) p (by omega), e]

/-- A half row of words. -/
theorem bitcast_half {R r n : ℕ} (x : (⟨2, ![R, n]⟩ : Shape).Idx → BitVec 32)
    (h : (⟨2, ![R, n]⟩ : Shape).Bitcasts 32 ⟨2, ![r, n]⟩ 16) (a : Fin r) (l : Fin n) (p : Fin R) (hp : p.val = a.val / 2) :
    (bitcast ⟨2, ![r, n]⟩ 16 x h (ix2 a l)).toNat = (x (ix2 p l)).toNat / 65536 ^ (a.val % 2) % 65536 := by
  have : bitcast ⟨2, ![r, n]⟩ 16 x h (ix2 a l) = (x (ix2 p l)).extractLsb' (16 * (a.val % 2)) 16 := by
    apply BitVec.eq_of_getLsbD_eq
    intro q hq
    rw [bitcast_bit x h a l q hq (by decide) p (by omega)]
    have e : (a.val * 16 + q) % 32 = 16 * (a.val % 2) + q := by omega
    simp [hq, e]
  rw [this, BitVec.extractLsb'_toNat, Nat.shiftRight_eq_div_pow, Nat.pow_mul]

/-- The word two rows make. -/
theorem bitcast_word {R r n : ℕ} (x : (⟨2, ![R, n]⟩ : Shape).Idx → BitVec 16)
    (h : (⟨2, ![R, n]⟩ : Shape).Bitcasts 16 ⟨2, ![r, n]⟩ 32) (a : Fin r) (l : Fin n) (p p' : Fin R) (hp : p.val = 2 * a.val) (hp' : p'.val = 2 * a.val + 1) :
    (bitcast ⟨2, ![r, n]⟩ 32 x h (ix2 a l)).toNat = (x (ix2 p l)).toNat + 65536 * (x (ix2 p' l)).toNat := by
  have : bitcast ⟨2, ![r, n]⟩ 32 x h (ix2 a l) = x (ix2 p' l) ++ x (ix2 p l) := by
    apply BitVec.eq_of_getLsbD_eq
    intro q hq
    rw [BitVec.getLsbD_append]
    by_cases hlo : q < 16
    · rw [if_pos hlo, bitcast_bit x h a l q hq (by decide) p (by omega), show (a.val * 32 + q) % 16 = q by omega]
    · rw [if_neg hlo, bitcast_bit x h a l q hq (by decide) p' (by omega), show (a.val * 32 + q) % 16 = q - 16 by omega]
  rw [this, BitVec.toNat_append]
  have hx := (x (ix2 p l)).isLt
  rw [← Nat.shiftLeft_add_eq_or_of_lt hx, Nat.shiftLeft_eq]
  omega

end Cert.KernelIdeal.Hand
end
-- ==== Proof.PowTwo.lean ====
/- Powers of two over the extended reals: as the reference raises them, and as the bits of a number with only an exponent. -/
module

public import Idealize.ShloMosaic.PureOps.Ideal.Laws
public import Idealize.ShloMosaic.Lib.ValueIdx
public import proofs.«01_k».proof.Proof.WordBits

@[expose] public section

set_option maxRecDepth 16384

noncomputable section

namespace Cert.KernelIdeal.Hand

open Idealize.ShloMosaic

/-- Two to an integer, as an extended real. -/
def two (n : ℤ) : EReal := ((((2 : ℝ) ^ n : ℝ)) : EReal)

theorem two_mul (a b : ℤ) : two a * two b = two (a + b) := by
  unfold two
  rw [← EReal.coe_mul, ← zpow_add₀ (by norm_num)]

theorem two_le {a b : ℤ} : two a ≤ two b ↔ a ≤ b := by
  unfold two
  rw [EReal.coe_le_coe_iff]
  exact zpow_le_zpow_iff_right₀ (by norm_num)

theorem two_pos (n : ℤ) : 0 < two n := by
  unfold two
  exact_mod_cast zpow_pos (by norm_num : (0 : ℝ) < 2) n

theorem two_lt_top (n : ℤ) : two n < ⊤ := EReal.coe_lt_top _

theorem ofBits_two : Ideal.ofBits .f32 0x40000000#32 = ((2 : ℝ) : EReal) := by
  simp [Ideal.ofBits, Ideal.ieee, -EReal.coe_mul]; norm_num

theorem pow_two (n : BitVec 32) :
    FloatOps.hostPowf (F := Ideal) (φ := .f32) (FloatOps.ofBits .f32 0x40000000#32) (FloatOps.sitofp .f32 n) = two n.toInt := by
  rw [Ideal.hostPowf_def, Ideal.ofBits_def, ofBits_two]
  show (((Real.rpow 2 ((n.toInt : ℤ) : ℝ)) : ℝ) : EReal) = _
  unfold two
  congr 1
  exact Real.rpow_intCast 2 _

theorem bf16_exp (E : ℕ) (h1 : 1 ≤ E) (h2 : E ≤ 254) (b : BitVec 16) (hb : b.toNat = 128 * E) : Ideal.ofBits .bf16 b = two ((E : ℤ) - 127) := by
  have hs : b.extractLsb' 15 1 = 0#1 := by
    apply BitVec.eq_of_toNat_eq
    rw [BitVec.extractLsb'_toNat, hb, Nat.shiftRight_eq_div_pow]
    show 128 * E / 32768 % 2 = 0
    omega
  have he : (b.extractLsb' 7 8).toNat = E := by
    rw [BitVec.extractLsb'_toNat, hb, Nat.shiftRight_eq_div_pow]
    show 128 * E / 128 % 256 = E
    omega
  have hf : (b.extractLsb' 0 7).toNat = 0 := by
    rw [BitVec.extractLsb'_toNat, hb, Nat.shiftRight_eq_div_pow]
    show 128 * E / 1 % 128 = 0
    omega
  show Ideal.ieee 8 7 b = _
  unfold Ideal.ieee two
  simp only [Nat.reduceAdd, hs, he, hf]
  rw [if_neg (by norm_num; omega), if_neg (by omega)]
  congr 1
  simp
  rw [sub_eq_add_neg _ (7 : ℤ), zpow_add₀ (by norm_num)]
  norm_num
  ring

theorem f32_exp (E : ℕ) (h1 : 1 ≤ E) (h2 : E ≤ 254) (b : BitVec 32) (hb : b.toNat = 8388608 * E) : Ideal.ofBits .f32 b = two ((E : ℤ) - 127) := by
  have hs : b.extractLsb' 31 1 = 0#1 := by
    apply BitVec.eq_of_toNat_eq
    rw [BitVec.extractLsb'_toNat, hb, Nat.shiftRight_eq_div_pow]
    show 8388608 * E / 2147483648 % 2 = 0
    omega
  have he : (b.extractLsb' 23 8).toNat = E := by
    rw [BitVec.extractLsb'_toNat, hb, Nat.shiftRight_eq_div_pow]
    show 8388608 * E / 8388608 % 256 = E
    omega
  have hf : (b.extractLsb' 0 23).toNat = 0 := by
    rw [BitVec.extractLsb'_toNat, hb, Nat.shiftRight_eq_div_pow]
    show 8388608 * E / 1 % 8388608 = 0
    omega
  show Ideal.ieee 8 23 b = _
  unfold Ideal.ieee two
  simp only [Nat.reduceAdd, hs, he, hf]
  rw [if_neg (by norm_num; omega), if_neg (by omega)]
  congr 1
  simp
  rw [sub_eq_add_neg _ (23 : ℤ), zpow_add₀ (by norm_num)]
  norm_num
  ring

theorem f32_top : Ideal.ofBits .f32 0x7F800000#32 = ⊤ := by simp [Ideal.ofBits, Ideal.ieee]

/-- What the reference makes of a six-bit code. -/
def decode (c : BitVec 32) : EReal :=
  Scalar.select (IntOp.cmpi .eq (IntOp.andi (IntOp.shrsi .host c 5#32) 1#32) 1#32)
    (FloatOps.hostNegf (F := Ideal) (φ := .f32)
      (Scalar.select (IntOp.cmpi .eq (IntOp.andi (IntOp.shrsi .host c 2#32) 7#32) 0#32)
        (FloatOps.mulf (F := Ideal) (φ := .f32) (FloatOps.sitofp .f32 (IntOp.andi c 3#32)) (FloatOps.ofBits .f32 0x3D800000#32))
        (FloatOps.mulf (F := Ideal) (φ := .f32)
          (FloatOps.addf (F := Ideal) (φ := .f32) (FloatOps.ofBits .f32 0x3F800000#32)
            (FloatOps.mulf (F := Ideal) (φ := .f32) (FloatOps.sitofp .f32 (IntOp.andi c 3#32)) (FloatOps.ofBits .f32 0x3E800000#32)))
          (FloatOps.hostPowf (F := Ideal) (φ := .f32) (FloatOps.ofBits .f32 0x40000000#32)
            (FloatOps.sitofp .f32 (IntOp.subi (IntOp.andi (IntOp.shrsi .host c 2#32) 7#32) 3#32))))))
    (Scalar.select (IntOp.cmpi .eq (IntOp.andi (IntOp.shrsi .host c 2#32) 7#32) 0#32)
      (FloatOps.mulf (F := Ideal) (φ := .f32) (FloatOps.sitofp .f32 (IntOp.andi c 3#32)) (FloatOps.ofBits .f32 0x3D800000#32))
      (FloatOps.mulf (F := Ideal) (φ := .f32)
        (FloatOps.addf (F := Ideal) (φ := .f32) (FloatOps.ofBits .f32 0x3F800000#32)
          (FloatOps.mulf (F := Ideal) (φ := .f32) (FloatOps.sitofp .f32 (IntOp.andi c 3#32)) (FloatOps.ofBits .f32 0x3E800000#32)))
        (FloatOps.hostPowf (F := Ideal) (φ := .f32) (FloatOps.ofBits .f32 0x40000000#32)
          (FloatOps.sitofp .f32 (IntOp.subi (IntOp.andi (IntOp.shrsi .host c 2#32) 7#32) 3#32)))))

theorem ofBits_sixteenth : Ideal.ofBits .f32 0x3D800000#32 = ((1 / 16 : ℝ) : EReal) := by
  simp [Ideal.ofBits, Ideal.ieee, -EReal.coe_mul]; norm_num
theorem ofBits_quarter : Ideal.ofBits .f32 0x3E800000#32 = ((1 / 4 : ℝ) : EReal) := by
  simp [Ideal.ofBits, Ideal.ieee, -EReal.coe_mul]; norm_num
theorem ofBits_one : Ideal.ofBits .f32 0x3F800000#32 = ((1 : ℝ) : EReal) := by
  simp [Ideal.ofBits, Ideal.ieee, -EReal.coe_mul]; norm_num

theorem sitofp_real (n : BitVec 32) : FloatOps.sitofp (F := Ideal) .f32 n = ((n.toInt : ℝ) : EReal) := rfl

/-- A code's value, in reals. -/
def realOf (s : Prop) [Decidable s] (ex m : ℕ) : ℝ := (if s then -1 else 1) * (if ex = 0 then (m : ℝ) / 16 else (1 + m / 4) * (2 : ℝ) ^ ((ex : ℤ) - 3))

theorem decode_real (c : BitVec 6) :
    decode (c.setWidth 32) = ((realOf (c.toNat / 32 = 1) (c.toNat / 4 % 8) (c.toNat % 4) : ℝ) : EReal) := by
  have hs : IntOp.cmpi .eq (IntOp.andi (IntOp.shrsi .host (c.setWidth 32) 5#32) 1#32) 1#32 = BitVec.ofBool (decide (c.toNat / 32 = 1)) := by
    revert c; decide +kernel
  have he : IntOp.cmpi .eq (IntOp.andi (IntOp.shrsi .host (c.setWidth 32) 2#32) 7#32) 0#32 = BitVec.ofBool (decide (c.toNat / 4 % 8 = 0)) := by
    revert c; decide +kernel
  have hm : (IntOp.andi (c.setWidth 32) 3#32).toInt = ((c.toNat % 4 : ℕ) : ℤ) := by
    revert c; decide +kernel
  have hp : (IntOp.subi (IntOp.andi (IntOp.shrsi .host (c.setWidth 32) 2#32) 7#32) 3#32).toInt = ((c.toNat / 4 % 8 : ℕ) : ℤ) - 3 := by
    revert c; decide +kernel
  unfold decode
  rw [pow_two, hs, he, hp, sitofp_real, hm]
  generalize c.toNat / 4 % 8 = ex
  generalize c.toNat % 4 = m
  unfold realOf two
  simp only [Ideal.ofBits_def, ofBits_sixteenth, ofBits_quarter, ofBits_one, Ideal.mulf_def, Ideal.addf_def, Ideal.hostNegf_def, Ideal.negf_def]
  by_cases h1 : c.toNat / 32 = 1 <;> by_cases h2 : ex = 0 <;> simp only [h1, h2, decide_true, decide_false, if_true, if_false] <;>
    simp only [← EReal.coe_mul, ← EReal.coe_add, ← EReal.coe_neg] <;>
    (first | (show ((_ : ℝ) : EReal) = ((_ : ℝ) : EReal); congr 1; push_cast; ring) | skip)

theorem enc_real (c : BitVec 6) :
    Ideal.ofBits .fp8e4m3 (enc (c.setWidth 32)) = ((realOf (c.toNat / 32 = 1) (c.toNat / 4 % 8) (c.toNat % 4) / 16 : ℝ) : EReal) := by
  have hs : ((enc (c.setWidth 32)).extractLsb' 7 1 == 1#1) = decide (c.toNat / 32 = 1) := by revert c; decide +kernel
  have he : ((enc (c.setWidth 32)).extractLsb' 3 4).toNat = c.toNat / 4 % 8 := by revert c; decide +kernel
  have hf : ((enc (c.setWidth 32)).extractLsb' 0 3).toNat = 2 * (c.toNat % 4) := by revert c; decide +kernel
  have hlt : c.toNat / 4 % 8 < 8 := Nat.mod_lt _ (by norm_num)
  show Ideal.e4m3fn _ = _
  unfold Ideal.e4m3fn realOf
  simp only [hs, he, hf]
  revert hlt
  generalize c.toNat / 4 % 8 = ex
  generalize c.toNat % 4 = m
  intro hlt
  rw [if_neg (by omega)]
  by_cases h1 : c.toNat / 32 = 1 <;> by_cases h2 : ex = 0 <;> simp only [h1, h2, decide_true, decide_false, if_true, if_false] <;>
    congr 1 <;> push_cast
  · norm_num; ring
  · rw [show ((ex : ℤ) - 10) = ((ex : ℤ) - 3) + (-7) by ring, zpow_add₀ (by norm_num)]; norm_num; ring
  · norm_num; ring
  · rw [show ((ex : ℤ) - 10) = ((ex : ℤ) - 3) + (-7) by ring, zpow_add₀ (by norm_num)]; norm_num; ring

/-- The bits the kernel builds are the code's value over sixteen; a scale sixteen times as large makes up for it. -/
theorem enc_mul (c : BitVec 32) (hc : c.toNat < 64) (n : ℤ) :
    Ideal.ofBits .fp8e4m3 (enc c) * two (n + 4) = decode c * two n := by
  obtain ⟨d, rfl⟩ : ∃ d : BitVec 6, c = d.setWidth 32 := ⟨c.setWidth 6, by
    apply BitVec.eq_of_toNat_eq
    simp only [BitVec.toNat_setWidth]
    omega⟩
  rw [enc_real, decode_real]
  unfold two
  rw [← EReal.coe_mul, ← EReal.coe_mul, zpow_add₀ (by norm_num)]
  congr 1
  norm_num
  ring

end Cert.KernelIdeal.Hand
end
-- ==== Proof.KExp.lean ====
/- The first grid point's exponents, scale codes, codes and scaled activations, entry by entry over the extended reals. -/
module

public import proofs.«01_k».proof.Proof.KAmax
public import proofs.«01_k».proof.Proof.KOutA
public import proofs.«01_k».proof.Proof.Narrow
public import proofs.«01_k».proof.Proof.PowTwo

@[expose] public section

set_option maxRecDepth 16384

noncomputable section

namespace Cert.KernelIdeal.Hand

open Cert.KernelIdeal Cert.KernelIdeal.Gen
open Idealize.ShloMosaic Idealize.ShloMosaic.TcCoe Idealize.SL.Sem

/-- The float whose exponent field is `k` and whose other bits are zero. -/
def thr (k : ℕ) : EReal := Ideal.ofBits .f32 (IntOp.shli .vector (BitVec.ofNat 32 k) 23#32)

theorem shl23 : ∀ k : Fin 256, (IntOp.shli .vector (BitVec.ofNat 32 k.val) 23#32).toNat = 8388608 * k.val := by decide +kernel

theorem thr_eq (k : ℕ) (h1 : 1 ≤ k) (h2 : k ≤ 254) : thr k = two ((k : ℤ) - 127) :=
  f32_exp k h1 h2 _ (shl23 ⟨k, by omega⟩)

theorem thr_top : thr 255 = ⊤ := by
  unfold thr
  rw [show IntOp.shli .vector (BitVec.ofNat 32 255) 23#32 = 0x7F800000#32 by decide]
  exact f32_top

/-- One step of the search for the exponent field. -/
def bump (a : EReal) (b e : ℕ) : ℕ := if thr (e + b) ≤ a then e + b else e

def search (a : EReal) : ℕ := bump a 1 (bump a 2 (bump a 4 (bump a 8 (bump a 16 (bump a 32 (bump a 64 (bump a 128 0)))))))

/-- What the search keeps: the field found is reached, the next candidate above is not. -/
def Within (a : EReal) (b e : ℕ) : Prop := (e = 0 ∨ thr e ≤ a) ∧ (e + b = 256 ∨ ¬ thr (e + b) ≤ a) ∧ e + b ≤ 256

theorem within_bump (a : EReal) (b e : ℕ) (h : Within a (2 * b) e) : Within a b (bump a b e) := by
  obtain ⟨h1, h2, h3⟩ := h
  unfold bump
  by_cases hb : thr (e + b) ≤ a
  · rw [if_pos hb]
    refine ⟨.inr hb, ?_, by omega⟩
    rw [show e + b + b = e + 2 * b by omega]
    exact h2
  · rw [if_neg hb]
    exact ⟨h1, .inr hb, by omega⟩

theorem within_search (a : EReal) : Within a 1 (search a) := by
  unfold search
  exact within_bump a 1 _ (within_bump a 2 _ (within_bump a 4 _ (within_bump a 8 _ (within_bump a 16 _ (within_bump a 32 _
    (within_bump a 64 _ (within_bump a 128 0 ⟨.inl rfl, .inl rfl, le_refl _⟩)))))))

/-- The block maxima the claim is about: zero, or at least two to the power of −122, and below infinity. -/
def Good (a : EReal) : Prop := (a = 0 ∨ two (-122) ≤ a) ∧ a < ⊤

theorem search_spec (a : EReal) (ha : a < ⊤) : search a ≤ 254 ∧ ∀ k : ℕ, 1 ≤ k → k ≤ 254 → (two ((k : ℤ) - 127) ≤ a ↔ k ≤ search a) := by
  obtain ⟨h1, h2, h3⟩ := within_search a
  have hE : search a ≤ 254 := by
    by_contra hc
    have h255 : search a = 255 := by omega
    rw [h255, thr_top] at h1
    rcases h1 with h | h
    · omega
    · exact absurd ha (not_lt.2 h)
  refine ⟨hE, fun k hk1 hk2 => ⟨fun h => ?_, fun h => ?_⟩⟩
  · by_contra hc
    rcases h2 with h2 | h2
    · omega
    · apply h2
      rw [thr_eq _ (by omega) (by omega)]
      exact le_trans (two_le.2 (by push_cast; omega)) h
  · rcases h1 with h1 | h1
    · omega
    · rw [thr_eq _ (by omega) hE] at h1
      exact le_trans (two_le.2 (by omega)) h1

theorem search_zero : search 0 = 0 := by
  obtain ⟨h1, h2, h3⟩ := within_search 0
  rcases h1 with h | h
  · exact h
  · by_contra h0
    obtain ⟨hE, hk⟩ := search_spec 0 (by simp)
    exact absurd ((hk _ (by omega) hE).2 le_rfl) (not_le.2 (two_pos _))

/-- The exponent a block is scaled by. -/
def eff (a : EReal) : ℕ := if search a = 0 then 131 else max (search a) 4

theorem eff_zero : eff 0 = 131 := by unfold eff; rw [search_zero]; rfl

theorem search_good (a : EReal) (h : two (-122) ≤ a) (ha : a < ⊤) : 5 ≤ search a := ((search_spec a ha).2 5 (by omega) (by omega)).1 h

theorem eff_good (a : EReal) (h : two (-122) ≤ a) (ha : a < ⊤) : eff a = search a := by
  have := search_good a h ha
  unfold eff
  rw [if_neg (by omega)]
  omega

theorem eff_range (a : EReal) (h : Good a) : 5 ≤ eff a ∧ eff a ≤ 254 := by
  obtain ⟨h1, h2⟩ := h
  rcases h1 with rfl | h1
  · rw [eff_zero]; omega
  · rw [eff_good a h1 h2]
    exact ⟨search_good a h1 h2, (search_spec a h2).1⟩

theorem search_le (a : EReal) : search a ≤ 255 := by have := (within_search a).2.2; omega

theorem expStep_at (a : FVec Ideal S256x128 .f32) (ex : IVec S256x128 32) (i : S256x128.Idx) (b e : ℕ) (h : ex i = BitVec.ofNat 32 e) :
    expStep a (BitVec.ofNat 32 b) ex i = BitVec.ofNat 32 (bump (a i) b e) := by
  show Scalar.select (Ideal.cmp .oge (a i) (Ideal.ofBits .f32 (IntOp.shli .vector (ex i + BitVec.ofNat 32 b) 23#32))) (ex i + BitVec.ofNat 32 b) (ex i) = _
  rw [h, ← BitVec.ofNat_add]
  show Scalar.select (BitVec.ofBool (decide (thr (e + b) ≤ a i))) _ _ = _
  rw [select_ofBool]
  unfold bump
  by_cases hb : thr (e + b) ≤ a i
  · rw [if_pos hb, if_pos (decide_eq_true hb)]
  · rw [if_neg hb, if_neg (by simpa using hb)]

theorem expField_at (a : FVec Ideal S256x128 .f32) (i : S256x128.Idx) : expField a i = BitVec.ofNat 32 (search (a i)) := by
  unfold expField search
  exact expStep_at a _ i 1 _ (expStep_at a _ i 2 _ (expStep_at a _ i 4 _ (expStep_at a _ i 8 _ (expStep_at a _ i 16 _ (expStep_at a _ i 32 _
    (expStep_at a _ i 64 _ (expStep_at a _ i 128 0 rfl)))))))

theorem bits_of : ∀ E : Fin 256, BitVec.toNat (w := 16) ((IntOp.shli .vector (Scalar.select (IntOp.cmpi .eq (BitVec.ofNat 32 E.val) 0#32) 131#32
    (IntOp.maxsi (BitVec.ofNat 32 E.val) 4#32)) 7#32).setWidth 16) = 128 * (if E.val = 0 then 131 else max E.val 4) := by decide +kernel

theorem expBits_at (a : FVec Ideal S256x128 .f32) (i : S256x128.Idx) : BitVec.toNat (w := 16) (expBits (expField a) i) = 128 * eff (a i) := by
  have hs := search_le (a i)
  show BitVec.toNat (w := 16) ((IntOp.shli .vector (Scalar.select (IntOp.cmpi .eq (expField a i) 0#32) 131#32 (IntOp.maxsi (expField a i) 4#32)) 7#32).setWidth 16) = _
  rw [expField_at]
  exact bits_of ⟨search (a i), by omega⟩

/-- Two rows' exponents in a word. -/
def Rows (x : IVec S128x128 32) (l : Fin 128) (f : Fin 256 → ℕ) : Prop :=
  ∀ q : Fin 128, BitVec.toNat (w := 32) (x (ValueIdx.ix2 q l)) = 128 * f ⟨2 * q.val, by omega⟩ + 65536 * (128 * f ⟨2 * q.val + 1, by omega⟩)

theorem expWords_at (X : Fin 28 → Vec Ideal S256x128 .bf16) (l : Fin 128) : Rows (expWords X) l fun r => eff (amax X (ValueIdx.ix2 r l)) := by
  intro q
  unfold expWords
  rw [bitcast_word _ _ q l ⟨2 * q.val, by omega⟩ ⟨2 * q.val + 1, by omega⟩ rfl rfl, expBits_at, expBits_at]
  rfl

theorem halves_rows (A B : ℕ) (hA : A < 512) (hB : B < 512) :
    (128 * A + 65536 * (128 * B)) / 65536 ^ 0 % 65536 = 128 * A ∧ (128 * A + 65536 * (128 * B)) / 65536 ^ 1 % 65536 = 128 * B := by
  constructor
  · rw [Nat.pow_zero, Nat.div_one, Nat.add_mul_mod_self_left, Nat.mod_eq_of_lt (by omega)]
  · rw [Nat.pow_one, Nat.add_mul_div_left _ _ (by decide), Nat.div_eq_of_lt (by omega), Nat.zero_add, Nat.mod_eq_of_lt (by omega)]

/-- A row's half of a word of two. -/
theorem half_rows (x : IVec S128x128 32) (l : Fin 128) (f : Fin 256 → ℕ) (hf : ∀ r, f r < 512) (hx : Rows x l f) (r : Fin 256) :
    BitVec.toNat (w := 16) (bitcast S256x128 16 x bitcasts_S128x128_w32_S256x128_w16 (ValueIdx.ix2 r l)) = 128 * f r := by
  rw [bitcast_half x _ r l ⟨r.val / 2, by omega⟩ rfl, hx]
  obtain ⟨h0, h1⟩ := halves_rows (f ⟨2 * (r.val / 2), by omega⟩) (f ⟨2 * (r.val / 2) + 1, by omega⟩) (hf _) (hf _)
  rcases (by omega : r.val % 2 = 0 ∨ r.val % 2 = 1) with h | h
  · rw [h, h0]
    congr 2
    exact Fin.ext (by show 2 * (r.val / 2) = r.val; omega)
  · rw [h, h1]
    congr 2
    exact Fin.ext (by show 2 * (r.val / 2) + 1 = r.val; omega)

theorem spread_lane : ∀ (k : Fin 28) (l : Fin 128),
    IntOp.addi (IntOp.andi (BitVec.ofNat 32 l.val) 4294967264#32) (slotBV k) = BitVec.ofNat 32 (laneOf k ⟨l.val / 32, by omega⟩).val := by decide +kernel

theorem spread_at (e : IVec S128x128 32) (k : Fin 28) (q l : Fin 128) :
    spread e (slotBV k) (ValueIdx.ix2 q l) = e (ValueIdx.ix2 q (laneOf k ⟨l.val / 32, by omega⟩)) := by
  unfold spread
  refine gatherHalf_at e _ q l _ ?_
  rw [← spread_lane k l, ← lanesHalf_at q l]
  rfl

/-- A block's exponent. -/
def expOf (x0 : Vec Ideal S256x3584 .bf16) (r : Fin 256) (b : Fin 112) : ℕ := eff (blk x0 r b)

theorem spread_rows (x0 : Vec Ideal S256x3584 .bf16) (k : Fin 28) (l : Fin 128) :
    Rows (spread (expWords (cRead x0)) (slotBV k)) l fun r => expOf x0 r ⟨4 * k.val + l.val / 32, by omega⟩ := by
  intro q
  rw [spread_at, expWords_at (cRead x0) _ q]
  beta_reduce
  rw [amax_at, amax_at]
  rfl

theorem inv_at (g : IVec S128x128 32) (l : Fin 128) (f : Fin 256 → ℕ) (hf : ∀ r, 5 ≤ f r ∧ f r ≤ 254) (hg : Rows g l f) (r : Fin 256) :
    invOf (F := Ideal) g (ValueIdx.ix2 r l) = two (131 - (f r : ℤ)) := by
  have hr : Rows (subi (broadcast S128x128 2164293888#32) g) l fun r => 258 - f r := by
    intro q
    have := hg q
    have h1 := hf ⟨2 * q.val, by omega⟩
    have h2 := hf ⟨2 * q.val + 1, by omega⟩
    show BitVec.toNat (w := 32) (2164293888#32 - g (ValueIdx.ix2 q l)) = _
    have hle : g (ValueIdx.ix2 q l) ≤ 2164293888#32 := by
      rw [BitVec.le_def, this]
      show _ ≤ 2164293888
      omega
    rw [BitVec.toNat_sub_of_le hle, this]
    beta_reduce
    show 2164293888 - _ = _
    omega
  have hb := hf r
  unfold invOf
  rw [bitcastToFloat_apply, Ideal.ofBits_def]
  refine (bf16_exp (258 - f r) (by omega) (by omega) _ (half_rows _ l _ (fun r => by have := hf r; omega) hr r)).trans ?_
  congr 1
  omega

theorem fac_at (g : IVec S128x128 32) (l : Fin 128) (f : Fin 256 → ℕ) (hf : ∀ r, 5 ≤ f r ∧ f r ≤ 254) (hg : Rows g l f) (r : Fin 256) :
    facOf (F := Ideal) g (ValueIdx.ix2 r l) = two ((f r : ℤ) - 131) := by
  have hr : Rows (subi g (broadcast S128x128 33554944#32)) l fun r => f r - 4 := by
    intro q
    have := hg q
    have h1 := hf ⟨2 * q.val, by omega⟩
    have h2 := hf ⟨2 * q.val + 1, by omega⟩
    show BitVec.toNat (w := 32) (g (ValueIdx.ix2 q l) - 33554944#32) = _
    have hle : 33554944#32 ≤ g (ValueIdx.ix2 q l) := by
      rw [BitVec.le_def, this]
      show 33554944 ≤ _
      omega
    rw [BitVec.toNat_sub_of_le hle, this]
    beta_reduce
    show _ - 33554944 = _
    omega
  have hb := hf r
  unfold facOf
  rw [bitcastToFloat_apply, Ideal.ofBits_def]
  refine (bf16_exp (f r - 4) (by omega) (by omega) _ (half_rows _ l _ (fun r => by have := hf r; omega) hr r)).trans ?_
  congr 1
  omega

/-- The clip to the format's range. -/
def clip (v : EReal) : EReal := min ((28 : ℝ) : EReal) (max ((-28 : ℝ) : EReal) v)

theorem b28 : Ideal.ofBits .bf16 0x41E0#16 = ((28 : ℝ) : EReal) := by simp [Ideal.ofBits, Ideal.ieee, -EReal.coe_mul]; norm_num
theorem b28n : Ideal.ofBits .bf16 0xC1E0#16 = ((-28 : ℝ) : EReal) := by simp [Ideal.ofBits, Ideal.ieee, -EReal.coe_mul]; norm_num
theorem b48 : Ideal.ofBits .bf16 0x4240#16 = ((48 : ℝ) : EReal) := by simp [Ideal.ofBits, Ideal.ieee, -EReal.coe_mul]; norm_num
theorem b16 : Ideal.ofBits .bf16 0x4180#16 = ((16 : ℝ) : EReal) := by simp [Ideal.ofBits, Ideal.ieee, -EReal.coe_mul]; norm_num
theorem b8 : Ideal.ofBits .bf16 0x4100#16 = ((8 : ℝ) : EReal) := by simp [Ideal.ofBits, Ideal.ieee, -EReal.coe_mul]; norm_num
theorem b4 : Ideal.ofBits .bf16 0x4080#16 = ((4 : ℝ) : EReal) := by simp [Ideal.ofBits, Ideal.ieee, -EReal.coe_mul]; norm_num
theorem b2 : Ideal.ofBits .bf16 0x4000#16 = ((2 : ℝ) : EReal) := by simp [Ideal.ofBits, Ideal.ieee, -EReal.coe_mul]; norm_num
theorem b1 : Ideal.ofBits .bf16 0x3F80#16 = ((1 : ℝ) : EReal) := by simp [Ideal.ofBits, Ideal.ieee, -EReal.coe_mul]; norm_num
theorem bh : Ideal.ofBits .bf16 0x3F00#16 = ((1 / 2 : ℝ) : EReal) := by simp [Ideal.ofBits, Ideal.ieee, -EReal.coe_mul]; norm_num
theorem bq : Ideal.ofBits .bf16 0x3E80#16 = ((1 / 4 : ℝ) : EReal) := by simp [Ideal.ofBits, Ideal.ieee, -EReal.coe_mul]; norm_num
theorem b0 : Ideal.ofBits .bf16 0x0000#16 = ((0 : ℝ) : EReal) := by simp [Ideal.ofBits, Ideal.ieee, -EReal.coe_mul]

theorem raise_real (b : BitVec 16) (v p : FVec Ideal S256x128 .bf16) (i : S256x128.Idx) (hb : ∃ y : ℝ, Ideal.ofBits .bf16 b = (y : EReal))
    (hp : ∃ y : ℝ, p i = (y : EReal)) : ∃ y : ℝ, raise b v p i = (y : EReal) := by
  show ∃ y : ℝ, Scalar.select (Ideal.cmp .oge (v i) (Ideal.ofBits .bf16 b)) (Ideal.ofBits .bf16 b) (p i) = (y : EReal)
  rw [show Ideal.cmp .oge (v i) (Ideal.ofBits .bf16 b) = BitVec.ofBool (decide (Ideal.ofBits .bf16 b ≤ v i)) from rfl, select_ofBool]
  split
  · exact hb
  · exact hp

theorem bigOf_real (v : FVec Ideal S256x128 .bf16) (i : S256x128.Idx) : ∃ y : ℝ, bigOf v i = (y : EReal) := by
  obtain ⟨p, hp⟩ : ∃ y : ℝ, powOf (absf v) i = (y : EReal) :=
    raise_real _ _ _ i ⟨_, b16⟩ (raise_real _ _ _ i ⟨_, b8⟩ (raise_real _ _ _ i ⟨_, b4⟩ (raise_real _ _ _ i ⟨_, b2⟩ (raise_real _ _ _ i ⟨_, b1⟩
      (raise_real _ _ _ i ⟨_, bh⟩ (raise_real _ _ _ i ⟨_, bq⟩ ⟨_, b0⟩))))))
  refine ⟨max p (1 / 4) * 48, ?_⟩
  show max (powOf (absf v) i) (Ideal.ofBits .bf16 0x3E80#16) * Ideal.ofBits .bf16 0x4240#16 = _
  rw [hp, bq, b48, EReal.coe_mul, EReal.coe_strictMono.monotone.map_max]

/-- Over the reals the rounding step adds a number and takes it away again. -/
theorem clipOf_at (v : FVec Ideal S256x128 .bf16) (i : S256x128.Idx) : clipOf v i = clip (v i) := by
  obtain ⟨y, hy⟩ := bigOf_real v i
  show min (Ideal.ofBits .bf16 0x41E0#16) (max (Ideal.ofBits .bf16 0xC1E0#16) (v i + bigOf v i - bigOf v i)) = _
  rw [hy, EReal.add_sub_cancel_right, b28, b28n]
  rfl

theorem values_at (x0 : Vec Ideal S256x3584 .bf16) (hx : ∀ r b, Good (blk x0 r b)) (k : Fin 28) (r : Fin 256) (l : Fin 128) :
    valuesOf (cRead x0 k) (spread (expWords (cRead x0)) (slotBV k)) (ValueIdx.ix2 r l)
      = clip (x0 (ValueIdx.ix2 r ⟨128 * k.val + l.val, by omega⟩) * two (131 - (expOf x0 r ⟨4 * k.val + l.val / 32, by omega⟩ : ℤ))) := by
  unfold valuesOf
  rw [clipOf_at, ValueIdx.mulf_apply, shapeCast_self, cRead_at, inv_at _ l _ (fun r => eff_range _ (hx r _)) (spread_rows x0 k l)]
  rfl

theorem perm_lane : ∀ l : Fin 128, IntOp.addi (IntOp.shli .vector (IntOp.andi (BitVec.ofNat 32 l.val) 31#32) 2#32) (IntOp.shrsi .vector (BitVec.ofNat 32 l.val) 5#32)
    = BitVec.ofNat 32 (4 * (l.val % 32) + l.val / 32) := by decide +kernel

theorem scaledOf_at (x0 : Vec Ideal S256x3584 .bf16) (hx : ∀ r b, Good (blk x0 r b)) (k : Fin 28) (r : Fin 256) (l p : Fin 128)
    (hp : p.val = 4 * (l.val % 32) + l.val / 32) :
    scaledOf (cRead x0 k) (spread (expWords (cRead x0)) (slotBV k)) (ValueIdx.ix2 r l)
      = clip (x0 (ValueIdx.ix2 r ⟨128 * k.val + p.val, by omega⟩) * two (131 - (expOf x0 r ⟨4 * k.val + p.val / 32, by omega⟩ : ℤ)))
        * two ((expOf x0 r ⟨4 * k.val + p.val / 32, by omega⟩ : ℤ) - 131) := by
  unfold scaledOf
  rw [shapeCast_self, shuffle_at perm _ r l p (by
    rw [hp, ← perm_lane l, ← lanes_at r l]
    rfl), ValueIdx.mulf_apply, values_at x0 hx, fac_at _ p _ (fun r => eff_range _ (hx r _)) (spread_rows x0 k p)]
  rfl

/-- An entry of a chunk. -/
theorem emb_c (k : Fin 28) (r : Fin 256) (l : Fin 128) :
    (Rect.unit (s := S256x3584) ![0, 128 * k.val] S256x128.size (inb_c k)).emb (ValueIdx.ix2 r l) = ValueIdx.ix2 r ⟨128 * k.val + l.val, by omega⟩ := by
  funext a
  apply Fin.ext
  rw [Rect.emb_apply]
  match a with
  | ⟨0, _⟩ => show 0 + 1 * r.val = r.val; omega
  | ⟨1, _⟩ => show 128 * k.val + 1 * l.val = 128 * k.val + l.val; omega

theorem canon_chunks {e : EltTy} (P : Fin 28 → Vec Ideal S256x128 e) (G : Vec Ideal S256x3584 e)
    (h : ∀ k r l, P k (ValueIdx.ix2 r l) = G (ValueIdx.ix2 r ⟨128 * k.val + l.val, by omega⟩)) :
    View.canon (Val := Elt Ideal) (chunkList.map fun k => (⟨Rect.unit (s := S256x3584) ![0, 128 * k.val] S256x128.size (inb_c k), P k⟩ : View.Piece (Elt Ideal) S256x3584 e)) = G := by
  funext y
  refine View.canon_apply_of_pieces G _ ?_ y ?_
  · intro p hp x
    obtain ⟨k, _, rfl⟩ := List.mem_map.1 hp
    have hx : x = (ValueIdx.ix2 (x 0) (x 1) : S256x128.Idx) := by
      funext a
      match a with
      | ⟨0, _⟩ => rfl
      | ⟨1, _⟩ => rfl
    rw [hx]
    exact (h k _ _).trans (congrArg G (emb_c k _ _).symm)
  · have hy : y = (ValueIdx.ix2 (y 0) (y 1) : S256x3584.Idx) := by
      funext a
      match a with
      | ⟨0, _⟩ => rfl
      | ⟨1, _⟩ => rfl
    have h1 : (y 1).val < 3584 := (y 1).isLt
    refine ⟨_, List.mem_map.2 ⟨⟨(y 1).val / 128, by omega⟩, mem_chunkList _, rfl⟩, ?_⟩
    refine (Rect.mem_set_unit (inb := inb_c ⟨(y 1).val / 128, by omega⟩)).2 fun a => ?_
    match a with
    | ⟨0, _⟩ => exact ⟨Nat.zero_le _, by show (y 0).val < 0 + 256; have : (y 0).val < 256 := (y 0).isLt; omega⟩
    | ⟨1, _⟩ => exact ⟨by show 128 * ((y 1).val / 128) ≤ (y 1).val; omega, by show (y 1).val < 128 * ((y 1).val / 128) + 128; omega⟩

/-- The codes over the reals. -/
def codeAt (x0 : Vec Ideal S256x3584 .bf16) (r : Fin 256) (K : Fin 3584) : EReal :=
  clip (x0 (ValueIdx.ix2 r K) * two (131 - (expOf x0 r ⟨K.val / 32, by omega⟩ : ℤ)))

theorem codes_eq (x0 : Vec Ideal S256x3584 .bf16) (hx : ∀ r b, Good (blk x0 r b)) :
    View.canon (codePieces (cRead x0) (expWords (cRead x0))) = fun i : S256x3584.Idx => codeAt x0 (i 0) (i 1) := by
  refine canon_chunks (e := .fp8e4m3) (fun k => codesOf (cRead x0 k) (spread (expWords (cRead x0)) (slotBV k))) _ fun k r l => ?_
  refine (values_at x0 hx k r l).trans ?_
  show _ = clip (x0 (ValueIdx.ix2 r ⟨128 * k.val + l.val, _⟩) * two (131 - (expOf x0 r ⟨(128 * k.val + l.val) / 32, _⟩ : ℤ)))
  congr 6
  exact Fin.ext (by show 4 * k.val + l.val / 32 = (128 * k.val + l.val) / 32; omega)

/-- The lane order the weights' unpacking leaves, over all the columns. -/
def permCol (K : Fin 3584) : Fin 3584 := ⟨128 * (K.val / 128) + (4 * (K.val % 32) + K.val % 128 / 32), by omega⟩

theorem xd_eq (x0 : Vec Ideal S256x3584 .bf16) (hx : ∀ r b, Good (blk x0 r b)) :
    xdOf x0 = fun i : S256x3584.Idx => codeAt x0 (i 0) (permCol (i 1)) * two ((expOf x0 (i 0) ⟨(permCol (i 1)).val / 32, by omega⟩ : ℤ) - 131) := by
  refine canon_chunks (e := .bf16) (fun k => scaledOf (cRead x0 k) (spread (expWords (cRead x0)) (slotBV k))) _ fun k r l => ?_
  refine (scaledOf_at x0 hx k r l ⟨4 * (l.val % 32) + l.val / 32, by omega⟩ rfl).trans ?_
  have hp : permCol ⟨128 * k.val + l.val, by omega⟩ = ⟨128 * k.val + (4 * (l.val % 32) + l.val / 32), by omega⟩ :=
    Fin.ext (by
      show 128 * ((128 * k.val + l.val) / 128) + (4 * ((128 * k.val + l.val) % 32) + (128 * k.val + l.val) % 128 / 32) = 128 * k.val + (4 * (l.val % 32) + l.val / 32)
      omega)
  have hb : (⟨4 * k.val + (4 * (l.val % 32) + l.val / 32) / 32, by omega⟩ : Fin 112) = ⟨(128 * k.val + (4 * (l.val % 32) + l.val / 32)) / 32, by omega⟩ :=
    Fin.ext (by show 4 * k.val + (4 * (l.val % 32) + l.val / 32) / 32 = (128 * k.val + (4 * (l.val % 32) + l.val / 32)) / 32; omega)
  show clip (_ * two (131 - (expOf x0 r ⟨4 * k.val + (4 * (l.val % 32) + l.val / 32) / 32, _⟩ : ℤ))) * two ((expOf x0 r ⟨4 * k.val + (4 * (l.val % 32) + l.val / 32) / 32, _⟩ : ℤ) - 131)
    = codeAt x0 r (permCol ⟨128 * k.val + l.val, _⟩) * two ((expOf x0 r ⟨(permCol ⟨128 * k.val + l.val, _⟩).val / 32, _⟩ : ℤ) - 131)
  rw [hb]
  unfold codeAt
  simp only [hp]

theorem slot_lane : ∀ L : Fin 112, (addi (shli (andi lanesHalf (broadcast S128x128 3#32)) (broadcast S128x128 5#32)) slotOf) (ValueIdx.ix2 (0 : Fin 128) (⟨L.val, by omega⟩ : Fin 128))
    = BitVec.ofNat 32 (laneOf ⟨L.val / 4, by omega⟩ ⟨L.val % 4, by omega⟩).val := by decide +kernel

theorem code_of : ∀ E : Fin 256, (IntOp.subi (IntOp.shrui .vector (BitVec.signExtend 32 (BitVec.ofNat 16 (128 * E.val))) 7#32) 4#32).setWidth 8
    = (BitVec.ofNat 32 E.val - 4#32).setWidth 8 := by decide +kernel

theorem scales_at (x0 : Vec Ideal S256x3584 .bf16) (r : Fin 256) (L : Fin 112) :
    scalesOf (expWords (cRead x0)) (ValueIdx.ix2 r L) = (BitVec.ofNat 32 (expOf x0 r L) - 4#32).setWidth 8 := by
  have hE : ∀ r b, expOf x0 r b ≤ 255 := fun r b => by
    have := search_le (blk x0 r b)
    unfold expOf eff
    split <;> omega
  have hrows : Rows (dynamicGather 1 (expWords (cRead x0)) (wrapHalf (addi (shli (andi lanesHalf (broadcast S128x128 3#32)) (broadcast S128x128 5#32)) slotOf)))
      ⟨L.val, by omega⟩ fun r => expOf x0 r L := by
    intro q
    rw [gatherHalf_at (expWords (cRead x0)) _ q ⟨L.val, by omega⟩ _ (slot_lane L), expWords_at (cRead x0) _ q]
    beta_reduce
    rw [amax_at, amax_at]
    have e : (⟨4 * (L.val / 4) + L.val % 4, by omega⟩ : Fin 112) = L := Fin.ext (by show 4 * (L.val / 4) + L.val % 4 = L.val; omega)
    show 128 * eff (blk x0 _ ⟨4 * (L.val / 4) + L.val % 4, _⟩) + 65536 * (128 * eff (blk x0 _ ⟨4 * (L.val / 4) + L.val % 4, _⟩)) = _
    rw [e]
    rfl
  have hh := half_rows _ _ _ (fun r => by have := hE r L; omega) hrows r
  have hw : bitcast S256x128 16 (dynamicGather 1 (expWords (cRead x0)) (wrapHalf (addi (shli (andi lanesHalf (broadcast S128x128 3#32)) (broadcast S128x128 5#32)) slotOf)))
      bitcasts_S128x128_w32_S256x128_w16 (ValueIdx.ix2 r ⟨L.val, by omega⟩) = BitVec.ofNat 16 (128 * expOf x0 r L) := by
    apply BitVec.eq_of_toNat_eq
    rw [hh, BitVec.toNat_ofNat]
    have := hE r L
    beta_reduce
    omega
  refine Eq.trans ?_ (code_of ⟨expOf x0 r L, by have := hE r L; omega⟩)
  rw [← hw]
  unfold scalesOf
  refine congrArg (BitVec.setWidth 8) ?_
  exact extractStridedSlice_apply _ _ slices_S256x128_o0_0_S256x112 (ValueIdx.ix2 r L) (ValueIdx.ix2 r ⟨L.val, by omega⟩) fun a => match a with
    | ⟨0, _⟩ => by show r.val = 0 + r.val; omega
    | ⟨1, _⟩ => by show L.val = 0 + L.val; omega

end Cert.KernelIdeal.Hand
end
-- ==== Proof.KRhs.lean ====
/- A weight tile over the extended reals, entry by entry: the value of a six-bit code times its block's factor. -/
module

public import proofs.«01_k».proof.Proof.KDecode
public import proofs.«01_k».proof.Proof.Narrow
public import proofs.«01_k».proof.Proof.PowTwo
public import Idealize.ShloMosaic.Lib.Pipeline.Value
public import Idealize.ShloMosaic.Lib.Pointwise.ElementwiseCore
public import Idealize.ShloMosaic.Lib.Pointwise.SelectCore
public import Idealize.ShloMosaic.Lib.ValueLayout
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.SL.Sem

/-- The bytes a word of packed rows is made of. -/
theorem byte_word (b : IVec S1x32x512 8) (q : Fin 8) (j : Fin 512) (i : ℕ) (hi : i < 4) :
    byte i (word b (ValueIdx.ix2 q j)) = b (ValueIdx.ix3 0 ⟨4 * q.val + i, by omega⟩ j) := by
  unfold word
  rw [byte_bitcast _ _ q j i hi ⟨4 * q.val + i, by omega⟩ rfl]
  exact shapeCast_apply b shapeCasts_S1x32x512_S32x512 _ _ (by
    rw [Shape.rowMajor_val_two, Shape.rowMajor_val_three]
    show (0 * 32 + (4 * q.val + i)) * 512 + j.val = (4 * q.val + i) * 512 + j.val
    omega)

/-- The code of field `f` of three bytes. -/
def codeF (f : Fin 4) (b0 b1 b2 : BitVec 8) : BitVec 32 := ![code0 b0, code1 b0 b1, code2 b1 b2, code3 b2] f

theorem codeF_lt (f : Fin 4) (b0 b1 b2 : BitVec 8) : (codeF f b0 b1 b2).toNat < 64 := by
  match f with
  | 0 => exact code0_lt b0
  | 1 => exact code1_lt b0 b1
  | 2 => exact code2_lt b1 b2
  | 3 => exact code3_lt b2

def fieldF (f : Fin 4) (w0 w1 w2 : IVec S8x512 32) : IVec S8x512 32 := ![field0 w0, field1 w0 w1, field2 w1 w2, field3 w2] f

theorem byte_field (f : Fin 4) (b0 b1 b2 : IVec S1x32x512 8) (u : Fin 32) (j : Fin 512) :
    byte (u.val % 4) (fieldF f (word b0) (word b1) (word b2) (ValueIdx.ix2 ⟨u.val / 4, by omega⟩ j))
      = enc (codeF f (b0 (ValueIdx.ix3 0 u j)) (b1 (ValueIdx.ix3 0 u j)) (b2 (ValueIdx.ix3 0 u j))) := by
  have hi : u.val % 4 < 4 := by omega
  have hw : ∀ b : IVec S1x32x512 8, b (ValueIdx.ix3 0 u j) = byte (u.val % 4) (word b (ValueIdx.ix2 ⟨u.val / 4, by omega⟩ j)) := fun b => by
    rw [byte_word b _ j _ hi]
    congr 2
    exact Fin.ext (by show u.val = 4 * (u.val / 4) + u.val % 4; omega)
  rw [hw b0, hw b1, hw b2]
  match f with
  | 0 => exact word0 _ _ hi
  | 1 => exact word1 _ _ _ hi
  | 2 => exact word2 _ _ _ hi
  | 3 => exact word3 _ _ hi

theorem halves_eq (e : ℕ) (h2 : e ≤ 254) (b : ℕ) (hb : b = 0 ∨ b = 1) : (128 * e + 65536 * (128 * e)) / 65536 ^ b % 65536 = 128 * e := by
  rcases hb with rfl | rfl
  · rw [Nat.pow_zero, Nat.div_one, Nat.add_mul_mod_self_left, Nat.mod_eq_of_lt (by omega)]
  · rw [Nat.pow_one, Nat.add_mul_div_left _ _ (by decide), Nat.div_eq_of_lt (by omega), Nat.zero_add, Nat.mod_eq_of_lt (by omega)]

/-- A word with the same exponent bits in both halves, over row `u` of a pair of scale rows. -/
theorem pair_at (s t : IVec S1x512 32) (u : Fin 16) (j : Fin 512) (e : ℕ) (h1 : 1 ≤ e) (h2 : e ≤ 254)
    (hs : u.val < 8 → (s (ValueIdx.ix2 0 j)).toNat = 128 * e + 65536 * (128 * e)) (ht : 8 ≤ u.val → (t (ValueIdx.ix2 0 j)).toNat = 128 * e + 65536 * (128 * e)) :
    pair (F := Ideal) s t (ValueIdx.ix2 u j) = two ((e : ℤ) - 127) := by
  unfold pair
  rw [bitcastToFloat_apply, Ideal.ofBits_def]
  refine bf16_exp e h1 h2 _ ?_
  rw [bitcast_half _ _ u j ⟨u.val / 2, by omega⟩ rfl, shapeCast_self, shapeCast_self, ValueIdx.select_apply]
  have hc : cmpi .slt (iota .tc S8x512 32 [0] iota_S8x512_d0_w32) (broadcast S8x512 4#32) (ValueIdx.ix2 ⟨u.val / 2, by omega⟩ j)
      = BitVec.ofBool (decide (u.val < 8)) := by
    show IntOp.cmpi .slt (BitVec.ofNat 32 (0 * 8 + u.val / 2)) 4#32 = _
    clear hs ht
    revert u
    decide
  rw [hc, ValueIdx.broadcastTo_1b_ab_apply, ValueIdx.broadcastTo_1b_ab_apply]
  have hmod : u.val % 2 = 0 ∨ u.val % 2 = 1 := by omega
  by_cases h : u.val < 8
  · rw [decide_eq_true h]
    show (s (ValueIdx.ix2 0 j)).toNat / _ % _ = _
    rw [hs h]
    exact halves_eq e h2 _ hmod
  · rw [decide_eq_false h]
    show (t (ValueIdx.ix2 0 j)).toNat / _ % _ = _
    rw [ht (by omega)]
    exact halves_eq e h2 _ hmod

theorem factor_at (S : Fin 4 → IVec S1x512 32) (u : Fin 32) (j : Fin 512) (e : ℕ) (h1 : 1 ≤ e) (h2 : e ≤ 254)
    (hs : (S ⟨u.val / 8, by omega⟩ (ValueIdx.ix2 0 j)).toNat = 128 * e + 65536 * (128 * e)) :
    factor (F := Ideal) (S 0) (S 1) (S 2) (S 3) (ValueIdx.ix2 u j) = two ((e : ℤ) - 127) := by
  have hS : ∀ n : Fin 4, u.val / 8 = n.val → (S n (ValueIdx.ix2 0 j)).toNat = 128 * e + 65536 * (128 * e) := fun n hn => by
    rw [← hs]; congr 3; exact Fin.ext hn.symm
  unfold factor
  by_cases h : u.val < 16
  · rw [concatenate_pair_apply_left 0 _ _ concatenates_S16x512_S16x512_S32x512_d0 (ValueIdx.ix2 u j) rfl (ValueIdx.ix2 ⟨u.val, h⟩ j)
      (fun b => match b with | ⟨0, _⟩ => rfl | ⟨1, _⟩ => rfl)]
    exact pair_at _ _ ⟨u.val, h⟩ j e h1 h2 (fun h8 => hS 0 (by show u.val / 8 = 0; dsimp only at h8; omega))
      (fun h8 => hS 1 (by show u.val / 8 = 1; dsimp only at h8; omega))
  · rw [concatenate_pair_apply_right 0 _ _ concatenates_S16x512_S16x512_S32x512_d0 (ValueIdx.ix2 u j) rfl rfl (ValueIdx.ix2 ⟨u.val - 16, by omega⟩ j)
      (fun b hb => match b with | ⟨0, _⟩ => absurd rfl hb | ⟨1, _⟩ => rfl) (by show u.val - 16 + 16 = u.val; omega)]
    exact pair_at _ _ ⟨u.val - 16, by omega⟩ j e h1 h2 (fun h8 => hS 2 (by show u.val / 8 = 2; dsimp only at h8; omega))
      (fun h8 => hS 3 (by show u.val / 8 = 3; dsimp only at h8; omega))

abbrev list8 {α : Type} (x : Fin 8 → S32x512.Idx → α) : List ((s : Shape) × (s.Idx → α)) :=
  [⟨S32x512, x 0⟩, ⟨S32x512, x 1⟩, ⟨S32x512, x 2⟩, ⟨S32x512, x 3⟩, ⟨S32x512, x 4⟩, ⟨S32x512, x 5⟩, ⟨S32x512, x 6⟩, ⟨S32x512, x 7⟩]

theorem cat8 {α : Type} (x : Fin 8 → S32x512.Idx → α) (f : Fin 8) (u : Fin 32) (j : Fin 512) :
    concatenate S256x512 0 (list8 x) concatenates_S32x512_S32x512_S32x512_S32x512_S32x512_S32x512_S32x512_S32x512_S256x512_d0
      (ValueIdx.ix2 ⟨32 * f.val + u.val, by omega⟩ j) = x f (ValueIdx.ix2 u j) := by
  have hb : ∀ (p : Fin 256) (b : Fin S32x512.rank), b.cast (rfl : S32x512.rank = S256x512.rank) ≠ 0 →
      ((ValueIdx.ix2 u j : S32x512.Idx) b).val = ((ValueIdx.ix2 p j : S256x512.Idx) (b.cast rfl)).val :=
    fun p b hb => match b with | ⟨0, _⟩ => absurd rfl hb | ⟨1, _⟩ => rfl
  match f with
  | 0 => exact concatenate_apply_piece (t := S256x512) 0 (list8 x) _ (ValueIdx.ix2 ⟨32 * 0 + u.val, by omega⟩ j) 0 (by show 0 < 8; omega) S32x512 (x 0) rfl rfl 0 rfl (ValueIdx.ix2 u j) (hb _) (by show 0 + u.val = 32 * 0 + u.val; omega)
  | 1 => exact concatenate_apply_piece (t := S256x512) 0 (list8 x) _ (ValueIdx.ix2 ⟨32 * 1 + u.val, by omega⟩ j) 1 (by show 1 < 8; omega) S32x512 (x 1) rfl rfl 32 rfl (ValueIdx.ix2 u j) (hb _) (by show 32 + u.val = 32 * 1 + u.val; omega)
  | 2 => exact concatenate_apply_piece (t := S256x512) 0 (list8 x) _ (ValueIdx.ix2 ⟨32 * 2 + u.val, by omega⟩ j) 2 (by show 2 < 8; omega) S32x512 (x 2) rfl rfl 64 rfl (ValueIdx.ix2 u j) (hb _) (by show 64 + u.val = 32 * 2 + u.val; omega)
  | 3 => exact concatenate_apply_piece (t := S256x512) 0 (list8 x) _ (ValueIdx.ix2 ⟨32 * 3 + u.val, by omega⟩ j) 3 (by show 3 < 8; omega) S32x512 (x 3) rfl rfl 96 rfl (ValueIdx.ix2 u j) (hb _) (by show 96 + u.val = 32 * 3 + u.val; omega)
  | 4 => exact concatenate_apply_piece (t := S256x512) 0 (list8 x) _ (ValueIdx.ix2 ⟨32 * 4 + u.val, by omega⟩ j) 4 (by show 4 < 8; omega) S32x512 (x 4) rfl rfl 128 rfl (ValueIdx.ix2 u j) (hb _) (by show 128 + u.val = 32 * 4 + u.val; omega)
  | 5 => exact concatenate_apply_piece (t := S256x512) 0 (list8 x) _ (ValueIdx.ix2 ⟨32 * 5 + u.val, by omega⟩ j) 5 (by show 5 < 8; omega) S32x512 (x 5) rfl rfl 160 rfl (ValueIdx.ix2 u j) (hb _) (by show 160 + u.val = 32 * 5 + u.val; omega)
  | 6 => exact concatenate_apply_piece (t := S256x512) 0 (list8 x) _ (ValueIdx.ix2 ⟨32 * 6 + u.val, by omega⟩ j) 6 (by show 6 < 8; omega) S32x512 (x 6) rfl rfl 192 rfl (ValueIdx.ix2 u j) (hb _) (by show 192 + u.val = 32 * 6 + u.val; omega)
  | 7 => exact concatenate_apply_piece (t := S256x512) 0 (list8 x) _ (ValueIdx.ix2 ⟨32 * 7 + u.val, by omega⟩ j) 7 (by show 7 < 8; omega) S32x512 (x 7) rfl rfl 224 rfl (ValueIdx.ix2 u j) (hb _) (by show 224 + u.val = 32 * 7 + u.val; omega)

theorem scaled_at (f : Fin 4) (b0 b1 b2 : IVec S1x32x512 8) (s : FVec Ideal S32x512 .bf16) (u : Fin 32) (j : Fin 512) (n : ℤ)
    (hs : s (ValueIdx.ix2 u j) = two (n + 4)) :
    scaled (fieldF f (word b0) (word b1) (word b2)) s (ValueIdx.ix2 u j) = decode (codeF f (b0 (ValueIdx.ix3 0 u j)) (b1 (ValueIdx.ix3 0 u j)) (b2 (ValueIdx.ix3 0 u j))) * two n := by
  unfold scaled
  rw [ValueIdx.mulf_apply, ValueIdx.extf_apply, bitcastToFloat_apply, Ideal.ofBits_def, bitcast_byte _ _ u j ⟨u.val / 4, by omega⟩ rfl, byte_field, hs]
  exact enc_mul _ (codeF_lt _ _ _ _) n

/-- A weight tile's entry: row `128 h + 32 f + u` of tile `k` is field `f` of packed row `u` of chunk `2k + h`. -/
theorem rhs_at (W : Fin 3 → Fin 28 → Vec Ideal S1x32x512 .i8) (S : Fin 112 → Vec Ideal S1x512 .i32) (k : Fin 14) (h : Fin 2) (f : Fin 4)
    (u : Fin 32) (j : Fin 512) (e : ℕ) (h1 : 1 ≤ e) (h2 : e ≤ 254)
    (hs : BitVec.toNat (w := 32) (S ⟨8 * k.val + 4 * h.val + u.val / 8, by omega⟩ (ValueIdx.ix2 0 j)) = 128 * e + 65536 * (128 * e)) :
    rhs W S k (ValueIdx.ix2 ⟨128 * h.val + 32 * f.val + u.val, by omega⟩ j)
      = decode (codeF f (W 0 ⟨2 * k.val + h.val, by omega⟩ (ValueIdx.ix3 0 u j)) (W 1 ⟨2 * k.val + h.val, by omega⟩ (ValueIdx.ix3 0 u j)) (W 2 ⟨2 * k.val + h.val, by omega⟩ (ValueIdx.ix3 0 u j)))
        * two ((e : ℤ) - 131) := by
  unfold rhs
  have hix : (⟨128 * h.val + 32 * f.val + u.val, by omega⟩ : Fin 256) = ⟨32 * (⟨4 * h.val + f.val, by omega⟩ : Fin 8).val + u.val, by show 32 * (4 * h.val + f.val) + u.val < 256; omega⟩ :=
    Fin.ext (by show 128 * h.val + 32 * f.val + u.val = 32 * (4 * h.val + f.val) + u.val; omega)
  rw [hix]
  have e4 : (e : ℤ) - 127 = ((e : ℤ) - 131) + 4 := by ring
  match h, hs with
  | 0, hs =>
    have hf := factor_at (fun n : Fin 4 => S ⟨8 * k.val + n.val, by omega⟩) u j e h1 h2 (by
      rw [← hs]; rfl)
    rw [e4] at hf
    match f with
    | 0 => exact (cat8 ![_, _, _, _, _, _, _, _] 0 u j).trans (scaled_at 0 _ _ _ _ u j _ hf)
    | 1 => exact (cat8 ![_, _, _, _, _, _, _, _] 1 u j).trans (scaled_at 1 _ _ _ _ u j _ hf)
    | 2 => exact (cat8 ![_, _, _, _, _, _, _, _] 2 u j).trans (scaled_at 2 _ _ _ _ u j _ hf)
    | 3 => exact (cat8 ![_, _, _, _, _, _, _, _] 3 u j).trans (scaled_at 3 _ _ _ _ u j _ hf)
  | 1, hs =>
    have hf := factor_at (fun n : Fin 4 => S ⟨8 * k.val + (4 + n.val), by omega⟩) u j e h1 h2 (by
      rw [← hs]; exact congrArg (fun n => BitVec.toNat (w := 32) (S n (ValueIdx.ix2 0 j))) (Fin.ext (by show 8 * k.val + (4 + u.val / 8) = 8 * k.val + 4 * 1 + u.val / 8; omega)))
    rw [e4] at hf
    match f with
    | 0 => exact (cat8 ![_, _, _, _, _, _, _, _] 4 u j).trans (scaled_at 0 _ _ _ _ u j _ hf)
    | 1 => exact (cat8 ![_, _, _, _, _, _, _, _] 5 u j).trans (scaled_at 1 _ _ _ _ u j _ hf)
    | 2 => exact (cat8 ![_, _, _, _, _, _, _, _] 6 u j).trans (scaled_at 2 _ _ _ _ u j _ hf)
    | 3 => exact (cat8 ![_, _, _, _, _, _, _, _] 7 u j).trans (scaled_at 3 _ _ _ _ u j _ hf)

end Cert.KernelIdeal.Hand
end
-- ==== Proof.KTile.lean ====
/- An output tile over the extended reals, entry by entry: the sum over all 3584 columns of a dequantised activation times
   a dequantised weight. -/
module

public import proofs.«01_k».proof.Proof.KExp
public import proofs.«01_k».proof.Proof.KRhs
public import Idealize.ShloMosaic.Lib.Pipeline.ValueKit.Tiles

@[expose] public section

set_option maxRecDepth 16384

noncomputable section

namespace Cert.KernelIdeal.Hand

open Cert.KernelIdeal Cert.KernelIdeal.Gen Idealize.ShloMosaic Idealize.ShloMosaic.TcCoe Idealize.SL.Sem

/-! ## The reads -/

theorem xRead_at (xs : Vec Ideal S256x3584 .bf16) (k : Fin 14) (r : Fin 256) (p : Fin 256) :
    xRead xs k (ValueIdx.ix2 r p) = xs (ValueIdx.ix2 r ⟨256 * k.val + p.val, by omega⟩) :=
  View.ld_unit_apply_of xs _ _ (inb_x k) _ _ (fun a => match a with
    | ⟨0, _⟩ => (Nat.zero_add _).symm
    | ⟨1, _⟩ => rfl)

theorem wRead_at (x1 : Vec Ideal S3x896x512 .i8) (i : Fin 3) (k : Fin 28) (u : Fin 32) (j : Fin 512) :
    wRead x1 i k (ValueIdx.ix3 0 u j) = x1 (ValueIdx.ix3 i ⟨32 * k.val + u.val, by omega⟩ j) :=
  View.ld_unit_apply_of x1 _ _ (inb_w i k) _ _ (fun a => match a with
    | ⟨0, _⟩ => rfl
    | ⟨1, _⟩ => rfl
    | ⟨2, _⟩ => (Nat.zero_add _).symm)

theorem sRead_at (x2 : Vec Ideal S112x512 .i8) (i : Fin 112) (j : Fin 512) :
    sRead x2 i (ValueIdx.ix2 0 j) = scaleBits x2 (ValueIdx.ix2 i j) :=
  View.ld_unit_apply_of (Val := Elt Ideal) (e := .i32) (S := S112x512) (scaleBits x2) _ _ (inb_s i) _ _ (fun a => match a with
    | ⟨0, _⟩ => rfl
    | ⟨1, _⟩ => (Nat.zero_add _).symm)

/-- A stored scale as the word the weights are scaled by. -/
theorem scale_word (x2 : Vec Ideal S112x512 .i8) (i : Fin 112) (j : Fin 512) (h : BitVec.toNat (w := 8) (x2 (ValueIdx.ix2 i j)) ≤ 250) :
    BitVec.toNat (w := 32) (scaleBits x2 (ValueIdx.ix2 i j))
      = 128 * (BitVec.toNat (w := 8) (x2 (ValueIdx.ix2 i j)) + 4) + 65536 * (128 * (BitVec.toNat (w := 8) (x2 (ValueIdx.ix2 i j)) + 4)) := by
  have hw : ∀ w : BitVec 8, w.toNat ≤ 250 →
      (IntOp.ori (IntOp.shli .vector (IntOp.addi (w.setWidth 32) 4#32) 7#32)
        (IntOp.shli .vector (IntOp.shli .vector (IntOp.addi (w.setWidth 32) 4#32) 7#32) 16#32)).toNat
      = 128 * (w.toNat + 4) + 65536 * (128 * (w.toNat + 4)) := by decide +kernel
  exact hw _ h

/-! ## A weight -/

/-- The value of the weight in row `K` of a tile's column `j`. -/
def weightAt (x1 : Vec Ideal S3x896x512 .i8) (x2 : Vec Ideal S112x512 .i8) (K : Fin 3584) (j : Fin 512) : EReal :=
  decode (codeF ⟨K.val % 4, by omega⟩ (x1 (ValueIdx.ix3 0 ⟨K.val / 4, by omega⟩ j)) (x1 (ValueIdx.ix3 1 ⟨K.val / 4, by omega⟩ j)) (x1 (ValueIdx.ix3 2 ⟨K.val / 4, by omega⟩ j)))
    * two ((BitVec.toNat (w := 8) (x2 (ValueIdx.ix2 ⟨K.val / 32, by omega⟩ j)) : ℤ) - 127)

theorem rhs_tile (x1 : Vec Ideal S3x896x512 .i8) (x2 : Vec Ideal S112x512 .i8) (h2 : ∀ i j, BitVec.toNat (w := 8) (x2 (ValueIdx.ix2 i j)) ≤ 250)
    (k : Fin 14) (p : Fin 256) (j : Fin 512) :
    rhs (wRead x1) (sRead x2) k (ValueIdx.ix2 p j) = weightAt x1 x2 (permCol ⟨256 * k.val + p.val, by omega⟩) j := by
  obtain ⟨h, f, u, rfl⟩ : ∃ (h : Fin 2) (f : Fin 4) (u : Fin 32), p = ⟨128 * h.val + 32 * f.val + u.val, by omega⟩ :=
    ⟨⟨p.val / 128, by omega⟩, ⟨p.val % 128 / 32, by omega⟩, ⟨p.val % 32, by omega⟩, Fin.ext (by
      show p.val = 128 * (p.val / 128) + 32 * (p.val % 128 / 32) + p.val % 32; omega)⟩
  have hK : permCol ⟨256 * k.val + (128 * h.val + 32 * f.val + u.val), by omega⟩ = ⟨256 * k.val + 128 * h.val + 4 * u.val + f.val, by omega⟩ := Fin.ext (by
    show 128 * ((256 * k.val + (128 * h.val + 32 * f.val + u.val)) / 128) + (4 * ((256 * k.val + (128 * h.val + 32 * f.val + u.val)) % 32)
      + (256 * k.val + (128 * h.val + 32 * f.val + u.val)) % 128 / 32) = 256 * k.val + 128 * h.val + 4 * u.val + f.val
    omega)
  have hb := h2 ⟨8 * k.val + 4 * h.val + u.val / 8, by omega⟩ j
  rw [rhs_at (wRead x1) (sRead x2) k h f u j (BitVec.toNat (w := 8) (x2 (ValueIdx.ix2 ⟨8 * k.val + 4 * h.val + u.val / 8, by omega⟩ j)) + 4) (by omega) (by omega)
    (by rw [sRead_at]; exact scale_word x2 _ j hb), hK]
  unfold weightAt
  have e1 : (⟨(256 * k.val + 128 * h.val + 4 * u.val + f.val) % 4, by omega⟩ : Fin 4) = f := Fin.ext (by
    show (256 * k.val + 128 * h.val + 4 * u.val + f.val) % 4 = f.val; omega)
  have e2 : (⟨(256 * k.val + 128 * h.val + 4 * u.val + f.val) / 4, by omega⟩ : Fin 896) = ⟨32 * (2 * k.val + h.val) + u.val, by omega⟩ := Fin.ext (by
    show (256 * k.val + 128 * h.val + 4 * u.val + f.val) / 4 = 32 * (2 * k.val + h.val) + u.val; omega)
  have e3 : (⟨(256 * k.val + 128 * h.val + 4 * u.val + f.val) / 32, by omega⟩ : Fin 112) = ⟨8 * k.val + 4 * h.val + u.val / 8, by omega⟩ := Fin.ext (by
    show (256 * k.val + 128 * h.val + 4 * u.val + f.val) / 32 = 8 * k.val + 4 * h.val + u.val / 8; omega)
  show _ = decode (codeF ⟨(256 * k.val + 128 * h.val + 4 * u.val + f.val) % 4, _⟩ (x1 (ValueIdx.ix3 0 ⟨(256 * k.val + 128 * h.val + 4 * u.val + f.val) / 4, _⟩ j))
      (x1 (ValueIdx.ix3 1 ⟨(256 * k.val + 128 * h.val + 4 * u.val + f.val) / 4, _⟩ j)) (x1 (ValueIdx.ix3 2 ⟨(256 * k.val + 128 * h.val + 4 * u.val + f.val) / 4, _⟩ j)))
    * two ((BitVec.toNat (w := 8) (x2 (ValueIdx.ix2 ⟨(256 * k.val + 128 * h.val + 4 * u.val + f.val) / 32, _⟩ j)) : ℤ) - 127)
  rw [e1, e2, e3, wRead_at, wRead_at, wRead_at]
  congr 2
  push_cast
  omega

/-! ## A product of tiles -/

theorem lhs_prod_0 (i : S256x512.Idx) (q : dot_S256x256_S256x512_S256x512_1_0_0_1_n_n.contr.Idx) :
    (dot_S256x256_S256x512_S256x512_1_0_0_1_n_n.lhsIdx i q 0).val = (i 0).val := by
  unfold DotDims.lhsIdx
  rw [dif_neg (show ¬(0 : Fin S256x256.rank) ∈ dot_S256x256_S256x512_S256x512_1_0_0_1_n_n.lhsBatch by decide), dif_pos (show (0 : Fin S256x256.rank) ∈ dot_S256x256_S256x512_S256x512_1_0_0_1_n_n.lhsNonContracting by decide)]
  rfl
theorem lhs_prod_1 (i : S256x512.Idx) (q : dot_S256x256_S256x512_S256x512_1_0_0_1_n_n.contr.Idx) :
    (dot_S256x256_S256x512_S256x512_1_0_0_1_n_n.lhsIdx i q 1).val = (q ⟨0, by decide⟩).val :=
  dot_S256x256_S256x512_S256x512_1_0_0_1_n_n.lhsIdx_val_of_single rfl i q
theorem rhs_prod_0 (i : S256x512.Idx) (q : dot_S256x256_S256x512_S256x512_1_0_0_1_n_n.contr.Idx) :
    (dot_S256x256_S256x512_S256x512_1_0_0_1_n_n.rhsIdx i q 0).val = (q ⟨0, by decide⟩).val :=
  dot_S256x256_S256x512_S256x512_1_0_0_1_n_n.rhsIdx_val_of_single rfl i q
theorem rhs_prod_1 (i : S256x512.Idx) (q : dot_S256x256_S256x512_S256x512_1_0_0_1_n_n.contr.Idx) :
    (dot_S256x256_S256x512_S256x512_1_0_0_1_n_n.rhsIdx i q 1).val = (i 1).val := by
  unfold DotDims.rhsIdx
  rw [dif_neg (show ¬(1 : Fin S256x512.rank) ∈ dot_S256x256_S256x512_S256x512_1_0_0_1_n_n.rhsBatch by decide), dif_pos (show (1 : Fin S256x512.rank) ∈ dot_S256x256_S256x512_S256x512_1_0_0_1_n_n.rhsNonContracting by decide)]
  rfl

theorem zero_bits : Ideal.ofBits .f32 0x00000000#32 = 0 := by simp [Ideal.ofBits, Ideal.ieee]

theorem matmul_at (y0 : FVec Ideal S256x256 .bf16) (y1 : FVec Ideal S256x512 .bf16) (r : Fin 256) (j : Fin 512) :
    matmul dot_S256x256_S256x512_S256x512_1_0_0_1_n_n none y0 y1 (constant S256x512 .f32 0x00000000#32) (ValueIdx.ix2 r j)
      = ∑ p : Fin 256, ((y0 (ValueIdx.ix2 r p) : EReal) * (y1 (ValueIdx.ix2 p j) : EReal)) := by
  refine (Ideal.matmul_apply _ _ _ _ _ _).trans ?_
  rw [show constant (F := Ideal) S256x512 .f32 0x00000000#32 (ValueIdx.ix2 r j) = Ideal.ofBits .f32 0x00000000#32 from rfl, zero_bits, zero_add,
    ← Equiv.sum_comp (ValueIdx.contrEquiv1 dot_S256x256_S256x512_S256x512_1_0_0_1_n_n 256 rfl rfl).symm]
  refine Finset.sum_congr rfl fun p _ => ?_
  have hk := ValueIdx.contrEquiv1_symm_val dot_S256x256_S256x512_S256x512_1_0_0_1_n_n 256 rfl rfl p
  have el : dot_S256x256_S256x512_S256x512_1_0_0_1_n_n.lhsIdx (ValueIdx.ix2 r j) ((ValueIdx.contrEquiv1 dot_S256x256_S256x512_S256x512_1_0_0_1_n_n 256 rfl rfl).symm p) = ValueIdx.ix2 r p := funext fun a => Fin.ext (by
    match a with
    | ⟨0, _⟩ => exact lhs_prod_0 _ _
    | ⟨1, _⟩ => exact (lhs_prod_1 _ _).trans hk)
  have er : dot_S256x256_S256x512_S256x512_1_0_0_1_n_n.rhsIdx (ValueIdx.ix2 r j) ((ValueIdx.contrEquiv1 dot_S256x256_S256x512_S256x512_1_0_0_1_n_n 256 rfl rfl).symm p) = ValueIdx.ix2 p j := funext fun a => Fin.ext (by
    match a with
    | ⟨0, _⟩ => exact (rhs_prod_0 _ _).trans hk
    | ⟨1, _⟩ => exact rhs_prod_1 _ _)
  rw [el, er]

/-! ## The sum -/

theorem sum14 (P : Fin 14 → EReal) :
    P 0 + P 1 + P 2 + P 3 + P 4 + P 5 + P 6 + P 7 + P 8 + P 9 + P 10 + P 11 + P 12 + P 13 = ∑ k : Fin 14, P k := by
  simp only [Fin.sum_univ_castSucc, Fin.sum_univ_zero, zero_add]
  rfl

/-- Fourteen tiles of 256 columns are 3584 columns. -/
theorem sum_tiles (f : Fin 3584 → EReal) : ∑ k : Fin 14, ∑ p : Fin 256, f ⟨256 * k.val + p.val, by omega⟩ = ∑ K : Fin 3584, f K := by
  rw [← Fintype.sum_prod_type' (fun (k : Fin 14) (p : Fin 256) => f ⟨256 * k.val + p.val, by omega⟩)]
  refine Eq.trans ?_ (Equiv.sum_comp (finProdFinEquiv (m := 14) (n := 256)) f)
  refine Finset.sum_congr rfl fun x _ => congrArg f (Fin.ext ?_)
  show 256 * x.1.val + x.2.val = x.2.val + 256 * x.1.val
  omega

theorem permCol_bij : Function.Bijective permCol := by
  refine (Finite.injective_iff_bijective).1 fun K L h => Fin.ext ?_
  have h' : 128 * (K.val / 128) + (4 * (K.val % 32) + K.val % 128 / 32) = 128 * (L.val / 128) + (4 * (L.val % 32) + L.val % 128 / 32) := congrArg Fin.val h
  have hs : ∀ n : ℕ, n = 128 * (n / 128) + (32 * (n % 128 / 32) + n % 32) ∧ n % 32 < 32 ∧ n % 128 / 32 < 4 := fun n => by omega
  obtain ⟨a1, a2, a3⟩ := hs K.val
  obtain ⟨b1, b2, b3⟩ := hs L.val
  rw [a1, b1]
  generalize K.val / 128 = a at *
  generalize K.val % 32 = u at *
  generalize K.val % 128 / 32 = f at *
  generalize L.val / 128 = a' at *
  generalize L.val % 32 = u' at *
  generalize L.val % 128 / 32 = f' at *
  omega

/-- A dequantised activation. -/
def actAt (x0 : Vec Ideal S256x3584 .bf16) (r : Fin 256) (K : Fin 3584) : EReal :=
  codeAt x0 r K * two ((expOf x0 r ⟨K.val / 32, by omega⟩ : ℤ) - 131)

theorem acc_at (x0 : Vec Ideal S256x3584 .bf16) (x1 : Vec Ideal S3x896x512 .i8) (x2 : Vec Ideal S112x512 .i8) (hx : ∀ r b, Good (blk x0 r b))
    (h2 : ∀ i j, BitVec.toNat (w := 8) (x2 (ValueIdx.ix2 i j)) ≤ 250) (r : Fin 256) (j : Fin 512) :
    acc (xRead (xdOf x0)) (wRead x1) (sRead x2) (ValueIdx.ix2 r j) = ∑ K : Fin 3584, actAt x0 r K * weightAt x1 x2 K j := by
  have hp : ∀ k : Fin 14, prod (xRead (xdOf x0)) (wRead x1) (sRead x2) k (ValueIdx.ix2 r j)
      = ∑ p : Fin 256, (fun K => actAt x0 r (permCol K) * weightAt x1 x2 (permCol K) j) ⟨256 * k.val + p.val, by omega⟩ := by
    intro k
    unfold prod
    rw [matmul_at]
    refine Finset.sum_congr rfl fun p _ => ?_
    rw [rhs_tile x1 x2 h2 k p j, xRead_at, xd_eq x0 hx]
    rfl
  refine Eq.trans ?_ (permCol_bij.sum_comp (fun K => actAt x0 r K * weightAt x1 x2 K j))
  rw [← sum_tiles, ← Finset.sum_congr rfl fun k _ => hp k, ← sum14]
  rfl

end Cert.KernelIdeal.Hand
end
-- ==== Proof.KAll.lean ====
/- The kernel's three result arrays over the extended reals, entry by entry, as functions of its argument arrays. -/
module

public import proofs.«01_k».proof.Proof.KTile
public import proofs.«01_k».proof.Proof.KValue
public import proofs.«01_k».proof.Proof.KOutA
public import proofs.«01_k».proof.Proof.KOutB

@[expose] public section

set_option maxRecDepth 16384

noncomputable section

namespace Cert.KernelIdeal.Hand

open Cert.KernelIdeal Cert.KernelIdeal.Gen Idealize.ShloMosaic Idealize.ShloMosaic.TcCoe Idealize.SL.Sem

variable (m : (ℓ : Loc nD τ sig) → Buf (Elt Ideal) ℓ) (c : Dev nD)

/-! ## What the windows hold -/

/-- The activations as the kernel reads them. -/
def actsOf : Vec Ideal S256x3584 .bf16 := shapeCast S256x3584 (m ((c : Thread nD τ).loc main_arg0) : Vec Ideal S1x256x3584 .bf16) shapeCasts_S1x256x3584_S256x3584

theorem actsOf_at (r : Fin 256) (K : Fin 3584) :
    actsOf m c (ValueIdx.ix2 r K) = (m ((c : Thread nD τ).loc main_arg0) : Vec Ideal S1x256x3584 .bf16) (ValueIdx.ix3 0 r K) :=
  shapeCast_apply _ shapeCasts_S1x256x3584_S256x3584 _ _ (by
    rw [Shape.rowMajor_val_two, Shape.rowMajor_val_three]
    show (0 * 256 + r.val) * 3584 + K.val = r.val * 3584 + K.val
    omega)

theorem V_acts : V m c main_v0 = actsOf m c := by
  show StableHlo.after hostOps0 (fun b => m (c, b)) (Proc.devRef .tc main_v0) = _
  simp only [hostOps0]
  after_results_simp
  rfl

theorem index0 : ∀ t : Fin cfg0.N, win0_0.index t = ![0, 0] := (by decide +kernel : ∀ t : Fin grid0.N, _)
theorem index1 : ∀ t : Fin cfg0.N, win0_1.index t = ![0, 0, t.val] := (by decide +kernel : ∀ t : Fin grid0.N, _)
theorem index2 : ∀ t : Fin cfg0.N, win0_2.index t = ![0, t.val] := (by decide +kernel : ∀ t : Fin grid0.N, _)

theorem acts_blk (t : Fin cfg0.N) : (iblk m c 0 t : Vec Ideal S256x3584 .bf16) = actsOf m c := by
  funext y
  refine Eq.trans ?_ (congrFun (V_acts m c) y)
  show V m c main_v0 (((cfg0.win 0).blk t).view.emb y) = V m c main_v0 y
  refine congrArg _ (funext fun a => Fin.ext ?_)
  have hi := index0 t
  match a with
  | ⟨0, _⟩ =>
    show win0_0.index t (0 : Fin 2) * 256 + 1 * (y 0).val = (y 0).val
    rw [hi]; show 0 * 256 + 1 * (y 0).val = (y 0).val; omega
  | ⟨1, _⟩ =>
    show win0_0.index t (1 : Fin 2) * 3584 + 1 * (y 1).val = (y 1).val
    rw [hi]; show 0 * 3584 + 1 * (y 1).val = (y 1).val; omega

theorem t_lt (t : Fin cfg0.N) : t.val < 37 := lt_of_lt_of_eq t.isLt (show cfg0.N = 37 from N_0)

theorem packed_blk (t : Fin cfg0.N) (p : Fin 3) (q : Fin 896) (j : Fin 512) (n : Fin 18944) (hn : n.val = 512 * t.val + j.val) :
    (iblk m c 1 t : Vec Ideal S3x896x512 .i8) (ValueIdx.ix3 p q j) = (m ((c : Thread nD τ).loc main_arg1) : Vec Ideal S3x896x18944 .i8) (ValueIdx.ix3 p q n) := by
  refine Eq.trans ?_ (congrFun (V_main_arg1 m c) _)
  show V m c main_arg1 (((cfg0.win 1).blk t).view.emb (ValueIdx.ix3 p q j)) = V m c main_arg1 (ValueIdx.ix3 p q n)
  refine congrArg _ (funext fun a => Fin.ext ?_)
  have hi := index1 t
  match a with
  | ⟨0, _⟩ =>
    show win0_1.index t (0 : Fin 3) * 3 + 1 * p.val = p.val
    rw [hi]; show 0 * 3 + 1 * p.val = p.val; omega
  | ⟨1, _⟩ =>
    show win0_1.index t (1 : Fin 3) * 896 + 1 * q.val = q.val
    rw [hi]; show 0 * 896 + 1 * q.val = q.val; omega
  | ⟨2, _⟩ =>
    show win0_1.index t (2 : Fin 3) * 512 + 1 * j.val = n.val
    rw [hi]; show t.val * 512 + 1 * j.val = n.val; omega

theorem scale_blk (t : Fin cfg0.N) (q : Fin 112) (j : Fin 512) (n : Fin 18944) (hn : n.val = 512 * t.val + j.val) :
    (iblk m c 2 t : Vec Ideal S112x512 .i8) (ValueIdx.ix2 q j) = (m ((c : Thread nD τ).loc main_arg2) : Vec Ideal S112x18944 .i8) (ValueIdx.ix2 q n) := by
  refine Eq.trans ?_ (congrFun (V_main_arg2 m c) _)
  show V m c main_arg2 (((cfg0.win 2).blk t).view.emb (ValueIdx.ix2 q j)) = V m c main_arg2 (ValueIdx.ix2 q n)
  refine congrArg _ (funext fun a => Fin.ext ?_)
  have hi := index2 t
  match a with
  | ⟨0, _⟩ =>
    show win0_2.index t (0 : Fin 2) * 112 + 1 * q.val = q.val
    rw [hi]; show 0 * 112 + 1 * q.val = q.val; omega
  | ⟨1, _⟩ =>
    show win0_2.index t (1 : Fin 2) * 512 + 1 * j.val = n.val
    rw [hi]; show t.val * 512 + 1 * j.val = n.val; omega

/-! ## What the grid points leave -/

abbrev point0 : Fin cfg0.N := ⟨0, lt_of_lt_of_eq (by decide) N_0.symm⟩

/-- The first point leaves the codes, the scales, and the dequantised activations for every later point. -/
theorem first_tail : (outsAt0 m c 0 point0.isLt).2
    = (View.canon (codePieces (cRead (actsOf m c)) (expWords (cRead (actsOf m c)))), scalesOf (expWords (cRead (actsOf m c))), xdOf (actsOf m c)) := by
  refine (congrArg Prod.snd (outsAt0_A m c point0 (Nat.zero_mod _))).trans ?_
  dsimp only
  rw [out_A_4, out_A_5, sout_A, acts_blk]

/-- Every point leaves its output tile as the products of the dequantised activations with its weights. -/
theorem tile_eq (t : Fin cfg0.N) : (outsAt0 m c t.val t.isLt).1 = acc (xRead (xdOf (actsOf m c))) (wRead (iblk m c 1 t)) (sRead (iblk m c 2 t)) := by
  by_cases h0 : t.val % 37 = 0
  · refine (congrArg Prod.fst (outsAt0_A m c t h0)).trans ?_
    dsimp only
    rw [out_A_3, acts_blk]
  · refine (congrArg Prod.fst (outsAt0_B m c t h0)).trans ?_
    dsimp only
    rw [out_B, outs_tail m c (t.val - 1), first_tail]

/-- A dequantised activation times a dequantised weight, summed: the output at row `r`, column `n`, of the argument arrays. -/
def outAt (x0 : Vec Ideal S256x3584 .bf16) (x1 : Vec Ideal S3x896x18944 .i8) (x2 : Vec Ideal S112x18944 .i8) (r : Fin 256) (n : Fin 18944) : EReal :=
  ∑ K : Fin 3584, actAt x0 r K
    * (decode (codeF ⟨K.val % 4, by omega⟩ (x1 (ValueIdx.ix3 0 ⟨K.val / 4, by omega⟩ n)) (x1 (ValueIdx.ix3 1 ⟨K.val / 4, by omega⟩ n)) (x1 (ValueIdx.ix3 2 ⟨K.val / 4, by omega⟩ n)))
      * two ((BitVec.toNat (w := 8) (x2 (ValueIdx.ix2 ⟨K.val / 32, by omega⟩ n)) : ℤ) - 127))

/-! ## The arrays -/

variable (hx : ∀ r b, Good (blk (actsOf m c) r b))
include hx

theorem codes_at (r : Fin 256) (K : Fin 3584) : G4 m c (ValueIdx.ix2 r K) = codeAt (actsOf m c) r K := by
  rw [G4_last, outs_tail, first_tail]
  exact congrFun (codes_eq (actsOf m c) hx) (ValueIdx.ix2 r K)

omit hx in
theorem scalesOut_at (r : Fin 256) (b : Fin 112) : G5 m c (ValueIdx.ix2 r b) = (BitVec.ofNat 32 (expOf (actsOf m c) r b) - 4#32).setWidth 8 := by
  rw [G5_last, outs_tail, first_tail]
  exact scales_at (actsOf m c) r b

variable (hs : ∀ i n, BitVec.toNat (w := 8) ((m ((c : Thread nD τ).loc main_arg2) : Vec Ideal S112x18944 .i8) (ValueIdx.ix2 i n)) ≤ 250)
include hs

/-- The output at row `r`, column `n`. -/
theorem y_at (r : Fin 256) (n : Fin 18944) : G3 m c (ValueIdx.ix2 r n)
    = outAt (actsOf m c) (m ((c : Thread nD τ).loc main_arg1)) (m ((c : Thread nD τ).loc main_arg2)) r n := by
  have hN : cfg0.N = 37 := N_0
  have hp : pt3Of (ValueIdx.ix2 r n) = n.val / 512 := by
    show 37 * (r.val / 256 - 0) + 1 * (n.val / 512 - 0) = n.val / 512
    omega
  have ht : n.val / 512 < cfg0.N := by rw [hN]; omega
  have hl : loc3Of (ValueIdx.ix2 r n) = ValueIdx.ix2 r ⟨n.val % 512, by omega⟩ := by
    funext a; apply Fin.ext
    match a with
    | ⟨0, _⟩ => show r.val % 256 = r.val; omega
    | ⟨1, _⟩ => rfl
  have hn : n.val = 512 * (⟨n.val / 512, ht⟩ : Fin cfg0.N).val + (⟨n.val % 512, by omega⟩ : Fin 512).val := by
    show n.val = 512 * (n.val / 512) + n.val % 512; omega
  have hcol : ∀ j : Fin 512, 512 * (n.val / 512) + j.val < 18944 := fun j => by omega
  have key : ∑ K : Fin 3584, actAt (actsOf m c) r K * weightAt (iblk m c 1 ⟨n.val / 512, ht⟩) (iblk m c 2 ⟨n.val / 512, ht⟩) K ⟨n.val % 512, by omega⟩
      = outAt (actsOf m c) (m ((c : Thread nD τ).loc main_arg1)) (m ((c : Thread nD τ).loc main_arg2)) r n := by
    unfold outAt
    refine Finset.sum_congr rfl fun K _ => ?_
    unfold weightAt
    rw [packed_blk m c _ 0 _ _ n hn, packed_blk m c _ 1 _ _ n hn, packed_blk m c _ 2 _ _ n hn, scale_blk m c _ _ _ n hn]
  unfold G3
  rw [dif_pos (by rw [hp]; exact ht), hl, outs_congr m c _ _ _ ht hp, tile_eq m c ⟨n.val / 512, ht⟩]
  exact (acc_at (actsOf m c) (iblk m c 1 ⟨n.val / 512, ht⟩) (iblk m c 2 ⟨n.val / 512, ht⟩) hx
    (fun i j => by rw [scale_blk m c _ i j ⟨512 * (n.val / 512) + j.val, hcol j⟩ rfl]; exact hs _ _) r _).trans key

end Cert.KernelIdeal.Hand
end
-- ==== Proof.RefRead.lean ====
/- The reference program's host operations one at a time: what each one writes, as a function of the arguments, and each read at an index. -/
module

public import proofs.«01_k».proof.Proof.Gen.ReferenceIdeal.Launch
public import Idealize.ShloMosaic.Lib.StableHlo.Run
public import Idealize.ShloMosaic.Lib.Pipeline.Value
public import Idealize.ShloMosaic.Lib.ValueIdx
public import Idealize.ShloMosaic.PureOps.Ideal.Laws

@[expose] public section

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]

/-- The function of the operation that writes `main_v78`, named. It packs its operands into a list of dependent pairs
    whose shapes a later argument's type mentions, so `simp` cannot rewrite an operand where it stands; applied by
    name, the operands are plain arguments, which `run`'s simp pass rewrites before the name unfolds. -/
def fn_main_v78 : (main_v74 : Ref sig .tc).ty.Contents (Elt F) → (main_v75 : Ref sig .tc).ty.Contents (Elt F) → (main_v76 : Ref sig .tc).ty.Contents (Elt F) → (main_v77 : Ref sig .tc).ty.Contents (Elt F) → (main_v78 : Ref sig .tc).ty.Contents (Elt F) :=
  (fun u0 u1 u2 u3 => (concatenate S896x4x18944 1 [⟨S896x1x18944, (u0 : (⟨S896x1x18944, .i32⟩ : BufTy).Contents (Elt F))⟩, ⟨S896x1x18944, (u1 : (⟨S896x1x18944, .i32⟩ : BufTy).Contents (Elt F))⟩, ⟨S896x1x18944, (u2 : (⟨S896x1x18944, .i32⟩ : BufTy).Contents (Elt F))⟩, ⟨S896x1x18944, (u3 : (⟨S896x1x18944, .i32⟩ : BufTy).Contents (Elt F))⟩] concatenates_S896x1x18944_S896x1x18944_S896x1x18944_S896x1x18944_S896x4x18944_d1 : (⟨S896x4x18944, .i32⟩ : BufTy).Contents (Elt F)))

-- %0 = stablehlo.reshape %arg0 : (tensor<1x256x3584xbf16>) -> tensor<256x112x32xbf16>
def val_main_v0 (x0 : (⟨S1x256x3584, .bf16⟩ : BufTy).Contents (Elt F)) : (⟨S256x112x32, .bf16⟩ : BufTy).Contents (Elt F) :=
  shapeCast _ (x0) shapeCasts_S1x256x3584_S256x112x32
set_option backward.proofsInPublic true in
abbrev idx_main_v0 (i : S256x112x32.Idx) : S1x256x3584.Idx := fun a => match a with
  | ⟨0, _⟩ => ⟨0, Nat.one_pos⟩
  | ⟨1, _⟩ => ⟨(((i 0).val * 112 + (i 1).val) * 32 + (i 2).val) / 3584 % 256, by have h0 : (i 0).val < 256 := (i 0).isLt; have h1 : (i 1).val < 112 := (i 1).isLt; have h2 : (i 2).val < 32 := (i 2).isLt; show (((i 0).val * 112 + (i 1).val) * 32 + (i 2).val) / 3584 % 256 < 256; omega⟩
  | ⟨2, _⟩ => ⟨(((i 0).val * 112 + (i 1).val) * 32 + (i 2).val) % 3584, by have h0 : (i 0).val < 256 := (i 0).isLt; have h1 : (i 1).val < 112 := (i 1).isLt; have h2 : (i 2).val < 32 := (i 2).isLt; show (((i 0).val * 112 + (i 1).val) * 32 + (i 2).val) % 3584 < 3584; omega⟩
theorem val_main_v0_apply (x0 : (⟨S1x256x3584, .bf16⟩ : BufTy).Contents (Elt F)) (i : S256x112x32.Idx) :
    val_main_v0 (F := F) x0 i = x0 (idx_main_v0 i) := by
  unfold val_main_v0
  exact shapeCast_apply x0 shapeCasts_S1x256x3584_S256x112x32 i (idx_main_v0 i)
    (by rewrite [Shape.rowMajor_val_three, Shape.rowMajor_val_three]; have h0 : (i 0).val < 256 := (i 0).isLt; have h1 : (i 1).val < 112 := (i 1).isLt; have h2 : (i 2).val < 32 := (i 2).isLt; show (0 * 256 + (((i 0).val * 112 + (i 1).val) * 32 + (i 2).val) / 3584 % 256) * 3584 + (((i 0).val * 112 + (i 1).val) * 32 + (i 2).val) % 3584 = ((i 0).val * 112 + (i 1).val) * 32 + (i 2).val; omega)

-- %1 = stablehlo.convert %0 : (tensor<256x112x32xbf16>) -> tensor<256x112x32xf32>
def val_main_v1 (x0 : (⟨S1x256x3584, .bf16⟩ : BufTy).Contents (Elt F)) : (⟨S256x112x32, .f32⟩ : BufTy).Contents (Elt F) :=
  extf .f32 (val_main_v0 (F := F) x0) bitsLt_bf16_f32
theorem val_main_v1_apply (x0 : (⟨S1x256x3584, .bf16⟩ : BufTy).Contents (Elt F)) (i : S256x112x32.Idx) :
    val_main_v1 (F := F) x0 i = FloatOps.extf .f32 bitsLt_bf16_f32 (val_main_v0 (F := F) x0 i) := rfl

-- %2 = stablehlo.abs %1 : tensor<256x112x32xf32>
def val_main_v2 (x0 : (⟨S1x256x3584, .bf16⟩ : BufTy).Contents (Elt F)) : (⟨S256x112x32, .f32⟩ : BufTy).Contents (Elt F) :=
  Host.absf (val_main_v1 (F := F) x0)
theorem val_main_v2_apply (x0 : (⟨S1x256x3584, .bf16⟩ : BufTy).Contents (Elt F)) (i : S256x112x32.Idx) :
    val_main_v2 (F := F) x0 i = FloatOps.hostAbsf (val_main_v1 (F := F) x0 i) := rfl

-- %cst = stablehlo.constant dense<0xFF800000> : tensor<f32>
def val_main_cst : (⟨S_, .f32⟩ : BufTy).Contents (Elt F) :=
  constant S_ .f32 0xFF800000#32
theorem val_main_cst_apply (i : S_.Idx) :
    val_main_cst (F := F) i = FloatOps.ofBits .f32 0xFF800000#32 := rfl

-- %3 = stablehlo.reduce(%2 init: %cst) applies stablehlo.maximum across dimensions = [2] : (tensor<256x112x32xf32>, tensor<f32>) -> tensor<256x112xf32> {
def val_main_v3 (x0 : (⟨S1x256x3584, .bf16⟩ : BufTy).Contents (Elt F)) : (⟨S256x112, .f32⟩ : BufTy).Contents (Elt F) :=
  Host.reduce FloatOps.maximumf (val_main_v2 (F := F) x0) (val_main_cst (F := F)) reducesTo_S256x112x32_S256x112_d2 h_S_

-- %cst_0 = stablehlo.constant dense<0.000000e+00> : tensor<f32>
def val_main_cst_0 : (⟨S_, .f32⟩ : BufTy).Contents (Elt F) :=
  constant S_ .f32 0x00000000#32
theorem val_main_cst_0_apply (i : S_.Idx) :
    val_main_cst_0 (F := F) i = FloatOps.ofBits .f32 0x00000000#32 := rfl

-- %4 = stablehlo.broadcast_in_dim %cst_0, dims = [] : (tensor<f32>) -> tensor<256x112xf32>
def val_main_v4 : (⟨S256x112, .f32⟩ : BufTy).Contents (Elt F) :=
  broadcastInDim S256x112 ![] bcast_S_S256x112 (val_main_cst_0 (F := F))
abbrev idx_main_v4 (i : S256x112.Idx) : S_.Idx := fun a => a.elim0
theorem val_main_v4_apply (i : S256x112.Idx) :
    val_main_v4 (F := F) i = val_main_cst_0 (F := F) (idx_main_v4 i) := by
  unfold val_main_v4
  generalize val_main_cst_0 (F := F) = y
  exact broadcastInDim_apply _ bcast_S_S256x112 y i (idx_main_v4 i) (fun a => a.elim0)

-- %5 = stablehlo.compare EQ, %3, %4, FLOAT : (tensor<256x112xf32>, tensor<256x112xf32>) -> tensor<256x112xi1>
def val_main_v5 (x0 : (⟨S1x256x3584, .bf16⟩ : BufTy).Contents (Elt F)) : (⟨S256x112, .i1⟩ : BufTy).Contents (Elt F) :=
  cmpf .oeq (val_main_v3 (F := F) x0) (val_main_v4 (F := F))
theorem val_main_v5_apply (x0 : (⟨S1x256x3584, .bf16⟩ : BufTy).Contents (Elt F)) (i : S256x112.Idx) :
    val_main_v5 (F := F) x0 i = FloatOps.cmpf .oeq (val_main_v3 (F := F) x0 i) (val_main_v4 (F := F) i) := rfl

-- %6 = stablehlo.iota dim = 0 : tensor<254xi32>
def val_main_v6 : (⟨S254, .i32⟩ : BufTy).Contents (Elt F) :=
  iotaInDim S254 32 0
theorem val_main_v6_apply (i : S254.Idx) :
    val_main_v6 (F := F) i = BitVec.ofNat 32 (i 0).val := rfl

-- %c = stablehlo.constant dense<126> : tensor<i32>
def val_main_c : (⟨S_, .i32⟩ : BufTy).Contents (Elt F) :=
  constantI S_ 32 126#32
theorem val_main_c_apply (i : S_.Idx) :
    val_main_c (F := F) i = 126#32 := rfl

-- %7 = stablehlo.broadcast_in_dim %c, dims = [] : (tensor<i32>) -> tensor<254xi32>
def val_main_v7 : (⟨S254, .i32⟩ : BufTy).Contents (Elt F) :=
  broadcastInDim S254 ![] bcast_S_S254 (val_main_c (F := F))
abbrev idx_main_v7 (i : S254.Idx) : S_.Idx := fun a => a.elim0
theorem val_main_v7_apply (i : S254.Idx) :
    val_main_v7 (F := F) i = val_main_c (F := F) (idx_main_v7 i) := by
  unfold val_main_v7
  generalize val_main_c (F := F) = y
  exact broadcastInDim_apply _ bcast_S_S254 y i (idx_main_v7 i) (fun a => a.elim0)

-- %8 = stablehlo.subtract %6, %7 : tensor<254xi32>
def val_main_v8 : (⟨S254, .i32⟩ : BufTy).Contents (Elt F) :=
  subi (val_main_v6 (F := F)) (val_main_v7 (F := F))
theorem val_main_v8_apply (i : S254.Idx) :
    val_main_v8 (F := F) i = IntOp.subi (val_main_v6 (F := F) i) (val_main_v7 (F := F) i) := rfl

-- %9 = stablehlo.broadcast_in_dim %3, dims = [0, 1] : (tensor<256x112xf32>) -> tensor<256x112x1xf32>
def val_main_v9 (x0 : (⟨S1x256x3584, .bf16⟩ : BufTy).Contents (Elt F)) : (⟨S256x112x1, .f32⟩ : BufTy).Contents (Elt F) :=
  broadcastInDim S256x112x1 ![0, 1] bcast_S256x112_S256x112x1_0_1 (val_main_v3 (F := F) x0)
abbrev idx_main_v9 (i : S256x112x1.Idx) : S256x112.Idx := fun a => match a with
  | ⟨0, _⟩ => ⟨(i 0).val, (i 0).isLt⟩
  | ⟨1, _⟩ => ⟨(i 1).val, (i 1).isLt⟩
theorem val_main_v9_apply (x0 : (⟨S1x256x3584, .bf16⟩ : BufTy).Contents (Elt F)) (i : S256x112x1.Idx) :
    val_main_v9 (F := F) x0 i = val_main_v3 (F := F) x0 (idx_main_v9 i) := by
  unfold val_main_v9
  generalize val_main_v3 (F := F) x0 = y
  exact broadcastInDim_apply _ bcast_S256x112_S256x112x1_0_1 y i (idx_main_v9 i) (fun a => match a with
    | ⟨0, _⟩ => by show (i 0).val = if (256 : Nat) = 1 then 0 else (i 0).val; rw [if_neg (by decide)]
    | ⟨1, _⟩ => by show (i 1).val = if (112 : Nat) = 1 then 0 else (i 1).val; rw [if_neg (by decide)])

-- %10 = stablehlo.convert %8 : (tensor<254xi32>) -> tensor<254xf32>
def val_main_v10 : (⟨S254, .f32⟩ : BufTy).Contents (Elt F) :=
  sitofp .f32 (val_main_v8 (F := F))
theorem val_main_v10_apply (i : S254.Idx) :
    val_main_v10 (F := F) i = FloatOps.sitofp .f32 (val_main_v8 (F := F) i) := rfl

-- %cst_1 = stablehlo.constant dense<2.000000e+00> : tensor<f32>
def val_main_cst_1 : (⟨S_, .f32⟩ : BufTy).Contents (Elt F) :=
  constant S_ .f32 0x40000000#32
theorem val_main_cst_1_apply (i : S_.Idx) :
    val_main_cst_1 (F := F) i = FloatOps.ofBits .f32 0x40000000#32 := rfl

-- %11 = stablehlo.broadcast_in_dim %cst_1, dims = [] : (tensor<f32>) -> tensor<254xf32>
def val_main_v11 : (⟨S254, .f32⟩ : BufTy).Contents (Elt F) :=
  broadcastInDim S254 ![] bcast_S_S254 (val_main_cst_1 (F := F))
abbrev idx_main_v11 (i : S254.Idx) : S_.Idx := fun a => a.elim0
theorem val_main_v11_apply (i : S254.Idx) :
    val_main_v11 (F := F) i = val_main_cst_1 (F := F) (idx_main_v11 i) := by
  unfold val_main_v11
  generalize val_main_cst_1 (F := F) = y
  exact broadcastInDim_apply _ bcast_S_S254 y i (idx_main_v11 i) (fun a => a.elim0)

-- %12 = stablehlo.power %11, %10 : tensor<254xf32>
def val_main_v12 : (⟨S254, .f32⟩ : BufTy).Contents (Elt F) :=
  Host.powf (val_main_v11 (F := F)) (val_main_v10 (F := F))
theorem val_main_v12_apply (i : S254.Idx) :
    val_main_v12 (F := F) i = FloatOps.hostPowf (val_main_v11 (F := F) i) (val_main_v10 (F := F) i) := rfl

-- %13 = stablehlo.broadcast_in_dim %12, dims = [2] : (tensor<254xf32>) -> tensor<1x1x254xf32>
def val_main_v13 : (⟨S1x1x254, .f32⟩ : BufTy).Contents (Elt F) :=
  broadcastInDim S1x1x254 ![2] bcast_S254_S1x1x254_2 (val_main_v12 (F := F))
abbrev idx_main_v13 (i : S1x1x254.Idx) : S254.Idx := fun a => match a with
  | ⟨0, _⟩ => ⟨(i 2).val, (i 2).isLt⟩
theorem val_main_v13_apply (i : S1x1x254.Idx) :
    val_main_v13 (F := F) i = val_main_v12 (F := F) (idx_main_v13 i) := by
  unfold val_main_v13
  generalize val_main_v12 (F := F) = y
  exact broadcastInDim_apply _ bcast_S254_S1x1x254_2 y i (idx_main_v13 i) (fun a => match a with
    | ⟨0, _⟩ => by show (i 2).val = if (254 : Nat) = 1 then 0 else (i 2).val; rw [if_neg (by decide)])

-- %14 = stablehlo.broadcast_in_dim %9, dims = [0, 1, 2] : (tensor<256x112x1xf32>) -> tensor<256x112x254xf32>
def val_main_v14 (x0 : (⟨S1x256x3584, .bf16⟩ : BufTy).Contents (Elt F)) : (⟨S256x112x254, .f32⟩ : BufTy).Contents (Elt F) :=
  broadcastInDim S256x112x254 ![0, 1, 2] bcast_S256x112x1_S256x112x254_0_1_2 (val_main_v9 (F := F) x0)
abbrev idx_main_v14 (i : S256x112x254.Idx) : S256x112x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v14_apply (x0 : (⟨S1x256x3584, .bf16⟩ : BufTy).Contents (Elt F)) (i : S256x112x254.Idx) :
    val_main_v14 (F := F) x0 i = val_main_v9 (F := F) x0 (idx_main_v14 i) := by
  unfold val_main_v14
  generalize val_main_v9 (F := F) x0 = y
  exact broadcastInDim_apply _ bcast_S256x112x1_S256x112x254_0_1_2 y i (idx_main_v14 i) (fun a => match a with
    | ⟨0, _⟩ => by show (i 0).val = if (256 : Nat) = 1 then 0 else (i 0).val; rw [if_neg (by decide)]
    | ⟨1, _⟩ => by show (i 1).val = if (112 : Nat) = 1 then 0 else (i 1).val; rw [if_neg (by decide)]
    | ⟨2, _⟩ => by show 0 = if (1 : Nat) = 1 then 0 else (i 2).val; rw [if_pos rfl])

-- %15 = stablehlo.broadcast_in_dim %13, dims = [0, 1, 2] : (tensor<1x1x254xf32>) -> tensor<256x112x254xf32>
def val_main_v15 : (⟨S256x112x254, .f32⟩ : BufTy).Contents (Elt F) :=
  broadcastInDim S256x112x254 ![0, 1, 2] bcast_S1x1x254_S256x112x254_0_1_2 (val_main_v13 (F := F))
abbrev idx_main_v15 (i : S256x112x254.Idx) : S1x1x254.Idx := fun a => match a with
  | ⟨0, _⟩ => ⟨0, Nat.one_pos⟩
  | ⟨1, _⟩ => ⟨0, Nat.one_pos⟩
  | ⟨2, _⟩ => ⟨(i 2).val, (i 2).isLt⟩
theorem val_main_v15_apply (i : S256x112x254.Idx) :
    val_main_v15 (F := F) i = val_main_v13 (F := F) (idx_main_v15 i) := by
  unfold val_main_v15
  generalize val_main_v13 (F := F) = y
  exact broadcastInDim_apply _ bcast_S1x1x254_S256x112x254_0_1_2 y i (idx_main_v15 i) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show (i 2).val = if (254 : Nat) = 1 then 0 else (i 2).val; rw [if_neg (by decide)])

-- %16 = stablehlo.compare GE, %14, %15, FLOAT : (tensor<256x112x254xf32>, tensor<256x112x254xf32>) -> tensor<256x112x254xi1>
def val_main_v16 (x0 : (⟨S1x256x3584, .bf16⟩ : BufTy).Contents (Elt F)) : (⟨S256x112x254, .i1⟩ : BufTy).Contents (Elt F) :=
  cmpf .oge (val_main_v14 (F := F) x0) (val_main_v15 (F := F))
theorem val_main_v16_apply (x0 : (⟨S1x256x3584, .bf16⟩ : BufTy).Contents (Elt F)) (i : S256x112x254.Idx) :
    val_main_v16 (F := F) x0 i = FloatOps.cmpf .oge (val_main_v14 (F := F) x0 i) (val_main_v15 (F := F) i) := rfl

-- %17 = stablehlo.convert %16 : (tensor<256x112x254xi1>) -> tensor<256x112x254xi32>
def val_main_v17 (x0 : (⟨S1x256x3584, .bf16⟩ : BufTy).Contents (Elt F)) : (⟨S256x112x254, .i32⟩ : BufTy).Contents (Elt F) :=
  extui 32 (val_main_v16 (F := F) x0) natLt_1_32
theorem val_main_v17_apply (x0 : (⟨S1x256x3584, .bf16⟩ : BufTy).Contents (Elt F)) (i : S256x112x254.Idx) :
    val_main_v17 (F := F) x0 i = (val_main_v16 (F := F) x0 i).setWidth 32 := rfl

-- %c_2 = stablehlo.constant dense<0> : tensor<i32>
def val_main_c_2 : (⟨S_, .i32⟩ : BufTy).Contents (Elt F) :=
  constantI S_ 32 0#32
theorem val_main_c_2_apply (i : S_.Idx) :
    val_main_c_2 (F := F) i = 0#32 := rfl

-- %18 = stablehlo.reduce(%17 init: %c_2) applies stablehlo.add across dimensions = [2] : (tensor<256x112x254xi32>, tensor<i32>) -> tensor<256x112xi32> {
def val_main_v18 (x0 : (⟨S1x256x3584, .bf16⟩ : BufTy).Contents (Elt F)) : (⟨S256x112, .i32⟩ : BufTy).Contents (Elt F) :=
  Host.reduce IntOp.addi (val_main_v17 (F := F) x0) (val_main_c_2 (F := F)) reducesTo_S256x112x254_S256x112_d2 h_S_

-- %c_3 = stablehlo.constant dense<126> : tensor<i32>
def val_main_c_3 : (⟨S_, .i32⟩ : BufTy).Contents (Elt F) :=
  constantI S_ 32 126#32
theorem val_main_c_3_apply (i : S_.Idx) :
    val_main_c_3 (F := F) i = 126#32 := rfl

-- %19 = stablehlo.broadcast_in_dim %c_3, dims = [] : (tensor<i32>) -> tensor<256x112xi32>
def val_main_v19 : (⟨S256x112, .i32⟩ : BufTy).Contents (Elt F) :=
  broadcastInDim S256x112 ![] bcast_S_S256x112 (val_main_c_3 (F := F))
abbrev idx_main_v19 (i : S256x112.Idx) : S_.Idx := fun a => a.elim0
theorem val_main_v19_apply (i : S256x112.Idx) :
    val_main_v19 (F := F) i = val_main_c_3 (F := F) (idx_main_v19 i) := by
  unfold val_main_v19
  generalize val_main_c_3 (F := F) = y
  exact broadcastInDim_apply _ bcast_S_S256x112 y i (idx_main_v19 i) (fun a => a.elim0)

-- %20 = stablehlo.subtract %18, %19 : tensor<256x112xi32>
def val_main_v20 (x0 : (⟨S1x256x3584, .bf16⟩ : BufTy).Contents (Elt F)) : (⟨S256x112, .i32⟩ : BufTy).Contents (Elt F) :=
  subi (val_main_v18 (F := F) x0) (val_main_v19 (F := F))
theorem val_main_v20_apply (x0 : (⟨S1x256x3584, .bf16⟩ : BufTy).Contents (Elt F)) (i : S256x112.Idx) :
    val_main_v20 (F := F) x0 i = IntOp.subi (val_main_v18 (F := F) x0 i) (val_main_v19 (F := F) i) := rfl

-- %c_4 = stablehlo.constant dense<5> : tensor<i32>
def val_main_c_4 : (⟨S_, .i32⟩ : BufTy).Contents (Elt F) :=
  constantI S_ 32 5#32
theorem val_main_c_4_apply (i : S_.Idx) :
    val_main_c_4 (F := F) i = 5#32 := rfl

-- %21 = stablehlo.broadcast_in_dim %c_4, dims = [] : (tensor<i32>) -> tensor<256x112xi32>
def val_main_v21 : (⟨S256x112, .i32⟩ : BufTy).Contents (Elt F) :=
  broadcastInDim S256x112 ![] bcast_S_S256x112 (val_main_c_4 (F := F))
abbrev idx_main_v21 (i : S256x112.Idx) : S_.Idx := fun a => a.elim0
theorem val_main_v21_apply (i : S256x112.Idx) :
    val_main_v21 (F := F) i = val_main_c_4 (F := F) (idx_main_v21 i) := by
  unfold val_main_v21
  generalize val_main_c_4 (F := F) = y
  exact broadcastInDim_apply _ bcast_S_S256x112 y i (idx_main_v21 i) (fun a => a.elim0)

-- %22 = stablehlo.subtract %20, %21 : tensor<256x112xi32>
def val_main_v22 (x0 : (⟨S1x256x3584, .bf16⟩ : BufTy).Contents (Elt F)) : (⟨S256x112, .i32⟩ : BufTy).Contents (Elt F) :=
  subi (val_main_v20 (F := F) x0) (val_main_v21 (F := F))
theorem val_main_v22_apply (x0 : (⟨S1x256x3584, .bf16⟩ : BufTy).Contents (Elt F)) (i : S256x112.Idx) :
    val_main_v22 (F := F) x0 i = IntOp.subi (val_main_v20 (F := F) x0 i) (val_main_v21 (F := F) i) := rfl

-- %c_5 = stablehlo.constant dense<0> : tensor<i32>
def val_main_c_5 : (⟨S_, .i32⟩ : BufTy).Contents (Elt F) :=
  constantI S_ 32 0#32
theorem val_main_c_5_apply (i : S_.Idx) :
    val_main_c_5 (F := F) i = 0#32 := rfl

-- @_where's %0 = stablehlo.convert %arg1 : tensor<i32>, in %23 = func.call @_where(…) (record main_call0)
def val_main_call0_v0 : (⟨S_, .i32⟩ : BufTy).Contents (Elt F) :=
  id (val_main_c_5 (F := F))
theorem val_main_call0_v0_apply (i : S_.Idx) :
    val_main_call0_v0 (F := F) i = (val_main_c_5 (F := F) i) := rfl

-- @_where's %1 = stablehlo.broadcast_in_dim %0, dims = [] : (tensor<i32>) -> tensor<256x112xi32>, in %23 = func.call @_where(…) (record main_call0)
def val_main_call0_v1 : (⟨S256x112, .i32⟩ : BufTy).Contents (Elt F) :=
  broadcastInDim S256x112 ![] bcast_S_S256x112 (val_main_call0_v0 (F := F))
abbrev idx_main_call0_v1 (i : S256x112.Idx) : S_.Idx := fun a => a.elim0
theorem val_main_call0_v1_apply (i : S256x112.Idx) :
    val_main_call0_v1 (F := F) i = val_main_call0_v0 (F := F) (idx_main_call0_v1 i) := by
  unfold val_main_call0_v1
  generalize val_main_call0_v0 (F := F) = y
  exact broadcastInDim_apply _ bcast_S_S256x112 y i (idx_main_call0_v1 i) (fun a => a.elim0)

-- %23 = func.call @_where(…) (record main_call0) result 0: @_where's %2 = stablehlo.select %arg0, %1, %arg2 : tensor<256x112xi1>, tensor<256x112xi32>
def val_main_v23 (x0 : (⟨S1x256x3584, .bf16⟩ : BufTy).Contents (Elt F)) : (⟨S256x112, .i32⟩ : BufTy).Contents (Elt F) :=
  select (val_main_v5 (F := F) x0) (val_main_call0_v1 (F := F)) (val_main_v22 (F := F) x0)
theorem val_main_v23_apply (x0 : (⟨S1x256x3584, .bf16⟩ : BufTy).Contents (Elt F)) (i : S256x112.Idx) :
    val_main_v23 (F := F) x0 i = Scalar.select (val_main_v5 (F := F) x0 i) (val_main_call0_v1 (F := F) i) (val_main_v22 (F := F) x0 i) := rfl

-- %c_6 = stablehlo.constant dense<127> : tensor<i32>
def val_main_c_6 : (⟨S_, .i32⟩ : BufTy).Contents (Elt F) :=
  constantI S_ 32 127#32
theorem val_main_c_6_apply (i : S_.Idx) :
    val_main_c_6 (F := F) i = 127#32 := rfl

-- %24 = stablehlo.broadcast_in_dim %c_6, dims = [] : (tensor<i32>) -> tensor<256x112xi32>
def val_main_v24 : (⟨S256x112, .i32⟩ : BufTy).Contents (Elt F) :=
  broadcastInDim S256x112 ![] bcast_S_S256x112 (val_main_c_6 (F := F))
abbrev idx_main_v24 (i : S256x112.Idx) : S_.Idx := fun a => a.elim0
theorem val_main_v24_apply (i : S256x112.Idx) :
    val_main_v24 (F := F) i = val_main_c_6 (F := F) (idx_main_v24 i) := by
  unfold val_main_v24
  generalize val_main_c_6 (F := F) = y
  exact broadcastInDim_apply _ bcast_S_S256x112 y i (idx_main_v24 i) (fun a => a.elim0)

-- %25 = stablehlo.add %23, %24 : tensor<256x112xi32>
def val_main_v25 (x0 : (⟨S1x256x3584, .bf16⟩ : BufTy).Contents (Elt F)) : (⟨S256x112, .i32⟩ : BufTy).Contents (Elt F) :=
  addi (val_main_v23 (F := F) x0) (val_main_v24 (F := F))
theorem val_main_v25_apply (x0 : (⟨S1x256x3584, .bf16⟩ : BufTy).Contents (Elt F)) (i : S256x112.Idx) :
    val_main_v25 (F := F) x0 i = IntOp.addi (val_main_v23 (F := F) x0 i) (val_main_v24 (F := F) i) := rfl

-- %26 = stablehlo.convert %25 : (tensor<256x112xi32>) -> tensor<256x112xui8>
def val_main_v26 (x0 : (⟨S1x256x3584, .bf16⟩ : BufTy).Contents (Elt F)) : (⟨S256x112, .i8⟩ : BufTy).Contents (Elt F) :=
  trunci 8 (val_main_v25 (F := F) x0) natLt_8_32
theorem val_main_v26_apply (x0 : (⟨S1x256x3584, .bf16⟩ : BufTy).Contents (Elt F)) (i : S256x112.Idx) :
    val_main_v26 (F := F) x0 i = (val_main_v25 (F := F) x0 i).setWidth 8 := rfl

-- %27 = stablehlo.reshape %arg0 : (tensor<1x256x3584xbf16>) -> tensor<256x112x32xbf16>
def val_main_v27 (x0 : (⟨S1x256x3584, .bf16⟩ : BufTy).Contents (Elt F)) : (⟨S256x112x32, .bf16⟩ : BufTy).Contents (Elt F) :=
  shapeCast _ (x0) shapeCasts_S1x256x3584_S256x112x32
set_option backward.proofsInPublic true in
abbrev idx_main_v27 (i : S256x112x32.Idx) : S1x256x3584.Idx := fun a => match a with
  | ⟨0, _⟩ => ⟨0, Nat.one_pos⟩
  | ⟨1, _⟩ => ⟨(((i 0).val * 112 + (i 1).val) * 32 + (i 2).val) / 3584 % 256, by have h0 : (i 0).val < 256 := (i 0).isLt; have h1 : (i 1).val < 112 := (i 1).isLt; have h2 : (i 2).val < 32 := (i 2).isLt; show (((i 0).val * 112 + (i 1).val) * 32 + (i 2).val) / 3584 % 256 < 256; omega⟩
  | ⟨2, _⟩ => ⟨(((i 0).val * 112 + (i 1).val) * 32 + (i 2).val) % 3584, by have h0 : (i 0).val < 256 := (i 0).isLt; have h1 : (i 1).val < 112 := (i 1).isLt; have h2 : (i 2).val < 32 := (i 2).isLt; show (((i 0).val * 112 + (i 1).val) * 32 + (i 2).val) % 3584 < 3584; omega⟩
theorem val_main_v27_apply (x0 : (⟨S1x256x3584, .bf16⟩ : BufTy).Contents (Elt F)) (i : S256x112x32.Idx) :
    val_main_v27 (F := F) x0 i = x0 (idx_main_v27 i) := by
  unfold val_main_v27
  exact shapeCast_apply x0 shapeCasts_S1x256x3584_S256x112x32 i (idx_main_v27 i)
    (by rewrite [Shape.rowMajor_val_three, Shape.rowMajor_val_three]; have h0 : (i 0).val < 256 := (i 0).isLt; have h1 : (i 1).val < 112 := (i 1).isLt; have h2 : (i 2).val < 32 := (i 2).isLt; show (0 * 256 + (((i 0).val * 112 + (i 1).val) * 32 + (i 2).val) / 3584 % 256) * 3584 + (((i 0).val * 112 + (i 1).val) * 32 + (i 2).val) % 3584 = ((i 0).val * 112 + (i 1).val) * 32 + (i 2).val; omega)

-- %28 = stablehlo.convert %27 : (tensor<256x112x32xbf16>) -> tensor<256x112x32xf32>
def val_main_v28 (x0 : (⟨S1x256x3584, .bf16⟩ : BufTy).Contents (Elt F)) : (⟨S256x112x32, .f32⟩ : BufTy).Contents (Elt F) :=
  extf .f32 (val_main_v27 (F := F) x0) bitsLt_bf16_f32
theorem val_main_v28_apply (x0 : (⟨S1x256x3584, .bf16⟩ : BufTy).Contents (Elt F)) (i : S256x112x32.Idx) :
    val_main_v28 (F := F) x0 i = FloatOps.extf .f32 bitsLt_bf16_f32 (val_main_v27 (F := F) x0 i) := rfl

-- %29 = stablehlo.negate %23 : tensor<256x112xi32>
def val_main_v29 (x0 : (⟨S1x256x3584, .bf16⟩ : BufTy).Contents (Elt F)) : (⟨S256x112, .i32⟩ : BufTy).Contents (Elt F) :=
  negi (val_main_v23 (F := F) x0)
theorem val_main_v29_apply (x0 : (⟨S1x256x3584, .bf16⟩ : BufTy).Contents (Elt F)) (i : S256x112.Idx) :
    val_main_v29 (F := F) x0 i = -(val_main_v23 (F := F) x0 i) := rfl

-- %30 = stablehlo.convert %29 : (tensor<256x112xi32>) -> tensor<256x112xf32>
def val_main_v30 (x0 : (⟨S1x256x3584, .bf16⟩ : BufTy).Contents (Elt F)) : (⟨S256x112, .f32⟩ : BufTy).Contents (Elt F) :=
  sitofp .f32 (val_main_v29 (F := F) x0)
theorem val_main_v30_apply (x0 : (⟨S1x256x3584, .bf16⟩ : BufTy).Contents (Elt F)) (i : S256x112.Idx) :
    val_main_v30 (F := F) x0 i = FloatOps.sitofp .f32 (val_main_v29 (F := F) x0 i) := rfl

-- %cst_7 = stablehlo.constant dense<2.000000e+00> : tensor<f32>
def val_main_cst_7 : (⟨S_, .f32⟩ : BufTy).Contents (Elt F) :=
  constant S_ .f32 0x40000000#32
theorem val_main_cst_7_apply (i : S_.Idx) :
    val_main_cst_7 (F := F) i = FloatOps.ofBits .f32 0x40000000#32 := rfl

-- %31 = stablehlo.broadcast_in_dim %cst_7, dims = [] : (tensor<f32>) -> tensor<256x112xf32>
def val_main_v31 : (⟨S256x112, .f32⟩ : BufTy).Contents (Elt F) :=
  broadcastInDim S256x112 ![] bcast_S_S256x112 (val_main_cst_7 (F := F))
abbrev idx_main_v31 (i : S256x112.Idx) : S_.Idx := fun a => a.elim0
theorem val_main_v31_apply (i : S256x112.Idx) :
    val_main_v31 (F := F) i = val_main_cst_7 (F := F) (idx_main_v31 i) := by
  unfold val_main_v31
  generalize val_main_cst_7 (F := F) = y
  exact broadcastInDim_apply _ bcast_S_S256x112 y i (idx_main_v31 i) (fun a => a.elim0)

-- %32 = stablehlo.power %31, %30 : tensor<256x112xf32>
def val_main_v32 (x0 : (⟨S1x256x3584, .bf16⟩ : BufTy).Contents (Elt F)) : (⟨S256x112, .f32⟩ : BufTy).Contents (Elt F) :=
  Host.powf (val_main_v31 (F := F)) (val_main_v30 (F := F) x0)
theorem val_main_v32_apply (x0 : (⟨S1x256x3584, .bf16⟩ : BufTy).Contents (Elt F)) (i : S256x112.Idx) :
    val_main_v32 (F := F) x0 i = FloatOps.hostPowf (val_main_v31 (F := F) i) (val_main_v30 (F := F) x0 i) := rfl

-- %33 = stablehlo.broadcast_in_dim %32, dims = [0, 1] : (tensor<256x112xf32>) -> tensor<256x112x1xf32>
def val_main_v33 (x0 : (⟨S1x256x3584, .bf16⟩ : BufTy).Contents (Elt F)) : (⟨S256x112x1, .f32⟩ : BufTy).Contents (Elt F) :=
  broadcastInDim S256x112x1 ![0, 1] bcast_S256x112_S256x112x1_0_1 (val_main_v32 (F := F) x0)
abbrev idx_main_v33 (i : S256x112x1.Idx) : S256x112.Idx := fun a => match a with
  | ⟨0, _⟩ => ⟨(i 0).val, (i 0).isLt⟩
  | ⟨1, _⟩ => ⟨(i 1).val, (i 1).isLt⟩
theorem val_main_v33_apply (x0 : (⟨S1x256x3584, .bf16⟩ : BufTy).Contents (Elt F)) (i : S256x112x1.Idx) :
    val_main_v33 (F := F) x0 i = val_main_v32 (F := F) x0 (idx_main_v33 i) := by
  unfold val_main_v33
  generalize val_main_v32 (F := F) x0 = y
  exact broadcastInDim_apply _ bcast_S256x112_S256x112x1_0_1 y i (idx_main_v33 i) (fun a => match a with
    | ⟨0, _⟩ => by show (i 0).val = if (256 : Nat) = 1 then 0 else (i 0).val; rw [if_neg (by decide)]
    | ⟨1, _⟩ => by show (i 1).val = if (112 : Nat) = 1 then 0 else (i 1).val; rw [if_neg (by decide)])

-- %34 = stablehlo.broadcast_in_dim %33, dims = [0, 1, 2] : (tensor<256x112x1xf32>) -> tensor<256x112x32xf32>
def val_main_v34 (x0 : (⟨S1x256x3584, .bf16⟩ : BufTy).Contents (Elt F)) : (⟨S256x112x32, .f32⟩ : BufTy).Contents (Elt F) :=
  broadcastInDim S256x112x32 ![0, 1, 2] bcast_S256x112x1_S256x112x32_0_1_2 (val_main_v33 (F := F) x0)
abbrev idx_main_v34 (i : S256x112x32.Idx) : S256x112x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v34_apply (x0 : (⟨S1x256x3584, .bf16⟩ : BufTy).Contents (Elt F)) (i : S256x112x32.Idx) :
    val_main_v34 (F := F) x0 i = val_main_v33 (F := F) x0 (idx_main_v34 i) := by
  unfold val_main_v34
  generalize val_main_v33 (F := F) x0 = y
  exact broadcastInDim_apply _ bcast_S256x112x1_S256x112x32_0_1_2 y i (idx_main_v34 i) (fun a => match a with
    | ⟨0, _⟩ => by show (i 0).val = if (256 : Nat) = 1 then 0 else (i 0).val; rw [if_neg (by decide)]
    | ⟨1, _⟩ => by show (i 1).val = if (112 : Nat) = 1 then 0 else (i 1).val; rw [if_neg (by decide)]
    | ⟨2, _⟩ => by show 0 = if (1 : Nat) = 1 then 0 else (i 2).val; rw [if_pos rfl])

-- %35 = stablehlo.multiply %28, %34 : tensor<256x112x32xf32>
def val_main_v35 (x0 : (⟨S1x256x3584, .bf16⟩ : BufTy).Contents (Elt F)) : (⟨S256x112x32, .f32⟩ : BufTy).Contents (Elt F) :=
  mulf (val_main_v28 (F := F) x0) (val_main_v34 (F := F) x0)
theorem val_main_v35_apply (x0 : (⟨S1x256x3584, .bf16⟩ : BufTy).Contents (Elt F)) (i : S256x112x32.Idx) :
    val_main_v35 (F := F) x0 i = FloatOps.mulf (val_main_v28 (F := F) x0 i) (val_main_v34 (F := F) x0 i) := rfl

-- %cst_8 = stablehlo.constant dense<-2.800000e+01> : tensor<f32>
def val_main_cst_8 : (⟨S_, .f32⟩ : BufTy).Contents (Elt F) :=
  constant S_ .f32 0xC1E00000#32
theorem val_main_cst_8_apply (i : S_.Idx) :
    val_main_cst_8 (F := F) i = FloatOps.ofBits .f32 0xC1E00000#32 := rfl

-- %cst_9 = stablehlo.constant dense<2.800000e+01> : tensor<f32>
def val_main_cst_9 : (⟨S_, .f32⟩ : BufTy).Contents (Elt F) :=
  constant S_ .f32 0x41E00000#32
theorem val_main_cst_9_apply (i : S_.Idx) :
    val_main_cst_9 (F := F) i = FloatOps.ofBits .f32 0x41E00000#32 := rfl

-- @clip's %0 = stablehlo.convert %arg1 : tensor<f32>, in %36 = func.call @clip(…) (record main_call1)
def val_main_call1_v0 : (⟨S_, .f32⟩ : BufTy).Contents (Elt F) :=
  id (val_main_cst_8 (F := F))
theorem val_main_call1_v0_apply (i : S_.Idx) :
    val_main_call1_v0 (F := F) i = (val_main_cst_8 (F := F) i) := rfl

-- @clip's %1 = stablehlo.broadcast_in_dim %0, dims = [] : (tensor<f32>) -> tensor<256x112x32xf32>, in %36 = func.call @clip(…) (record main_call1)
def val_main_call1_v1 : (⟨S256x112x32, .f32⟩ : BufTy).Contents (Elt F) :=
  broadcastInDim S256x112x32 ![] bcast_S_S256x112x32 (val_main_call1_v0 (F := F))
abbrev idx_main_call1_v1 (i : S256x112x32.Idx) : S_.Idx := fun a => a.elim0
theorem val_main_call1_v1_apply (i : S256x112x32.Idx) :
    val_main_call1_v1 (F := F) i = val_main_call1_v0 (F := F) (idx_main_call1_v1 i) := by
  unfold val_main_call1_v1
  generalize val_main_call1_v0 (F := F) = y
  exact broadcastInDim_apply _ bcast_S_S256x112x32 y i (idx_main_call1_v1 i) (fun a => a.elim0)

-- @clip's %2 = stablehlo.maximum %1, %arg0 : tensor<256x112x32xf32>, in %36 = func.call @clip(…) (record main_call1)
def val_main_call1_v2 (x0 : (⟨S1x256x3584, .bf16⟩ : BufTy).Contents (Elt F)) : (⟨S256x112x32, .f32⟩ : BufTy).Contents (Elt F) :=
  maximumf (val_main_call1_v1 (F := F)) (val_main_v35 (F := F) x0)
theorem val_main_call1_v2_apply (x0 : (⟨S1x256x3584, .bf16⟩ : BufTy).Contents (Elt F)) (i : S256x112x32.Idx) :
    val_main_call1_v2 (F := F) x0 i = FloatOps.maximumf (val_main_call1_v1 (F := F) i) (val_main_v35 (F := F) x0 i) := rfl

-- @clip's %3 = stablehlo.convert %arg2 : tensor<f32>, in %36 = func.call @clip(…) (record main_call1)
def val_main_call1_v3 : (⟨S_, .f32⟩ : BufTy).Contents (Elt F) :=
  id (val_main_cst_9 (F := F))
theorem val_main_call1_v3_apply (i : S_.Idx) :
    val_main_call1_v3 (F := F) i = (val_main_cst_9 (F := F) i) := rfl

-- @clip's %4 = stablehlo.broadcast_in_dim %3, dims = [] : (tensor<f32>) -> tensor<256x112x32xf32>, in %36 = func.call @clip(…) (record main_call1)
def val_main_call1_v4 : (⟨S256x112x32, .f32⟩ : BufTy).Contents (Elt F) :=
  broadcastInDim S256x112x32 ![] bcast_S_S256x112x32 (val_main_call1_v3 (F := F))
abbrev idx_main_call1_v4 (i : S256x112x32.Idx) : S_.Idx := fun a => a.elim0
theorem val_main_call1_v4_apply (i : S256x112x32.Idx) :
    val_main_call1_v4 (F := F) i = val_main_call1_v3 (F := F) (idx_main_call1_v4 i) := by
  unfold val_main_call1_v4
  generalize val_main_call1_v3 (F := F) = y
  exact broadcastInDim_apply _ bcast_S_S256x112x32 y i (idx_main_call1_v4 i) (fun a => a.elim0)

-- %36 = func.call @clip(…) (record main_call1) result 0: @clip's %5 = stablehlo.minimum %4, %2 : tensor<256x112x32xf32>
def val_main_v36 (x0 : (⟨S1x256x3584, .bf16⟩ : BufTy).Contents (Elt F)) : (⟨S256x112x32, .f32⟩ : BufTy).Contents (Elt F) :=
  minimumf (val_main_call1_v4 (F := F)) (val_main_call1_v2 (F := F) x0)
theorem val_main_v36_apply (x0 : (⟨S1x256x3584, .bf16⟩ : BufTy).Contents (Elt F)) (i : S256x112x32.Idx) :
    val_main_v36 (F := F) x0 i = FloatOps.minimumf (val_main_call1_v4 (F := F) i) (val_main_call1_v2 (F := F) x0 i) := rfl

-- %37 = stablehlo.convert %26 : (tensor<256x112xui8>) -> tensor<256x112xi32>
def val_main_v37 (x0 : (⟨S1x256x3584, .bf16⟩ : BufTy).Contents (Elt F)) : (⟨S256x112, .i32⟩ : BufTy).Contents (Elt F) :=
  extui 32 (val_main_v26 (F := F) x0) natLt_8_32
theorem val_main_v37_apply (x0 : (⟨S1x256x3584, .bf16⟩ : BufTy).Contents (Elt F)) (i : S256x112.Idx) :
    val_main_v37 (F := F) x0 i = (val_main_v26 (F := F) x0 i).setWidth 32 := rfl

-- %c_10 = stablehlo.constant dense<127> : tensor<i32>
def val_main_c_10 : (⟨S_, .i32⟩ : BufTy).Contents (Elt F) :=
  constantI S_ 32 127#32
theorem val_main_c_10_apply (i : S_.Idx) :
    val_main_c_10 (F := F) i = 127#32 := rfl

-- %38 = stablehlo.broadcast_in_dim %c_10, dims = [] : (tensor<i32>) -> tensor<256x112xi32>
def val_main_v38 : (⟨S256x112, .i32⟩ : BufTy).Contents (Elt F) :=
  broadcastInDim S256x112 ![] bcast_S_S256x112 (val_main_c_10 (F := F))
abbrev idx_main_v38 (i : S256x112.Idx) : S_.Idx := fun a => a.elim0
theorem val_main_v38_apply (i : S256x112.Idx) :
    val_main_v38 (F := F) i = val_main_c_10 (F := F) (idx_main_v38 i) := by
  unfold val_main_v38
  generalize val_main_c_10 (F := F) = y
  exact broadcastInDim_apply _ bcast_S_S256x112 y i (idx_main_v38 i) (fun a => a.elim0)

-- %39 = stablehlo.subtract %37, %38 : tensor<256x112xi32>
def val_main_v39 (x0 : (⟨S1x256x3584, .bf16⟩ : BufTy).Contents (Elt F)) : (⟨S256x112, .i32⟩ : BufTy).Contents (Elt F) :=
  subi (val_main_v37 (F := F) x0) (val_main_v38 (F := F))
theorem val_main_v39_apply (x0 : (⟨S1x256x3584, .bf16⟩ : BufTy).Contents (Elt F)) (i : S256x112.Idx) :
    val_main_v39 (F := F) x0 i = IntOp.subi (val_main_v37 (F := F) x0 i) (val_main_v38 (F := F) i) := rfl

-- %40 = stablehlo.convert %39 : (tensor<256x112xi32>) -> tensor<256x112xf32>
def val_main_v40 (x0 : (⟨S1x256x3584, .bf16⟩ : BufTy).Contents (Elt F)) : (⟨S256x112, .f32⟩ : BufTy).Contents (Elt F) :=
  sitofp .f32 (val_main_v39 (F := F) x0)
theorem val_main_v40_apply (x0 : (⟨S1x256x3584, .bf16⟩ : BufTy).Contents (Elt F)) (i : S256x112.Idx) :
    val_main_v40 (F := F) x0 i = FloatOps.sitofp .f32 (val_main_v39 (F := F) x0 i) := rfl

-- %cst_11 = stablehlo.constant dense<2.000000e+00> : tensor<f32>
def val_main_cst_11 : (⟨S_, .f32⟩ : BufTy).Contents (Elt F) :=
  constant S_ .f32 0x40000000#32
theorem val_main_cst_11_apply (i : S_.Idx) :
    val_main_cst_11 (F := F) i = FloatOps.ofBits .f32 0x40000000#32 := rfl

-- %41 = stablehlo.broadcast_in_dim %cst_11, dims = [] : (tensor<f32>) -> tensor<256x112xf32>
def val_main_v41 : (⟨S256x112, .f32⟩ : BufTy).Contents (Elt F) :=
  broadcastInDim S256x112 ![] bcast_S_S256x112 (val_main_cst_11 (F := F))
abbrev idx_main_v41 (i : S256x112.Idx) : S_.Idx := fun a => a.elim0
theorem val_main_v41_apply (i : S256x112.Idx) :
    val_main_v41 (F := F) i = val_main_cst_11 (F := F) (idx_main_v41 i) := by
  unfold val_main_v41
  generalize val_main_cst_11 (F := F) = y
  exact broadcastInDim_apply _ bcast_S_S256x112 y i (idx_main_v41 i) (fun a => a.elim0)

-- %42 = stablehlo.power %41, %40 : tensor<256x112xf32>
def val_main_v42 (x0 : (⟨S1x256x3584, .bf16⟩ : BufTy).Contents (Elt F)) : (⟨S256x112, .f32⟩ : BufTy).Contents (Elt F) :=
  Host.powf (val_main_v41 (F := F)) (val_main_v40 (F := F) x0)
theorem val_main_v42_apply (x0 : (⟨S1x256x3584, .bf16⟩ : BufTy).Contents (Elt F)) (i : S256x112.Idx) :
    val_main_v42 (F := F) x0 i = FloatOps.hostPowf (val_main_v41 (F := F) i) (val_main_v40 (F := F) x0 i) := rfl

-- %43 = stablehlo.convert %42 : (tensor<256x112xf32>) -> tensor<256x112xbf16>
def val_main_v43 (x0 : (⟨S1x256x3584, .bf16⟩ : BufTy).Contents (Elt F)) : (⟨S256x112, .bf16⟩ : BufTy).Contents (Elt F) :=
  truncf .bf16 (val_main_v42 (F := F) x0) bitsLt_bf16_f32
theorem val_main_v43_apply (x0 : (⟨S1x256x3584, .bf16⟩ : BufTy).Contents (Elt F)) (i : S256x112.Idx) :
    val_main_v43 (F := F) x0 i = FloatOps.truncf .bf16 bitsLt_bf16_f32 (val_main_v42 (F := F) x0 i) := rfl

-- %44 = stablehlo.broadcast_in_dim %43, dims = [0, 1] : (tensor<256x112xbf16>) -> tensor<256x112x1xbf16>
def val_main_v44 (x0 : (⟨S1x256x3584, .bf16⟩ : BufTy).Contents (Elt F)) : (⟨S256x112x1, .bf16⟩ : BufTy).Contents (Elt F) :=
  broadcastInDim S256x112x1 ![0, 1] bcast_S256x112_S256x112x1_0_1 (val_main_v43 (F := F) x0)
abbrev idx_main_v44 (i : S256x112x1.Idx) : S256x112.Idx := fun a => match a with
  | ⟨0, _⟩ => ⟨(i 0).val, (i 0).isLt⟩
  | ⟨1, _⟩ => ⟨(i 1).val, (i 1).isLt⟩
theorem val_main_v44_apply (x0 : (⟨S1x256x3584, .bf16⟩ : BufTy).Contents (Elt F)) (i : S256x112x1.Idx) :
    val_main_v44 (F := F) x0 i = val_main_v43 (F := F) x0 (idx_main_v44 i) := by
  unfold val_main_v44
  generalize val_main_v43 (F := F) x0 = y
  exact broadcastInDim_apply _ bcast_S256x112_S256x112x1_0_1 y i (idx_main_v44 i) (fun a => match a with
    | ⟨0, _⟩ => by show (i 0).val = if (256 : Nat) = 1 then 0 else (i 0).val; rw [if_neg (by decide)]
    | ⟨1, _⟩ => by show (i 1).val = if (112 : Nat) = 1 then 0 else (i 1).val; rw [if_neg (by decide)])

-- %45 = stablehlo.convert %36 : (tensor<256x112x32xf32>) -> tensor<256x112x32xbf16>
def val_main_v45 (x0 : (⟨S1x256x3584, .bf16⟩ : BufTy).Contents (Elt F)) : (⟨S256x112x32, .bf16⟩ : BufTy).Contents (Elt F) :=
  truncf .bf16 (val_main_v36 (F := F) x0) bitsLt_bf16_f32
theorem val_main_v45_apply (x0 : (⟨S1x256x3584, .bf16⟩ : BufTy).Contents (Elt F)) (i : S256x112x32.Idx) :
    val_main_v45 (F := F) x0 i = FloatOps.truncf .bf16 bitsLt_bf16_f32 (val_main_v36 (F := F) x0 i) := rfl

-- %46 = stablehlo.broadcast_in_dim %44, dims = [0, 1, 2] : (tensor<256x112x1xbf16>) -> tensor<256x112x32xbf16>
def val_main_v46 (x0 : (⟨S1x256x3584, .bf16⟩ : BufTy).Contents (Elt F)) : (⟨S256x112x32, .bf16⟩ : BufTy).Contents (Elt F) :=
  broadcastInDim S256x112x32 ![0, 1, 2] bcast_S256x112x1_S256x112x32_0_1_2 (val_main_v44 (F := F) x0)
abbrev idx_main_v46 (i : S256x112x32.Idx) : S256x112x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v46_apply (x0 : (⟨S1x256x3584, .bf16⟩ : BufTy).Contents (Elt F)) (i : S256x112x32.Idx) :
    val_main_v46 (F := F) x0 i = val_main_v44 (F := F) x0 (idx_main_v46 i) := by
  unfold val_main_v46
  generalize val_main_v44 (F := F) x0 = y
  exact broadcastInDim_apply _ bcast_S256x112x1_S256x112x32_0_1_2 y i (idx_main_v46 i) (fun a => match a with
    | ⟨0, _⟩ => by show (i 0).val = if (256 : Nat) = 1 then 0 else (i 0).val; rw [if_neg (by decide)]
    | ⟨1, _⟩ => by show (i 1).val = if (112 : Nat) = 1 then 0 else (i 1).val; rw [if_neg (by decide)]
    | ⟨2, _⟩ => by show 0 = if (1 : Nat) = 1 then 0 else (i 2).val; rw [if_pos rfl])

-- %47 = stablehlo.multiply %45, %46 : tensor<256x112x32xbf16>
def val_main_v47 (x0 : (⟨S1x256x3584, .bf16⟩ : BufTy).Contents (Elt F)) : (⟨S256x112x32, .bf16⟩ : BufTy).Contents (Elt F) :=
  mulf (val_main_v45 (F := F) x0) (val_main_v46 (F := F) x0)
theorem val_main_v47_apply (x0 : (⟨S1x256x3584, .bf16⟩ : BufTy).Contents (Elt F)) (i : S256x112x32.Idx) :
    val_main_v47 (F := F) x0 i = FloatOps.mulf (val_main_v45 (F := F) x0 i) (val_main_v46 (F := F) x0 i) := rfl

-- %48 = stablehlo.reshape %47 : (tensor<256x112x32xbf16>) -> tensor<256x3584xbf16>
def val_main_v48 (x0 : (⟨S1x256x3584, .bf16⟩ : BufTy).Contents (Elt F)) : (⟨S256x3584, .bf16⟩ : BufTy).Contents (Elt F) :=
  shapeCast _ (val_main_v47 (F := F) x0) shapeCasts_S256x112x32_S256x3584
set_option backward.proofsInPublic true in
abbrev idx_main_v48 (i : S256x3584.Idx) : S256x112x32.Idx := fun a => match a with
  | ⟨0, _⟩ => ⟨((i 0).val * 3584 + (i 1).val) / 3584, by have h0 : (i 0).val < 256 := (i 0).isLt; have h1 : (i 1).val < 3584 := (i 1).isLt; show ((i 0).val * 3584 + (i 1).val) / 3584 < 256; omega⟩
  | ⟨1, _⟩ => ⟨((i 0).val * 3584 + (i 1).val) / 32 % 112, by have h0 : (i 0).val < 256 := (i 0).isLt; have h1 : (i 1).val < 3584 := (i 1).isLt; show ((i 0).val * 3584 + (i 1).val) / 32 % 112 < 112; omega⟩
  | ⟨2, _⟩ => ⟨((i 0).val * 3584 + (i 1).val) % 32, by have h0 : (i 0).val < 256 := (i 0).isLt; have h1 : (i 1).val < 3584 := (i 1).isLt; show ((i 0).val * 3584 + (i 1).val) % 32 < 32; omega⟩
theorem val_main_v48_apply (x0 : (⟨S1x256x3584, .bf16⟩ : BufTy).Contents (Elt F)) (i : S256x3584.Idx) :
    val_main_v48 (F := F) x0 i = val_main_v47 (F := F) x0 (idx_main_v48 i) := by
  unfold val_main_v48
  generalize val_main_v47 (F := F) x0 = y
  exact shapeCast_apply y shapeCasts_S256x112x32_S256x3584 i (idx_main_v48 i)
    (by rewrite [Shape.rowMajor_val_three, Shape.rowMajor_val_two]; have h0 : (i 0).val < 256 := (i 0).isLt; have h1 : (i 1).val < 3584 := (i 1).isLt; show (((i 0).val * 3584 + (i 1).val) / 3584 * 112 + ((i 0).val * 3584 + (i 1).val) / 32 % 112) * 32 + ((i 0).val * 3584 + (i 1).val) % 32 = (i 0).val * 3584 + (i 1).val; omega)

-- %49 = stablehlo.convert %arg1 : (tensor<3x896x18944xui8>) -> tensor<3x896x18944xi32>
def val_main_v49 (x1 : (⟨S3x896x18944, .i8⟩ : BufTy).Contents (Elt F)) : (⟨S3x896x18944, .i32⟩ : BufTy).Contents (Elt F) :=
  extui 32 (x1) natLt_8_32
theorem val_main_v49_apply (x1 : (⟨S3x896x18944, .i8⟩ : BufTy).Contents (Elt F)) (i : S3x896x18944.Idx) :
    val_main_v49 (F := F) x1 i = (x1 i).setWidth 32 := rfl

-- %50 = stablehlo.slice %49 [0:1, 0:896, 0:18944] : (tensor<3x896x18944xi32>) -> tensor<1x896x18944xi32>
def val_main_v50 (x1 : (⟨S3x896x18944, .i8⟩ : BufTy).Contents (Elt F)) : (⟨S1x896x18944, .i32⟩ : BufTy).Contents (Elt F) :=
  extractStridedSlice S1x896x18944 ![0, 0, 0] (val_main_v49 (F := F) x1) slices_S3x896x18944_S1x896x18944_0_0_0
set_option backward.proofsInPublic true in
abbrev idx_main_v50 (i : S1x896x18944.Idx) : S3x896x18944.Idx := fun a => match a with
  | ⟨0, _⟩ => ⟨(i 0).val, by have h0 : (i 0).val < 1 := (i 0).isLt; show (i 0).val < 3; omega⟩
  | ⟨1, _⟩ => ⟨(i 1).val, (i 1).isLt⟩
  | ⟨2, _⟩ => ⟨(i 2).val, (i 2).isLt⟩
theorem val_main_v50_apply (x1 : (⟨S3x896x18944, .i8⟩ : BufTy).Contents (Elt F)) (i : S1x896x18944.Idx) :
    val_main_v50 (F := F) x1 i = val_main_v49 (F := F) x1 (idx_main_v50 i) := by
  unfold val_main_v50
  generalize val_main_v49 (F := F) x1 = y
  exact extractStridedSlice_apply ![0, 0, 0] y slices_S3x896x18944_S1x896x18944_0_0_0 i (idx_main_v50 i) (fun a => match a with
    | ⟨0, _⟩ => by show (i 0).val = 0 + (i 0).val; omega
    | ⟨1, _⟩ => by show (i 1).val = 0 + (i 1).val; omega
    | ⟨2, _⟩ => by show (i 2).val = 0 + (i 2).val; omega)

-- %51 = stablehlo.reshape %50 : (tensor<1x896x18944xi32>) -> tensor<896x18944xi32>
def val_main_v51 (x1 : (⟨S3x896x18944, .i8⟩ : BufTy).Contents (Elt F)) : (⟨S896x18944, .i32⟩ : BufTy).Contents (Elt F) :=
  shapeCast _ (val_main_v50 (F := F) x1) shapeCasts_S1x896x18944_S896x18944
set_option backward.proofsInPublic true in
abbrev idx_main_v51 (i : S896x18944.Idx) : S1x896x18944.Idx := fun a => match a with
  | ⟨0, _⟩ => ⟨0, Nat.one_pos⟩
  | ⟨1, _⟩ => ⟨((i 0).val * 18944 + (i 1).val) / 18944 % 896, by have h0 : (i 0).val < 896 := (i 0).isLt; have h1 : (i 1).val < 18944 := (i 1).isLt; show ((i 0).val * 18944 + (i 1).val) / 18944 % 896 < 896; omega⟩
  | ⟨2, _⟩ => ⟨((i 0).val * 18944 + (i 1).val) % 18944, by have h0 : (i 0).val < 896 := (i 0).isLt; have h1 : (i 1).val < 18944 := (i 1).isLt; show ((i 0).val * 18944 + (i 1).val) % 18944 < 18944; omega⟩
theorem val_main_v51_apply (x1 : (⟨S3x896x18944, .i8⟩ : BufTy).Contents (Elt F)) (i : S896x18944.Idx) :
    val_main_v51 (F := F) x1 i = val_main_v50 (F := F) x1 (idx_main_v51 i) := by
  unfold val_main_v51
  generalize val_main_v50 (F := F) x1 = y
  exact shapeCast_apply y shapeCasts_S1x896x18944_S896x18944 i (idx_main_v51 i)
    (by rewrite [Shape.rowMajor_val_three, Shape.rowMajor_val_two]; have h0 : (i 0).val < 896 := (i 0).isLt; have h1 : (i 1).val < 18944 := (i 1).isLt; show (0 * 896 + ((i 0).val * 18944 + (i 1).val) / 18944 % 896) * 18944 + ((i 0).val * 18944 + (i 1).val) % 18944 = (i 0).val * 18944 + (i 1).val; omega)

-- %52 = stablehlo.slice %49 [1:2, 0:896, 0:18944] : (tensor<3x896x18944xi32>) -> tensor<1x896x18944xi32>
def val_main_v52 (x1 : (⟨S3x896x18944, .i8⟩ : BufTy).Contents (Elt F)) : (⟨S1x896x18944, .i32⟩ : BufTy).Contents (Elt F) :=
  extractStridedSlice S1x896x18944 ![1, 0, 0] (val_main_v49 (F := F) x1) slices_S3x896x18944_S1x896x18944_1_0_0
set_option backward.proofsInPublic true in
abbrev idx_main_v52 (i : S1x896x18944.Idx) : S3x896x18944.Idx := fun a => match a with
  | ⟨0, _⟩ => ⟨1 + (i 0).val, by have h0 : (i 0).val < 1 := (i 0).isLt; show 1 + (i 0).val < 3; omega⟩
  | ⟨1, _⟩ => ⟨(i 1).val, (i 1).isLt⟩
  | ⟨2, _⟩ => ⟨(i 2).val, (i 2).isLt⟩
theorem val_main_v52_apply (x1 : (⟨S3x896x18944, .i8⟩ : BufTy).Contents (Elt F)) (i : S1x896x18944.Idx) :
    val_main_v52 (F := F) x1 i = val_main_v49 (F := F) x1 (idx_main_v52 i) := by
  unfold val_main_v52
  generalize val_main_v49 (F := F) x1 = y
  exact extractStridedSlice_apply ![1, 0, 0] y slices_S3x896x18944_S1x896x18944_1_0_0 i (idx_main_v52 i) (fun a => match a with
    | ⟨0, _⟩ => by show 1 + (i 0).val = 1 + (i 0).val; omega
    | ⟨1, _⟩ => by show (i 1).val = 0 + (i 1).val; omega
    | ⟨2, _⟩ => by show (i 2).val = 0 + (i 2).val; omega)

-- %53 = stablehlo.reshape %52 : (tensor<1x896x18944xi32>) -> tensor<896x18944xi32>
def val_main_v53 (x1 : (⟨S3x896x18944, .i8⟩ : BufTy).Contents (Elt F)) : (⟨S896x18944, .i32⟩ : BufTy).Contents (Elt F) :=
  shapeCast _ (val_main_v52 (F := F) x1) shapeCasts_S1x896x18944_S896x18944
set_option backward.proofsInPublic true in
abbrev idx_main_v53 (i : S896x18944.Idx) : S1x896x18944.Idx := fun a => match a with
  | ⟨0, _⟩ => ⟨0, Nat.one_pos⟩
  | ⟨1, _⟩ => ⟨((i 0).val * 18944 + (i 1).val) / 18944 % 896, by have h0 : (i 0).val < 896 := (i 0).isLt; have h1 : (i 1).val < 18944 := (i 1).isLt; show ((i 0).val * 18944 + (i 1).val) / 18944 % 896 < 896; omega⟩
  | ⟨2, _⟩ => ⟨((i 0).val * 18944 + (i 1).val) % 18944, by have h0 : (i 0).val < 896 := (i 0).isLt; have h1 : (i 1).val < 18944 := (i 1).isLt; show ((i 0).val * 18944 + (i 1).val) % 18944 < 18944; omega⟩
theorem val_main_v53_apply (x1 : (⟨S3x896x18944, .i8⟩ : BufTy).Contents (Elt F)) (i : S896x18944.Idx) :
    val_main_v53 (F := F) x1 i = val_main_v52 (F := F) x1 (idx_main_v53 i) := by
  unfold val_main_v53
  generalize val_main_v52 (F := F) x1 = y
  exact shapeCast_apply y shapeCasts_S1x896x18944_S896x18944 i (idx_main_v53 i)
    (by rewrite [Shape.rowMajor_val_three, Shape.rowMajor_val_two]; have h0 : (i 0).val < 896 := (i 0).isLt; have h1 : (i 1).val < 18944 := (i 1).isLt; show (0 * 896 + ((i 0).val * 18944 + (i 1).val) / 18944 % 896) * 18944 + ((i 0).val * 18944 + (i 1).val) % 18944 = (i 0).val * 18944 + (i 1).val; omega)

-- %54 = stablehlo.slice %49 [2:3, 0:896, 0:18944] : (tensor<3x896x18944xi32>) -> tensor<1x896x18944xi32>
def val_main_v54 (x1 : (⟨S3x896x18944, .i8⟩ : BufTy).Contents (Elt F)) : (⟨S1x896x18944, .i32⟩ : BufTy).Contents (Elt F) :=
  extractStridedSlice S1x896x18944 ![2, 0, 0] (val_main_v49 (F := F) x1) slices_S3x896x18944_S1x896x18944_2_0_0
set_option backward.proofsInPublic true in
abbrev idx_main_v54 (i : S1x896x18944.Idx) : S3x896x18944.Idx := fun a => match a with
  | ⟨0, _⟩ => ⟨2 + (i 0).val, by have h0 : (i 0).val < 1 := (i 0).isLt; show 2 + (i 0).val < 3; omega⟩
  | ⟨1, _⟩ => ⟨(i 1).val, (i 1).isLt⟩
  | ⟨2, _⟩ => ⟨(i 2).val, (i 2).isLt⟩
theorem val_main_v54_apply (x1 : (⟨S3x896x18944, .i8⟩ : BufTy).Contents (Elt F)) (i : S1x896x18944.Idx) :
    val_main_v54 (F := F) x1 i = val_main_v49 (F := F) x1 (idx_main_v54 i) := by
  unfold val_main_v54
  generalize val_main_v49 (F := F) x1 = y
  exact extractStridedSlice_apply ![2, 0, 0] y slices_S3x896x18944_S1x896x18944_2_0_0 i (idx_main_v54 i) (fun a => match a with
    | ⟨0, _⟩ => by show 2 + (i 0).val = 2 + (i 0).val; omega
    | ⟨1, _⟩ => by show (i 1).val = 0 + (i 1).val; omega
    | ⟨2, _⟩ => by show (i 2).val = 0 + (i 2).val; omega)

-- %55 = stablehlo.reshape %54 : (tensor<1x896x18944xi32>) -> tensor<896x18944xi32>
def val_main_v55 (x1 : (⟨S3x896x18944, .i8⟩ : BufTy).Contents (Elt F)) : (⟨S896x18944, .i32⟩ : BufTy).Contents (Elt F) :=
  shapeCast _ (val_main_v54 (F := F) x1) shapeCasts_S1x896x18944_S896x18944
set_option backward.proofsInPublic true in
abbrev idx_main_v55 (i : S896x18944.Idx) : S1x896x18944.Idx := fun a => match a with
  | ⟨0, _⟩ => ⟨0, Nat.one_pos⟩
  | ⟨1, _⟩ => ⟨((i 0).val * 18944 + (i 1).val) / 18944 % 896, by have h0 : (i 0).val < 896 := (i 0).isLt; have h1 : (i 1).val < 18944 := (i 1).isLt; show ((i 0).val * 18944 + (i 1).val) / 18944 % 896 < 896; omega⟩
  | ⟨2, _⟩ => ⟨((i 0).val * 18944 + (i 1).val) % 18944, by have h0 : (i 0).val < 896 := (i 0).isLt; have h1 : (i 1).val < 18944 := (i 1).isLt; show ((i 0).val * 18944 + (i 1).val) % 18944 < 18944; omega⟩
theorem val_main_v55_apply (x1 : (⟨S3x896x18944, .i8⟩ : BufTy).Contents (Elt F)) (i : S896x18944.Idx) :
    val_main_v55 (F := F) x1 i = val_main_v54 (F := F) x1 (idx_main_v55 i) := by
  unfold val_main_v55
  generalize val_main_v54 (F := F) x1 = y
  exact shapeCast_apply y shapeCasts_S1x896x18944_S896x18944 i (idx_main_v55 i)
    (by rewrite [Shape.rowMajor_val_three, Shape.rowMajor_val_two]; have h0 : (i 0).val < 896 := (i 0).isLt; have h1 : (i 1).val < 18944 := (i 1).isLt; show (0 * 896 + ((i 0).val * 18944 + (i 1).val) / 18944 % 896) * 18944 + ((i 0).val * 18944 + (i 1).val) % 18944 = (i 0).val * 18944 + (i 1).val; omega)

-- %c_12 = stablehlo.constant dense<63> : tensor<i32>
def val_main_c_12 : (⟨S_, .i32⟩ : BufTy).Contents (Elt F) :=
  constantI S_ 32 63#32
theorem val_main_c_12_apply (i : S_.Idx) :
    val_main_c_12 (F := F) i = 63#32 := rfl

-- %56 = stablehlo.broadcast_in_dim %c_12, dims = [] : (tensor<i32>) -> tensor<896x18944xi32>
def val_main_v56 : (⟨S896x18944, .i32⟩ : BufTy).Contents (Elt F) :=
  broadcastInDim S896x18944 ![] bcast_S_S896x18944 (val_main_c_12 (F := F))
abbrev idx_main_v56 (i : S896x18944.Idx) : S_.Idx := fun a => a.elim0
theorem val_main_v56_apply (i : S896x18944.Idx) :
    val_main_v56 (F := F) i = val_main_c_12 (F := F) (idx_main_v56 i) := by
  unfold val_main_v56
  generalize val_main_c_12 (F := F) = y
  exact broadcastInDim_apply _ bcast_S_S896x18944 y i (idx_main_v56 i) (fun a => a.elim0)

-- %57 = stablehlo.and %51, %56 : tensor<896x18944xi32>
def val_main_v57 (x1 : (⟨S3x896x18944, .i8⟩ : BufTy).Contents (Elt F)) : (⟨S896x18944, .i32⟩ : BufTy).Contents (Elt F) :=
  andi (val_main_v51 (F := F) x1) (val_main_v56 (F := F))
theorem val_main_v57_apply (x1 : (⟨S3x896x18944, .i8⟩ : BufTy).Contents (Elt F)) (i : S896x18944.Idx) :
    val_main_v57 (F := F) x1 i = IntOp.andi (val_main_v51 (F := F) x1 i) (val_main_v56 (F := F) i) := rfl

-- %c_13 = stablehlo.constant dense<6> : tensor<i32>
def val_main_c_13 : (⟨S_, .i32⟩ : BufTy).Contents (Elt F) :=
  constantI S_ 32 6#32
theorem val_main_c_13_apply (i : S_.Idx) :
    val_main_c_13 (F := F) i = 6#32 := rfl

-- %58 = stablehlo.broadcast_in_dim %c_13, dims = [] : (tensor<i32>) -> tensor<896x18944xi32>
def val_main_v58 : (⟨S896x18944, .i32⟩ : BufTy).Contents (Elt F) :=
  broadcastInDim S896x18944 ![] bcast_S_S896x18944 (val_main_c_13 (F := F))
abbrev idx_main_v58 (i : S896x18944.Idx) : S_.Idx := fun a => a.elim0
theorem val_main_v58_apply (i : S896x18944.Idx) :
    val_main_v58 (F := F) i = val_main_c_13 (F := F) (idx_main_v58 i) := by
  unfold val_main_v58
  generalize val_main_c_13 (F := F) = y
  exact broadcastInDim_apply _ bcast_S_S896x18944 y i (idx_main_v58 i) (fun a => a.elim0)

-- %59 = stablehlo.shift_right_arithmetic %51, %58 : tensor<896x18944xi32>
def val_main_v59 (x1 : (⟨S3x896x18944, .i8⟩ : BufTy).Contents (Elt F)) : (⟨S896x18944, .i32⟩ : BufTy).Contents (Elt F) :=
  Host.shrsi (val_main_v51 (F := F) x1) (val_main_v58 (F := F))
theorem val_main_v59_apply (x1 : (⟨S3x896x18944, .i8⟩ : BufTy).Contents (Elt F)) (i : S896x18944.Idx) :
    val_main_v59 (F := F) x1 i = IntOp.shrsi .host (val_main_v51 (F := F) x1 i) (val_main_v58 (F := F) i) := rfl

-- %c_14 = stablehlo.constant dense<15> : tensor<i32>
def val_main_c_14 : (⟨S_, .i32⟩ : BufTy).Contents (Elt F) :=
  constantI S_ 32 15#32
theorem val_main_c_14_apply (i : S_.Idx) :
    val_main_c_14 (F := F) i = 15#32 := rfl

-- %60 = stablehlo.broadcast_in_dim %c_14, dims = [] : (tensor<i32>) -> tensor<896x18944xi32>
def val_main_v60 : (⟨S896x18944, .i32⟩ : BufTy).Contents (Elt F) :=
  broadcastInDim S896x18944 ![] bcast_S_S896x18944 (val_main_c_14 (F := F))
abbrev idx_main_v60 (i : S896x18944.Idx) : S_.Idx := fun a => a.elim0
theorem val_main_v60_apply (i : S896x18944.Idx) :
    val_main_v60 (F := F) i = val_main_c_14 (F := F) (idx_main_v60 i) := by
  unfold val_main_v60
  generalize val_main_c_14 (F := F) = y
  exact broadcastInDim_apply _ bcast_S_S896x18944 y i (idx_main_v60 i) (fun a => a.elim0)

-- %61 = stablehlo.and %53, %60 : tensor<896x18944xi32>
def val_main_v61 (x1 : (⟨S3x896x18944, .i8⟩ : BufTy).Contents (Elt F)) : (⟨S896x18944, .i32⟩ : BufTy).Contents (Elt F) :=
  andi (val_main_v53 (F := F) x1) (val_main_v60 (F := F))
theorem val_main_v61_apply (x1 : (⟨S3x896x18944, .i8⟩ : BufTy).Contents (Elt F)) (i : S896x18944.Idx) :
    val_main_v61 (F := F) x1 i = IntOp.andi (val_main_v53 (F := F) x1 i) (val_main_v60 (F := F) i) := rfl

-- %c_15 = stablehlo.constant dense<2> : tensor<i32>
def val_main_c_15 : (⟨S_, .i32⟩ : BufTy).Contents (Elt F) :=
  constantI S_ 32 2#32
theorem val_main_c_15_apply (i : S_.Idx) :
    val_main_c_15 (F := F) i = 2#32 := rfl

-- %62 = stablehlo.broadcast_in_dim %c_15, dims = [] : (tensor<i32>) -> tensor<896x18944xi32>
def val_main_v62 : (⟨S896x18944, .i32⟩ : BufTy).Contents (Elt F) :=
  broadcastInDim S896x18944 ![] bcast_S_S896x18944 (val_main_c_15 (F := F))
abbrev idx_main_v62 (i : S896x18944.Idx) : S_.Idx := fun a => a.elim0
theorem val_main_v62_apply (i : S896x18944.Idx) :
    val_main_v62 (F := F) i = val_main_c_15 (F := F) (idx_main_v62 i) := by
  unfold val_main_v62
  generalize val_main_c_15 (F := F) = y
  exact broadcastInDim_apply _ bcast_S_S896x18944 y i (idx_main_v62 i) (fun a => a.elim0)

-- %63 = stablehlo.shift_left %61, %62 : tensor<896x18944xi32>
def val_main_v63 (x1 : (⟨S3x896x18944, .i8⟩ : BufTy).Contents (Elt F)) : (⟨S896x18944, .i32⟩ : BufTy).Contents (Elt F) :=
  Host.shli (val_main_v61 (F := F) x1) (val_main_v62 (F := F))
theorem val_main_v63_apply (x1 : (⟨S3x896x18944, .i8⟩ : BufTy).Contents (Elt F)) (i : S896x18944.Idx) :
    val_main_v63 (F := F) x1 i = IntOp.shli .host (val_main_v61 (F := F) x1 i) (val_main_v62 (F := F) i) := rfl

-- %64 = stablehlo.or %59, %63 : tensor<896x18944xi32>
def val_main_v64 (x1 : (⟨S3x896x18944, .i8⟩ : BufTy).Contents (Elt F)) : (⟨S896x18944, .i32⟩ : BufTy).Contents (Elt F) :=
  ori (val_main_v59 (F := F) x1) (val_main_v63 (F := F) x1)
theorem val_main_v64_apply (x1 : (⟨S3x896x18944, .i8⟩ : BufTy).Contents (Elt F)) (i : S896x18944.Idx) :
    val_main_v64 (F := F) x1 i = IntOp.ori (val_main_v59 (F := F) x1 i) (val_main_v63 (F := F) x1 i) := rfl

-- %c_16 = stablehlo.constant dense<4> : tensor<i32>
def val_main_c_16 : (⟨S_, .i32⟩ : BufTy).Contents (Elt F) :=
  constantI S_ 32 4#32
theorem val_main_c_16_apply (i : S_.Idx) :
    val_main_c_16 (F := F) i = 4#32 := rfl

-- %65 = stablehlo.broadcast_in_dim %c_16, dims = [] : (tensor<i32>) -> tensor<896x18944xi32>
def val_main_v65 : (⟨S896x18944, .i32⟩ : BufTy).Contents (Elt F) :=
  broadcastInDim S896x18944 ![] bcast_S_S896x18944 (val_main_c_16 (F := F))
abbrev idx_main_v65 (i : S896x18944.Idx) : S_.Idx := fun a => a.elim0
theorem val_main_v65_apply (i : S896x18944.Idx) :
    val_main_v65 (F := F) i = val_main_c_16 (F := F) (idx_main_v65 i) := by
  unfold val_main_v65
  generalize val_main_c_16 (F := F) = y
  exact broadcastInDim_apply _ bcast_S_S896x18944 y i (idx_main_v65 i) (fun a => a.elim0)

-- %66 = stablehlo.shift_right_arithmetic %53, %65 : tensor<896x18944xi32>
def val_main_v66 (x1 : (⟨S3x896x18944, .i8⟩ : BufTy).Contents (Elt F)) : (⟨S896x18944, .i32⟩ : BufTy).Contents (Elt F) :=
  Host.shrsi (val_main_v53 (F := F) x1) (val_main_v65 (F := F))
theorem val_main_v66_apply (x1 : (⟨S3x896x18944, .i8⟩ : BufTy).Contents (Elt F)) (i : S896x18944.Idx) :
    val_main_v66 (F := F) x1 i = IntOp.shrsi .host (val_main_v53 (F := F) x1 i) (val_main_v65 (F := F) i) := rfl

-- %c_17 = stablehlo.constant dense<3> : tensor<i32>
def val_main_c_17 : (⟨S_, .i32⟩ : BufTy).Contents (Elt F) :=
  constantI S_ 32 3#32
theorem val_main_c_17_apply (i : S_.Idx) :
    val_main_c_17 (F := F) i = 3#32 := rfl

-- %67 = stablehlo.broadcast_in_dim %c_17, dims = [] : (tensor<i32>) -> tensor<896x18944xi32>
def val_main_v67 : (⟨S896x18944, .i32⟩ : BufTy).Contents (Elt F) :=
  broadcastInDim S896x18944 ![] bcast_S_S896x18944 (val_main_c_17 (F := F))
abbrev idx_main_v67 (i : S896x18944.Idx) : S_.Idx := fun a => a.elim0
theorem val_main_v67_apply (i : S896x18944.Idx) :
    val_main_v67 (F := F) i = val_main_c_17 (F := F) (idx_main_v67 i) := by
  unfold val_main_v67
  generalize val_main_c_17 (F := F) = y
  exact broadcastInDim_apply _ bcast_S_S896x18944 y i (idx_main_v67 i) (fun a => a.elim0)

-- %68 = stablehlo.and %55, %67 : tensor<896x18944xi32>
def val_main_v68 (x1 : (⟨S3x896x18944, .i8⟩ : BufTy).Contents (Elt F)) : (⟨S896x18944, .i32⟩ : BufTy).Contents (Elt F) :=
  andi (val_main_v55 (F := F) x1) (val_main_v67 (F := F))
theorem val_main_v68_apply (x1 : (⟨S3x896x18944, .i8⟩ : BufTy).Contents (Elt F)) (i : S896x18944.Idx) :
    val_main_v68 (F := F) x1 i = IntOp.andi (val_main_v55 (F := F) x1 i) (val_main_v67 (F := F) i) := rfl

-- %c_18 = stablehlo.constant dense<4> : tensor<i32>
def val_main_c_18 : (⟨S_, .i32⟩ : BufTy).Contents (Elt F) :=
  constantI S_ 32 4#32
theorem val_main_c_18_apply (i : S_.Idx) :
    val_main_c_18 (F := F) i = 4#32 := rfl

-- %69 = stablehlo.broadcast_in_dim %c_18, dims = [] : (tensor<i32>) -> tensor<896x18944xi32>
def val_main_v69 : (⟨S896x18944, .i32⟩ : BufTy).Contents (Elt F) :=
  broadcastInDim S896x18944 ![] bcast_S_S896x18944 (val_main_c_18 (F := F))
abbrev idx_main_v69 (i : S896x18944.Idx) : S_.Idx := fun a => a.elim0
theorem val_main_v69_apply (i : S896x18944.Idx) :
    val_main_v69 (F := F) i = val_main_c_18 (F := F) (idx_main_v69 i) := by
  unfold val_main_v69
  generalize val_main_c_18 (F := F) = y
  exact broadcastInDim_apply _ bcast_S_S896x18944 y i (idx_main_v69 i) (fun a => a.elim0)

-- %70 = stablehlo.shift_left %68, %69 : tensor<896x18944xi32>
def val_main_v70 (x1 : (⟨S3x896x18944, .i8⟩ : BufTy).Contents (Elt F)) : (⟨S896x18944, .i32⟩ : BufTy).Contents (Elt F) :=
  Host.shli (val_main_v68 (F := F) x1) (val_main_v69 (F := F))
theorem val_main_v70_apply (x1 : (⟨S3x896x18944, .i8⟩ : BufTy).Contents (Elt F)) (i : S896x18944.Idx) :
    val_main_v70 (F := F) x1 i = IntOp.shli .host (val_main_v68 (F := F) x1 i) (val_main_v69 (F := F) i) := rfl

-- %71 = stablehlo.or %66, %70 : tensor<896x18944xi32>
def val_main_v71 (x1 : (⟨S3x896x18944, .i8⟩ : BufTy).Contents (Elt F)) : (⟨S896x18944, .i32⟩ : BufTy).Contents (Elt F) :=
  ori (val_main_v66 (F := F) x1) (val_main_v70 (F := F) x1)
theorem val_main_v71_apply (x1 : (⟨S3x896x18944, .i8⟩ : BufTy).Contents (Elt F)) (i : S896x18944.Idx) :
    val_main_v71 (F := F) x1 i = IntOp.ori (val_main_v66 (F := F) x1 i) (val_main_v70 (F := F) x1 i) := rfl

-- %c_19 = stablehlo.constant dense<2> : tensor<i32>
def val_main_c_19 : (⟨S_, .i32⟩ : BufTy).Contents (Elt F) :=
  constantI S_ 32 2#32
theorem val_main_c_19_apply (i : S_.Idx) :
    val_main_c_19 (F := F) i = 2#32 := rfl

-- %72 = stablehlo.broadcast_in_dim %c_19, dims = [] : (tensor<i32>) -> tensor<896x18944xi32>
def val_main_v72 : (⟨S896x18944, .i32⟩ : BufTy).Contents (Elt F) :=
  broadcastInDim S896x18944 ![] bcast_S_S896x18944 (val_main_c_19 (F := F))
abbrev idx_main_v72 (i : S896x18944.Idx) : S_.Idx := fun a => a.elim0
theorem val_main_v72_apply (i : S896x18944.Idx) :
    val_main_v72 (F := F) i = val_main_c_19 (F := F) (idx_main_v72 i) := by
  unfold val_main_v72
  generalize val_main_c_19 (F := F) = y
  exact broadcastInDim_apply _ bcast_S_S896x18944 y i (idx_main_v72 i) (fun a => a.elim0)

-- %73 = stablehlo.shift_right_arithmetic %55, %72 : tensor<896x18944xi32>
def val_main_v73 (x1 : (⟨S3x896x18944, .i8⟩ : BufTy).Contents (Elt F)) : (⟨S896x18944, .i32⟩ : BufTy).Contents (Elt F) :=
  Host.shrsi (val_main_v55 (F := F) x1) (val_main_v72 (F := F))
theorem val_main_v73_apply (x1 : (⟨S3x896x18944, .i8⟩ : BufTy).Contents (Elt F)) (i : S896x18944.Idx) :
    val_main_v73 (F := F) x1 i = IntOp.shrsi .host (val_main_v55 (F := F) x1 i) (val_main_v72 (F := F) i) := rfl

-- %74 = stablehlo.broadcast_in_dim %57, dims = [0, 2] : (tensor<896x18944xi32>) -> tensor<896x1x18944xi32>
def val_main_v74 (x1 : (⟨S3x896x18944, .i8⟩ : BufTy).Contents (Elt F)) : (⟨S896x1x18944, .i32⟩ : BufTy).Contents (Elt F) :=
  broadcastInDim S896x1x18944 ![0, 2] bcast_S896x18944_S896x1x18944_0_2 (val_main_v57 (F := F) x1)
abbrev idx_main_v74 (i : S896x1x18944.Idx) : S896x18944.Idx := fun a => match a with
  | ⟨0, _⟩ => ⟨(i 0).val, (i 0).isLt⟩
  | ⟨1, _⟩ => ⟨(i 2).val, (i 2).isLt⟩
theorem val_main_v74_apply (x1 : (⟨S3x896x18944, .i8⟩ : BufTy).Contents (Elt F)) (i : S896x1x18944.Idx) :
    val_main_v74 (F := F) x1 i = val_main_v57 (F := F) x1 (idx_main_v74 i) := by
  unfold val_main_v74
  generalize val_main_v57 (F := F) x1 = y
  exact broadcastInDim_apply _ bcast_S896x18944_S896x1x18944_0_2 y i (idx_main_v74 i) (fun a => match a with
    | ⟨0, _⟩ => by show (i 0).val = if (896 : Nat) = 1 then 0 else (i 0).val; rw [if_neg (by decide)]
    | ⟨1, _⟩ => by show (i 2).val = if (18944 : Nat) = 1 then 0 else (i 2).val; rw [if_neg (by decide)])

-- %75 = stablehlo.broadcast_in_dim %64, dims = [0, 2] : (tensor<896x18944xi32>) -> tensor<896x1x18944xi32>
def val_main_v75 (x1 : (⟨S3x896x18944, .i8⟩ : BufTy).Contents (Elt F)) : (⟨S896x1x18944, .i32⟩ : BufTy).Contents (Elt F) :=
  broadcastInDim S896x1x18944 ![0, 2] bcast_S896x18944_S896x1x18944_0_2 (val_main_v64 (F := F) x1)
abbrev idx_main_v75 (i : S896x1x18944.Idx) : S896x18944.Idx := fun a => match a with
  | ⟨0, _⟩ => ⟨(i 0).val, (i 0).isLt⟩
  | ⟨1, _⟩ => ⟨(i 2).val, (i 2).isLt⟩
theorem val_main_v75_apply (x1 : (⟨S3x896x18944, .i8⟩ : BufTy).Contents (Elt F)) (i : S896x1x18944.Idx) :
    val_main_v75 (F := F) x1 i = val_main_v64 (F := F) x1 (idx_main_v75 i) := by
  unfold val_main_v75
  generalize val_main_v64 (F := F) x1 = y
  exact broadcastInDim_apply _ bcast_S896x18944_S896x1x18944_0_2 y i (idx_main_v75 i) (fun a => match a with
    | ⟨0, _⟩ => by show (i 0).val = if (896 : Nat) = 1 then 0 else (i 0).val; rw [if_neg (by decide)]
    | ⟨1, _⟩ => by show (i 2).val = if (18944 : Nat) = 1 then 0 else (i 2).val; rw [if_neg (by decide)])

-- %76 = stablehlo.broadcast_in_dim %71, dims = [0, 2] : (tensor<896x18944xi32>) -> tensor<896x1x18944xi32>
def val_main_v76 (x1 : (⟨S3x896x18944, .i8⟩ : BufTy).Contents (Elt F)) : (⟨S896x1x18944, .i32⟩ : BufTy).Contents (Elt F) :=
  broadcastInDim S896x1x18944 ![0, 2] bcast_S896x18944_S896x1x18944_0_2 (val_main_v71 (F := F) x1)
abbrev idx_main_v76 (i : S896x1x18944.Idx) : S896x18944.Idx := fun a => match a with
  | ⟨0, _⟩ => ⟨(i 0).val, (i 0).isLt⟩
  | ⟨1, _⟩ => ⟨(i 2).val, (i 2).isLt⟩
theorem val_main_v76_apply (x1 : (⟨S3x896x18944, .i8⟩ : BufTy).Contents (Elt F)) (i : S896x1x18944.Idx) :
    val_main_v76 (F := F) x1 i = val_main_v71 (F := F) x1 (idx_main_v76 i) := by
  unfold val_main_v76
  generalize val_main_v71 (F := F) x1 = y
  exact broadcastInDim_apply _ bcast_S896x18944_S896x1x18944_0_2 y i (idx_main_v76 i) (fun a => match a with
    | ⟨0, _⟩ => by show (i 0).val = if (896 : Nat) = 1 then 0 else (i 0).val; rw [if_neg (by decide)]
    | ⟨1, _⟩ => by show (i 2).val = if (18944 : Nat) = 1 then 0 else (i 2).val; rw [if_neg (by decide)])

-- %77 = stablehlo.broadcast_in_dim %73, dims = [0, 2] : (tensor<896x18944xi32>) -> tensor<896x1x18944xi32>
def val_main_v77 (x1 : (⟨S3x896x18944, .i8⟩ : BufTy).Contents (Elt F)) : (⟨S896x1x18944, .i32⟩ : BufTy).Contents (Elt F) :=
  broadcastInDim S896x1x18944 ![0, 2] bcast_S896x18944_S896x1x18944_0_2 (val_main_v73 (F := F) x1)
abbrev idx_main_v77 (i : S896x1x18944.Idx) : S896x18944.Idx := fun a => match a with
  | ⟨0, _⟩ => ⟨(i 0).val, (i 0).isLt⟩
  | ⟨1, _⟩ => ⟨(i 2).val, (i 2).isLt⟩
theorem val_main_v77_apply (x1 : (⟨S3x896x18944, .i8⟩ : BufTy).Contents (Elt F)) (i : S896x1x18944.Idx) :
    val_main_v77 (F := F) x1 i = val_main_v73 (F := F) x1 (idx_main_v77 i) := by
  unfold val_main_v77
  generalize val_main_v73 (F := F) x1 = y
  exact broadcastInDim_apply _ bcast_S896x18944_S896x1x18944_0_2 y i (idx_main_v77 i) (fun a => match a with
    | ⟨0, _⟩ => by show (i 0).val = if (896 : Nat) = 1 then 0 else (i 0).val; rw [if_neg (by decide)]
    | ⟨1, _⟩ => by show (i 2).val = if (18944 : Nat) = 1 then 0 else (i 2).val; rw [if_neg (by decide)])

-- %78 = stablehlo.concatenate %74, %75, %76, %77, dim = 1 : (tensor<896x1x18944xi32>, tensor<896x1x18944xi32>, tensor<896x1x18944xi32>, tensor<896x1x18944xi32>) -> tensor<896x4x18944xi32>
def val_main_v78 (x1 : (⟨S3x896x18944, .i8⟩ : BufTy).Contents (Elt F)) : (⟨S896x4x18944, .i32⟩ : BufTy).Contents (Elt F) :=
  (concatenate S896x4x18944 1 [⟨S896x1x18944, ((val_main_v74 (F := F) x1) : (⟨S896x1x18944, .i32⟩ : BufTy).Contents (Elt F))⟩, ⟨S896x1x18944, ((val_main_v75 (F := F) x1) : (⟨S896x1x18944, .i32⟩ : BufTy).Contents (Elt F))⟩, ⟨S896x1x18944, ((val_main_v76 (F := F) x1) : (⟨S896x1x18944, .i32⟩ : BufTy).Contents (Elt F))⟩, ⟨S896x1x18944, ((val_main_v77 (F := F) x1) : (⟨S896x1x18944, .i32⟩ : BufTy).Contents (Elt F))⟩] concatenates_S896x1x18944_S896x1x18944_S896x1x18944_S896x1x18944_S896x4x18944_d1 : (⟨S896x4x18944, .i32⟩ : BufTy).Contents (Elt F))

-- %79 = stablehlo.reshape %78 : (tensor<896x4x18944xi32>) -> tensor<112x32x18944xi32>
def val_main_v79 (x1 : (⟨S3x896x18944, .i8⟩ : BufTy).Contents (Elt F)) : (⟨S112x32x18944, .i32⟩ : BufTy).Contents (Elt F) :=
  shapeCast _ (val_main_v78 (F := F) x1) shapeCasts_S896x4x18944_S112x32x18944
set_option backward.proofsInPublic true in
abbrev idx_main_v79 (i : S112x32x18944.Idx) : S896x4x18944.Idx := fun a => match a with
  | ⟨0, _⟩ => ⟨(((i 0).val * 32 + (i 1).val) * 18944 + (i 2).val) / 75776, by have h0 : (i 0).val < 112 := (i 0).isLt; have h1 : (i 1).val < 32 := (i 1).isLt; have h2 : (i 2).val < 18944 := (i 2).isLt; show (((i 0).val * 32 + (i 1).val) * 18944 + (i 2).val) / 75776 < 896; omega⟩
  | ⟨1, _⟩ => ⟨(((i 0).val * 32 + (i 1).val) * 18944 + (i 2).val) / 18944 % 4, by have h0 : (i 0).val < 112 := (i 0).isLt; have h1 : (i 1).val < 32 := (i 1).isLt; have h2 : (i 2).val < 18944 := (i 2).isLt; show (((i 0).val * 32 + (i 1).val) * 18944 + (i 2).val) / 18944 % 4 < 4; omega⟩
  | ⟨2, _⟩ => ⟨(((i 0).val * 32 + (i 1).val) * 18944 + (i 2).val) % 18944, by have h0 : (i 0).val < 112 := (i 0).isLt; have h1 : (i 1).val < 32 := (i 1).isLt; have h2 : (i 2).val < 18944 := (i 2).isLt; show (((i 0).val * 32 + (i 1).val) * 18944 + (i 2).val) % 18944 < 18944; omega⟩
theorem val_main_v79_apply (x1 : (⟨S3x896x18944, .i8⟩ : BufTy).Contents (Elt F)) (i : S112x32x18944.Idx) :
    val_main_v79 (F := F) x1 i = val_main_v78 (F := F) x1 (idx_main_v79 i) := by
  unfold val_main_v79
  generalize val_main_v78 (F := F) x1 = y
  exact shapeCast_apply y shapeCasts_S896x4x18944_S112x32x18944 i (idx_main_v79 i)
    (by rewrite [Shape.rowMajor_val_three, Shape.rowMajor_val_three]; have h0 : (i 0).val < 112 := (i 0).isLt; have h1 : (i 1).val < 32 := (i 1).isLt; have h2 : (i 2).val < 18944 := (i 2).isLt; show ((((i 0).val * 32 + (i 1).val) * 18944 + (i 2).val) / 75776 * 4 + (((i 0).val * 32 + (i 1).val) * 18944 + (i 2).val) / 18944 % 4) * 18944 + (((i 0).val * 32 + (i 1).val) * 18944 + (i 2).val) % 18944 = ((i 0).val * 32 + (i 1).val) * 18944 + (i 2).val; omega)

-- %80 = stablehlo.convert %arg2 : (tensor<112x18944xui8>) -> tensor<112x18944xi32>
def val_main_v80 (x2 : (⟨S112x18944, .i8⟩ : BufTy).Contents (Elt F)) : (⟨S112x18944, .i32⟩ : BufTy).Contents (Elt F) :=
  extui 32 (x2) natLt_8_32
theorem val_main_v80_apply (x2 : (⟨S112x18944, .i8⟩ : BufTy).Contents (Elt F)) (i : S112x18944.Idx) :
    val_main_v80 (F := F) x2 i = (x2 i).setWidth 32 := rfl

-- %c_20 = stablehlo.constant dense<127> : tensor<i32>
def val_main_c_20 : (⟨S_, .i32⟩ : BufTy).Contents (Elt F) :=
  constantI S_ 32 127#32
theorem val_main_c_20_apply (i : S_.Idx) :
    val_main_c_20 (F := F) i = 127#32 := rfl

-- %81 = stablehlo.broadcast_in_dim %c_20, dims = [] : (tensor<i32>) -> tensor<112x18944xi32>
def val_main_v81 : (⟨S112x18944, .i32⟩ : BufTy).Contents (Elt F) :=
  broadcastInDim S112x18944 ![] bcast_S_S112x18944 (val_main_c_20 (F := F))
abbrev idx_main_v81 (i : S112x18944.Idx) : S_.Idx := fun a => a.elim0
theorem val_main_v81_apply (i : S112x18944.Idx) :
    val_main_v81 (F := F) i = val_main_c_20 (F := F) (idx_main_v81 i) := by
  unfold val_main_v81
  generalize val_main_c_20 (F := F) = y
  exact broadcastInDim_apply _ bcast_S_S112x18944 y i (idx_main_v81 i) (fun a => a.elim0)

-- %82 = stablehlo.subtract %80, %81 : tensor<112x18944xi32>
def val_main_v82 (x2 : (⟨S112x18944, .i8⟩ : BufTy).Contents (Elt F)) : (⟨S112x18944, .i32⟩ : BufTy).Contents (Elt F) :=
  subi (val_main_v80 (F := F) x2) (val_main_v81 (F := F))
theorem val_main_v82_apply (x2 : (⟨S112x18944, .i8⟩ : BufTy).Contents (Elt F)) (i : S112x18944.Idx) :
    val_main_v82 (F := F) x2 i = IntOp.subi (val_main_v80 (F := F) x2 i) (val_main_v81 (F := F) i) := rfl

-- %83 = stablehlo.convert %82 : (tensor<112x18944xi32>) -> tensor<112x18944xf32>
def val_main_v83 (x2 : (⟨S112x18944, .i8⟩ : BufTy).Contents (Elt F)) : (⟨S112x18944, .f32⟩ : BufTy).Contents (Elt F) :=
  sitofp .f32 (val_main_v82 (F := F) x2)
theorem val_main_v83_apply (x2 : (⟨S112x18944, .i8⟩ : BufTy).Contents (Elt F)) (i : S112x18944.Idx) :
    val_main_v83 (F := F) x2 i = FloatOps.sitofp .f32 (val_main_v82 (F := F) x2 i) := rfl

-- %cst_21 = stablehlo.constant dense<2.000000e+00> : tensor<f32>
def val_main_cst_21 : (⟨S_, .f32⟩ : BufTy).Contents (Elt F) :=
  constant S_ .f32 0x40000000#32
theorem val_main_cst_21_apply (i : S_.Idx) :
    val_main_cst_21 (F := F) i = FloatOps.ofBits .f32 0x40000000#32 := rfl

-- %84 = stablehlo.broadcast_in_dim %cst_21, dims = [] : (tensor<f32>) -> tensor<112x18944xf32>
def val_main_v84 : (⟨S112x18944, .f32⟩ : BufTy).Contents (Elt F) :=
  broadcastInDim S112x18944 ![] bcast_S_S112x18944 (val_main_cst_21 (F := F))
abbrev idx_main_v84 (i : S112x18944.Idx) : S_.Idx := fun a => a.elim0
theorem val_main_v84_apply (i : S112x18944.Idx) :
    val_main_v84 (F := F) i = val_main_cst_21 (F := F) (idx_main_v84 i) := by
  unfold val_main_v84
  generalize val_main_cst_21 (F := F) = y
  exact broadcastInDim_apply _ bcast_S_S112x18944 y i (idx_main_v84 i) (fun a => a.elim0)

-- %85 = stablehlo.power %84, %83 : tensor<112x18944xf32>
def val_main_v85 (x2 : (⟨S112x18944, .i8⟩ : BufTy).Contents (Elt F)) : (⟨S112x18944, .f32⟩ : BufTy).Contents (Elt F) :=
  Host.powf (val_main_v84 (F := F)) (val_main_v83 (F := F) x2)
theorem val_main_v85_apply (x2 : (⟨S112x18944, .i8⟩ : BufTy).Contents (Elt F)) (i : S112x18944.Idx) :
    val_main_v85 (F := F) x2 i = FloatOps.hostPowf (val_main_v84 (F := F) i) (val_main_v83 (F := F) x2 i) := rfl

-- %86 = stablehlo.convert %85 : (tensor<112x18944xf32>) -> tensor<112x18944xbf16>
def val_main_v86 (x2 : (⟨S112x18944, .i8⟩ : BufTy).Contents (Elt F)) : (⟨S112x18944, .bf16⟩ : BufTy).Contents (Elt F) :=
  truncf .bf16 (val_main_v85 (F := F) x2) bitsLt_bf16_f32
theorem val_main_v86_apply (x2 : (⟨S112x18944, .i8⟩ : BufTy).Contents (Elt F)) (i : S112x18944.Idx) :
    val_main_v86 (F := F) x2 i = FloatOps.truncf .bf16 bitsLt_bf16_f32 (val_main_v85 (F := F) x2 i) := rfl

-- %87 = stablehlo.broadcast_in_dim %86, dims = [0, 2] : (tensor<112x18944xbf16>) -> tensor<112x1x18944xbf16>
def val_main_v87 (x2 : (⟨S112x18944, .i8⟩ : BufTy).Contents (Elt F)) : (⟨S112x1x18944, .bf16⟩ : BufTy).Contents (Elt F) :=
  broadcastInDim S112x1x18944 ![0, 2] bcast_S112x18944_S112x1x18944_0_2 (val_main_v86 (F := F) x2)
abbrev idx_main_v87 (i : S112x1x18944.Idx) : S112x18944.Idx := fun a => match a with
  | ⟨0, _⟩ => ⟨(i 0).val, (i 0).isLt⟩
  | ⟨1, _⟩ => ⟨(i 2).val, (i 2).isLt⟩
theorem val_main_v87_apply (x2 : (⟨S112x18944, .i8⟩ : BufTy).Contents (Elt F)) (i : S112x1x18944.Idx) :
    val_main_v87 (F := F) x2 i = val_main_v86 (F := F) x2 (idx_main_v87 i) := by
  unfold val_main_v87
  generalize val_main_v86 (F := F) x2 = y
  exact broadcastInDim_apply _ bcast_S112x18944_S112x1x18944_0_2 y i (idx_main_v87 i) (fun a => match a with
    | ⟨0, _⟩ => by show (i 0).val = if (112 : Nat) = 1 then 0 else (i 0).val; rw [if_neg (by decide)]
    | ⟨1, _⟩ => by show (i 2).val = if (18944 : Nat) = 1 then 0 else (i 2).val; rw [if_neg (by decide)])

-- %c_22 = stablehlo.constant dense<5> : tensor<i32>
def val_main_c_22 : (⟨S_, .i32⟩ : BufTy).Contents (Elt F) :=
  constantI S_ 32 5#32
theorem val_main_c_22_apply (i : S_.Idx) :
    val_main_c_22 (F := F) i = 5#32 := rfl

-- %88 = stablehlo.broadcast_in_dim %c_22, dims = [] : (tensor<i32>) -> tensor<112x32x18944xi32>
def val_main_v88 : (⟨S112x32x18944, .i32⟩ : BufTy).Contents (Elt F) :=
  broadcastInDim S112x32x18944 ![] bcast_S_S112x32x18944 (val_main_c_22 (F := F))
abbrev idx_main_v88 (i : S112x32x18944.Idx) : S_.Idx := fun a => a.elim0
theorem val_main_v88_apply (i : S112x32x18944.Idx) :
    val_main_v88 (F := F) i = val_main_c_22 (F := F) (idx_main_v88 i) := by
  unfold val_main_v88
  generalize val_main_c_22 (F := F) = y
  exact broadcastInDim_apply _ bcast_S_S112x32x18944 y i (idx_main_v88 i) (fun a => a.elim0)

-- %89 = stablehlo.shift_right_arithmetic %79, %88 : tensor<112x32x18944xi32>
def val_main_v89 (x1 : (⟨S3x896x18944, .i8⟩ : BufTy).Contents (Elt F)) : (⟨S112x32x18944, .i32⟩ : BufTy).Contents (Elt F) :=
  Host.shrsi (val_main_v79 (F := F) x1) (val_main_v88 (F := F))
theorem val_main_v89_apply (x1 : (⟨S3x896x18944, .i8⟩ : BufTy).Contents (Elt F)) (i : S112x32x18944.Idx) :
    val_main_v89 (F := F) x1 i = IntOp.shrsi .host (val_main_v79 (F := F) x1 i) (val_main_v88 (F := F) i) := rfl

-- %c_23 = stablehlo.constant dense<1> : tensor<i32>
def val_main_c_23 : (⟨S_, .i32⟩ : BufTy).Contents (Elt F) :=
  constantI S_ 32 1#32
theorem val_main_c_23_apply (i : S_.Idx) :
    val_main_c_23 (F := F) i = 1#32 := rfl

-- %90 = stablehlo.broadcast_in_dim %c_23, dims = [] : (tensor<i32>) -> tensor<112x32x18944xi32>
def val_main_v90 : (⟨S112x32x18944, .i32⟩ : BufTy).Contents (Elt F) :=
  broadcastInDim S112x32x18944 ![] bcast_S_S112x32x18944 (val_main_c_23 (F := F))
abbrev idx_main_v90 (i : S112x32x18944.Idx) : S_.Idx := fun a => a.elim0
theorem val_main_v90_apply (i : S112x32x18944.Idx) :
    val_main_v90 (F := F) i = val_main_c_23 (F := F) (idx_main_v90 i) := by
  unfold val_main_v90
  generalize val_main_c_23 (F := F) = y
  exact broadcastInDim_apply _ bcast_S_S112x32x18944 y i (idx_main_v90 i) (fun a => a.elim0)

-- %91 = stablehlo.and %89, %90 : tensor<112x32x18944xi32>
def val_main_v91 (x1 : (⟨S3x896x18944, .i8⟩ : BufTy).Contents (Elt F)) : (⟨S112x32x18944, .i32⟩ : BufTy).Contents (Elt F) :=
  andi (val_main_v89 (F := F) x1) (val_main_v90 (F := F))
theorem val_main_v91_apply (x1 : (⟨S3x896x18944, .i8⟩ : BufTy).Contents (Elt F)) (i : S112x32x18944.Idx) :
    val_main_v91 (F := F) x1 i = IntOp.andi (val_main_v89 (F := F) x1 i) (val_main_v90 (F := F) i) := rfl

-- %c_24 = stablehlo.constant dense<2> : tensor<i32>
def val_main_c_24 : (⟨S_, .i32⟩ : BufTy).Contents (Elt F) :=
  constantI S_ 32 2#32
theorem val_main_c_24_apply (i : S_.Idx) :
    val_main_c_24 (F := F) i = 2#32 := rfl

-- %92 = stablehlo.broadcast_in_dim %c_24, dims = [] : (tensor<i32>) -> tensor<112x32x18944xi32>
def val_main_v92 : (⟨S112x32x18944, .i32⟩ : BufTy).Contents (Elt F) :=
  broadcastInDim S112x32x18944 ![] bcast_S_S112x32x18944 (val_main_c_24 (F := F))
abbrev idx_main_v92 (i : S112x32x18944.Idx) : S_.Idx := fun a => a.elim0
theorem val_main_v92_apply (i : S112x32x18944.Idx) :
    val_main_v92 (F := F) i = val_main_c_24 (F := F) (idx_main_v92 i) := by
  unfold val_main_v92
  generalize val_main_c_24 (F := F) = y
  exact broadcastInDim_apply _ bcast_S_S112x32x18944 y i (idx_main_v92 i) (fun a => a.elim0)

-- %93 = stablehlo.shift_right_arithmetic %79, %92 : tensor<112x32x18944xi32>
def val_main_v93 (x1 : (⟨S3x896x18944, .i8⟩ : BufTy).Contents (Elt F)) : (⟨S112x32x18944, .i32⟩ : BufTy).Contents (Elt F) :=
  Host.shrsi (val_main_v79 (F := F) x1) (val_main_v92 (F := F))
theorem val_main_v93_apply (x1 : (⟨S3x896x18944, .i8⟩ : BufTy).Contents (Elt F)) (i : S112x32x18944.Idx) :
    val_main_v93 (F := F) x1 i = IntOp.shrsi .host (val_main_v79 (F := F) x1 i) (val_main_v92 (F := F) i) := rfl

-- %c_25 = stablehlo.constant dense<7> : tensor<i32>
def val_main_c_25 : (⟨S_, .i32⟩ : BufTy).Contents (Elt F) :=
  constantI S_ 32 7#32
theorem val_main_c_25_apply (i : S_.Idx) :
    val_main_c_25 (F := F) i = 7#32 := rfl

-- %94 = stablehlo.broadcast_in_dim %c_25, dims = [] : (tensor<i32>) -> tensor<112x32x18944xi32>
def val_main_v94 : (⟨S112x32x18944, .i32⟩ : BufTy).Contents (Elt F) :=
  broadcastInDim S112x32x18944 ![] bcast_S_S112x32x18944 (val_main_c_25 (F := F))
abbrev idx_main_v94 (i : S112x32x18944.Idx) : S_.Idx := fun a => a.elim0
theorem val_main_v94_apply (i : S112x32x18944.Idx) :
    val_main_v94 (F := F) i = val_main_c_25 (F := F) (idx_main_v94 i) := by
  unfold val_main_v94
  generalize val_main_c_25 (F := F) = y
  exact broadcastInDim_apply _ bcast_S_S112x32x18944 y i (idx_main_v94 i) (fun a => a.elim0)

-- %95 = stablehlo.and %93, %94 : tensor<112x32x18944xi32>
def val_main_v95 (x1 : (⟨S3x896x18944, .i8⟩ : BufTy).Contents (Elt F)) : (⟨S112x32x18944, .i32⟩ : BufTy).Contents (Elt F) :=
  andi (val_main_v93 (F := F) x1) (val_main_v94 (F := F))
theorem val_main_v95_apply (x1 : (⟨S3x896x18944, .i8⟩ : BufTy).Contents (Elt F)) (i : S112x32x18944.Idx) :
    val_main_v95 (F := F) x1 i = IntOp.andi (val_main_v93 (F := F) x1 i) (val_main_v94 (F := F) i) := rfl

-- %c_26 = stablehlo.constant dense<3> : tensor<i32>
def val_main_c_26 : (⟨S_, .i32⟩ : BufTy).Contents (Elt F) :=
  constantI S_ 32 3#32
theorem val_main_c_26_apply (i : S_.Idx) :
    val_main_c_26 (F := F) i = 3#32 := rfl

-- %96 = stablehlo.broadcast_in_dim %c_26, dims = [] : (tensor<i32>) -> tensor<112x32x18944xi32>
def val_main_v96 : (⟨S112x32x18944, .i32⟩ : BufTy).Contents (Elt F) :=
  broadcastInDim S112x32x18944 ![] bcast_S_S112x32x18944 (val_main_c_26 (F := F))
abbrev idx_main_v96 (i : S112x32x18944.Idx) : S_.Idx := fun a => a.elim0
theorem val_main_v96_apply (i : S112x32x18944.Idx) :
    val_main_v96 (F := F) i = val_main_c_26 (F := F) (idx_main_v96 i) := by
  unfold val_main_v96
  generalize val_main_c_26 (F := F) = y
  exact broadcastInDim_apply _ bcast_S_S112x32x18944 y i (idx_main_v96 i) (fun a => a.elim0)

-- %97 = stablehlo.and %79, %96 : tensor<112x32x18944xi32>
def val_main_v97 (x1 : (⟨S3x896x18944, .i8⟩ : BufTy).Contents (Elt F)) : (⟨S112x32x18944, .i32⟩ : BufTy).Contents (Elt F) :=
  andi (val_main_v79 (F := F) x1) (val_main_v96 (F := F))
theorem val_main_v97_apply (x1 : (⟨S3x896x18944, .i8⟩ : BufTy).Contents (Elt F)) (i : S112x32x18944.Idx) :
    val_main_v97 (F := F) x1 i = IntOp.andi (val_main_v79 (F := F) x1 i) (val_main_v96 (F := F) i) := rfl

-- %98 = stablehlo.convert %97 : (tensor<112x32x18944xi32>) -> tensor<112x32x18944xf32>
def val_main_v98 (x1 : (⟨S3x896x18944, .i8⟩ : BufTy).Contents (Elt F)) : (⟨S112x32x18944, .f32⟩ : BufTy).Contents (Elt F) :=
  sitofp .f32 (val_main_v97 (F := F) x1)
theorem val_main_v98_apply (x1 : (⟨S3x896x18944, .i8⟩ : BufTy).Contents (Elt F)) (i : S112x32x18944.Idx) :
    val_main_v98 (F := F) x1 i = FloatOps.sitofp .f32 (val_main_v97 (F := F) x1 i) := rfl

-- %c_27 = stablehlo.constant dense<0> : tensor<i32>
def val_main_c_27 : (⟨S_, .i32⟩ : BufTy).Contents (Elt F) :=
  constantI S_ 32 0#32
theorem val_main_c_27_apply (i : S_.Idx) :
    val_main_c_27 (F := F) i = 0#32 := rfl

-- %99 = stablehlo.broadcast_in_dim %c_27, dims = [] : (tensor<i32>) -> tensor<112x32x18944xi32>
def val_main_v99 : (⟨S112x32x18944, .i32⟩ : BufTy).Contents (Elt F) :=
  broadcastInDim S112x32x18944 ![] bcast_S_S112x32x18944 (val_main_c_27 (F := F))
abbrev idx_main_v99 (i : S112x32x18944.Idx) : S_.Idx := fun a => a.elim0
theorem val_main_v99_apply (i : S112x32x18944.Idx) :
    val_main_v99 (F := F) i = val_main_c_27 (F := F) (idx_main_v99 i) := by
  unfold val_main_v99
  generalize val_main_c_27 (F := F) = y
  exact broadcastInDim_apply _ bcast_S_S112x32x18944 y i (idx_main_v99 i) (fun a => a.elim0)

-- %100 = stablehlo.compare EQ, %95, %99, SIGNED : (tensor<112x32x18944xi32>, tensor<112x32x18944xi32>) -> tensor<112x32x18944xi1>
def val_main_v100 (x1 : (⟨S3x896x18944, .i8⟩ : BufTy).Contents (Elt F)) : (⟨S112x32x18944, .i1⟩ : BufTy).Contents (Elt F) :=
  cmpi .eq (val_main_v95 (F := F) x1) (val_main_v99 (F := F))
theorem val_main_v100_apply (x1 : (⟨S3x896x18944, .i8⟩ : BufTy).Contents (Elt F)) (i : S112x32x18944.Idx) :
    val_main_v100 (F := F) x1 i = IntOp.cmpi .eq (val_main_v95 (F := F) x1 i) (val_main_v99 (F := F) i) := rfl

-- %cst_28 = stablehlo.constant dense<6.250000e-02> : tensor<f32>
def val_main_cst_28 : (⟨S_, .f32⟩ : BufTy).Contents (Elt F) :=
  constant S_ .f32 0x3D800000#32
theorem val_main_cst_28_apply (i : S_.Idx) :
    val_main_cst_28 (F := F) i = FloatOps.ofBits .f32 0x3D800000#32 := rfl

-- %101 = stablehlo.broadcast_in_dim %cst_28, dims = [] : (tensor<f32>) -> tensor<112x32x18944xf32>
def val_main_v101 : (⟨S112x32x18944, .f32⟩ : BufTy).Contents (Elt F) :=
  broadcastInDim S112x32x18944 ![] bcast_S_S112x32x18944 (val_main_cst_28 (F := F))
abbrev idx_main_v101 (i : S112x32x18944.Idx) : S_.Idx := fun a => a.elim0
theorem val_main_v101_apply (i : S112x32x18944.Idx) :
    val_main_v101 (F := F) i = val_main_cst_28 (F := F) (idx_main_v101 i) := by
  unfold val_main_v101
  generalize val_main_cst_28 (F := F) = y
  exact broadcastInDim_apply _ bcast_S_S112x32x18944 y i (idx_main_v101 i) (fun a => a.elim0)

-- %102 = stablehlo.multiply %98, %101 : tensor<112x32x18944xf32>
def val_main_v102 (x1 : (⟨S3x896x18944, .i8⟩ : BufTy).Contents (Elt F)) : (⟨S112x32x18944, .f32⟩ : BufTy).Contents (Elt F) :=
  mulf (val_main_v98 (F := F) x1) (val_main_v101 (F := F))
theorem val_main_v102_apply (x1 : (⟨S3x896x18944, .i8⟩ : BufTy).Contents (Elt F)) (i : S112x32x18944.Idx) :
    val_main_v102 (F := F) x1 i = FloatOps.mulf (val_main_v98 (F := F) x1 i) (val_main_v101 (F := F) i) := rfl

-- %cst_29 = stablehlo.constant dense<2.500000e-01> : tensor<f32>
def val_main_cst_29 : (⟨S_, .f32⟩ : BufTy).Contents (Elt F) :=
  constant S_ .f32 0x3E800000#32
theorem val_main_cst_29_apply (i : S_.Idx) :
    val_main_cst_29 (F := F) i = FloatOps.ofBits .f32 0x3E800000#32 := rfl

-- %103 = stablehlo.broadcast_in_dim %cst_29, dims = [] : (tensor<f32>) -> tensor<112x32x18944xf32>
def val_main_v103 : (⟨S112x32x18944, .f32⟩ : BufTy).Contents (Elt F) :=
  broadcastInDim S112x32x18944 ![] bcast_S_S112x32x18944 (val_main_cst_29 (F := F))
abbrev idx_main_v103 (i : S112x32x18944.Idx) : S_.Idx := fun a => a.elim0
theorem val_main_v103_apply (i : S112x32x18944.Idx) :
    val_main_v103 (F := F) i = val_main_cst_29 (F := F) (idx_main_v103 i) := by
  unfold val_main_v103
  generalize val_main_cst_29 (F := F) = y
  exact broadcastInDim_apply _ bcast_S_S112x32x18944 y i (idx_main_v103 i) (fun a => a.elim0)

-- %104 = stablehlo.multiply %98, %103 : tensor<112x32x18944xf32>
def val_main_v104 (x1 : (⟨S3x896x18944, .i8⟩ : BufTy).Contents (Elt F)) : (⟨S112x32x18944, .f32⟩ : BufTy).Contents (Elt F) :=
  mulf (val_main_v98 (F := F) x1) (val_main_v103 (F := F))
theorem val_main_v104_apply (x1 : (⟨S3x896x18944, .i8⟩ : BufTy).Contents (Elt F)) (i : S112x32x18944.Idx) :
    val_main_v104 (F := F) x1 i = FloatOps.mulf (val_main_v98 (F := F) x1 i) (val_main_v103 (F := F) i) := rfl

-- %cst_30 = stablehlo.constant dense<1.000000e+00> : tensor<f32>
def val_main_cst_30 : (⟨S_, .f32⟩ : BufTy).Contents (Elt F) :=
  constant S_ .f32 0x3F800000#32
theorem val_main_cst_30_apply (i : S_.Idx) :
    val_main_cst_30 (F := F) i = FloatOps.ofBits .f32 0x3F800000#32 := rfl

-- %105 = stablehlo.broadcast_in_dim %cst_30, dims = [] : (tensor<f32>) -> tensor<112x32x18944xf32>
def val_main_v105 : (⟨S112x32x18944, .f32⟩ : BufTy).Contents (Elt F) :=
  broadcastInDim S112x32x18944 ![] bcast_S_S112x32x18944 (val_main_cst_30 (F := F))
abbrev idx_main_v105 (i : S112x32x18944.Idx) : S_.Idx := fun a => a.elim0
theorem val_main_v105_apply (i : S112x32x18944.Idx) :
    val_main_v105 (F := F) i = val_main_cst_30 (F := F) (idx_main_v105 i) := by
  unfold val_main_v105
  generalize val_main_cst_30 (F := F) = y
  exact broadcastInDim_apply _ bcast_S_S112x32x18944 y i (idx_main_v105 i) (fun a => a.elim0)

-- %106 = stablehlo.add %105, %104 : tensor<112x32x18944xf32>
def val_main_v106 (x1 : (⟨S3x896x18944, .i8⟩ : BufTy).Contents (Elt F)) : (⟨S112x32x18944, .f32⟩ : BufTy).Contents (Elt F) :=
  addf (val_main_v105 (F := F)) (val_main_v104 (F := F) x1)
theorem val_main_v106_apply (x1 : (⟨S3x896x18944, .i8⟩ : BufTy).Contents (Elt F)) (i : S112x32x18944.Idx) :
    val_main_v106 (F := F) x1 i = FloatOps.addf (val_main_v105 (F := F) i) (val_main_v104 (F := F) x1 i) := rfl

-- %c_31 = stablehlo.constant dense<3> : tensor<i32>
def val_main_c_31 : (⟨S_, .i32⟩ : BufTy).Contents (Elt F) :=
  constantI S_ 32 3#32
theorem val_main_c_31_apply (i : S_.Idx) :
    val_main_c_31 (F := F) i = 3#32 := rfl

-- %107 = stablehlo.broadcast_in_dim %c_31, dims = [] : (tensor<i32>) -> tensor<112x32x18944xi32>
def val_main_v107 : (⟨S112x32x18944, .i32⟩ : BufTy).Contents (Elt F) :=
  broadcastInDim S112x32x18944 ![] bcast_S_S112x32x18944 (val_main_c_31 (F := F))
abbrev idx_main_v107 (i : S112x32x18944.Idx) : S_.Idx := fun a => a.elim0
theorem val_main_v107_apply (i : S112x32x18944.Idx) :
    val_main_v107 (F := F) i = val_main_c_31 (F := F) (idx_main_v107 i) := by
  unfold val_main_v107
  generalize val_main_c_31 (F := F) = y
  exact broadcastInDim_apply _ bcast_S_S112x32x18944 y i (idx_main_v107 i) (fun a => a.elim0)

-- %108 = stablehlo.subtract %95, %107 : tensor<112x32x18944xi32>
def val_main_v108 (x1 : (⟨S3x896x18944, .i8⟩ : BufTy).Contents (Elt F)) : (⟨S112x32x18944, .i32⟩ : BufTy).Contents (Elt F) :=
  subi (val_main_v95 (F := F) x1) (val_main_v107 (F := F))
theorem val_main_v108_apply (x1 : (⟨S3x896x18944, .i8⟩ : BufTy).Contents (Elt F)) (i : S112x32x18944.Idx) :
    val_main_v108 (F := F) x1 i = IntOp.subi (val_main_v95 (F := F) x1 i) (val_main_v107 (F := F) i) := rfl

-- %109 = stablehlo.convert %108 : (tensor<112x32x18944xi32>) -> tensor<112x32x18944xf32>
def val_main_v109 (x1 : (⟨S3x896x18944, .i8⟩ : BufTy).Contents (Elt F)) : (⟨S112x32x18944, .f32⟩ : BufTy).Contents (Elt F) :=
  sitofp .f32 (val_main_v108 (F := F) x1)
theorem val_main_v109_apply (x1 : (⟨S3x896x18944, .i8⟩ : BufTy).Contents (Elt F)) (i : S112x32x18944.Idx) :
    val_main_v109 (F := F) x1 i = FloatOps.sitofp .f32 (val_main_v108 (F := F) x1 i) := rfl

-- %cst_32 = stablehlo.constant dense<2.000000e+00> : tensor<f32>
def val_main_cst_32 : (⟨S_, .f32⟩ : BufTy).Contents (Elt F) :=
  constant S_ .f32 0x40000000#32
theorem val_main_cst_32_apply (i : S_.Idx) :
    val_main_cst_32 (F := F) i = FloatOps.ofBits .f32 0x40000000#32 := rfl

-- %110 = stablehlo.broadcast_in_dim %cst_32, dims = [] : (tensor<f32>) -> tensor<112x32x18944xf32>
def val_main_v110 : (⟨S112x32x18944, .f32⟩ : BufTy).Contents (Elt F) :=
  broadcastInDim S112x32x18944 ![] bcast_S_S112x32x18944 (val_main_cst_32 (F := F))
abbrev idx_main_v110 (i : S112x32x18944.Idx) : S_.Idx := fun a => a.elim0
theorem val_main_v110_apply (i : S112x32x18944.Idx) :
    val_main_v110 (F := F) i = val_main_cst_32 (F := F) (idx_main_v110 i) := by
  unfold val_main_v110
  generalize val_main_cst_32 (F := F) = y
  exact broadcastInDim_apply _ bcast_S_S112x32x18944 y i (idx_main_v110 i) (fun a => a.elim0)

-- %111 = stablehlo.power %110, %109 : tensor<112x32x18944xf32>
def val_main_v111 (x1 : (⟨S3x896x18944, .i8⟩ : BufTy).Contents (Elt F)) : (⟨S112x32x18944, .f32⟩ : BufTy).Contents (Elt F) :=
  Host.powf (val_main_v110 (F := F)) (val_main_v109 (F := F) x1)
theorem val_main_v111_apply (x1 : (⟨S3x896x18944, .i8⟩ : BufTy).Contents (Elt F)) (i : S112x32x18944.Idx) :
    val_main_v111 (F := F) x1 i = FloatOps.hostPowf (val_main_v110 (F := F) i) (val_main_v109 (F := F) x1 i) := rfl

-- %112 = stablehlo.multiply %106, %111 : tensor<112x32x18944xf32>
def val_main_v112 (x1 : (⟨S3x896x18944, .i8⟩ : BufTy).Contents (Elt F)) : (⟨S112x32x18944, .f32⟩ : BufTy).Contents (Elt F) :=
  mulf (val_main_v106 (F := F) x1) (val_main_v111 (F := F) x1)
theorem val_main_v112_apply (x1 : (⟨S3x896x18944, .i8⟩ : BufTy).Contents (Elt F)) (i : S112x32x18944.Idx) :
    val_main_v112 (F := F) x1 i = FloatOps.mulf (val_main_v106 (F := F) x1 i) (val_main_v111 (F := F) x1 i) := rfl

-- %113 = func.call @_where_0(…) (record main_call2) result 0: @_where_0's %0 = stablehlo.select %arg0, %arg1, %arg2 : tensor<112x32x18944xi1>, tensor<112x32x18944xf32>
def val_main_v113 (x1 : (⟨S3x896x18944, .i8⟩ : BufTy).Contents (Elt F)) : (⟨S112x32x18944, .f32⟩ : BufTy).Contents (Elt F) :=
  select (val_main_v100 (F := F) x1) (val_main_v102 (F := F) x1) (val_main_v112 (F := F) x1)
theorem val_main_v113_apply (x1 : (⟨S3x896x18944, .i8⟩ : BufTy).Contents (Elt F)) (i : S112x32x18944.Idx) :
    val_main_v113 (F := F) x1 i = Scalar.select (val_main_v100 (F := F) x1 i) (val_main_v102 (F := F) x1 i) (val_main_v112 (F := F) x1 i) := rfl

-- %c_33 = stablehlo.constant dense<1> : tensor<i32>
def val_main_c_33 : (⟨S_, .i32⟩ : BufTy).Contents (Elt F) :=
  constantI S_ 32 1#32
theorem val_main_c_33_apply (i : S_.Idx) :
    val_main_c_33 (F := F) i = 1#32 := rfl

-- %114 = stablehlo.broadcast_in_dim %c_33, dims = [] : (tensor<i32>) -> tensor<112x32x18944xi32>
def val_main_v114 : (⟨S112x32x18944, .i32⟩ : BufTy).Contents (Elt F) :=
  broadcastInDim S112x32x18944 ![] bcast_S_S112x32x18944 (val_main_c_33 (F := F))
abbrev idx_main_v114 (i : S112x32x18944.Idx) : S_.Idx := fun a => a.elim0
theorem val_main_v114_apply (i : S112x32x18944.Idx) :
    val_main_v114 (F := F) i = val_main_c_33 (F := F) (idx_main_v114 i) := by
  unfold val_main_v114
  generalize val_main_c_33 (F := F) = y
  exact broadcastInDim_apply _ bcast_S_S112x32x18944 y i (idx_main_v114 i) (fun a => a.elim0)

-- %115 = stablehlo.compare EQ, %91, %114, SIGNED : (tensor<112x32x18944xi32>, tensor<112x32x18944xi32>) -> tensor<112x32x18944xi1>
def val_main_v115 (x1 : (⟨S3x896x18944, .i8⟩ : BufTy).Contents (Elt F)) : (⟨S112x32x18944, .i1⟩ : BufTy).Contents (Elt F) :=
  cmpi .eq (val_main_v91 (F := F) x1) (val_main_v114 (F := F))
theorem val_main_v115_apply (x1 : (⟨S3x896x18944, .i8⟩ : BufTy).Contents (Elt F)) (i : S112x32x18944.Idx) :
    val_main_v115 (F := F) x1 i = IntOp.cmpi .eq (val_main_v91 (F := F) x1 i) (val_main_v114 (F := F) i) := rfl

-- %116 = stablehlo.negate %113 : tensor<112x32x18944xf32>
def val_main_v116 (x1 : (⟨S3x896x18944, .i8⟩ : BufTy).Contents (Elt F)) : (⟨S112x32x18944, .f32⟩ : BufTy).Contents (Elt F) :=
  Host.negf (val_main_v113 (F := F) x1)
theorem val_main_v116_apply (x1 : (⟨S3x896x18944, .i8⟩ : BufTy).Contents (Elt F)) (i : S112x32x18944.Idx) :
    val_main_v116 (F := F) x1 i = FloatOps.hostNegf (val_main_v113 (F := F) x1 i) := rfl

-- %117 = func.call @_where_0(…) (record main_call3) result 0: @_where_0's %0 = stablehlo.select %arg0, %arg1, %arg2 : tensor<112x32x18944xi1>, tensor<112x32x18944xf32>
def val_main_v117 (x1 : (⟨S3x896x18944, .i8⟩ : BufTy).Contents (Elt F)) : (⟨S112x32x18944, .f32⟩ : BufTy).Contents (Elt F) :=
  select (val_main_v115 (F := F) x1) (val_main_v116 (F := F) x1) (val_main_v113 (F := F) x1)
theorem val_main_v117_apply (x1 : (⟨S3x896x18944, .i8⟩ : BufTy).Contents (Elt F)) (i : S112x32x18944.Idx) :
    val_main_v117 (F := F) x1 i = Scalar.select (val_main_v115 (F := F) x1 i) (val_main_v116 (F := F) x1 i) (val_main_v113 (F := F) x1 i) := rfl

-- %118 = stablehlo.convert %117 : (tensor<112x32x18944xf32>) -> tensor<112x32x18944xbf16>
def val_main_v118 (x1 : (⟨S3x896x18944, .i8⟩ : BufTy).Contents (Elt F)) : (⟨S112x32x18944, .bf16⟩ : BufTy).Contents (Elt F) :=
  truncf .bf16 (val_main_v117 (F := F) x1) bitsLt_bf16_f32
theorem val_main_v118_apply (x1 : (⟨S3x896x18944, .i8⟩ : BufTy).Contents (Elt F)) (i : S112x32x18944.Idx) :
    val_main_v118 (F := F) x1 i = FloatOps.truncf .bf16 bitsLt_bf16_f32 (val_main_v117 (F := F) x1 i) := rfl

-- %119 = stablehlo.broadcast_in_dim %87, dims = [0, 1, 2] : (tensor<112x1x18944xbf16>) -> tensor<112x32x18944xbf16>
def val_main_v119 (x2 : (⟨S112x18944, .i8⟩ : BufTy).Contents (Elt F)) : (⟨S112x32x18944, .bf16⟩ : BufTy).Contents (Elt F) :=
  broadcastInDim S112x32x18944 ![0, 1, 2] bcast_S112x1x18944_S112x32x18944_0_1_2 (val_main_v87 (F := F) x2)
abbrev idx_main_v119 (i : S112x32x18944.Idx) : S112x1x18944.Idx := fun a => match a with
  | ⟨0, _⟩ => ⟨(i 0).val, (i 0).isLt⟩
  | ⟨1, _⟩ => ⟨0, Nat.one_pos⟩
  | ⟨2, _⟩ => ⟨(i 2).val, (i 2).isLt⟩
theorem val_main_v119_apply (x2 : (⟨S112x18944, .i8⟩ : BufTy).Contents (Elt F)) (i : S112x32x18944.Idx) :
    val_main_v119 (F := F) x2 i = val_main_v87 (F := F) x2 (idx_main_v119 i) := by
  unfold val_main_v119
  generalize val_main_v87 (F := F) x2 = y
  exact broadcastInDim_apply _ bcast_S112x1x18944_S112x32x18944_0_1_2 y i (idx_main_v119 i) (fun a => match a with
    | ⟨0, _⟩ => by show (i 0).val = if (112 : Nat) = 1 then 0 else (i 0).val; rw [if_neg (by decide)]
    | ⟨1, _⟩ => by show 0 = if (1 : Nat) = 1 then 0 else (i 1).val; rw [if_pos rfl]
    | ⟨2, _⟩ => by show (i 2).val = if (18944 : Nat) = 1 then 0 else (i 2).val; rw [if_neg (by decide)])

-- %120 = stablehlo.multiply %118, %119 : tensor<112x32x18944xbf16>
def val_main_v120 (x1 : (⟨S3x896x18944, .i8⟩ : BufTy).Contents (Elt F)) (x2 : (⟨S112x18944, .i8⟩ : BufTy).Contents (Elt F)) : (⟨S112x32x18944, .bf16⟩ : BufTy).Contents (Elt F) :=
  mulf (val_main_v118 (F := F) x1) (val_main_v119 (F := F) x2)
theorem val_main_v120_apply (x1 : (⟨S3x896x18944, .i8⟩ : BufTy).Contents (Elt F)) (x2 : (⟨S112x18944, .i8⟩ : BufTy).Contents (Elt F)) (i : S112x32x18944.Idx) :
    val_main_v120 (F := F) x1 x2 i = FloatOps.mulf (val_main_v118 (F := F) x1 i) (val_main_v119 (F := F) x2 i) := rfl

-- %121 = stablehlo.reshape %120 : (tensor<112x32x18944xbf16>) -> tensor<3584x18944xbf16>
def val_main_v121 (x1 : (⟨S3x896x18944, .i8⟩ : BufTy).Contents (Elt F)) (x2 : (⟨S112x18944, .i8⟩ : BufTy).Contents (Elt F)) : (⟨S3584x18944, .bf16⟩ : BufTy).Contents (Elt F) :=
  shapeCast _ (val_main_v120 (F := F) x1 x2) shapeCasts_S112x32x18944_S3584x18944
set_option backward.proofsInPublic true in
abbrev idx_main_v121 (i : S3584x18944.Idx) : S112x32x18944.Idx := fun a => match a with
  | ⟨0, _⟩ => ⟨((i 0).val * 18944 + (i 1).val) / 606208, by have h0 : (i 0).val < 3584 := (i 0).isLt; have h1 : (i 1).val < 18944 := (i 1).isLt; show ((i 0).val * 18944 + (i 1).val) / 606208 < 112; omega⟩
  | ⟨1, _⟩ => ⟨((i 0).val * 18944 + (i 1).val) / 18944 % 32, by have h0 : (i 0).val < 3584 := (i 0).isLt; have h1 : (i 1).val < 18944 := (i 1).isLt; show ((i 0).val * 18944 + (i 1).val) / 18944 % 32 < 32; omega⟩
  | ⟨2, _⟩ => ⟨((i 0).val * 18944 + (i 1).val) % 18944, by have h0 : (i 0).val < 3584 := (i 0).isLt; have h1 : (i 1).val < 18944 := (i 1).isLt; show ((i 0).val * 18944 + (i 1).val) % 18944 < 18944; omega⟩
theorem val_main_v121_apply (x1 : (⟨S3x896x18944, .i8⟩ : BufTy).Contents (Elt F)) (x2 : (⟨S112x18944, .i8⟩ : BufTy).Contents (Elt F)) (i : S3584x18944.Idx) :
    val_main_v121 (F := F) x1 x2 i = val_main_v120 (F := F) x1 x2 (idx_main_v121 i) := by
  unfold val_main_v121
  generalize val_main_v120 (F := F) x1 x2 = y
  exact shapeCast_apply y shapeCasts_S112x32x18944_S3584x18944 i (idx_main_v121 i)
    (by rewrite [Shape.rowMajor_val_three, Shape.rowMajor_val_two]; have h0 : (i 0).val < 3584 := (i 0).isLt; have h1 : (i 1).val < 18944 := (i 1).isLt; show (((i 0).val * 18944 + (i 1).val) / 606208 * 32 + ((i 0).val * 18944 + (i 1).val) / 18944 % 32) * 18944 + ((i 0).val * 18944 + (i 1).val) % 18944 = (i 0).val * 18944 + (i 1).val; omega)

-- %122 = stablehlo.dot_general %48, %121, contracting_dims = [1] x [0], precision = [DEFAULT, DEFAULT] : (tensor<256x3584xbf16>, tensor<3584x18944xbf16>) -> tensor<256x18944xf32>
def val_main_v122 (x0 : (⟨S1x256x3584, .bf16⟩ : BufTy).Contents (Elt F)) (x1 : (⟨S3x896x18944, .i8⟩ : BufTy).Contents (Elt F)) (x2 : (⟨S112x18944, .i8⟩ : BufTy).Contents (Elt F)) : (⟨S256x18944, .f32⟩ : BufTy).Contents (Elt F) :=
  Host.dotGeneral dot_S256x3584_S3584x18944_S256x18944_1_0_0_1_n_n none (val_main_v48 (F := F) x0) (val_main_v121 (F := F) x1 x2)
theorem lhs_main_v122_0 (i : S256x18944.Idx) (q : dot_S256x3584_S3584x18944_S256x18944_1_0_0_1_n_n.contr.Idx) :
    (dot_S256x3584_S3584x18944_S256x18944_1_0_0_1_n_n.lhsIdx i q 0).val = (i 0).val := by
  unfold DotDims.lhsIdx
  rw [dif_neg (show ¬(0 : Fin S256x3584.rank) ∈ dot_S256x3584_S3584x18944_S256x18944_1_0_0_1_n_n.lhsBatch by decide), dif_pos (show (0 : Fin S256x3584.rank) ∈ dot_S256x3584_S3584x18944_S256x18944_1_0_0_1_n_n.lhsNonContracting by decide)]
  rfl
theorem lhs_main_v122_1 (i : S256x18944.Idx) (q : dot_S256x3584_S3584x18944_S256x18944_1_0_0_1_n_n.contr.Idx) :
    (dot_S256x3584_S3584x18944_S256x18944_1_0_0_1_n_n.lhsIdx i q 1).val = (q ⟨0, by decide⟩).val :=
  dot_S256x3584_S3584x18944_S256x18944_1_0_0_1_n_n.lhsIdx_val_of_single rfl i q
theorem rhs_main_v122_0 (i : S256x18944.Idx) (q : dot_S256x3584_S3584x18944_S256x18944_1_0_0_1_n_n.contr.Idx) :
    (dot_S256x3584_S3584x18944_S256x18944_1_0_0_1_n_n.rhsIdx i q 0).val = (q ⟨0, by decide⟩).val :=
  dot_S256x3584_S3584x18944_S256x18944_1_0_0_1_n_n.rhsIdx_val_of_single rfl i q
theorem rhs_main_v122_1 (i : S256x18944.Idx) (q : dot_S256x3584_S3584x18944_S256x18944_1_0_0_1_n_n.contr.Idx) :
    (dot_S256x3584_S3584x18944_S256x18944_1_0_0_1_n_n.rhsIdx i q 1).val = (i 1).val := by
  unfold DotDims.rhsIdx
  rw [dif_neg (show ¬(1 : Fin S3584x18944.rank) ∈ dot_S256x3584_S3584x18944_S256x18944_1_0_0_1_n_n.rhsBatch by decide), dif_pos (show (1 : Fin S3584x18944.rank) ∈ dot_S256x3584_S3584x18944_S256x18944_1_0_0_1_n_n.rhsNonContracting by decide)]
  rfl
abbrev lidx_main_v122 (i : S256x18944.Idx) (k : Fin 3584) : S256x3584.Idx := fun a => match a with
  | ⟨0, _⟩ => ⟨(i 0).val, (i 0).isLt⟩
  | ⟨1, _⟩ => ⟨k.val, k.isLt⟩
abbrev ridx_main_v122 (i : S256x18944.Idx) (k : Fin 3584) : S3584x18944.Idx := fun a => match a with
  | ⟨0, _⟩ => ⟨k.val, k.isLt⟩
  | ⟨1, _⟩ => ⟨(i 1).val, (i 1).isLt⟩
/-- Stated at `F := Ideal`, where the host's `dot_general` is this sum; at a bit-exact instance it is an opaque function of its operands. -/
theorem val_main_v122_apply (x0 : (⟨S1x256x3584, .bf16⟩ : BufTy).Contents (Elt Ideal)) (x1 : (⟨S3x896x18944, .i8⟩ : BufTy).Contents (Elt Ideal)) (x2 : (⟨S112x18944, .i8⟩ : BufTy).Contents (Elt Ideal)) (i : S256x18944.Idx) :
    val_main_v122 (F := Ideal) x0 x1 x2 i = ∑ k : Fin 3584, (val_main_v48 (F := Ideal) x0) (lidx_main_v122 i k) * (val_main_v121 (F := Ideal) x1 x2) (ridx_main_v122 i k) := by
  unfold val_main_v122
  generalize val_main_v48 (F := Ideal) x0 = y0
  generalize val_main_v121 (F := Ideal) x1 x2 = y1
  simp only [Host.dotGeneral]
  rw [Ideal.dotGeneral_apply, ← Equiv.sum_comp (ValueIdx.contrEquiv1 dot_S256x3584_S3584x18944_S256x18944_1_0_0_1_n_n 3584 rfl rfl).symm]
  refine Finset.sum_congr rfl fun k _ => ?_
  have hk := ValueIdx.contrEquiv1_symm_val dot_S256x3584_S3584x18944_S256x18944_1_0_0_1_n_n 3584 rfl rfl k
  have el : dot_S256x3584_S3584x18944_S256x18944_1_0_0_1_n_n.lhsIdx i ((ValueIdx.contrEquiv1 dot_S256x3584_S3584x18944_S256x18944_1_0_0_1_n_n 3584 rfl rfl).symm k) = lidx_main_v122 i k := funext fun a => Fin.ext (by
    match a with
    | ⟨0, _⟩ => exact lhs_main_v122_0 _ _
    | ⟨1, _⟩ => exact (lhs_main_v122_1 _ _).trans hk)
  have er : dot_S256x3584_S3584x18944_S256x18944_1_0_0_1_n_n.rhsIdx i ((ValueIdx.contrEquiv1 dot_S256x3584_S3584x18944_S256x18944_1_0_0_1_n_n 3584 rfl rfl).symm k) = ridx_main_v122 i k := funext fun a => Fin.ext (by
    match a with
    | ⟨0, _⟩ => exact (rhs_main_v122_0 _ _).trans hk
    | ⟨1, _⟩ => exact rhs_main_v122_1 _ _)
  rw [el, er]

-- %123 = stablehlo.convert %122 : (tensor<256x18944xf32>) -> tensor<256x18944xbf16>
def val_main_v123 (x0 : (⟨S1x256x3584, .bf16⟩ : BufTy).Contents (Elt F)) (x1 : (⟨S3x896x18944, .i8⟩ : BufTy).Contents (Elt F)) (x2 : (⟨S112x18944, .i8⟩ : BufTy).Contents (Elt F)) : (⟨S256x18944, .bf16⟩ : BufTy).Contents (Elt F) :=
  truncf .bf16 (val_main_v122 (F := F) x0 x1 x2) bitsLt_bf16_f32
theorem val_main_v123_apply (x0 : (⟨S1x256x3584, .bf16⟩ : BufTy).Contents (Elt F)) (x1 : (⟨S3x896x18944, .i8⟩ : BufTy).Contents (Elt F)) (x2 : (⟨S112x18944, .i8⟩ : BufTy).Contents (Elt F)) (i : S256x18944.Idx) :
    val_main_v123 (F := F) x0 x1 x2 i = FloatOps.truncf .bf16 bitsLt_bf16_f32 (val_main_v122 (F := F) x0 x1 x2 i) := rfl

-- %124 = stablehlo.reshape %36 : (tensor<256x112x32xf32>) -> tensor<256x3584xf32>
def val_main_v124 (x0 : (⟨S1x256x3584, .bf16⟩ : BufTy).Contents (Elt F)) : (⟨S256x3584, .f32⟩ : BufTy).Contents (Elt F) :=
  shapeCast _ (val_main_v36 (F := F) x0) shapeCasts_S256x112x32_S256x3584
set_option backward.proofsInPublic true in
abbrev idx_main_v124 (i : S256x3584.Idx) : S256x112x32.Idx := fun a => match a with
  | ⟨0, _⟩ => ⟨((i 0).val * 3584 + (i 1).val) / 3584, by have h0 : (i 0).val < 256 := (i 0).isLt; have h1 : (i 1).val < 3584 := (i 1).isLt; show ((i 0).val * 3584 + (i 1).val) / 3584 < 256; omega⟩
  | ⟨1, _⟩ => ⟨((i 0).val * 3584 + (i 1).val) / 32 % 112, by have h0 : (i 0).val < 256 := (i 0).isLt; have h1 : (i 1).val < 3584 := (i 1).isLt; show ((i 0).val * 3584 + (i 1).val) / 32 % 112 < 112; omega⟩
  | ⟨2, _⟩ => ⟨((i 0).val * 3584 + (i 1).val) % 32, by have h0 : (i 0).val < 256 := (i 0).isLt; have h1 : (i 1).val < 3584 := (i 1).isLt; show ((i 0).val * 3584 + (i 1).val) % 32 < 32; omega⟩
theorem val_main_v124_apply (x0 : (⟨S1x256x3584, .bf16⟩ : BufTy).Contents (Elt F)) (i : S256x3584.Idx) :
    val_main_v124 (F := F) x0 i = val_main_v36 (F := F) x0 (idx_main_v124 i) := by
  unfold val_main_v124
  generalize val_main_v36 (F := F) x0 = y
  exact shapeCast_apply y shapeCasts_S256x112x32_S256x3584 i (idx_main_v124 i)
    (by rewrite [Shape.rowMajor_val_three, Shape.rowMajor_val_two]; have h0 : (i 0).val < 256 := (i 0).isLt; have h1 : (i 1).val < 3584 := (i 1).isLt; show (((i 0).val * 3584 + (i 1).val) / 3584 * 112 + ((i 0).val * 3584 + (i 1).val) / 32 % 112) * 32 + ((i 0).val * 3584 + (i 1).val) % 32 = (i 0).val * 3584 + (i 1).val; omega)

end Cert.ReferenceIdeal.Read

end
-- ==== Proof.RefQuant.lean ====
/- The reference's quantiser, entry by entry over the extended reals, in the words the kernel's is told in. -/
module

public import proofs.«01_k».proof.Proof.KExp
public import proofs.«01_k».proof.Proof.RefRead
public import Idealize.ShloMosaic.Lib.Pointwise.Reduce

@[expose] public section

set_option maxRecDepth 16384

noncomputable section

namespace Cert.ReferenceIdeal.Read

open Cert.ReferenceIdeal Cert.ReferenceIdeal.Gen Idealize.ShloMosaic Idealize.ShloMosaic.TcCoe Idealize.SL.Sem
open Cert.KernelIdeal.Hand (two blk blk_le eff Good clip expOf codeAt search search_spec eff_range eff_zero eff_good pow_two)

theorem reduce32 {α : Type} (op : α → α → α) [Std.Commutative op] [Std.Associative op] (x : S256x112x32.Idx → α) (init : S_.Idx → α) (r : Fin 256) (b : Fin 112) :
    Host.reduce op x init reducesTo_S256x112x32_S256x112_d2 h_S_ (ValueIdx.ix2 r b)
      = (Finset.univ : Finset (Fin 32)).fold op (init (Shape.Idx.first h_S_)) fun k => x (ValueIdx.ix3 r b k) := by
  rw [Host.reduce_eq_fold, Shape.ReducesTo.fold_fiber_r3_a2]
  rfl

theorem reduce254 {α : Type} (op : α → α → α) [Std.Commutative op] [Std.Associative op] (x : S256x112x254.Idx → α) (init : S_.Idx → α) (r : Fin 256) (b : Fin 112) :
    Host.reduce op x init reducesTo_S256x112x254_S256x112_d2 h_S_ (ValueIdx.ix2 r b)
      = (Finset.univ : Finset (Fin 254)).fold op (init (Shape.Idx.first h_S_)) fun k => x (ValueIdx.ix3 r b k) := by
  rw [Host.reduce_eq_fold, Shape.ReducesTo.fold_fiber_r3_a2]
  rfl

/-- How many of the first `n` numbers are at most `E`. -/
theorem count (E : ℕ) : ∀ n : ℕ, (Finset.univ : Finset (Fin n)).fold IntOp.addi 0#32 (fun k => (BitVec.ofBool (decide (k.val + 1 ≤ E))).setWidth 32)
    = BitVec.ofNat 32 (min E n)
  | 0 => by simp
  | n + 1 => by
    rw [Fin.univ_castSuccEmb, Finset.fold_cons, Finset.fold_map]
    refine (congrArg (IntOp.addi _) (count E n)).trans ?_
    show (BitVec.ofBool (decide (n + 1 ≤ E))).setWidth 32 + BitVec.ofNat 32 (min E n) = _
    by_cases h : n + 1 ≤ E
    · rw [decide_eq_true h, Nat.min_eq_right h, Nat.min_eq_right (by omega), Nat.add_comm n 1, BitVec.ofNat_add]
      rfl
    · rw [decide_eq_false h, Nat.min_eq_left (by omega), Nat.min_eq_left (by omega)]
      show 0#32 + _ = _
      rw [BitVec.zero_add]

theorem f32_bot : Ideal.ofBits .f32 0xFF800000#32 = ⊥ := by simp [Ideal.ofBits, Ideal.ieee]
theorem f32_zero : Ideal.ofBits .f32 0x00000000#32 = 0 := by simp [Ideal.ofBits, Ideal.ieee]
theorem f32_28 : Ideal.ofBits .f32 0x41E00000#32 = ((28 : ℝ) : EReal) := by simp [Ideal.ofBits, Ideal.ieee, -EReal.coe_mul]; norm_num
theorem f32_28n : Ideal.ofBits .f32 0xC1E00000#32 = ((-28 : ℝ) : EReal) := by simp [Ideal.ofBits, Ideal.ieee, -EReal.coe_mul]; norm_num

/-- The activations as the two programs hold them: with a leading axis of extent 1, and without. -/
def Agree (X : FVec Ideal S256x3584 .bf16) (x0 : FVec Ideal S1x256x3584 .bf16) : Prop :=
  ∀ (r : Fin 256) (K : Fin 3584), x0 (ValueIdx.ix3 0 r K) = X (ValueIdx.ix2 r K)

theorem idx0 (r : Fin 256) (b : Fin 112) (i : Fin 32) : idx_main_v0 (ValueIdx.ix3 r b i) = ValueIdx.ix3 0 r ⟨32 * b.val + i.val, by omega⟩ := by
  funext a
  apply Fin.ext
  match a with
  | ⟨0, _⟩ => rfl
  | ⟨1, _⟩ => show ((r.val * 112 + b.val) * 32 + i.val) / 3584 % 256 = r.val; omega
  | ⟨2, _⟩ => show ((r.val * 112 + b.val) * 32 + i.val) % 3584 = 32 * b.val + i.val; omega

theorem idx27 (r : Fin 256) (b : Fin 112) (i : Fin 32) : idx_main_v27 (ValueIdx.ix3 r b i) = ValueIdx.ix3 0 r ⟨32 * b.val + i.val, by omega⟩ := idx0 r b i

section
variable (X : FVec Ideal S256x3584 .bf16) (x0 : FVec Ideal S1x256x3584 .bf16) (hX : Agree X x0)
include hX

theorem v2_at (r : Fin 256) (b : Fin 112) (i : Fin 32) :
    val_main_v2 (F := Ideal) x0 (ValueIdx.ix3 r b i)
      = max (X (ValueIdx.ix2 r ⟨32 * b.val + i.val, by omega⟩)) (-(X (ValueIdx.ix2 r ⟨32 * b.val + i.val, by omega⟩)) : EReal) := by
  rw [val_main_v2_apply, val_main_v1_apply, val_main_v0_apply, idx0, hX]
  rfl

theorem v3_at (r : Fin 256) (b : Fin 112) : val_main_v3 (F := Ideal) x0 (ValueIdx.ix2 r b) = blk X r b := by
  unfold val_main_v3
  refine (reduce32 (FloatOps.maximumf (F := Ideal) (φ := .f32)) _ _ r b).trans ?_
  refine eq_of_forall_ge_iff fun t => ?_
  rw [blk_le]
  refine (Finset.fold_max_le (β := EReal) (f := fun k : Fin 32 => val_main_v2 (F := Ideal) x0 (ValueIdx.ix3 r b k)) (b := Ideal.ofBits .f32 0xFF800000#32) (s := Finset.univ) t).trans ?_
  rw [f32_bot]
  constructor
  · intro h i
    rw [← v2_at X x0 hX]
    exact h.2 i (Finset.mem_univ i)
  · intro h
    refine ⟨bot_le, fun i _ => ?_⟩
    rw [v2_at X x0 hX]
    exact h i

theorem v17_at (r : Fin 256) (b : Fin 112) (i : Fin 254) :
    val_main_v17 (F := Ideal) x0 (ValueIdx.ix3 r b i) = (BitVec.ofBool (decide (two (((i.val + 1 : ℕ) : ℤ) - 127) ≤ blk X r b))).setWidth 32 := by
  have h14 : idx_main_v9 (idx_main_v14 (ValueIdx.ix3 r b i)) = ValueIdx.ix2 r b := by
    funext a
    match a with
    | ⟨0, _⟩ => rfl
    | ⟨1, _⟩ => rfl
  have hs : ∀ i : Fin 254, (IntOp.subi (BitVec.ofNat 32 i.val) 126#32).toInt = ((i.val + 1 : ℕ) : ℤ) - 127 := by decide +kernel
  have h15 : val_main_v15 (F := Ideal) (ValueIdx.ix3 r b i) = two (((i.val + 1 : ℕ) : ℤ) - 127) := by
    rw [val_main_v15_apply, val_main_v13_apply, val_main_v12_apply, val_main_v11_apply, val_main_cst_1_apply, val_main_v10_apply, pow_two,
      val_main_v8_apply, val_main_v6_apply, val_main_v7_apply, val_main_c_apply]
    exact congrArg two (hs i)
  rw [val_main_v17_apply, val_main_v16_apply, h15, val_main_v14_apply, val_main_v9_apply, h14, v3_at X x0 hX]
  rfl

variable (hg : ∀ r b, Good (blk X r b))
include hg

theorem v18_at (r : Fin 256) (b : Fin 112) : val_main_v18 (F := Ideal) x0 (ValueIdx.ix2 r b) = BitVec.ofNat 32 (search (blk X r b)) := by
  obtain ⟨h1, h2⟩ := search_spec _ (hg r b).2
  unfold val_main_v18
  refine (reduce254 (IntOp.addi (w := 32)) _ _ r b).trans ?_
  rw [← Nat.min_eq_left h1, ← count]
  refine congrArg (fun f => Finset.fold IntOp.addi 0#32 f Finset.univ) (funext fun i => ?_)
  rw [v17_at X x0 hX]
  congr 2
  exact decide_eq_decide.2 (h2 (i.val + 1) (by omega) (by omega))

theorem v23_at (r : Fin 256) (b : Fin 112) : val_main_v23 (F := Ideal) x0 (ValueIdx.ix2 r b) = BitVec.ofNat 32 (expOf X r b) - 131#32 := by
  have hs : ∀ E : Fin 255, IntOp.subi (IntOp.subi (BitVec.ofNat 32 E.val) 126#32) 5#32 = BitVec.ofNat 32 E.val - 131#32 := by decide +kernel
  obtain ⟨h1, h2⟩ := search_spec _ (hg r b).2
  have h22 : val_main_v22 (F := Ideal) x0 (ValueIdx.ix2 r b) = BitVec.ofNat 32 (search (blk X r b)) - 131#32 := by
    rw [val_main_v22_apply, val_main_v20_apply, v18_at X x0 hX hg, val_main_v19_apply, val_main_v21_apply, val_main_c_3_apply, val_main_c_4_apply]
    exact hs ⟨search (blk X r b), Nat.lt_succ_of_le h1⟩
  have h5 : val_main_v5 (F := Ideal) x0 (ValueIdx.ix2 r b) = BitVec.ofBool (decide (blk X r b = 0)) := by
    rw [val_main_v5_apply, v3_at X x0 hX, val_main_v4_apply, val_main_cst_0_apply, Ideal.ofBits_def, f32_zero]
    rfl
  rw [val_main_v23_apply, h22, h5, val_main_call0_v1_apply, val_main_call0_v0_apply, val_main_c_5_apply, Cert.KernelIdeal.Hand.select_ofBool]
  unfold expOf
  by_cases h0 : blk X r b = 0
  · rw [if_pos (decide_eq_true h0), h0, eff_zero]
    decide
  · rw [if_neg (by simpa using h0), eff_good _ ((hg r b).1.resolve_left h0) (hg r b).2]

theorem exp_range (r : Fin 256) (b : Fin 112) : 5 ≤ expOf X r b ∧ expOf X r b ≤ 254 := eff_range _ (hg r b)

theorem v26_at (r : Fin 256) (b : Fin 112) : val_main_v26 (F := Ideal) x0 (ValueIdx.ix2 r b) = (BitVec.ofNat 32 (expOf X r b) - 4#32).setWidth 8 := by
  have hs : ∀ E : Fin 255, (IntOp.addi (BitVec.ofNat 32 E.val - 131#32) 127#32).setWidth 8 = (BitVec.ofNat 32 E.val - 4#32).setWidth 8 := by decide +kernel
  have := exp_range X x0 hX hg r b
  rw [val_main_v26_apply, val_main_v25_apply, v23_at X x0 hX hg, val_main_v24_apply, val_main_c_6_apply]
  exact hs ⟨expOf X r b, Nat.lt_succ_of_le this.2⟩

theorem v32_at (r : Fin 256) (b : Fin 112) : val_main_v32 (F := Ideal) x0 (ValueIdx.ix2 r b) = two (131 - (expOf X r b : ℤ)) := by
  have hs : ∀ E : Fin 255, (-(BitVec.ofNat 32 E.val - 131#32)).toInt = 131 - (E.val : ℤ) := by decide +kernel
  have := exp_range X x0 hX hg r b
  rw [val_main_v32_apply, val_main_v31_apply, val_main_cst_7_apply, val_main_v30_apply, pow_two, val_main_v29_apply, v23_at X x0 hX hg]
  exact congrArg two (hs ⟨expOf X r b, Nat.lt_succ_of_le this.2⟩)

theorem v43_at (r : Fin 256) (b : Fin 112) : val_main_v43 (F := Ideal) x0 (ValueIdx.ix2 r b) = two ((expOf X r b : ℤ) - 131) := by
  have hs : ∀ E : Fin 255, 5 ≤ E.val → (IntOp.subi (((BitVec.ofNat 32 E.val - 4#32).setWidth 8).setWidth 32) 127#32).toInt = (E.val : ℤ) - 131 := by decide +kernel
  have := exp_range X x0 hX hg r b
  rw [val_main_v43_apply]
  show val_main_v42 (F := Ideal) x0 (ValueIdx.ix2 r b) = _
  rw [val_main_v42_apply, val_main_v41_apply, val_main_cst_11_apply, val_main_v40_apply, pow_two, val_main_v39_apply, val_main_v37_apply, v26_at X x0 hX hg,
    val_main_v38_apply, val_main_c_10_apply]
  exact congrArg two (hs ⟨expOf X r b, Nat.lt_succ_of_le this.2⟩ this.1)

theorem v36_at (r : Fin 256) (b : Fin 112) (i : Fin 32) :
    val_main_v36 (F := Ideal) x0 (ValueIdx.ix3 r b i) = codeAt X r ⟨32 * b.val + i.val, by omega⟩ := by
  have h34 : idx_main_v33 (idx_main_v34 (ValueIdx.ix3 r b i)) = ValueIdx.ix2 r b := by
    funext a
    match a with
    | ⟨0, _⟩ => rfl
    | ⟨1, _⟩ => rfl
  have hb : (⟨(32 * b.val + i.val) / 32, by omega⟩ : Fin 112) = b := Fin.ext (by show (32 * b.val + i.val) / 32 = b.val; omega)
  rw [val_main_v36_apply, val_main_call1_v4_apply, val_main_call1_v3_apply, val_main_cst_9_apply, val_main_call1_v2_apply, val_main_call1_v1_apply,
    val_main_call1_v0_apply, val_main_cst_8_apply, val_main_v35_apply, val_main_v28_apply, val_main_v27_apply, idx27, hX, val_main_v34_apply,
    val_main_v33_apply, h34, v32_at X x0 hX hg, Ideal.ofBits_def, Ideal.ofBits_def, f32_28, f32_28n]
  show clip (X _ * two (131 - (expOf X r b : ℤ))) = clip (X _ * two (131 - (expOf X r ⟨(32 * b.val + i.val) / 32, _⟩ : ℤ)))
  rw [hb]

/-- A dequantised activation. -/
theorem v48_at (r : Fin 256) (K : Fin 3584) :
    val_main_v48 (F := Ideal) x0 (ValueIdx.ix2 r K) = codeAt X r K * two ((expOf X r ⟨K.val / 32, by omega⟩ : ℤ) - 131) := by
  have h48 : idx_main_v48 (ValueIdx.ix2 r K) = ValueIdx.ix3 r ⟨K.val / 32, by omega⟩ ⟨K.val % 32, by omega⟩ := by
    funext a
    apply Fin.ext
    match a with
    | ⟨0, _⟩ => show (r.val * 3584 + K.val) / 3584 = r.val; omega
    | ⟨1, _⟩ => show (r.val * 3584 + K.val) / 32 % 112 = K.val / 32; omega
    | ⟨2, _⟩ => show (r.val * 3584 + K.val) % 32 = K.val % 32; omega
  have h46 : idx_main_v44 (idx_main_v46 (ValueIdx.ix3 r (⟨K.val / 32, by omega⟩ : Fin 112) (⟨K.val % 32, by omega⟩ : Fin 32))) = ValueIdx.ix2 r ⟨K.val / 32, by omega⟩ := by
    funext a
    match a with
    | ⟨0, _⟩ => rfl
    | ⟨1, _⟩ => rfl
  have hK : (⟨32 * (K.val / 32) + K.val % 32, by omega⟩ : Fin 3584) = K := Fin.ext (by show 32 * (K.val / 32) + K.val % 32 = K.val; omega)
  rw [val_main_v48_apply, h48, val_main_v47_apply, val_main_v46_apply, val_main_v44_apply, h46, v43_at X x0 hX hg]
  show val_main_v36 (F := Ideal) x0 (ValueIdx.ix3 r (⟨K.val / 32, _⟩ : Fin 112) (⟨K.val % 32, _⟩ : Fin 32)) * _ = _
  rw [v36_at X x0 hX hg]
  show codeAt X r ⟨32 * (K.val / 32) + K.val % 32, _⟩ * _ = _
  rw [hK]

end

end Cert.ReferenceIdeal.Read
end
-- ==== Proof.RefWeights.lean ====
/- The reference's weights, entry by entry over the extended reals, in the words the kernel's are told in. -/
module

public import proofs.«01_k».proof.Proof.KRhs
public import proofs.«01_k».proof.Proof.RefRead

@[expose] public section

set_option maxRecDepth 16384

noncomputable section

namespace Cert.ReferenceIdeal.Read

open Cert.ReferenceIdeal Cert.ReferenceIdeal.Gen Idealize.ShloMosaic Idealize.ShloMosaic.TcCoe Idealize.SL.Sem
open Cert.KernelIdeal.Hand (two pow_two decode codeF)

theorem flat2 (p n : ℕ) (hn : n < 18944) : (p * 18944 + n) / 18944 = p := by
  rw [Nat.mul_comm, Nat.mul_add_div (by decide), Nat.div_eq_of_lt hn, Nat.add_zero]

theorem flat2m (p n : ℕ) (hn : n < 18944) : (p * 18944 + n) % 18944 = n := by
  rw [Nat.mul_comm, Nat.mul_add_mod, Nat.mod_eq_of_lt hn]

section
variable (x1 : IVec S3x896x18944 8) (x2 : IVec S112x18944 8)

theorem v51_at (p : Fin 896) (n : Fin 18944) : val_main_v51 (F := Ideal) x1 (ValueIdx.ix2 p n) = (x1 (ValueIdx.ix3 0 p n)).setWidth 32 := by
  rw [val_main_v51_apply, val_main_v50_apply, val_main_v49_apply]
  congr 2
  funext a
  apply Fin.ext
  match a with
  | ⟨0, _⟩ => rfl
  | ⟨1, _⟩ => show (p.val * 18944 + n.val) / 18944 % 896 = p.val; rw [flat2 _ _ n.isLt]; exact Nat.mod_eq_of_lt p.isLt
  | ⟨2, _⟩ => exact flat2m _ _ n.isLt

theorem v53_at (p : Fin 896) (n : Fin 18944) : val_main_v53 (F := Ideal) x1 (ValueIdx.ix2 p n) = (x1 (ValueIdx.ix3 1 p n)).setWidth 32 := by
  rw [val_main_v53_apply, val_main_v52_apply, val_main_v49_apply]
  congr 2
  funext a
  apply Fin.ext
  match a with
  | ⟨0, _⟩ => rfl
  | ⟨1, _⟩ => show (p.val * 18944 + n.val) / 18944 % 896 = p.val; rw [flat2 _ _ n.isLt]; exact Nat.mod_eq_of_lt p.isLt
  | ⟨2, _⟩ => exact flat2m _ _ n.isLt

theorem v55_at (p : Fin 896) (n : Fin 18944) : val_main_v55 (F := Ideal) x1 (ValueIdx.ix2 p n) = (x1 (ValueIdx.ix3 2 p n)).setWidth 32 := by
  rw [val_main_v55_apply, val_main_v54_apply, val_main_v49_apply]
  congr 2
  funext a
  apply Fin.ext
  match a with
  | ⟨0, _⟩ => rfl
  | ⟨1, _⟩ => show (p.val * 18944 + n.val) / 18944 % 896 = p.val; rw [flat2 _ _ n.isLt]; exact Nat.mod_eq_of_lt p.isLt
  | ⟨2, _⟩ => exact flat2m _ _ n.isLt

theorem cat4 {α : Type} (y0 y1 y2 y3 : S896x1x18944.Idx → α) (p : Fin 896) (f : Fin 4) (n : Fin 18944) :
    concatenate S896x4x18944 1 [⟨S896x1x18944, y0⟩, ⟨S896x1x18944, y1⟩, ⟨S896x1x18944, y2⟩, ⟨S896x1x18944, y3⟩]
        concatenates_S896x1x18944_S896x1x18944_S896x1x18944_S896x1x18944_S896x4x18944_d1 (ValueIdx.ix3 p f n)
      = (![y0, y1, y2, y3] f) (ValueIdx.ix3 p 0 n) := by
  have hb : ∀ (f : Fin 4) (b : Fin S896x1x18944.rank), b.cast (rfl : S896x1x18944.rank = S896x4x18944.rank) ≠ 1 →
      ((ValueIdx.ix3 p 0 n : S896x1x18944.Idx) b).val = ((ValueIdx.ix3 p f n : S896x4x18944.Idx) (b.cast rfl)).val :=
    fun f b hb => match b with | ⟨0, _⟩ => rfl | ⟨1, _⟩ => absurd rfl hb | ⟨2, _⟩ => rfl
  match f with
  | 0 => exact concatenate_apply_piece (t := S896x4x18944) 1 [⟨S896x1x18944, y0⟩, ⟨S896x1x18944, y1⟩, ⟨S896x1x18944, y2⟩, ⟨S896x1x18944, y3⟩] _ (ValueIdx.ix3 p 0 n) 0 (by show 0 < 4; omega) S896x1x18944 y0 rfl rfl 0 rfl (ValueIdx.ix3 p 0 n) (hb _) rfl
  | 1 => exact concatenate_apply_piece (t := S896x4x18944) 1 [⟨S896x1x18944, y0⟩, ⟨S896x1x18944, y1⟩, ⟨S896x1x18944, y2⟩, ⟨S896x1x18944, y3⟩] _ (ValueIdx.ix3 p 1 n) 1 (by show 1 < 4; omega) S896x1x18944 y1 rfl rfl 1 rfl (ValueIdx.ix3 p 0 n) (hb _) rfl
  | 2 => exact concatenate_apply_piece (t := S896x4x18944) 1 [⟨S896x1x18944, y0⟩, ⟨S896x1x18944, y1⟩, ⟨S896x1x18944, y2⟩, ⟨S896x1x18944, y3⟩] _ (ValueIdx.ix3 p 2 n) 2 (by show 2 < 4; omega) S896x1x18944 y2 rfl rfl 2 rfl (ValueIdx.ix3 p 0 n) (hb _) rfl
  | 3 => exact concatenate_apply_piece (t := S896x4x18944) 1 [⟨S896x1x18944, y0⟩, ⟨S896x1x18944, y1⟩, ⟨S896x1x18944, y2⟩, ⟨S896x1x18944, y3⟩] _ (ValueIdx.ix3 p 3 n) 3 (by show 3 < 4; omega) S896x1x18944 y3 rfl rfl 3 rfl (ValueIdx.ix3 p 0 n) (hb _) rfl

/-- Field `f` of packed row `p` at column `n`. -/
theorem v78_at (p : Fin 896) (f : Fin 4) (n : Fin 18944) :
    val_main_v78 (F := Ideal) x1 (ValueIdx.ix3 p f n) = codeF f (x1 (ValueIdx.ix3 0 p n)) (x1 (ValueIdx.ix3 1 p n)) (x1 (ValueIdx.ix3 2 p n)) := by
  have hi : ∀ g : S896x1x18944.Idx → S896x18944.Idx, (∀ i, (g i 0).val = (i 0).val) → (∀ i, (g i 1).val = (i 2).val) → g (ValueIdx.ix3 p 0 n) = ValueIdx.ix2 p n := by
    intro g h0 h1
    funext a
    apply Fin.ext
    match a with
    | ⟨0, _⟩ => exact h0 _
    | ⟨1, _⟩ => exact h1 _
  unfold val_main_v78
  rw [cat4]
  match f with
  | 0 =>
    show val_main_v74 (F := Ideal) x1 _ = _
    rw [val_main_v74_apply, hi idx_main_v74 (fun _ => rfl) (fun _ => rfl), val_main_v57_apply, v51_at, val_main_v56_apply]
    rfl
  | 1 =>
    show val_main_v75 (F := Ideal) x1 _ = _
    rw [val_main_v75_apply, hi idx_main_v75 (fun _ => rfl) (fun _ => rfl), val_main_v64_apply, val_main_v59_apply, val_main_v63_apply, val_main_v61_apply,
      v51_at, v53_at, val_main_v58_apply, val_main_v60_apply, val_main_v62_apply]
    rfl
  | 2 =>
    show val_main_v76 (F := Ideal) x1 _ = _
    rw [val_main_v76_apply, hi idx_main_v76 (fun _ => rfl) (fun _ => rfl), val_main_v71_apply, val_main_v66_apply, val_main_v70_apply, val_main_v68_apply,
      v53_at, v55_at, val_main_v65_apply, val_main_v67_apply, val_main_v69_apply]
    rfl
  | 3 =>
    show val_main_v77 (F := Ideal) x1 _ = _
    rw [val_main_v77_apply, hi idx_main_v77 (fun _ => rfl) (fun _ => rfl), val_main_v73_apply, v55_at, val_main_v72_apply]
    rfl

theorem v117_at (i : S112x32x18944.Idx) : val_main_v117 (F := Ideal) x1 i = decode (val_main_v79 (F := Ideal) x1 i) := by
  simp only [val_main_v117_apply, val_main_v116_apply, val_main_v115_apply, val_main_v114_apply, val_main_c_33_apply, val_main_v113_apply, val_main_v112_apply,
    val_main_v111_apply, val_main_v110_apply, val_main_cst_32_apply, val_main_v109_apply, val_main_v108_apply, val_main_v107_apply, val_main_c_31_apply,
    val_main_v106_apply, val_main_v105_apply, val_main_cst_30_apply, val_main_v104_apply, val_main_v103_apply, val_main_cst_29_apply, val_main_v102_apply,
    val_main_v101_apply, val_main_cst_28_apply, val_main_v100_apply, val_main_v99_apply, val_main_c_27_apply, val_main_v98_apply, val_main_v97_apply,
    val_main_v96_apply, val_main_c_26_apply, val_main_v95_apply, val_main_v94_apply, val_main_c_25_apply, val_main_v93_apply, val_main_v92_apply,
    val_main_c_24_apply, val_main_v91_apply, val_main_v90_apply, val_main_c_23_apply, val_main_v89_apply, val_main_v88_apply, val_main_c_22_apply]
  rfl

theorem v86_at (b : Fin 112) (n : Fin 18944) : val_main_v86 (F := Ideal) x2 (ValueIdx.ix2 b n) = two (((x2 (ValueIdx.ix2 b n)).toNat : ℤ) - 127) := by
  have hs : ∀ w : BitVec 8, (IntOp.subi (w.setWidth 32) 127#32).toInt = (w.toNat : ℤ) - 127 := by decide +kernel
  rw [val_main_v86_apply]
  show val_main_v85 (F := Ideal) x2 (ValueIdx.ix2 b n) = _
  rw [val_main_v85_apply, val_main_v84_apply, val_main_cst_21_apply, val_main_v83_apply, pow_two, val_main_v82_apply, val_main_v80_apply, val_main_v81_apply,
    val_main_c_20_apply, hs]

/-- A dequantised weight. -/
theorem v121_at (K : Fin 3584) (n : Fin 18944) :
    val_main_v121 (F := Ideal) x1 x2 (ValueIdx.ix2 K n)
      = decode (codeF ⟨K.val % 4, by omega⟩ (x1 (ValueIdx.ix3 0 ⟨K.val / 4, by omega⟩ n)) (x1 (ValueIdx.ix3 1 ⟨K.val / 4, by omega⟩ n))
          (x1 (ValueIdx.ix3 2 ⟨K.val / 4, by omega⟩ n)))
        * two (((x2 (ValueIdx.ix2 ⟨K.val / 32, by omega⟩ n)).toNat : ℤ) - 127) := by
  have h121 : idx_main_v121 (ValueIdx.ix2 K n) = ValueIdx.ix3 ⟨K.val / 32, by omega⟩ ⟨K.val % 32, by omega⟩ n := by
    funext a
    apply Fin.ext
    match a with
    | ⟨0, _⟩ => show (K.val * 18944 + n.val) / (18944 * 32) = K.val / 32; rw [← Nat.div_div_eq_div_mul, flat2 _ _ n.isLt]
    | ⟨1, _⟩ => show (K.val * 18944 + n.val) / 18944 % 32 = K.val % 32; rw [flat2 _ _ n.isLt]
    | ⟨2, _⟩ => exact flat2m _ _ n.isLt
  have h79 : idx_main_v79 (ValueIdx.ix3 (⟨K.val / 32, by omega⟩ : Fin 112) (⟨K.val % 32, by omega⟩ : Fin 32) n)
      = ValueIdx.ix3 ⟨K.val / 4, by omega⟩ ⟨K.val % 4, by omega⟩ n := by
    funext a
    apply Fin.ext
    match a with
    | ⟨0, _⟩ =>
      show ((K.val / 32 * 32 + K.val % 32) * 18944 + n.val) / (18944 * 4) = K.val / 4
      rw [← Nat.div_div_eq_div_mul, flat2 _ _ n.isLt, Nat.div_add_mod']
    | ⟨1, _⟩ =>
      show ((K.val / 32 * 32 + K.val % 32) * 18944 + n.val) / 18944 % 4 = K.val % 4
      rw [flat2 _ _ n.isLt, Nat.div_add_mod']
    | ⟨2, _⟩ => exact flat2m _ _ n.isLt
  have h87 : idx_main_v87 (idx_main_v119 (ValueIdx.ix3 (⟨K.val / 32, by omega⟩ : Fin 112) (⟨K.val % 32, by omega⟩ : Fin 32) n)) = ValueIdx.ix2 ⟨K.val / 32, by omega⟩ n := by
    funext a
    match a with
    | ⟨0, _⟩ => rfl
    | ⟨1, _⟩ => rfl
  rw [val_main_v121_apply, h121, val_main_v120_apply, val_main_v119_apply, val_main_v87_apply, h87, v86_at, val_main_v118_apply]
  show val_main_v117 (F := Ideal) x1 _ * _ = _
  rw [v117_at, val_main_v79_apply, h79, v78_at]

end

end Cert.ReferenceIdeal.Read
end
-- ==== Proof.RefRun.lean ====
/- The contents of the reference program's result buffers when its host operations are done. -/
module

public import proofs.«01_k».proof.Proof.RefRead
public import proofs.«01_k».proof.Proof.Gen.ReferenceIdeal.Frame

@[expose] public section

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]

/-- The host operations of @main in order, as one list. -/
abbrev ops : List (HloOp τ sig (Elt F)) :=
  [ reshape main_arg0 main_v0 (rfl : (.bf16 : EltTy) = .bf16) shapeCasts_S1x256x3584_S256x112x32,
    unary main_v0 main_v1 ((extf .f32 · bitsLt_bf16_f32) : (⟨S256x112x32, .bf16⟩ : BufTy).Contents (Elt F) → (⟨S256x112x32, .f32⟩ : BufTy).Contents (Elt F)),
    unary main_v1 main_v2 (Host.absf : (⟨S256x112x32, .f32⟩ : BufTy).Contents (Elt F) → (⟨S256x112x32, .f32⟩ : BufTy).Contents (Elt F)),
    nullary main_cst (constant S_ .f32 0xFF800000#32),
    binary main_v2 main_cst main_v3 ((fun x v => Host.reduce FloatOps.maximumf x v reducesTo_S256x112x32_S256x112_d2 h_S_) : (⟨S256x112x32, .f32⟩ : BufTy).Contents (Elt F) → (⟨S_, .f32⟩ : BufTy).Contents (Elt F) → (⟨S256x112, .f32⟩ : BufTy).Contents (Elt F)),
    nullary main_cst_0 (constant S_ .f32 0x00000000#32),
    unary main_cst_0 main_v4 (broadcastInDim S256x112 ![] bcast_S_S256x112 : (⟨S_, .f32⟩ : BufTy).Contents (Elt F) → (⟨S256x112, .f32⟩ : BufTy).Contents (Elt F)),
    binary main_v3 main_v4 main_v5 (cmpf .oeq : (⟨S256x112, .f32⟩ : BufTy).Contents (Elt F) → (⟨S256x112, .f32⟩ : BufTy).Contents (Elt F) → (⟨S256x112, .i1⟩ : BufTy).Contents (Elt F)),
    nullary main_v6 (iotaInDim S254 32 0),
    nullary main_c (constantI S_ 32 126#32),
    unary main_c main_v7 (broadcastInDim S254 ![] bcast_S_S254 : (⟨S_, .i32⟩ : BufTy).Contents (Elt F) → (⟨S254, .i32⟩ : BufTy).Contents (Elt F)),
    binary main_v6 main_v7 main_v8 (subi : (⟨S254, .i32⟩ : BufTy).Contents (Elt F) → (⟨S254, .i32⟩ : BufTy).Contents (Elt F) → (⟨S254, .i32⟩ : BufTy).Contents (Elt F)),
    unary main_v3 main_v9 (broadcastInDim S256x112x1 ![0, 1] bcast_S256x112_S256x112x1_0_1 : (⟨S256x112, .f32⟩ : BufTy).Contents (Elt F) → (⟨S256x112x1, .f32⟩ : BufTy).Contents (Elt F)),
    unary main_v8 main_v10 (sitofp .f32 : (⟨S254, .i32⟩ : BufTy).Contents (Elt F) → (⟨S254, .f32⟩ : BufTy).Contents (Elt F)),
    nullary main_cst_1 (constant S_ .f32 0x40000000#32),
    unary main_cst_1 main_v11 (broadcastInDim S254 ![] bcast_S_S254 : (⟨S_, .f32⟩ : BufTy).Contents (Elt F) → (⟨S254, .f32⟩ : BufTy).Contents (Elt F)),
    binary main_v11 main_v10 main_v12 (Host.powf : (⟨S254, .f32⟩ : BufTy).Contents (Elt F) → (⟨S254, .f32⟩ : BufTy).Contents (Elt F) → (⟨S254, .f32⟩ : BufTy).Contents (Elt F)),
    unary main_v12 main_v13 (broadcastInDim S1x1x254 ![2] bcast_S254_S1x1x254_2 : (⟨S254, .f32⟩ : BufTy).Contents (Elt F) → (⟨S1x1x254, .f32⟩ : BufTy).Contents (Elt F)),
    unary main_v9 main_v14 (broadcastInDim S256x112x254 ![0, 1, 2] bcast_S256x112x1_S256x112x254_0_1_2 : (⟨S256x112x1, .f32⟩ : BufTy).Contents (Elt F) → (⟨S256x112x254, .f32⟩ : BufTy).Contents (Elt F)),
    unary main_v13 main_v15 (broadcastInDim S256x112x254 ![0, 1, 2] bcast_S1x1x254_S256x112x254_0_1_2 : (⟨S1x1x254, .f32⟩ : BufTy).Contents (Elt F) → (⟨S256x112x254, .f32⟩ : BufTy).Contents (Elt F)),
    binary main_v14 main_v15 main_v16 (cmpf .oge : (⟨S256x112x254, .f32⟩ : BufTy).Contents (Elt F) → (⟨S256x112x254, .f32⟩ : BufTy).Contents (Elt F) → (⟨S256x112x254, .i1⟩ : BufTy).Contents (Elt F)),
    unary main_v16 main_v17 ((extui 32 · natLt_1_32) : (⟨S256x112x254, .i1⟩ : BufTy).Contents (Elt F) → (⟨S256x112x254, .i32⟩ : BufTy).Contents (Elt F)),
    nullary main_c_2 (constantI S_ 32 0#32),
    binary main_v17 main_c_2 main_v18 ((fun x v => Host.reduce IntOp.addi x v reducesTo_S256x112x254_S256x112_d2 h_S_) : (⟨S256x112x254, .i32⟩ : BufTy).Contents (Elt F) → (⟨S_, .i32⟩ : BufTy).Contents (Elt F) → (⟨S256x112, .i32⟩ : BufTy).Contents (Elt F)),
    nullary main_c_3 (constantI S_ 32 126#32),
    unary main_c_3 main_v19 (broadcastInDim S256x112 ![] bcast_S_S256x112 : (⟨S_, .i32⟩ : BufTy).Contents (Elt F) → (⟨S256x112, .i32⟩ : BufTy).Contents (Elt F)),
    binary main_v18 main_v19 main_v20 (subi : (⟨S256x112, .i32⟩ : BufTy).Contents (Elt F) → (⟨S256x112, .i32⟩ : BufTy).Contents (Elt F) → (⟨S256x112, .i32⟩ : BufTy).Contents (Elt F)),
    nullary main_c_4 (constantI S_ 32 5#32),
    unary main_c_4 main_v21 (broadcastInDim S256x112 ![] bcast_S_S256x112 : (⟨S_, .i32⟩ : BufTy).Contents (Elt F) → (⟨S256x112, .i32⟩ : BufTy).Contents (Elt F)),
    binary main_v20 main_v21 main_v22 (subi : (⟨S256x112, .i32⟩ : BufTy).Contents (Elt F) → (⟨S256x112, .i32⟩ : BufTy).Contents (Elt F) → (⟨S256x112, .i32⟩ : BufTy).Contents (Elt F)),
    nullary main_c_5 (constantI S_ 32 0#32),
    TRef.unary (TRef.of (T := ⟨S_, .i32⟩) main_c_5) (TRef.of (T := ⟨S_, .i32⟩) main_call0_v0) id,
    TRef.unary (TRef.of (T := ⟨S_, .i32⟩) main_call0_v0) (TRef.of (T := ⟨S256x112, .i32⟩) main_call0_v1) (broadcastInDim S256x112 ![] bcast_S_S256x112),
    TRef.ternary (TRef.of (T := ⟨S256x112, .i1⟩) main_v5) (TRef.of (T := ⟨S256x112, .i32⟩) main_call0_v1) (TRef.of (T := ⟨S256x112, .i32⟩) main_v22) (TRef.of (T := ⟨S256x112, .i32⟩) main_v23) select,
    nullary main_c_6 (constantI S_ 32 127#32),
    unary main_c_6 main_v24 (broadcastInDim S256x112 ![] bcast_S_S256x112 : (⟨S_, .i32⟩ : BufTy).Contents (Elt F) → (⟨S256x112, .i32⟩ : BufTy).Contents (Elt F)),
    binary main_v23 main_v24 main_v25 (addi : (⟨S256x112, .i32⟩ : BufTy).Contents (Elt F) → (⟨S256x112, .i32⟩ : BufTy).Contents (Elt F) → (⟨S256x112, .i32⟩ : BufTy).Contents (Elt F)),
    unary main_v25 main_v26 ((trunci 8 · natLt_8_32) : (⟨S256x112, .i32⟩ : BufTy).Contents (Elt F) → (⟨S256x112, .i8⟩ : BufTy).Contents (Elt F)),
    reshape main_arg0 main_v27 (rfl : (.bf16 : EltTy) = .bf16) shapeCasts_S1x256x3584_S256x112x32,
    unary main_v27 main_v28 ((extf .f32 · bitsLt_bf16_f32) : (⟨S256x112x32, .bf16⟩ : BufTy).Contents (Elt F) → (⟨S256x112x32, .f32⟩ : BufTy).Contents (Elt F)),
    unary main_v23 main_v29 (negi : (⟨S256x112, .i32⟩ : BufTy).Contents (Elt F) → (⟨S256x112, .i32⟩ : BufTy).Contents (Elt F)),
    unary main_v29 main_v30 (sitofp .f32 : (⟨S256x112, .i32⟩ : BufTy).Contents (Elt F) → (⟨S256x112, .f32⟩ : BufTy).Contents (Elt F)),
    nullary main_cst_7 (constant S_ .f32 0x40000000#32),
    unary main_cst_7 main_v31 (broadcastInDim S256x112 ![] bcast_S_S256x112 : (⟨S_, .f32⟩ : BufTy).Contents (Elt F) → (⟨S256x112, .f32⟩ : BufTy).Contents (Elt F)),
    binary main_v31 main_v30 main_v32 (Host.powf : (⟨S256x112, .f32⟩ : BufTy).Contents (Elt F) → (⟨S256x112, .f32⟩ : BufTy).Contents (Elt F) → (⟨S256x112, .f32⟩ : BufTy).Contents (Elt F)),
    unary main_v32 main_v33 (broadcastInDim S256x112x1 ![0, 1] bcast_S256x112_S256x112x1_0_1 : (⟨S256x112, .f32⟩ : BufTy).Contents (Elt F) → (⟨S256x112x1, .f32⟩ : BufTy).Contents (Elt F)),
    unary main_v33 main_v34 (broadcastInDim S256x112x32 ![0, 1, 2] bcast_S256x112x1_S256x112x32_0_1_2 : (⟨S256x112x1, .f32⟩ : BufTy).Contents (Elt F) → (⟨S256x112x32, .f32⟩ : BufTy).Contents (Elt F)),
    binary main_v28 main_v34 main_v35 (mulf : (⟨S256x112x32, .f32⟩ : BufTy).Contents (Elt F) → (⟨S256x112x32, .f32⟩ : BufTy).Contents (Elt F) → (⟨S256x112x32, .f32⟩ : BufTy).Contents (Elt F)),
    nullary main_cst_8 (constant S_ .f32 0xC1E00000#32),
    nullary main_cst_9 (constant S_ .f32 0x41E00000#32),
    TRef.unary (TRef.of (T := ⟨S_, .f32⟩) main_cst_8) (TRef.of (T := ⟨S_, .f32⟩) main_call1_v0) id,
    TRef.unary (TRef.of (T := ⟨S_, .f32⟩) main_call1_v0) (TRef.of (T := ⟨S256x112x32, .f32⟩) main_call1_v1) (broadcastInDim S256x112x32 ![] bcast_S_S256x112x32),
    TRef.binary (TRef.of (T := ⟨S256x112x32, .f32⟩) main_call1_v1) (TRef.of (T := ⟨S256x112x32, .f32⟩) main_v35) (TRef.of (T := ⟨S256x112x32, .f32⟩) main_call1_v2) maximumf,
    TRef.unary (TRef.of (T := ⟨S_, .f32⟩) main_cst_9) (TRef.of (T := ⟨S_, .f32⟩) main_call1_v3) id,
    TRef.unary (TRef.of (T := ⟨S_, .f32⟩) main_call1_v3) (TRef.of (T := ⟨S256x112x32, .f32⟩) main_call1_v4) (broadcastInDim S256x112x32 ![] bcast_S_S256x112x32),
    TRef.binary (TRef.of (T := ⟨S256x112x32, .f32⟩) main_call1_v4) (TRef.of (T := ⟨S256x112x32, .f32⟩) main_call1_v2) (TRef.of (T := ⟨S256x112x32, .f32⟩) main_v36) minimumf,
    unary main_v26 main_v37 ((extui 32 · natLt_8_32) : (⟨S256x112, .i8⟩ : BufTy).Contents (Elt F) → (⟨S256x112, .i32⟩ : BufTy).Contents (Elt F)),
    nullary main_c_10 (constantI S_ 32 127#32),
    unary main_c_10 main_v38 (broadcastInDim S256x112 ![] bcast_S_S256x112 : (⟨S_, .i32⟩ : BufTy).Contents (Elt F) → (⟨S256x112, .i32⟩ : BufTy).Contents (Elt F)),
    binary main_v37 main_v38 main_v39 (subi : (⟨S256x112, .i32⟩ : BufTy).Contents (Elt F) → (⟨S256x112, .i32⟩ : BufTy).Contents (Elt F) → (⟨S256x112, .i32⟩ : BufTy).Contents (Elt F)),
    unary main_v39 main_v40 (sitofp .f32 : (⟨S256x112, .i32⟩ : BufTy).Contents (Elt F) → (⟨S256x112, .f32⟩ : BufTy).Contents (Elt F)),
    nullary main_cst_11 (constant S_ .f32 0x40000000#32),
    unary main_cst_11 main_v41 (broadcastInDim S256x112 ![] bcast_S_S256x112 : (⟨S_, .f32⟩ : BufTy).Contents (Elt F) → (⟨S256x112, .f32⟩ : BufTy).Contents (Elt F)),
    binary main_v41 main_v40 main_v42 (Host.powf : (⟨S256x112, .f32⟩ : BufTy).Contents (Elt F) → (⟨S256x112, .f32⟩ : BufTy).Contents (Elt F) → (⟨S256x112, .f32⟩ : BufTy).Contents (Elt F)),
    unary main_v42 main_v43 ((truncf .bf16 · bitsLt_bf16_f32) : (⟨S256x112, .f32⟩ : BufTy).Contents (Elt F) → (⟨S256x112, .bf16⟩ : BufTy).Contents (Elt F)),
    unary main_v43 main_v44 (broadcastInDim S256x112x1 ![0, 1] bcast_S256x112_S256x112x1_0_1 : (⟨S256x112, .bf16⟩ : BufTy).Contents (Elt F) → (⟨S256x112x1, .bf16⟩ : BufTy).Contents (Elt F)),
    unary main_v36 main_v45 ((truncf .bf16 · bitsLt_bf16_f32) : (⟨S256x112x32, .f32⟩ : BufTy).Contents (Elt F) → (⟨S256x112x32, .bf16⟩ : BufTy).Contents (Elt F)),
    unary main_v44 main_v46 (broadcastInDim S256x112x32 ![0, 1, 2] bcast_S256x112x1_S256x112x32_0_1_2 : (⟨S256x112x1, .bf16⟩ : BufTy).Contents (Elt F) → (⟨S256x112x32, .bf16⟩ : BufTy).Contents (Elt F)),
    binary main_v45 main_v46 main_v47 (mulf : (⟨S256x112x32, .bf16⟩ : BufTy).Contents (Elt F) → (⟨S256x112x32, .bf16⟩ : BufTy).Contents (Elt F) → (⟨S256x112x32, .bf16⟩ : BufTy).Contents (Elt F)),
    reshape main_v47 main_v48 (rfl : (.bf16 : EltTy) = .bf16) shapeCasts_S256x112x32_S256x3584,
    unary main_arg1 main_v49 ((extui 32 · natLt_8_32) : (⟨S3x896x18944, .i8⟩ : BufTy).Contents (Elt F) → (⟨S3x896x18944, .i32⟩ : BufTy).Contents (Elt F)),
    unary main_v49 main_v50 ((extractStridedSlice S1x896x18944 ![0, 0, 0] · slices_S3x896x18944_S1x896x18944_0_0_0) : (⟨S3x896x18944, .i32⟩ : BufTy).Contents (Elt F) → (⟨S1x896x18944, .i32⟩ : BufTy).Contents (Elt F)),
    reshape main_v50 main_v51 (rfl : (.i32 : EltTy) = .i32) shapeCasts_S1x896x18944_S896x18944,
    unary main_v49 main_v52 ((extractStridedSlice S1x896x18944 ![1, 0, 0] · slices_S3x896x18944_S1x896x18944_1_0_0) : (⟨S3x896x18944, .i32⟩ : BufTy).Contents (Elt F) → (⟨S1x896x18944, .i32⟩ : BufTy).Contents (Elt F)),
    reshape main_v52 main_v53 (rfl : (.i32 : EltTy) = .i32) shapeCasts_S1x896x18944_S896x18944,
    unary main_v49 main_v54 ((extractStridedSlice S1x896x18944 ![2, 0, 0] · slices_S3x896x18944_S1x896x18944_2_0_0) : (⟨S3x896x18944, .i32⟩ : BufTy).Contents (Elt F) → (⟨S1x896x18944, .i32⟩ : BufTy).Contents (Elt F)),
    reshape main_v54 main_v55 (rfl : (.i32 : EltTy) = .i32) shapeCasts_S1x896x18944_S896x18944,
    nullary main_c_12 (constantI S_ 32 63#32),
    unary main_c_12 main_v56 (broadcastInDim S896x18944 ![] bcast_S_S896x18944 : (⟨S_, .i32⟩ : BufTy).Contents (Elt F) → (⟨S896x18944, .i32⟩ : BufTy).Contents (Elt F)),
    binary main_v51 main_v56 main_v57 (andi : (⟨S896x18944, .i32⟩ : BufTy).Contents (Elt F) → (⟨S896x18944, .i32⟩ : BufTy).Contents (Elt F) → (⟨S896x18944, .i32⟩ : BufTy).Contents (Elt F)),
    nullary main_c_13 (constantI S_ 32 6#32),
    unary main_c_13 main_v58 (broadcastInDim S896x18944 ![] bcast_S_S896x18944 : (⟨S_, .i32⟩ : BufTy).Contents (Elt F) → (⟨S896x18944, .i32⟩ : BufTy).Contents (Elt F)),
    binary main_v51 main_v58 main_v59 (Host.shrsi : (⟨S896x18944, .i32⟩ : BufTy).Contents (Elt F) → (⟨S896x18944, .i32⟩ : BufTy).Contents (Elt F) → (⟨S896x18944, .i32⟩ : BufTy).Contents (Elt F)),
    nullary main_c_14 (constantI S_ 32 15#32),
    unary main_c_14 main_v60 (broadcastInDim S896x18944 ![] bcast_S_S896x18944 : (⟨S_, .i32⟩ : BufTy).Contents (Elt F) → (⟨S896x18944, .i32⟩ : BufTy).Contents (Elt F)),
    binary main_v53 main_v60 main_v61 (andi : (⟨S896x18944, .i32⟩ : BufTy).Contents (Elt F) → (⟨S896x18944, .i32⟩ : BufTy).Contents (Elt F) → (⟨S896x18944, .i32⟩ : BufTy).Contents (Elt F)),
    nullary main_c_15 (constantI S_ 32 2#32),
    unary main_c_15 main_v62 (broadcastInDim S896x18944 ![] bcast_S_S896x18944 : (⟨S_, .i32⟩ : BufTy).Contents (Elt F) → (⟨S896x18944, .i32⟩ : BufTy).Contents (Elt F)),
    binary main_v61 main_v62 main_v63 (Host.shli : (⟨S896x18944, .i32⟩ : BufTy).Contents (Elt F) → (⟨S896x18944, .i32⟩ : BufTy).Contents (Elt F) → (⟨S896x18944, .i32⟩ : BufTy).Contents (Elt F)),
    binary main_v59 main_v63 main_v64 (ori : (⟨S896x18944, .i32⟩ : BufTy).Contents (Elt F) → (⟨S896x18944, .i32⟩ : BufTy).Contents (Elt F) → (⟨S896x18944, .i32⟩ : BufTy).Contents (Elt F)),
    nullary main_c_16 (constantI S_ 32 4#32),
    unary main_c_16 main_v65 (broadcastInDim S896x18944 ![] bcast_S_S896x18944 : (⟨S_, .i32⟩ : BufTy).Contents (Elt F) → (⟨S896x18944, .i32⟩ : BufTy).Contents (Elt F)),
    binary main_v53 main_v65 main_v66 (Host.shrsi : (⟨S896x18944, .i32⟩ : BufTy).Contents (Elt F) → (⟨S896x18944, .i32⟩ : BufTy).Contents (Elt F) → (⟨S896x18944, .i32⟩ : BufTy).Contents (Elt F)),
    nullary main_c_17 (constantI S_ 32 3#32),
    unary main_c_17 main_v67 (broadcastInDim S896x18944 ![] bcast_S_S896x18944 : (⟨S_, .i32⟩ : BufTy).Contents (Elt F) → (⟨S896x18944, .i32⟩ : BufTy).Contents (Elt F)),
    binary main_v55 main_v67 main_v68 (andi : (⟨S896x18944, .i32⟩ : BufTy).Contents (Elt F) → (⟨S896x18944, .i32⟩ : BufTy).Contents (Elt F) → (⟨S896x18944, .i32⟩ : BufTy).Contents (Elt F)),
    nullary main_c_18 (constantI S_ 32 4#32),
    unary main_c_18 main_v69 (broadcastInDim S896x18944 ![] bcast_S_S896x18944 : (⟨S_, .i32⟩ : BufTy).Contents (Elt F) → (⟨S896x18944, .i32⟩ : BufTy).Contents (Elt F)),
    binary main_v68 main_v69 main_v70 (Host.shli : (⟨S896x18944, .i32⟩ : BufTy).Contents (Elt F) → (⟨S896x18944, .i32⟩ : BufTy).Contents (Elt F) → (⟨S896x18944, .i32⟩ : BufTy).Contents (Elt F)),
    binary main_v66 main_v70 main_v71 (ori : (⟨S896x18944, .i32⟩ : BufTy).Contents (Elt F) → (⟨S896x18944, .i32⟩ : BufTy).Contents (Elt F) → (⟨S896x18944, .i32⟩ : BufTy).Contents (Elt F)),
    nullary main_c_19 (constantI S_ 32 2#32),
    unary main_c_19 main_v72 (broadcastInDim S896x18944 ![] bcast_S_S896x18944 : (⟨S_, .i32⟩ : BufTy).Contents (Elt F) → (⟨S896x18944, .i32⟩ : BufTy).Contents (Elt F)),
    binary main_v55 main_v72 main_v73 (Host.shrsi : (⟨S896x18944, .i32⟩ : BufTy).Contents (Elt F) → (⟨S896x18944, .i32⟩ : BufTy).Contents (Elt F) → (⟨S896x18944, .i32⟩ : BufTy).Contents (Elt F)),
    unary main_v57 main_v74 (broadcastInDim S896x1x18944 ![0, 2] bcast_S896x18944_S896x1x18944_0_2 : (⟨S896x18944, .i32⟩ : BufTy).Contents (Elt F) → (⟨S896x1x18944, .i32⟩ : BufTy).Contents (Elt F)),
    unary main_v64 main_v75 (broadcastInDim S896x1x18944 ![0, 2] bcast_S896x18944_S896x1x18944_0_2 : (⟨S896x18944, .i32⟩ : BufTy).Contents (Elt F) → (⟨S896x1x18944, .i32⟩ : BufTy).Contents (Elt F)),
    unary main_v71 main_v76 (broadcastInDim S896x1x18944 ![0, 2] bcast_S896x18944_S896x1x18944_0_2 : (⟨S896x18944, .i32⟩ : BufTy).Contents (Elt F) → (⟨S896x1x18944, .i32⟩ : BufTy).Contents (Elt F)),
    unary main_v73 main_v77 (broadcastInDim S896x1x18944 ![0, 2] bcast_S896x18944_S896x1x18944_0_2 : (⟨S896x18944, .i32⟩ : BufTy).Contents (Elt F) → (⟨S896x1x18944, .i32⟩ : BufTy).Contents (Elt F)),
    nary ![main_v74, main_v75, main_v76, main_v77] main_v78 (fun u => fn_main_v78 (F := F) (u 0) (u 1) (u 2) (u 3)),
    reshape main_v78 main_v79 (rfl : (.i32 : EltTy) = .i32) shapeCasts_S896x4x18944_S112x32x18944,
    unary main_arg2 main_v80 ((extui 32 · natLt_8_32) : (⟨S112x18944, .i8⟩ : BufTy).Contents (Elt F) → (⟨S112x18944, .i32⟩ : BufTy).Contents (Elt F)),
    nullary main_c_20 (constantI S_ 32 127#32),
    unary main_c_20 main_v81 (broadcastInDim S112x18944 ![] bcast_S_S112x18944 : (⟨S_, .i32⟩ : BufTy).Contents (Elt F) → (⟨S112x18944, .i32⟩ : BufTy).Contents (Elt F)),
    binary main_v80 main_v81 main_v82 (subi : (⟨S112x18944, .i32⟩ : BufTy).Contents (Elt F) → (⟨S112x18944, .i32⟩ : BufTy).Contents (Elt F) → (⟨S112x18944, .i32⟩ : BufTy).Contents (Elt F)),
    unary main_v82 main_v83 (sitofp .f32 : (⟨S112x18944, .i32⟩ : BufTy).Contents (Elt F) → (⟨S112x18944, .f32⟩ : BufTy).Contents (Elt F)),
    nullary main_cst_21 (constant S_ .f32 0x40000000#32),
    unary main_cst_21 main_v84 (broadcastInDim S112x18944 ![] bcast_S_S112x18944 : (⟨S_, .f32⟩ : BufTy).Contents (Elt F) → (⟨S112x18944, .f32⟩ : BufTy).Contents (Elt F)),
    binary main_v84 main_v83 main_v85 (Host.powf : (⟨S112x18944, .f32⟩ : BufTy).Contents (Elt F) → (⟨S112x18944, .f32⟩ : BufTy).Contents (Elt F) → (⟨S112x18944, .f32⟩ : BufTy).Contents (Elt F)),
    unary main_v85 main_v86 ((truncf .bf16 · bitsLt_bf16_f32) : (⟨S112x18944, .f32⟩ : BufTy).Contents (Elt F) → (⟨S112x18944, .bf16⟩ : BufTy).Contents (Elt F)),
    unary main_v86 main_v87 (broadcastInDim S112x1x18944 ![0, 2] bcast_S112x18944_S112x1x18944_0_2 : (⟨S112x18944, .bf16⟩ : BufTy).Contents (Elt F) → (⟨S112x1x18944, .bf16⟩ : BufTy).Contents (Elt F)),
    nullary main_c_22 (constantI S_ 32 5#32),
    unary main_c_22 main_v88 (broadcastInDim S112x32x18944 ![] bcast_S_S112x32x18944 : (⟨S_, .i32⟩ : BufTy).Contents (Elt F) → (⟨S112x32x18944, .i32⟩ : BufTy).Contents (Elt F)),
    binary main_v79 main_v88 main_v89 (Host.shrsi : (⟨S112x32x18944, .i32⟩ : BufTy).Contents (Elt F) → (⟨S112x32x18944, .i32⟩ : BufTy).Contents (Elt F) → (⟨S112x32x18944, .i32⟩ : BufTy).Contents (Elt F)),
    nullary main_c_23 (constantI S_ 32 1#32),
    unary main_c_23 main_v90 (broadcastInDim S112x32x18944 ![] bcast_S_S112x32x18944 : (⟨S_, .i32⟩ : BufTy).Contents (Elt F) → (⟨S112x32x18944, .i32⟩ : BufTy).Contents (Elt F)),
    binary main_v89 main_v90 main_v91 (andi : (⟨S112x32x18944, .i32⟩ : BufTy).Contents (Elt F) → (⟨S112x32x18944, .i32⟩ : BufTy).Contents (Elt F) → (⟨S112x32x18944, .i32⟩ : BufTy).Contents (Elt F)),
    nullary main_c_24 (constantI S_ 32 2#32),
    unary main_c_24 main_v92 (broadcastInDim S112x32x18944 ![] bcast_S_S112x32x18944 : (⟨S_, .i32⟩ : BufTy).Contents (Elt F) → (⟨S112x32x18944, .i32⟩ : BufTy).Contents (Elt F)),
    binary main_v79 main_v92 main_v93 (Host.shrsi : (⟨S112x32x18944, .i32⟩ : BufTy).Contents (Elt F) → (⟨S112x32x18944, .i32⟩ : BufTy).Contents (Elt F) → (⟨S112x32x18944, .i32⟩ : BufTy).Contents (Elt F)),
    nullary main_c_25 (constantI S_ 32 7#32),
    unary main_c_25 main_v94 (broadcastInDim S112x32x18944 ![] bcast_S_S112x32x18944 : (⟨S_, .i32⟩ : BufTy).Contents (Elt F) → (⟨S112x32x18944, .i32⟩ : BufTy).Contents (Elt F)),
    binary main_v93 main_v94 main_v95 (andi : (⟨S112x32x18944, .i32⟩ : BufTy).Contents (Elt F) → (⟨S112x32x18944, .i32⟩ : BufTy).Contents (Elt F) → (⟨S112x32x18944, .i32⟩ : BufTy).Contents (Elt F)),
    nullary main_c_26 (constantI S_ 32 3#32),
    unary main_c_26 main_v96 (broadcastInDim S112x32x18944 ![] bcast_S_S112x32x18944 : (⟨S_, .i32⟩ : BufTy).Contents (Elt F) → (⟨S112x32x18944, .i32⟩ : BufTy).Contents (Elt F)),
    binary main_v79 main_v96 main_v97 (andi : (⟨S112x32x18944, .i32⟩ : BufTy).Contents (Elt F) → (⟨S112x32x18944, .i32⟩ : BufTy).Contents (Elt F) → (⟨S112x32x18944, .i32⟩ : BufTy).Contents (Elt F)),
    unary main_v97 main_v98 (sitofp .f32 : (⟨S112x32x18944, .i32⟩ : BufTy).Contents (Elt F) → (⟨S112x32x18944, .f32⟩ : BufTy).Contents (Elt F)),
    nullary main_c_27 (constantI S_ 32 0#32),
    unary main_c_27 main_v99 (broadcastInDim S112x32x18944 ![] bcast_S_S112x32x18944 : (⟨S_, .i32⟩ : BufTy).Contents (Elt F) → (⟨S112x32x18944, .i32⟩ : BufTy).Contents (Elt F)),
    binary main_v95 main_v99 main_v100 (cmpi .eq : (⟨S112x32x18944, .i32⟩ : BufTy).Contents (Elt F) → (⟨S112x32x18944, .i32⟩ : BufTy).Contents (Elt F) → (⟨S112x32x18944, .i1⟩ : BufTy).Contents (Elt F)),
    nullary main_cst_28 (constant S_ .f32 0x3D800000#32),
    unary main_cst_28 main_v101 (broadcastInDim S112x32x18944 ![] bcast_S_S112x32x18944 : (⟨S_, .f32⟩ : BufTy).Contents (Elt F) → (⟨S112x32x18944, .f32⟩ : BufTy).Contents (Elt F)),
    binary main_v98 main_v101 main_v102 (mulf : (⟨S112x32x18944, .f32⟩ : BufTy).Contents (Elt F) → (⟨S112x32x18944, .f32⟩ : BufTy).Contents (Elt F) → (⟨S112x32x18944, .f32⟩ : BufTy).Contents (Elt F)),
    nullary main_cst_29 (constant S_ .f32 0x3E800000#32),
    unary main_cst_29 main_v103 (broadcastInDim S112x32x18944 ![] bcast_S_S112x32x18944 : (⟨S_, .f32⟩ : BufTy).Contents (Elt F) → (⟨S112x32x18944, .f32⟩ : BufTy).Contents (Elt F)),
    binary main_v98 main_v103 main_v104 (mulf : (⟨S112x32x18944, .f32⟩ : BufTy).Contents (Elt F) → (⟨S112x32x18944, .f32⟩ : BufTy).Contents (Elt F) → (⟨S112x32x18944, .f32⟩ : BufTy).Contents (Elt F)),
    nullary main_cst_30 (constant S_ .f32 0x3F800000#32),
    unary main_cst_30 main_v105 (broadcastInDim S112x32x18944 ![] bcast_S_S112x32x18944 : (⟨S_, .f32⟩ : BufTy).Contents (Elt F) → (⟨S112x32x18944, .f32⟩ : BufTy).Contents (Elt F)),
    binary main_v105 main_v104 main_v106 (addf : (⟨S112x32x18944, .f32⟩ : BufTy).Contents (Elt F) → (⟨S112x32x18944, .f32⟩ : BufTy).Contents (Elt F) → (⟨S112x32x18944, .f32⟩ : BufTy).Contents (Elt F)),
    nullary main_c_31 (constantI S_ 32 3#32),
    unary main_c_31 main_v107 (broadcastInDim S112x32x18944 ![] bcast_S_S112x32x18944 : (⟨S_, .i32⟩ : BufTy).Contents (Elt F) → (⟨S112x32x18944, .i32⟩ : BufTy).Contents (Elt F)),
    binary main_v95 main_v107 main_v108 (subi : (⟨S112x32x18944, .i32⟩ : BufTy).Contents (Elt F) → (⟨S112x32x18944, .i32⟩ : BufTy).Contents (Elt F) → (⟨S112x32x18944, .i32⟩ : BufTy).Contents (Elt F)),
    unary main_v108 main_v109 (sitofp .f32 : (⟨S112x32x18944, .i32⟩ : BufTy).Contents (Elt F) → (⟨S112x32x18944, .f32⟩ : BufTy).Contents (Elt F)),
    nullary main_cst_32 (constant S_ .f32 0x40000000#32),
    unary main_cst_32 main_v110 (broadcastInDim S112x32x18944 ![] bcast_S_S112x32x18944 : (⟨S_, .f32⟩ : BufTy).Contents (Elt F) → (⟨S112x32x18944, .f32⟩ : BufTy).Contents (Elt F)),
    binary main_v110 main_v109 main_v111 (Host.powf : (⟨S112x32x18944, .f32⟩ : BufTy).Contents (Elt F) → (⟨S112x32x18944, .f32⟩ : BufTy).Contents (Elt F) → (⟨S112x32x18944, .f32⟩ : BufTy).Contents (Elt F)),
    binary main_v106 main_v111 main_v112 (mulf : (⟨S112x32x18944, .f32⟩ : BufTy).Contents (Elt F) → (⟨S112x32x18944, .f32⟩ : BufTy).Contents (Elt F) → (⟨S112x32x18944, .f32⟩ : BufTy).Contents (Elt F)),
    TRef.ternary (TRef.of (T := ⟨S112x32x18944, .i1⟩) main_v100) (TRef.of (T := ⟨S112x32x18944, .f32⟩) main_v102) (TRef.of (T := ⟨S112x32x18944, .f32⟩) main_v112) (TRef.of (T := ⟨S112x32x18944, .f32⟩) main_v113) select,
    nullary main_c_33 (constantI S_ 32 1#32),
    unary main_c_33 main_v114 (broadcastInDim S112x32x18944 ![] bcast_S_S112x32x18944 : (⟨S_, .i32⟩ : BufTy).Contents (Elt F) → (⟨S112x32x18944, .i32⟩ : BufTy).Contents (Elt F)),
    binary main_v91 main_v114 main_v115 (cmpi .eq : (⟨S112x32x18944, .i32⟩ : BufTy).Contents (Elt F) → (⟨S112x32x18944, .i32⟩ : BufTy).Contents (Elt F) → (⟨S112x32x18944, .i1⟩ : BufTy).Contents (Elt F)),
    unary main_v113 main_v116 (Host.negf : (⟨S112x32x18944, .f32⟩ : BufTy).Contents (Elt F) → (⟨S112x32x18944, .f32⟩ : BufTy).Contents (Elt F)),
    TRef.ternary (TRef.of (T := ⟨S112x32x18944, .i1⟩) main_v115) (TRef.of (T := ⟨S112x32x18944, .f32⟩) main_v116) (TRef.of (T := ⟨S112x32x18944, .f32⟩) main_v113) (TRef.of (T := ⟨S112x32x18944, .f32⟩) main_v117) select,
    unary main_v117 main_v118 ((truncf .bf16 · bitsLt_bf16_f32) : (⟨S112x32x18944, .f32⟩ : BufTy).Contents (Elt F) → (⟨S112x32x18944, .bf16⟩ : BufTy).Contents (Elt F)),
    unary main_v87 main_v119 (broadcastInDim S112x32x18944 ![0, 1, 2] bcast_S112x1x18944_S112x32x18944_0_1_2 : (⟨S112x1x18944, .bf16⟩ : BufTy).Contents (Elt F) → (⟨S112x32x18944, .bf16⟩ : BufTy).Contents (Elt F)),
    binary main_v118 main_v119 main_v120 (mulf : (⟨S112x32x18944, .bf16⟩ : BufTy).Contents (Elt F) → (⟨S112x32x18944, .bf16⟩ : BufTy).Contents (Elt F) → (⟨S112x32x18944, .bf16⟩ : BufTy).Contents (Elt F)),
    reshape main_v120 main_v121 (rfl : (.bf16 : EltTy) = .bf16) shapeCasts_S112x32x18944_S3584x18944,
    binary main_v48 main_v121 main_v122 ((fun l r => Host.dotGeneral dot_S256x3584_S3584x18944_S256x18944_1_0_0_1_n_n none l r) : (⟨S256x3584, .bf16⟩ : BufTy).Contents (Elt F) → (⟨S3584x18944, .bf16⟩ : BufTy).Contents (Elt F) → (⟨S256x18944, .f32⟩ : BufTy).Contents (Elt F)),
    unary main_v122 main_v123 ((truncf .bf16 · bitsLt_bf16_f32) : (⟨S256x18944, .f32⟩ : BufTy).Contents (Elt F) → (⟨S256x18944, .bf16⟩ : BufTy).Contents (Elt F)),
    reshape main_v36 main_v124 (rfl : (.f32 : EltTy) = .f32) shapeCasts_S256x112x32_S256x3584 ]

set_option maxRecDepth 8192 in
set_option maxHeartbeats 4000000 in
theorem flatten_eq : List.flatten [hostOps0, hostOps0_1, hostOps0_2, hostOps0_3, hostOps0_4, hostOps0_5, hostOps0_6, hostOps0_7, hostOps0_8] = (ops : List (HloOp τ sig (Elt F))) := rfl

variable (m : (ℓ : Loc nD τ sig) → Buf (Elt F) ℓ) (c : Dev nD)

set_option maxRecDepth 8192 in
set_option maxHeartbeats 67200000 in
theorem V_main_v123 : V m c main_v123 = val_main_v123 (F := F) (m ((c : Thread nD τ).loc main_arg0)) (m ((c : Thread nD τ).loc main_arg1)) (m ((c : Thread nD τ).loc main_arg2)) := by
  show after (List.flatten _) (fun b => m (c, b)) (Proc.devRef .tc main_v123) = _
  rw [flatten_eq]
  simp only [ops, TRef.binary, TRef.ternary, TRef.unary, TRef.toBuf, TRef.ofBuf, cast_eq]; after_results_simp <;> (try dsimp only [Matrix.cons_val]) <;> (try after_results_simp) <;> rfl

set_option maxRecDepth 8192 in
set_option maxHeartbeats 67200000 in
theorem V_main_v124 : V m c main_v124 = val_main_v124 (F := F) (m ((c : Thread nD τ).loc main_arg0)) := by
  show after (List.flatten _) (fun b => m (c, b)) (Proc.devRef .tc main_v124) = _
  rw [flatten_eq]
  simp only [ops, TRef.binary, TRef.ternary, TRef.unary, TRef.toBuf, TRef.ofBuf, cast_eq]; after_results_simp <;> (try dsimp only [Matrix.cons_val]) <;> (try after_results_simp) <;> rfl

set_option maxRecDepth 8192 in
set_option maxHeartbeats 67200000 in
theorem V_main_v26 : V m c main_v26 = val_main_v26 (F := F) (m ((c : Thread nD τ).loc main_arg0)) := by
  show after (List.flatten _) (fun b => m (c, b)) (Proc.devRef .tc main_v26) = _
  rw [flatten_eq]
  simp only [ops, TRef.binary, TRef.ternary, TRef.unary, TRef.toBuf, TRef.ofBuf, cast_eq]; after_results_simp <;> (try dsimp only [Matrix.cons_val]) <;> (try after_results_simp) <;> rfl

end Cert.ReferenceIdeal.Read

end
-- ==== Proof.RefAll.lean ====
/- The reference's three result arrays over the extended reals, entry by entry, its run, and what the claim's precondition says. -/
module

public import proofs.«01_k».proof.Proof.RefQuant
public import proofs.«01_k».proof.Proof.RefWeights
public import proofs.«01_k».proof.Proof.RefRun
public import proofs.«01_k».proof.Proof.KTile
public import proofs.«01_k».proof.Proof.KAll
public import proofs.«01_k».proof.Pre_in_range
public import proofs.«01_k».proof.Proof.Gen.Pre_in_range
public import proofs.«01_k».proof.Proof.Gen.ReferenceIdeal.Value

@[expose] public section

set_option maxRecDepth 16384

noncomputable section

namespace Cert.ReferenceIdeal.Read

open Cert.ReferenceIdeal Cert.ReferenceIdeal.Gen Cert.ReferenceIdeal.Value Idealize.ShloMosaic Idealize.ShloMosaic.TcCoe Idealize.SL.Sem
open Cert.KernelIdeal.Hand (two blk Good expOf codeAt actAt outAt f32_top f32_exp)

/-! ## The product and the codes -/

section
variable (X : FVec Ideal S256x3584 .bf16) (x0 : FVec Ideal S1x256x3584 .bf16) (hX : Agree X x0) (hg : ∀ r b, Good (blk X r b))
include hX hg

theorem v123_at (x1 : Vec Ideal S3x896x18944 .i8) (x2 : Vec Ideal S112x18944 .i8) (r : Fin 256) (n : Fin 18944) :
    val_main_v123 (F := Ideal) x0 x1 x2 (ValueIdx.ix2 r n) = outAt X x1 x2 r n := by
  rw [val_main_v123_apply]
  refine (val_main_v122_apply x0 x1 x2 (ValueIdx.ix2 r n)).trans ?_
  unfold outAt
  refine Finset.sum_congr rfl fun K _ => ?_
  have hl : lidx_main_v122 (ValueIdx.ix2 r n) K = ValueIdx.ix2 r K := by
    funext a
    match a with
    | ⟨0, _⟩ => rfl
    | ⟨1, _⟩ => rfl
  have hr : ridx_main_v122 (ValueIdx.ix2 r n) K = ValueIdx.ix2 K n := by
    funext a
    match a with
    | ⟨0, _⟩ => rfl
    | ⟨1, _⟩ => rfl
  rw [hl, hr, v48_at X x0 hX hg, v121_at x1 x2]
  rfl

theorem v124_at (r : Fin 256) (K : Fin 3584) : val_main_v124 (F := Ideal) x0 (ValueIdx.ix2 r K) = codeAt X r K := by
  have h124 : idx_main_v124 (ValueIdx.ix2 r K) = ValueIdx.ix3 r ⟨K.val / 32, by omega⟩ ⟨K.val % 32, by omega⟩ := by
    funext a
    apply Fin.ext
    match a with
    | ⟨0, _⟩ => show (r.val * 3584 + K.val) / 3584 = r.val; omega
    | ⟨1, _⟩ => show (r.val * 3584 + K.val) / 32 % 112 = K.val / 32; omega
    | ⟨2, _⟩ => show (r.val * 3584 + K.val) % 32 = K.val % 32; omega
  rw [val_main_v124_apply, h124, v36_at X x0 hX hg]
  congr 1
  apply Fin.ext
  show 32 * (K.val / 32) + K.val % 32 = K.val
  omega

end

/-! ## The run -/

section
variable (m : (ℓ : Loc nD τ sig) → Buf (Elt Ideal) ℓ) (ρ : Dev nD → PrngReg) (c : Dev nD)

theorem index0 : ∀ t : Fin cfg0.N, win0_0.index t = ![0, 0] := (by decide +kernel : ∀ t : Fin grid0.N, _)
theorem index1 : ∀ t : Fin cfg0.N, win0_1.index t = ![0, 0] := (by decide +kernel : ∀ t : Fin grid0.N, _)
theorem flush1 : ∀ t : Fin cfg0.N, (cfg0.win 1).flush t = true := (by decide +kernel : ∀ t : Fin grid0.N, _)

theorem emb1 (t : Fin cfg0.N) (y : S256x3584.Idx) : ((cfg0.win 1).blk t).view.emb y = y := by
  refine funext fun a => Fin.ext ?_
  have hi := index1 t
  match a with
  | ⟨0, _⟩ =>
    show win0_1.index t (0 : Fin 2) * 256 + 1 * (y 0).val = (y 0).val
    rw [hi]; show 0 * 256 + 1 * (y 0).val = (y 0).val; omega
  | ⟨1, _⟩ =>
    show win0_1.index t (1 : Fin 2) * 3584 + 1 * (y 1).val = (y 1).val
    rw [hi]; show 0 * 3584 + 1 * (y 1).val = (y 1).val; omega

theorem emb0 (t : Fin cfg0.N) (y : S256x3584.Idx) : ((cfg0.win 0).blk t).view.emb y = y := by
  refine funext fun a => Fin.ext ?_
  have hi := index0 t
  match a with
  | ⟨0, _⟩ =>
    show win0_0.index t (0 : Fin 2) * 256 + 1 * (y 0).val = (y 0).val
    rw [hi]; show 0 * 256 + 1 * (y 0).val = (y 0).val; omega
  | ⟨1, _⟩ =>
    show win0_0.index t (1 : Fin 2) * 3584 + 1 * (y 1).val = (y 1).val
    rw [hi]; show 0 * 3584 + 1 * (y 1).val = (y 1).val; omega

theorem blk0 (t : Fin cfg0.N) (y : S256x3584.Idx) :
    (iblk m c 0 t : Vec Ideal S256x3584 .f32) y = val_main_v124 (F := Ideal) (m ((c : Thread nD τ).loc main_arg0)) y := by
  refine Eq.trans ?_ (congrFun (V_main_v124 m c) y)
  show V m c main_v124 (((cfg0.win 0).blk t).view.emb y) = V m c main_v124 y
  rw [emb0 t y]

/-- What the pipeline's output array ends as: the codes, their format changed, which over the extended reals changes nothing. -/
theorem arr1 (y : S256x3584.Idx) :
    ((dats m 0 c).arrAt 1 cfg0.N : Vec Ideal S256x3584 .fp8e4m3) y = val_main_v124 (F := Ideal) (m ((c : Thread nD τ).loc main_arg0)) y := by
  have t : Fin cfg0.N := ⟨0, lt_of_lt_of_eq (by decide) N_0.symm⟩
  have hb := congrFun ((blocks1 m c t (flush1 t)).trans (flushed1 m c t)) y
  have hl : ((cfg0.win 1).blk t).view.read (Elt Ideal) ((dats m 0 c).arrAt 1 cfg0.N) y
      = ((dats m 0 c).arrAt 1 cfg0.N : Vec Ideal S256x3584 .fp8e4m3) y := by
    show ((dats m 0 c).arrAt 1 cfg0.N : Vec Ideal S256x3584 .fp8e4m3) (((cfg0.win 1).blk t).view.emb y) = _
    rw [emb1 t y]
  refine hl.symm.trans (hb.trans ?_)
  show out0_1 (iblk m c 0 t) y = _
  refine (canon1_eq (View.ld (iblk m c 0 t) r0_0) y).trans ?_
  refine Eq.trans ?_ (blk0 m c t y)
  show (iblk m c 0 t : Vec Ideal S256x3584 .f32) (r0_0.idx (ix1_0 y)) = (iblk m c 0 t : Vec Ideal S256x3584 .f32) y
  refine congrArg _ (funext fun a => Fin.ext ?_)
  match a with
  | ⟨0, _⟩ => show 0 + 1 * (y 0).val = (y 0).val; omega
  | ⟨1, _⟩ => show 0 + 1 * (y 1).val = (y 1).val; omega

/-- The reference runs, each result array ends as its reading says, and the argument arrays are unchanged. -/
theorem run : θ_run defs (onTc (τ := τ) (main (F := Ideal))) ⟨m, fun _ => 0, ρ⟩ fun r => ∀ c : Dev nD,
      r.2.mem ((c : Thread nD τ).loc main_v123) = val_main_v123 (F := Ideal) (m ((c : Thread nD τ).loc main_arg0)) (m ((c : Thread nD τ).loc main_arg1)) (m ((c : Thread nD τ).loc main_arg2))
      ∧ r.2.mem ((c : Thread nD τ).loc main_v125) = (dats m 0 c).arrAt 1 cfg0.N
      ∧ r.2.mem ((c : Thread nD τ).loc main_v26) = val_main_v26 (F := Ideal) (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).2 main_v123 (Pipeline.mem_restRefs_of main_v123 (by decide) (by decide))).trans (V_main_v123 m c),
      post1 m r h c,
      ((h c).2 main_v26 (Pipeline.mem_restRefs_of main_v26 (by decide) (by decide))).trans (V_main_v26 m c),
      kept_main_arg0 m r h c, kept_main_arg1 m r h c, kept_main_arg2 m r h c⟩)
    (run_main m ρ)

end

/-! ## The precondition -/

theorem bit_and : ∀ a b : BitVec 1, IntOp.andi a b = 1#1 → a = 1#1 ∧ b = 1#1 := by decide +kernel
theorem bit_or : ∀ a b : BitVec 1, IntOp.ori a b = 1#1 → a = 1#1 ∨ b = 1#1 := by decide +kernel
theorem bit_of {p : Prop} [Decidable p] (h : BitVec.ofBool (decide p) = 1#1) : p := by
  by_contra hp
  rw [decide_eq_false hp] at h
  exact absurd h (by decide)

/-- The first of the precondition's two arrays, of any array of block maxima, entry by entry. -/
theorem fn_fst (v : FVec Ideal S256x112 .f32)
    (h : andi (ori (cmpf .oeq v (broadcastInDim S256x112 ![] Cert.Pre_in_range.Facts.bcast_S_S256x112 (constant S_ .f32 0x00000000#32 : FVec Ideal S_ .f32)))
        (cmpf .oge v (broadcastInDim S256x112 ![] Cert.Pre_in_range.Facts.bcast_S_S256x112 (constant S_ .f32 0x02800000#32 : FVec Ideal S_ .f32))))
      (cmpf .olt v (broadcastInDim S256x112 ![] Cert.Pre_in_range.Facts.bcast_S_S256x112 (constant S_ .f32 0x7F800000#32 : FVec Ideal S_ .f32))) = fun _ => 1#1)
    (i : S256x112.Idx) :
    IntOp.andi (IntOp.ori (Ideal.cmp .oeq (v i) (Ideal.ofBits .f32 0x00000000#32)) (Ideal.cmp .oge (v i) (Ideal.ofBits .f32 0x02800000#32)))
      (Ideal.cmp .olt (v i) (Ideal.ofBits .f32 0x7F800000#32)) = 1#1 :=
  congrFun h i

theorem pre_good (X : FVec Ideal S256x3584 .bf16) (x0 : FVec Ideal S1x256x3584 .bf16) (hX : Agree X x0)
    (x1 : Vec Ideal S3x896x18944 .i8) (x2 : Vec Ideal S112x18944 .i8)
    (h : (Cert.Pre_in_range.fn (F := Ideal) x0 x1 x2).1 = fun _ => 1#1) (r : Fin 256) (b : Fin 112) : Good (blk X r b) := by
  have h1 := fn_fst (val_main_v3 (F := Ideal) x0) h (ValueIdx.ix2 r b)
  rw [v3_at X x0 hX, f32_zero, f32_top, f32_exp 5 (by decide) (by decide) _ (by decide +kernel)] at h1
  obtain ⟨h2, h3⟩ := bit_and _ _ h1
  refine ⟨?_, bit_of h3⟩
  rcases bit_or _ _ h2 with h4 | h4
  · exact Or.inl (bit_of h4)
  · exact Or.inr (bit_of h4)

theorem pre_scale (x0 : FVec Ideal S1x256x3584 .bf16) (x1 : Vec Ideal S3x896x18944 .i8) (x2 : Vec Ideal S112x18944 .i8)
    (h : (Cert.Pre_in_range.fn (F := Ideal) x0 x1 x2).2 = fun _ => 1#1) (i : Fin 112) (n : Fin 18944) :
    BitVec.toNat (w := 8) (x2 (ValueIdx.ix2 i n)) ≤ 250 := by
  have key : ∀ a : BitVec 8, IntOp.cmpi .ule a 250#8 = 1#1 → a.toNat ≤ 250 := by decide +kernel
  exact key _ (congrFun h (ValueIdx.ix2 i n))

end Cert.ReferenceIdeal.Read

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Pre_in_range
public import proofs.«01_k».proof.Proof.Gen.ReferenceIdeal
public import proofs.«01_k».proof.Proof.Gen.ReferenceIdeal.Value
public import proofs.«01_k».proof.Proof.BitsFrame
public import proofs.«01_k».proof.Proof.KFrame
public import proofs.«01_k».proof.Proof.KValue
public import proofs.«01_k».proof.Proof.KAll
public import proofs.«01_k».proof.Proof.RefAll
public import Idealize.ShloMosaic.Adequacy
public import Idealize.ShloMosaic.Init

@[expose] public section

noncomputable section

namespace Cert.Proof

open Idealize.ShloMosaic Idealize.ShloMosaic.TcCoe Idealize.SL.Sem
open Cert.KernelIdeal.Hand (G3 G4 G5 actsOf actsOf_at blk Good outAt codeAt expOf y_at codes_at scalesOut_at)
open Cert.ReferenceIdeal.Read (Agree pre_good pre_scale v123_at v124_at v26_at arr1)

/-- An index of a two-axis shape is its two coordinates. -/
theorem idx_two {n0 n1 : ℕ} (i : (⟨2, ![n0, n1]⟩ : Shape).Idx) : i = ValueIdx.ix2 (i 0) (i 1) := by
  funext a
  match a with
  | ⟨0, _⟩ => rfl
  | ⟨1, _⟩ => rfl

theorem algebraic : Cert.algebraic_KernelIdeal_ReferenceIdeal_pre_in_range := by
  intro m g m' g' hpre hargs
  have hX : ∀ c : Dev Cert.KernelIdeal.nD, Agree (actsOf m c) (m ((c.tc : Thread Cert.KernelIdeal.nD Cert.KernelIdeal.τ).loc Cert.KernelIdeal.main_arg0)) :=
    fun c r K => (actsOf_at m c r K).symm
  have hx : ∀ (c : Dev Cert.KernelIdeal.nD) r b, Good (blk (actsOf m c) r b) := fun c r b => pre_good _ _ (hX c) _ _ (hpre c).1 r b
  have hs := fun (c : Dev Cert.KernelIdeal.nD) i n => pre_scale _ _ _ (hpre c).2 i n
  refine ⟨fun c => G3 m c, fun c => G4 m c, fun c => G5 m c, Cert.KernelIdeal.Hand.run m g, ?_⟩
  refine (θ_run _ _ _).mono (fun r h c => ?_) (Cert.ReferenceIdeal.Read.run m' g')
  obtain ⟨h0, h1, h2, k0, k1, k2⟩ := h c
  obtain ⟨a0, a1, a2⟩ := hargs c
  refine ⟨h0.trans ?_, h1.trans ?_, h2.trans ?_, k0, k1, k2⟩
  · rw [a0, a1, a2]
    funext i
    rw [idx_two i]
    exact (v123_at _ _ (hX c) (hx c) _ _ _ _).trans (y_at m c (hx c) (hs c) _ _).symm
  · funext i
    refine (arr1 m' c i).trans ?_
    rw [a0, idx_two i]
    exact (v124_at _ _ (hX c) (hx c) _ _).trans (codes_at m c (hx c) _ _).symm
  · rw [a0]
    funext i
    rw [idx_two i]
    exact (v26_at _ _ (hX c) (hx c) _ _).trans (scalesOut_at m c _ _).symm

theorem claim : Cert.Claim :=
  ⟨Cert.Kernel.Gen.facts, Cert.KernelIdeal.Gen.facts, Cert.ReferenceIdeal.Gen.facts, Cert.Pre_in_range.Gen.facts,
    fun m ρ _ => Cert.Kernel.Hand.frame m ρ, fun m ρ _ => Cert.KernelIdeal.Hand.frame m ρ, fun m ρ _ => Cert.KernelIdeal.Hand.frame m ρ,
    fun m ρ _ => Cert.ReferenceIdeal.Gen.frame m ρ, fun m ρ _ => Cert.ReferenceIdeal.Gen.frame m ρ, trivial, algebraic⟩

end Cert.Proof

end
